-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v19_0)) (v1 : (c : Dev Cert.Kernel4Ideal.nD) → Buf (Elt Ideal) ((c.tc : Thread Cert.Kernel4Ideal.nD Cert.Kernel4Ideal.τ).loc Cert.Kernel4Ideal.main_v19_1)) (v2 : (c : Dev Cert.Kernel4Ideal.nD) → Buf (Elt Ideal) ((c.tc : Thread Cert.Kernel4Ideal.nD Cert.Kernel4Ideal.τ).loc Cert.Kernel4Ideal.main_v19_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19_0) = v0 c
          ∧ r.2.mem ((c.tc : Thread Cert.Kernel4Ideal.nD Cert.Kernel4Ideal.τ).loc Cert.Kernel4Ideal.main_v19_1) = v1 c
          ∧ r.2.mem ((c.tc : Thread Cert.Kernel4Ideal.nD Cert.Kernel4Ideal.τ).loc Cert.Kernel4Ideal.main_v19_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v51) = v0 c
          ∧ r.2.mem ((c.tc : Thread Cert.Reference4Ideal.nD Cert.Reference4Ideal.τ).loc Cert.Reference4Ideal.main_v52) = v1 c
          ∧ r.2.mem ((c.tc : Thread Cert.Reference4Ideal.nD Cert.Reference4Ideal.τ).loc Cert.Reference4Ideal.main_v53) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v50_0)) (v1 : (c : Dev Cert.Kernel5Ideal.nD) → Buf (Elt Ideal) ((c.tc : Thread Cert.Kernel5Ideal.nD Cert.Kernel5Ideal.τ).loc Cert.Kernel5Ideal.main_v50_1)) (v2 : (c : Dev Cert.Kernel5Ideal.nD) → Buf (Elt Ideal) ((c.tc : Thread Cert.Kernel5Ideal.nD Cert.Kernel5Ideal.τ).loc Cert.Kernel5Ideal.main_v50_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v50_0) = v0 c
          ∧ r.2.mem ((c.tc : Thread Cert.Kernel5Ideal.nD Cert.Kernel5Ideal.τ).loc Cert.Kernel5Ideal.main_v50_1) = v1 c
          ∧ r.2.mem ((c.tc : Thread Cert.Kernel5Ideal.nD Cert.Kernel5Ideal.τ).loc Cert.Kernel5Ideal.main_v50_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v82) = v0 c
          ∧ r.2.mem ((c.tc : Thread Cert.Reference5Ideal.nD Cert.Reference5Ideal.τ).loc Cert.Reference5Ideal.main_v83) = v1 c
          ∧ r.2.mem ((c.tc : Thread Cert.Reference5Ideal.nD Cert.Reference5Ideal.τ).loc Cert.Reference5Ideal.main_v84) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite4 : Cert.Pre_finite4.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite.lean ====
abbrev S2x8192x16x96 : Shape := ⟨4, ![2, 8192, 16, 96]⟩
abbrev S2x8192x16x64 : Shape := ⟨4, ![2, 8192, 16, 64]⟩
abbrev S1 : Shape := ⟨1, ![1]⟩
abbrev S_ : Shape := ⟨0, ![]⟩

class Facts : Prop where
  bcast_S_S2x8192x16x96 : S_.BroadcastsInDim S2x8192x16x96 (![] : Fin 0 → Fin S2x8192x16x96.rank)
  reducesTo_S2x8192x16x96_S_d0_1_2_3 : S2x8192x16x96.ReducesTo [0, 1, 2, 3] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S2x8192x16x96 .f32) (main_arg1 : FVec F S2x8192x16x96 .f32) (main_arg2 : FVec F S2x8192x16x64 .f32) (main_arg3 : FVec F S1 .f32) : IVec S_ 1 :=
  let main_v0 : FVec F S2x8192x16x96 .f32 := Host.absf main_arg0
  let main_cst : FVec F S_ .f32 := constant S_ .f32 0x7F800000#32
  let main_v1 : FVec F S2x8192x16x96 .f32 := broadcastInDim S2x8192x16x96 ![] bcast_S_S2x8192x16x96 main_cst
  let main_v2 : IVec S2x8192x16x96 1 := cmpf .olt main_v0 main_v1
  let main_c : IVec S_ 1 := constantI S_ 1 1#1
  let main_v3 : IVec S_ 1 := (fun x v => Host.reduce IntOp.andi x v reducesTo_S2x8192x16x96_S_d0_1_2_3 h_S_) main_v2 main_c
  let main_v4 : FVec F S2x8192x16x96 .f32 := Host.absf main_arg1
  let main_cst_0 : FVec F S_ .f32 := constant S_ .f32 0x7F800000#32
  let main_v5 : FVec F S2x8192x16x96 .f32 := broadcastInDim S2x8192x16x96 ![] bcast_S_S2x8192x16x96 main_cst_0
  let main_v6 : IVec S2x8192x16x96 1 := cmpf .olt main_v4 main_v5
  let main_c_1 : IVec S_ 1 := constantI S_ 1 1#1
  let main_v7 : IVec S_ 1 := (fun x v => Host.reduce IntOp.andi x v reducesTo_S2x8192x16x96_S_d0_1_2_3 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Pre_finite4.lean ====
abbrev S2x8192x1024 : Shape := ⟨3, ![2, 8192, 1024]⟩
abbrev S1024 : Shape := ⟨1, ![1024]⟩
abbrev S1024x3072 : Shape := ⟨2, ![1024, 3072]⟩
abbrev S64 : Shape := ⟨1, ![64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x3072 : S_.BroadcastsInDim S1024x3072 (![] : Fin 0 → Fin S1024x3072.rank)
  reducesTo_S1024x3072_S_d0_1 : S1024x3072.ReducesTo [0, 1] S_

variable [Facts]

def fn {F : FTy → Type} [FloatOps F] (main_arg0 : FVec F S2x8192x1024 .f32) (main_arg1 : FVec F S1024 .f32) (main_arg2 : FVec F S1024x3072 .f32) (main_arg3 : FVec F S64 .f32) (main_arg4 : FVec F S64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x3072 .f32 := Host.absf main_arg2
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  main_v8
-- ==== Pre_finite5.lean ====
abbrev S2x8192x1024 : Shape := ⟨3, ![2, 8192, 1024]⟩
abbrev S1024 : Shape := ⟨1, ![1024]⟩
abbrev S1024x584 : Shape := ⟨2, ![1024, 584]⟩
abbrev S64 : Shape := ⟨1, ![64]⟩
abbrev S8192x16 : Shape := ⟨2, ![8192, 16]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x584 : S_.BroadcastsInDim S1024x584 (![] : Fin 0 → Fin S1024x584.rank)
  reducesTo_S1024x584_S_d0_1 : S1024x584.ReducesTo [0, 1] S_
  bcast_S_S64 : S_.BroadcastsInDim S64 (![] : Fin 0 → Fin S64.rank)
  reducesTo_S64_S_d0 : S64.ReducesTo [0] S_
  bcast_S_S8192x16 : S_.BroadcastsInDim S8192x16 (![] : Fin 0 → Fin S8192x16.rank)
  reducesTo_S8192x16_S_d0_1 : S8192x16.ReducesTo [0, 1] S_

variable [Facts]

def fn_part1 {F : FTy → Type} [FloatOps F] (main_arg5 : FVec F S8192x16 .f32) (main_v13 : IVec S_ 1) (main_v16 : IVec S8192x16 1) : IVec S_ 1 :=
  let main_c_5 : IVec S_ 1 := constantI S_ 1 1#1
  let main_v17 : IVec S_ 1 := (fun x v => Host.reduce IntOp.andi x v reducesTo_S8192x16_S_d0_1 h_S_) main_v16 main_c_5
  let main_v18 : IVec S_ 1 := andi main_v13 main_v17
  let main_v19 : FVec F S8192x16 .f32 := Host.absf main_arg5
  let main_cst_6 : FVec F S_ .f32 := constant S_ .f32 0x7F800000#32
  let main_v20 : FVec F S8192x16 .f32 := broadcastInDim S8192x16 ![] bcast_S_S8192x16 main_cst_6
  let main_v21 : IVec S8192x16 1 := cmpf .olt main_v19 main_v20
  let main_c_7 : IVec S_ 1 := constantI S_ 1 1#1
  let main_v22 : IVec S_ 1 := (fun x v => Host.reduce IntOp.andi x v reducesTo_S8192x16_S_d0_1 h_S_) main_v21 main_c_7
  let main_v23 : IVec S_ 1 := andi main_v18 main_v22
  main_v23

def fn {F : FTy → Type} [FloatOps F] (main_arg0 : FVec F S2x8192x1024 .f32) (main_arg1 : FVec F S1024 .f32) (main_arg2 : FVec F S1024x584 .f32) (main_arg3 : FVec F S64 .f32) (main_arg4 : FVec F S8192x16 .f32) (main_arg5 : FVec F S8192x16 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x584 .f32 := Host.absf main_arg2
  let main_cst_0 : FVec F S_ .f32 := constant S_ .f32 0x7F800000#32
  let main_v5 : FVec F S1024x584 .f32 := broadcastInDim S1024x584 ![] bcast_S_S1024x584 main_cst_0
  let main_v6 : IVec S1024x584 1 := cmpf .olt main_v4 main_v5
  let main_c_1 : IVec S_ 1 := constantI S_ 1 1#1
  let main_v7 : IVec S_ 1 := (fun x v => Host.reduce IntOp.andi x v reducesTo_S1024x584_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S8192x16 .f32 := Host.absf main_arg4
  let main_cst_4 : FVec F S_ .f32 := constant S_ .f32 0x7F800000#32
  let main_v15 : FVec F S8192x16 .f32 := broadcastInDim S8192x16 ![] bcast_S_S8192x16 main_cst_4
  let main_v16 : IVec S8192x16 1 := cmpf .olt main_v14 main_v15
  fn_part1 (F := F) main_arg5 main_v13 main_v16
-- ==== Kernel.lean ====
abbrev S2x8192x16x96 : Shape := ⟨4, ![2, 8192, 16, 96]⟩
abbrev S2x8192x16x64 : Shape := ⟨4, ![2, 8192, 16, 64]⟩
abbrev S1 : Shape := ⟨1, ![1]⟩
abbrev S_ : Shape := ⟨0, ![]⟩
abbrev S2x8192x16x1 : Shape := ⟨4, ![2, 8192, 16, 1]⟩
abbrev S2x8192x16x31 : Shape := ⟨4, ![2, 8192, 16, 31]⟩
abbrev S1x1x1x1 : Shape := ⟨4, ![1, 1, 1, 1]⟩
abbrev S2x8192x16x128 : Shape := ⟨4, ![2, 8192, 16, 128]⟩
abbrev S2x8192x8x256 : Shape := ⟨4, ![2, 8192, 8, 256]⟩
abbrev S2x8x8192x256 : Shape := ⟨4, ![2, 8, 8192, 256]⟩
abbrev S2x32x256x8x128 : Shape := ⟨5, ![2, 32, 256, 8, 128]⟩
abbrev S2x8x32x128x256 : Shape := ⟨5, ![2, 8, 32, 128, 256]⟩
abbrev S2x8192x1024 : Shape := ⟨3, ![2, 8192, 1024]⟩
abbrev S1x1x1024x256 : Shape := ⟨4, ![1, 1, 1024, 256]⟩
abbrev S1x1x8192x256 : Shape := ⟨4, ![1, 1, 8192, 256]⟩
abbrev S1x1x32x128x256 : Shape := ⟨5, ![1, 1, 32, 128, 256]⟩
abbrev S1x1024x128 : Shape := ⟨3, ![1, 1024, 128]⟩
abbrev S128x2048 : Shape := ⟨2, ![128, 2048]⟩
abbrev S2x256x2048 : Shape := ⟨3, ![2, 256, 2048]⟩
abbrev S1024x256 : Shape := ⟨2, ![1024, 256]⟩
abbrev S256x1024 : Shape := ⟨2, ![256, 1024]⟩
abbrev S256x2048 : Shape := ⟨2, ![256, 2048]⟩
abbrev S1x2048 : Shape := ⟨2, ![1, 2048]⟩
abbrev S1x1x256x256 : Shape := ⟨4, ![1, 1, 256, 256]⟩
abbrev S256x256 : Shape := ⟨2, ![256, 256]⟩
abbrev S1x256x2048 : Shape := ⟨3, ![1, 256, 2048]⟩
abbrev S1x1x1x128x256 : Shape := ⟨5, ![1, 1, 1, 128, 256]⟩
abbrev S128x256 : Shape := ⟨2, ![128, 256]⟩
abbrev S2048 : Shape := ⟨1, ![2048]⟩
abbrev S256x768 : Shape := ⟨2, ![256, 768]⟩
abbrev S128x1024 : Shape := ⟨2, ![128, 1024]⟩
abbrev S1x1024 : Shape := ⟨2, ![1, 1024]⟩
abbrev S256x1536 : Shape := ⟨2, ![256, 1536]⟩
abbrev S256x512 : Shape := ⟨2, ![256, 512]⟩
abbrev S128x1536 : Shape := ⟨2, ![128, 1536]⟩
abbrev S128x768 : Shape := ⟨2, ![128, 768]⟩
abbrev S1536 : Shape := ⟨1, ![1536]⟩
abbrev S1x1536 : Shape := ⟨2, ![1, 1536]⟩
abbrev S1x768 : Shape := ⟨2, ![1, 768]⟩
abbrev S1x256 : Shape := ⟨2, ![1, 256]⟩
abbrev S128x512 : Shape := ⟨2, ![128, 512]⟩
abbrev S1024 : Shape := ⟨1, ![1024]⟩
abbrev S1x512 : Shape := ⟨2, ![1, 512]⟩
abbrev S512 : Shape := ⟨1, ![512]⟩
abbrev S64x1024 : Shape := ⟨2, ![64, 1024]⟩
abbrev S1024x128 : Shape := ⟨2, ![1024, 128]⟩

abbrev nBuf : Space → Nat
  | .hbm => 30
  | .vmem => 10
  | .smem => 0
  | _ => 0

abbrev bufTy : (tb : Table) → Fin (tcTables nBuf tb) → BufTy
  | .hbm, ⟨0, _⟩ => ⟨S2x8192x16x96, .f32⟩
  | .hbm, ⟨1, _⟩ => ⟨S2x8192x16x96, .f32⟩
  | .hbm, ⟨2, _⟩ => ⟨S2x8192x16x64, .f32⟩
  | .hbm, ⟨3, _⟩ => ⟨S1, .f32⟩
  | .hbm, ⟨4, _⟩ => ⟨S_, .f32⟩
  | .hbm, ⟨5, _⟩ => ⟨S2x8192x16x1, .f32⟩
  | .hbm, ⟨6, _⟩ => ⟨S_, .f32⟩
  | .hbm, ⟨7, _⟩ => ⟨S2x8192x16x31, .f32⟩
  | .hbm, ⟨8, _⟩ => ⟨S_, .f32⟩
  | .hbm, ⟨9, _⟩ => ⟨S2x8192x16x96, .f32⟩
  | .hbm, ⟨10, _⟩ => ⟨S2x8192x16x96, .f32⟩
  | .hbm, ⟨11, _⟩ => ⟨S_, .f32⟩
  | .hbm, ⟨12, _⟩ => ⟨S_, .f32⟩
  | .hbm, ⟨13, _⟩ => ⟨S2x8192x16x96, .f32⟩
  | .hbm, ⟨14, _⟩ => ⟨S2x8192x16x96, .f32⟩
  | .hbm, ⟨15, _⟩ => ⟨S1x1x1x1, .f32⟩
  | .hbm, ⟨16, _⟩ => ⟨S2x8192x16x1, .f32⟩
  | .hbm, ⟨17, _⟩ => ⟨S2x8192x16x1, .f32⟩
  | .hbm, ⟨18, _⟩ => ⟨S2x8192x16x128, .f32⟩
  | .hbm, ⟨19, _⟩ => ⟨S2x8192x16x128, .f32⟩
  | .hbm, ⟨20, _⟩ => ⟨S2x8192x8x256, .f32⟩
  | .hbm, ⟨21, _⟩ => ⟨S2x8x8192x256, .f32⟩
  | .hbm, ⟨22, _⟩ => ⟨S2x8x8192x256, .bf16⟩
  | .hbm, ⟨23, _⟩ => ⟨S2x8192x8x256, .f32⟩
  | .hbm, ⟨24, _⟩ => ⟨S2x8x8192x256, .f32⟩
  | .hbm, ⟨25, _⟩ => ⟨S2x8x8192x256, .bf16⟩
  | .hbm, ⟨26, _⟩ => ⟨S2x32x256x8x128, .f32⟩
  | .hbm, ⟨27, _⟩ => ⟨S2x8x32x128x256, .f32⟩
  | .hbm, ⟨28, _⟩ => ⟨S2x8x32x128x256, .bf16⟩
  | .hbm, ⟨29, _⟩ => ⟨S2x8192x1024, .bf16⟩
  | .local _ .vmem, ⟨0, _⟩ => ⟨S1x1x1024x256, .bf16⟩
  | .local _ .vmem, ⟨1, _⟩ => ⟨S1x1x1024x256, .bf16⟩
  | .local _ .vmem, ⟨2, _⟩ => ⟨S1x1x8192x256, .bf16⟩
  | .local _ .vmem, ⟨3, _⟩ => ⟨S1x1x8192x256, .bf16⟩
  | .local _ .vmem, ⟨4, _⟩ => ⟨S1x1x32x128x256, .bf16⟩
  | .local _ .vmem, ⟨5, _⟩ => ⟨S1x1x32x128x256, .bf16⟩
  | .local _ .vmem, ⟨6, _⟩ => ⟨S1x1024x128, .bf16⟩
  | .local _ .vmem, ⟨7, _⟩ => ⟨S1x1024x128, .bf16⟩
  | .local _ .vmem, ⟨8, _⟩ => ⟨S128x2048, .f32⟩
  | .local _ .vmem, ⟨9, _⟩ => ⟨S2x256x2048, .f32⟩
  | _, _ => ⟨S2x8192x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 8], ![false, false, false]⟩

def k0_cond1 (i : grid0.Coords) : BitVec 1 :=
  let arg2 : BitVec 32 := BitVec.ofNat 32 (i 2).val
  let c1024_i32 : BitVec 32 := 1024#32
  let v13 : BitVec 32 := Scalar.muli arg2 c1024_i32
  let c0_i32 : BitVec 32 := 0#32
  let v15 : BitVec 1 := Scalar.cmpi .sgt v13 c0_i32
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c256_i32 : BitVec 32 := 256#32
  let c0_i32_4 : BitVec 32 := 0#32
  let v20 : BitVec 1 := Scalar.cmpi .sgt c256_i32 c0_i32_4
  let v21 : BitVec 32 := Scalar.extui v20
  let c0_i32_5 : BitVec 32 := 0#32
  let v22 : BitVec 1 := Scalar.cmpi .slt c256_i32 c0_i32_5
  let v23 : BitVec 32 := Scalar.extui v22
  let v24 : BitVec 32 := Scalar.subi v21 v23
  let v25 : BitVec 1 := Scalar.cmpi .ne v19 v24
  let v26 : BitVec 32 := Scalar.remsi v13 c256_i32
  let c0_i32_6 : BitVec 32 := 0#32
  let v27 : BitVec 1 := Scalar.cmpi .ne v26 c0_i32_6
  let v28 : BitVec 1 := Scalar.andi v25 v27
  let v14 : BitVec 32 := Scalar.divsi v13 c256_i32
  let c1_i32 : BitVec 32 := 1#32
  let v29 : BitVec 32 := Scalar.subi v14 c1_i32
  let v30 : BitVec 32 := Scalar.select v28 v29 v14
  let c2_i32 : BitVec 32 := 2#32
  let v39 : BitVec 1 := Scalar.cmpi .sge v30 c2_i32
  let v40 : BitVec 32 := Scalar.extui v39
  let c0_i32_14 : BitVec 32 := 0#32
  let v41 : BitVec 1 := Scalar.cmpi .ne v40 c0_i32_14
  v41

def k0_mult1 : BitVec 32 :=
  let c0_i32_127 : BitVec 32 := 0#32
  c0_i32_127
@[reducible] def k0_t1_loop (i : grid0.Coords) : Scf.Loop 32 :=
  let c0_i32_21 : BitVec 32 := 0#32
  let arg2 : BitVec 32 := BitVec.ofNat 32 (i 2).val
  let c1024_i32 : BitVec 32 := 1024#32
  let v13 : BitVec 32 := Scalar.muli arg2 c1024_i32
  let c0_i32 : BitVec 32 := 0#32
  let v15 : BitVec 1 := Scalar.cmpi .sgt v13 c0_i32
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c256_i32 : BitVec 32 := 256#32
  let c0_i32_4 : BitVec 32 := 0#32
  let v20 : BitVec 1 := Scalar.cmpi .sgt c256_i32 c0_i32_4
  let v21 : BitVec 32 := Scalar.extui v20
  let c0_i32_5 : BitVec 32 := 0#32
  let v22 : BitVec 1 := Scalar.cmpi .slt c256_i32 c0_i32_5
  let v23 : BitVec 32 := Scalar.extui v22
  let v24 : BitVec 32 := Scalar.subi v21 v23
  let v25 : BitVec 1 := Scalar.cmpi .ne v19 v24
  let v26 : BitVec 32 := Scalar.remsi v13 c256_i32
  let c0_i32_6 : BitVec 32 := 0#32
  let v27 : BitVec 1 := Scalar.cmpi .ne v26 c0_i32_6
  let v28 : BitVec 1 := Scalar.andi v25 v27
  let v14 : BitVec 32 := Scalar.divsi v13 c256_i32
  let c1_i32 : BitVec 32 := 1#32
  let v29 : BitVec 32 := Scalar.subi v14 c1_i32
  let v30 : BitVec 32 := Scalar.select v28 v29 v14
  let c0_i32_15 : BitVec 32 := 0#32
  let v43 : BitVec 1 := Scalar.cmpi .sgt v30 c0_i32_15
  let v44 : BitVec 32 := Scalar.extui v43
  let c0_i32_16 : BitVec 32 := 0#32
  let v45 : BitVec 1 := Scalar.cmpi .slt v30 c0_i32_16
  let v46 : BitVec 32 := Scalar.extui v45
  let v47 : BitVec 32 := Scalar.subi v44 v46
  let c4_i32 : BitVec 32 := 4#32
  let c0_i32_17 : BitVec 32 := 0#32
  let v48 : BitVec 1 := Scalar.cmpi .sgt c4_i32 c0_i32_17
  let v49 : BitVec 32 := Scalar.extui v48
  let c0_i32_18 : BitVec 32 := 0#32
  let v50 : BitVec 1 := Scalar.cmpi .slt c4_i32 c0_i32_18
  let v51 : BitVec 32 := Scalar.extui v50
  let v52 : BitVec 32 := Scalar.subi v49 v51
  let v53 : BitVec 1 := Scalar.cmpi .ne v47 v52
  let v54 : BitVec 32 := Scalar.remsi v30 c4_i32
  let c0_i32_19 : BitVec 32 := 0#32
  let v55 : BitVec 1 := Scalar.cmpi .ne v54 c0_i32_19
  let v56 : BitVec 1 := Scalar.andi v53 v55
  let v42 : BitVec 32 := Scalar.divsi v30 c4_i32
  let c1_i32_20 : BitVec 32 := 1#32
  let v57 : BitVec 32 := Scalar.subi v42 c1_i32_20
  let v58 : BitVec 32 := Scalar.select v56 v57 v42
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_23 : BitVec 32 := 1#32
  ⟨c0_i32_21, v63, c1_i32_23⟩
def k0_mult2 (i : grid0.Coords) (k0_t1 : Fin (k0_t1_loop i).trips) : BitVec 32 :=
  let c0_i32_128 : BitVec 32 := 0#32
  let c4_i32_127 : BitVec 32 := 4#32
  let c0_i32_21 : BitVec 32 := 0#32
  let c1_i32_23 : BitVec 32 := 1#32
  let arg9 : BitVec 32 := Scf.iv c0_i32_21 c1_i32_23 k0_t1
  let v291 : BitVec 32 := Scalar.muli c4_i32_127 arg9
  let v292 : BitVec 32 := Scalar.addi c0_i32_128 v291
  let c0_i32_129 : BitVec 32 := 0#32
  let v293 : BitVec 32 := Scalar.addi v292 c0_i32_129
  let c1_i32_130 : BitVec 32 := 1#32
  let v294 : BitVec 32 := Scalar.addi v293 c1_i32_130
  let c256_i32_131 : BitVec 32 := 256#32
  let v295 : BitVec 32 := Scalar.muli v294 c256_i32_131
  v295
def k0_off1 (i : grid0.Coords) (k0_t1 : Fin (k0_t1_loop i).trips) (c0_i32_129 : BitVec 32) : Fin 4 → Nat :=
  let c0_132 : Index := 0#32
  let c0_133 : Index := 0#32
  let c0_i32_128 : BitVec 32 := 0#32
  let c4_i32_127 : BitVec 32 := 4#32
  let c0_i32_21 : BitVec 32 := 0#32
  let c1_i32_23 : BitVec 32 := 1#32
  let arg9 : BitVec 32 := Scf.iv c0_i32_21 c1_i32_23 k0_t1
  let v291 : BitVec 32 := Scalar.muli c4_i32_127 arg9
  let v292 : BitVec 32 := Scalar.addi c0_i32_128 v291
  let v293 : BitVec 32 := Scalar.addi v292 c0_i32_129
  let c1_i32_130 : BitVec 32 := 1#32
  let v294 : BitVec 32 := Scalar.addi v293 c1_i32_130
  let c256_i32_131 : BitVec 32 := 256#32
  let v295 : BitVec 32 := Scalar.muli v294 c256_i32_131
  let v296 : BitVec 32 := v295
  let v297 : Index := Scalar.indexCast v296
  let c0_134 : Index := 0#32
  ![0, 0, v297.toNat, 0]
def k0_off2 (i : grid0.Coords) (k0_t1 : Fin (k0_t1_loop i).trips) (c0_i32_129 : BitVec 32) : Fin 5 → Nat :=
  let c0_141 : Index := 0#32
  let c0_142 : Index := 0#32
  let c0_i32_128 : BitVec 32 := 0#32
  let c4_i32_127 : BitVec 32 := 4#32
  let c0_i32_21 : BitVec 32 := 0#32
  let c1_i32_23 : BitVec 32 := 1#32
  let arg9 : BitVec 32 := Scf.iv c0_i32_21 c1_i32_23 k0_t1
  let v291 : BitVec 32 := Scalar.muli c4_i32_127 arg9
  let v292 : BitVec 32 := Scalar.addi c0_i32_128 v291
  let v293 : BitVec 32 := Scalar.addi v292 c0_i32_129
  let c1_i32_139 : BitVec 32 := 1#32
  let v303 : BitVec 32 := Scalar.muli v293 c1_i32_139
  let c0_i32_140 : BitVec 32 := 0#32
  let v304 : BitVec 32 := Scalar.addi v303 c0_i32_140
  let v305 : Index := Scalar.indexCast v304
  let c0_143 : Index := 0#32
  let c0_144 : Index := 0#32
  ![0, 0, v305.toNat, 0, 0]
def k0_mult3 (i : grid0.Coords) (k0_t1 : Fin (k0_t1_loop i).trips) : BitVec 32 :=
  let c0_i32_128 : BitVec 32 := 0#32
  let c4_i32_127 : BitVec 32 := 4#32
  let c0_i32_21 : BitVec 32 := 0#32
  let c1_i32_23 : BitVec 32 := 1#32
  let arg9 : BitVec 32 := Scf.iv c0_i32_21 c1_i32_23 k0_t1
  let v291 : BitVec 32 := Scalar.muli c4_i32_127 arg9
  let v292 : BitVec 32 := Scalar.addi c0_i32_128 v291
  let c0_i32_129 : BitVec 32 := 0#32
  let v293 : BitVec 32 := Scalar.addi v292 c0_i32_129
  let c2_i32_153 : BitVec 32 := 2#32
  let v322 : BitVec 32 := Scalar.addi v293 c2_i32_153
  let c0_i32_12 : BitVec 32 := 0#32
  let arg2 : BitVec 32 := BitVec.ofNat 32 (i 2).val
  let c1024_i32 : BitVec 32 := 1024#32
  let v13 : BitVec 32 := Scalar.muli arg2 c1024_i32
  let c0_i32 : BitVec 32 := 0#32
  let v15 : BitVec 1 := Scalar.cmpi .sgt v13 c0_i32
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c256_i32 : BitVec 32 := 256#32
  let c0_i32_4 : BitVec 32 := 0#32
  let v20 : BitVec 1 := Scalar.cmpi .sgt c256_i32 c0_i32_4
  let v21 : BitVec 32 := Scalar.extui v20
  let c0_i32_5 : BitVec 32 := 0#32
  let v22 : BitVec 1 := Scalar.cmpi .slt c256_i32 c0_i32_5
  let v23 : BitVec 32 := Scalar.extui v22
  let v24 : BitVec 32 := Scalar.subi v21 v23
  let v25 : BitVec 1 := Scalar.cmpi .ne v19 v24
  let v26 : BitVec 32 := Scalar.remsi v13 c256_i32
  let c0_i32_6 : BitVec 32 := 0#32
  let v27 : BitVec 1 := Scalar.cmpi .ne v26 c0_i32_6
  let v28 : BitVec 1 := Scalar.andi v25 v27
  let v14 : BitVec 32 := Scalar.divsi v13 c256_i32
  let c1_i32 : BitVec 32 := 1#32
  let v29 : BitVec 32 := Scalar.subi v14 c1_i32
  let v30 : BitVec 32 := Scalar.select v28 v29 v14
  let v37 : BitVec 32 := Scalar.addi c0_i32_12 v30
  let c1_i32_13 : BitVec 32 := 1#32
  let v38 : BitVec 32 := Scalar.subi v37 c1_i32_13
  let v323 : BitVec 32 := Scalar.minsi v322 v38
  let c256_i32_154 : BitVec 32 := 256#32
  let v324 : BitVec 32 := Scalar.muli v323 c256_i32_154
  v324
def k0_off3 (i : grid0.Coords) (k0_t1 : Fin (k0_t1_loop i).trips) (c0_i32_129 : BitVec 32) : Fin 4 → Nat :=
  let c0_155 : Index := 0#32
  let c0_156 : Index := 0#32
  let c0_i32_128 : BitVec 32 := 0#32
  let c4_i32_127 : BitVec 32 := 4#32
  let c0_i32_21 : BitVec 32 := 0#32
  let c1_i32_23 : BitVec 32 := 1#32
  let arg9 : BitVec 32 := Scf.iv c0_i32_21 c1_i32_23 k0_t1
  let v291 : BitVec 32 := Scalar.muli c4_i32_127 arg9
  let v292 : BitVec 32 := Scalar.addi c0_i32_128 v291
  let v293 : BitVec 32 := Scalar.addi v292 c0_i32_129
  let c2_i32_153 : BitVec 32 := 2#32
  let v322 : BitVec 32 := Scalar.addi v293 c2_i32_153
  let c0_i32_12 : BitVec 32 := 0#32
  let arg2 : BitVec 32 := BitVec.ofNat 32 (i 2).val
  let c1024_i32 : BitVec 32 := 1024#32
  let v13 : BitVec 32 := Scalar.muli arg2 c1024_i32
  let c0_i32 : BitVec 32 := 0#32
  let v15 : BitVec 1 := Scalar.cmpi .sgt v13 c0_i32
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c256_i32 : BitVec 32 := 256#32
  let c0_i32_4 : BitVec 32 := 0#32
  let v20 : BitVec 1 := Scalar.cmpi .sgt c256_i32 c0_i32_4
  let v21 : BitVec 32 := Scalar.extui v20
  let c0_i32_5 : BitVec 32 := 0#32
  let v22 : BitVec 1 := Scalar.cmpi .slt c256_i32 c0_i32_5
  let v23 : BitVec 32 := Scalar.extui v22
  let v24 : BitVec 32 := Scalar.subi v21 v23
  let v25 : BitVec 1 := Scalar.cmpi .ne v19 v24
  let v26 : BitVec 32 := Scalar.remsi v13 c256_i32
  let c0_i32_6 : BitVec 32 := 0#32
  let v27 : BitVec 1 := Scalar.cmpi .ne v26 c0_i32_6
  let v28 : BitVec 1 := Scalar.andi v25 v27
  let v14 : BitVec 32 := Scalar.divsi v13 c256_i32
  let c1_i32 : BitVec 32 := 1#32
  let v29 : BitVec 32 := Scalar.subi v14 c1_i32
  let v30 : BitVec 32 := Scalar.select v28 v29 v14
  let v37 : BitVec 32 := Scalar.addi c0_i32_12 v30
  let c1_i32_13 : BitVec 32 := 1#32
  let v38 : BitVec 32 := Scalar.subi v37 c1_i32_13
  let v323 : BitVec 32 := Scalar.minsi v322 v38
  let c256_i32_154 : BitVec 32 := 256#32
  let v324 : BitVec 32 := Scalar.muli v323 c256_i32_154
  let v325 : BitVec 32 := v324
  let v326 : Index := Scalar.indexCast v325
  let c0_157 : Index := 0#32
  ![0, 0, v326.toNat, 0]
def k0_off4 (i : grid0.Coords) (k0_t1 : Fin (k0_t1_loop i).trips) (c0_i32_129 : BitVec 32) : Fin 5 → Nat :=
  let c0_165 : Index := 0#32
  let c0_166 : Index := 0#32
  let c0_i32_128 : BitVec 32 := 0#32
  let c4_i32_127 : BitVec 32 := 4#32
  let c0_i32_21 : BitVec 32 := 0#32
  let c1_i32_23 : BitVec 32 := 1#32
  let arg9 : BitVec 32 := Scf.iv c0_i32_21 c1_i32_23 k0_t1
  let v291 : BitVec 32 := Scalar.muli c4_i32_127 arg9
  let v292 : BitVec 32 := Scalar.addi c0_i32_128 v291
  let v293 : BitVec 32 := Scalar.addi v292 c0_i32_129
  let c1_i32_159 : BitVec 32 := 1#32
  let v330 : BitVec 32 := Scalar.addi v293 c1_i32_159
  let c1_i32_163 : BitVec 32 := 1#32
  let v333 : BitVec 32 := Scalar.muli v330 c1_i32_163
  let c0_i32_164 : BitVec 32 := 0#32
  let v334 : BitVec 32 := Scalar.addi v333 c0_i32_164
  let v335 : Index := Scalar.indexCast v334
  let c0_167 : Index := 0#32
  let c0_168 : Index := 0#32
  ![0, 0, v335.toNat, 0, 0]
def k0_mult4 (i : grid0.Coords) (k0_t1 : Fin (k0_t1_loop i).trips) : BitVec 32 :=
  let c0_i32_179 : BitVec 32 := 0#32
  let c4_i32_178 : BitVec 32 := 4#32
  let c0_i32_21 : BitVec 32 := 0#32
  let c1_i32_23 : BitVec 32 := 1#32
  let arg9 : BitVec 32 := Scf.iv c0_i32_21 c1_i32_23 k0_t1
  let v352 : BitVec 32 := Scalar.muli c4_i32_178 arg9
  let v353 : BitVec 32 := Scalar.addi c0_i32_179 v352
  let c2_i32_180 : BitVec 32 := 2#32
  let v354 : BitVec 32 := Scalar.addi v353 c2_i32_180
  let c1_i32_181 : BitVec 32 := 1#32
  let v355 : BitVec 32 := Scalar.addi v354 c1_i32_181
  let c256_i32_182 : BitVec 32 := 256#32
  let v356 : BitVec 32 := Scalar.muli v355 c256_i32_182
  v356
def k0_mult5 (i : grid0.Coords) (k0_t1 : Fin (k0_t1_loop i).trips) : BitVec 32 :=
  let c0_i32_179 : BitVec 32 := 0#32
  let c4_i32_178 : BitVec 32 := 4#32
  let c0_i32_21 : BitVec 32 := 0#32
  let c1_i32_23 : BitVec 32 := 1#32
  let arg9 : BitVec 32 := Scf.iv c0_i32_21 c1_i32_23 k0_t1
  let v352 : BitVec 32 := Scalar.muli c4_i32_178 arg9
  let v353 : BitVec 32 := Scalar.addi c0_i32_179 v352
  let c2_i32_180 : BitVec 32 := 2#32
  let v354 : BitVec 32 := Scalar.addi v353 c2_i32_180
  let c2_i32_205 : BitVec 32 := 2#32
  let v383 : BitVec 32 := Scalar.addi v354 c2_i32_205
  let c0_i32_12 : BitVec 32 := 0#32
  let arg2 : BitVec 32 := BitVec.ofNat 32 (i 2).val
  let c1024_i32 : BitVec 32 := 1024#32
  let v13 : BitVec 32 := Scalar.muli arg2 c1024_i32
  let c0_i32 : BitVec 32 := 0#32
  let v15 : BitVec 1 := Scalar.cmpi .sgt v13 c0_i32
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c256_i32 : BitVec 32 := 256#32
  let c0_i32_4 : BitVec 32 := 0#32
  let v20 : BitVec 1 := Scalar.cmpi .sgt c256_i32 c0_i32_4
  let v21 : BitVec 32 := Scalar.extui v20
  let c0_i32_5 : BitVec 32 := 0#32
  let v22 : BitVec 1 := Scalar.cmpi .slt c256_i32 c0_i32_5
  let v23 : BitVec 32 := Scalar.extui v22
  let v24 : BitVec 32 := Scalar.subi v21 v23
  let v25 : BitVec 1 := Scalar.cmpi .ne v19 v24
  let v26 : BitVec 32 := Scalar.remsi v13 c256_i32
  let c0_i32_6 : BitVec 32 := 0#32
  let v27 : BitVec 1 := Scalar.cmpi .ne v26 c0_i32_6
  let v28 : BitVec 1 := Scalar.andi v25 v27
  let v14 : BitVec 32 := Scalar.divsi v13 c256_i32
  let c1_i32 : BitVec 32 := 1#32
  let v29 : BitVec 32 := Scalar.subi v14 c1_i32
  let v30 : BitVec 32 := Scalar.select v28 v29 v14
  let v37 : BitVec 32 := Scalar.addi c0_i32_12 v30
  let c1_i32_13 : BitVec 32 := 1#32
  let v38 : BitVec 32 := Scalar.subi v37 c1_i32_13
  let v384 : BitVec 32 := Scalar.minsi v383 v38
  let c256_i32_206 : BitVec 32 := 256#32
  let v385 : BitVec 32 := Scalar.muli v384 c256_i32_206
  v385
@[reducible] def k0_t2_loop (i : grid0.Coords) : Scf.Loop 32 :=
  let c0_i32_21 : BitVec 32 := 0#32
  let arg2 : BitVec 32 := BitVec.ofNat 32 (i 2).val
  let c1024_i32 : BitVec 32 := 1024#32
  let v13 : BitVec 32 := Scalar.muli arg2 c1024_i32
  let c0_i32 : BitVec 32 := 0#32
  let v15 : BitVec 1 := Scalar.cmpi .sgt v13 c0_i32
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c256_i32 : BitVec 32 := 256#32
  let c0_i32_4 : BitVec 32 := 0#32
  let v20 : BitVec 1 := Scalar.cmpi .sgt c256_i32 c0_i32_4
  let v21 : BitVec 32 := Scalar.extui v20
  let c0_i32_5 : BitVec 32 := 0#32
  let v22 : BitVec 1 := Scalar.cmpi .slt c256_i32 c0_i32_5
  let v23 : BitVec 32 := Scalar.extui v22
  let v24 : BitVec 32 := Scalar.subi v21 v23
  let v25 : BitVec 1 := Scalar.cmpi .ne v19 v24
  let v26 : BitVec 32 := Scalar.remsi v13 c256_i32
  let c0_i32_6 : BitVec 32 := 0#32
  let v27 : BitVec 1 := Scalar.cmpi .ne v26 c0_i32_6
  let v28 : BitVec 1 := Scalar.andi v25 v27
  let v14 : BitVec 32 := Scalar.divsi v13 c256_i32
  let c1_i32 : BitVec 32 := 1#32
  let v29 : BitVec 32 := Scalar.subi v14 c1_i32
  let v30 : BitVec 32 := Scalar.select v28 v29 v14
  let c0_i32_15 : BitVec 32 := 0#32
  let v43 : BitVec 1 := Scalar.cmpi .sgt v30 c0_i32_15
  let v44 : BitVec 32 := Scalar.extui v43
  let c0_i32_16 : BitVec 32 := 0#32
  let v45 : BitVec 1 := Scalar.cmpi .slt v30 c0_i32_16
  let v46 : BitVec 32 := Scalar.extui v45
  let v47 : BitVec 32 := Scalar.subi v44 v46
  let c4_i32 : BitVec 32 := 4#32
  let c0_i32_17 : BitVec 32 := 0#32
  let v48 : BitVec 1 := Scalar.cmpi .sgt c4_i32 c0_i32_17
  let v49 : BitVec 32 := Scalar.extui v48
  let c0_i32_18 : BitVec 32 := 0#32
  let v50 : BitVec 1 := Scalar.cmpi .slt c4_i32 c0_i32_18
  let v51 : BitVec 32 := Scalar.extui v50
  let v52 : BitVec 32 := Scalar.subi v49 v51
  let v53 : BitVec 1 := Scalar.cmpi .ne v47 v52
  let v54 : BitVec 32 := Scalar.remsi v30 c4_i32
  let c0_i32_19 : BitVec 32 := 0#32
  let v55 : BitVec 1 := Scalar.cmpi .ne v54 c0_i32_19
  let v56 : BitVec 1 := Scalar.andi v53 v55
  let v42 : BitVec 32 := Scalar.divsi v30 c4_i32
  let c1_i32_20 : BitVec 32 := 1#32
  let v57 : BitVec 32 := Scalar.subi v42 c1_i32_20
  let v58 : BitVec 32 := Scalar.select v56 v57 v42
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let v60 : BitVec 32 := Scalar.addi c0_i32_21 v59
  let c1_i32_24 : BitVec 32 := 1#32
  ⟨v63, v60, c1_i32_24⟩
def k0_mult6 (i : grid0.Coords) (k0_t2 : Fin (k0_t2_loop i).trips) : BitVec 32 :=
  let c0_i32_128 : BitVec 32 := 0#32
  let c4_i32_127 : BitVec 32 := 4#32
  let c0_i32_21 : BitVec 32 := 0#32
  let arg2 : BitVec 32 := BitVec.ofNat 32 (i 2).val
  let c1024_i32 : BitVec 32 := 1024#32
  let v13 : BitVec 32 := Scalar.muli arg2 c1024_i32
  let c0_i32 : BitVec 32 := 0#32
  let v15 : BitVec 1 := Scalar.cmpi .sgt v13 c0_i32
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c256_i32 : BitVec 32 := 256#32
  let c0_i32_4 : BitVec 32 := 0#32
  let v20 : BitVec 1 := Scalar.cmpi .sgt c256_i32 c0_i32_4
  let v21 : BitVec 32 := Scalar.extui v20
  let c0_i32_5 : BitVec 32 := 0#32
  let v22 : BitVec 1 := Scalar.cmpi .slt c256_i32 c0_i32_5
  let v23 : BitVec 32 := Scalar.extui v22
  let v24 : BitVec 32 := Scalar.subi v21 v23
  let v25 : BitVec 1 := Scalar.cmpi .ne v19 v24
  let v26 : BitVec 32 := Scalar.remsi v13 c256_i32
  let c0_i32_6 : BitVec 32 := 0#32
  let v27 : BitVec 1 := Scalar.cmpi .ne v26 c0_i32_6
  let v28 : BitVec 1 := Scalar.andi v25 v27
  let v14 : BitVec 32 := Scalar.divsi v13 c256_i32
  let c1_i32 : BitVec 32 := 1#32
  let v29 : BitVec 32 := Scalar.subi v14 c1_i32
  let v30 : BitVec 32 := Scalar.select v28 v29 v14
  let c0_i32_15 : BitVec 32 := 0#32
  let v43 : BitVec 1 := Scalar.cmpi .sgt v30 c0_i32_15
  let v44 : BitVec 32 := Scalar.extui v43
  let c0_i32_16 : BitVec 32 := 0#32
  let v45 : BitVec 1 := Scalar.cmpi .slt v30 c0_i32_16
  let v46 : BitVec 32 := Scalar.extui v45
  let v47 : BitVec 32 := Scalar.subi v44 v46
  let c4_i32 : BitVec 32 := 4#32
  let c0_i32_17 : BitVec 32 := 0#32
  let v48 : BitVec 1 := Scalar.cmpi .sgt c4_i32 c0_i32_17
  let v49 : BitVec 32 := Scalar.extui v48
  let c0_i32_18 : BitVec 32 := 0#32
  let v50 : BitVec 1 := Scalar.cmpi .slt c4_i32 c0_i32_18
  let v51 : BitVec 32 := Scalar.extui v50
  let v52 : BitVec 32 := Scalar.subi v49 v51
  let v53 : BitVec 1 := Scalar.cmpi .ne v47 v52
  let v54 : BitVec 32 := Scalar.remsi v30 c4_i32
  let c0_i32_19 : BitVec 32 := 0#32
  let v55 : BitVec 1 := Scalar.cmpi .ne v54 c0_i32_19
  let v56 : BitVec 1 := Scalar.andi v53 v55
  let v42 : BitVec 32 := Scalar.divsi v30 c4_i32
  let c1_i32_20 : BitVec 32 := 1#32
  let v57 : BitVec 32 := Scalar.subi v42 c1_i32_20
  let v58 : BitVec 32 := Scalar.select v56 v57 v42
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg9 : BitVec 32 := Scf.iv v63 c1_i32_24 k0_t2
  let v291 : BitVec 32 := Scalar.muli c4_i32_127 arg9
  let v292 : BitVec 32 := Scalar.addi c0_i32_128 v291
  let c0_i32_129 : BitVec 32 := 0#32
  let v293 : BitVec 32 := Scalar.addi v292 c0_i32_129
  let c1_i32_130 : BitVec 32 := 1#32
  let v294 : BitVec 32 := Scalar.addi v293 c1_i32_130
  let c256_i32_131 : BitVec 32 := 256#32
  let v295 : BitVec 32 := Scalar.muli v294 c256_i32_131
  v295
def k0_off5 (i : grid0.Coords) (k0_t2 : Fin (k0_t2_loop i).trips) (c0_i32_129 : BitVec 32) : Fin 4 → Nat :=
  let c0_132 : Index := 0#32
  let c0_133 : Index := 0#32
  let c0_i32_128 : BitVec 32 := 0#32
  let c4_i32_127 : BitVec 32 := 4#32
  let c0_i32_21 : BitVec 32 := 0#32
  let arg2 : BitVec 32 := BitVec.ofNat 32 (i 2).val
  let c1024_i32 : BitVec 32 := 1024#32
  let v13 : BitVec 32 := Scalar.muli arg2 c1024_i32
  let c0_i32 : BitVec 32 := 0#32
  let v15 : BitVec 1 := Scalar.cmpi .sgt v13 c0_i32
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c256_i32 : BitVec 32 := 256#32
  let c0_i32_4 : BitVec 32 := 0#32
  let v20 : BitVec 1 := Scalar.cmpi .sgt c256_i32 c0_i32_4
  let v21 : BitVec 32 := Scalar.extui v20
  let c0_i32_5 : BitVec 32 := 0#32
  let v22 : BitVec 1 := Scalar.cmpi .slt c256_i32 c0_i32_5
  let v23 : BitVec 32 := Scalar.extui v22
  let v24 : BitVec 32 := Scalar.subi v21 v23
  let v25 : BitVec 1 := Scalar.cmpi .ne v19 v24
  let v26 : BitVec 32 := Scalar.remsi v13 c256_i32
  let c0_i32_6 : BitVec 32 := 0#32
  let v27 : BitVec 1 := Scalar.cmpi .ne v26 c0_i32_6
  let v28 : BitVec 1 := Scalar.andi v25 v27
  let v14 : BitVec 32 := Scalar.divsi v13 c256_i32
  let c1_i32 : BitVec 32 := 1#32
  let v29 : BitVec 32 := Scalar.subi v14 c1_i32
  let v30 : BitVec 32 := Scalar.select v28 v29 v14
  let c0_i32_15 : BitVec 32 := 0#32
  let v43 : BitVec 1 := Scalar.cmpi .sgt v30 c0_i32_15
  let v44 : BitVec 32 := Scalar.extui v43
  let c0_i32_16 : BitVec 32 := 0#32
  let v45 : BitVec 1 := Scalar.cmpi .slt v30 c0_i32_16
  let v46 : BitVec 32 := Scalar.extui v45
  let v47 : BitVec 32 := Scalar.subi v44 v46
  let c4_i32 : BitVec 32 := 4#32
  let c0_i32_17 : BitVec 32 := 0#32
  let v48 : BitVec 1 := Scalar.cmpi .sgt c4_i32 c0_i32_17
  let v49 : BitVec 32 := Scalar.extui v48
  let c0_i32_18 : BitVec 32 := 0#32
  let v50 : BitVec 1 := Scalar.cmpi .slt c4_i32 c0_i32_18
  let v51 : BitVec 32 := Scalar.extui v50
  let v52 : BitVec 32 := Scalar.subi v49 v51
  let v53 : BitVec 1 := Scalar.cmpi .ne v47 v52
  let v54 : BitVec 32 := Scalar.remsi v30 c4_i32
  let c0_i32_19 : BitVec 32 := 0#32
  let v55 : BitVec 1 := Scalar.cmpi .ne v54 c0_i32_19
  let v56 : BitVec 1 := Scalar.andi v53 v55
  let v42 : BitVec 32 := Scalar.divsi v30 c4_i32
  let c1_i32_20 : BitVec 32 := 1#32
  let v57 : BitVec 32 := Scalar.subi v42 c1_i32_20
  let v58 : BitVec 32 := Scalar.select v56 v57 v42
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg9 : BitVec 32 := Scf.iv v63 c1_i32_24 k0_t2
  let v291 : BitVec 32 := Scalar.muli c4_i32_127 arg9
  let v292 : BitVec 32 := Scalar.addi c0_i32_128 v291
  let v293 : BitVec 32 := Scalar.addi v292 c0_i32_129
  let c1_i32_130 : BitVec 32 := 1#32
  let v294 : BitVec 32 := Scalar.addi v293 c1_i32_130
  let c256_i32_131 : BitVec 32 := 256#32
  let v295 : BitVec 32 := Scalar.muli v294 c256_i32_131
  let v296 : BitVec 32 := v295
  let v297 : Index := Scalar.indexCast v296
  let c0_134 : Index := 0#32
  ![0, 0, v297.toNat, 0]
def k0_off6 (i : grid0.Coords) (k0_t2 : Fin (k0_t2_loop i).trips) (c0_i32_129 : BitVec 32) : Fin 5 → Nat :=
  let c0_141 : Index := 0#32
  let c0_142 : Index := 0#32
  let c0_i32_128 : BitVec 32 := 0#32
  let c4_i32_127 : BitVec 32 := 4#32
  let c0_i32_21 : BitVec 32 := 0#32
  let arg2 : BitVec 32 := BitVec.ofNat 32 (i 2).val
  let c1024_i32 : BitVec 32 := 1024#32
  let v13 : BitVec 32 := Scalar.muli arg2 c1024_i32
  let c0_i32 : BitVec 32 := 0#32
  let v15 : BitVec 1 := Scalar.cmpi .sgt v13 c0_i32
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c256_i32 : BitVec 32 := 256#32
  let c0_i32_4 : BitVec 32 := 0#32
  let v20 : BitVec 1 := Scalar.cmpi .sgt c256_i32 c0_i32_4
  let v21 : BitVec 32 := Scalar.extui v20
  let c0_i32_5 : BitVec 32 := 0#32
  let v22 : BitVec 1 := Scalar.cmpi .slt c256_i32 c0_i32_5
  let v23 : BitVec 32 := Scalar.extui v22
  let v24 : BitVec 32 := Scalar.subi v21 v23
  let v25 : BitVec 1 := Scalar.cmpi .ne v19 v24
  let v26 : BitVec 32 := Scalar.remsi v13 c256_i32
  let c0_i32_6 : BitVec 32 := 0#32
  let v27 : BitVec 1 := Scalar.cmpi .ne v26 c0_i32_6
  let v28 : BitVec 1 := Scalar.andi v25 v27
  let v14 : BitVec 32 := Scalar.divsi v13 c256_i32
  let c1_i32 : BitVec 32 := 1#32
  let v29 : BitVec 32 := Scalar.subi v14 c1_i32
  let v30 : BitVec 32 := Scalar.select v28 v29 v14
  let c0_i32_15 : BitVec 32 := 0#32
  let v43 : BitVec 1 := Scalar.cmpi .sgt v30 c0_i32_15
  let v44 : BitVec 32 := Scalar.extui v43
  let c0_i32_16 : BitVec 32 := 0#32
  let v45 : BitVec 1 := Scalar.cmpi .slt v30 c0_i32_16
  let v46 : BitVec 32 := Scalar.extui v45
  let v47 : BitVec 32 := Scalar.subi v44 v46
  let c4_i32 : BitVec 32 := 4#32
  let c0_i32_17 : BitVec 32 := 0#32
  let v48 : BitVec 1 := Scalar.cmpi .sgt c4_i32 c0_i32_17
  let v49 : BitVec 32 := Scalar.extui v48
  let c0_i32_18 : BitVec 32 := 0#32
  let v50 : BitVec 1 := Scalar.cmpi .slt c4_i32 c0_i32_18
  let v51 : BitVec 32 := Scalar.extui v50
  let v52 : BitVec 32 := Scalar.subi v49 v51
  let v53 : BitVec 1 := Scalar.cmpi .ne v47 v52
  let v54 : BitVec 32 := Scalar.remsi v30 c4_i32
  let c0_i32_19 : BitVec 32 := 0#32
  let v55 : BitVec 1 := Scalar.cmpi .ne v54 c0_i32_19
  let v56 : BitVec 1 := Scalar.andi v53 v55
  let v42 : BitVec 32 := Scalar.divsi v30 c4_i32
  let c1_i32_20 : BitVec 32 := 1#32
  let v57 : BitVec 32 := Scalar.subi v42 c1_i32_20
  let v58 : BitVec 32 := Scalar.select v56 v57 v42
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg9 : BitVec 32 := Scf.iv v63 c1_i32_24 k0_t2
  let v291 : BitVec 32 := Scalar.muli c4_i32_127 arg9
  let v292 : BitVec 32 := Scalar.addi c0_i32_128 v291
  let v293 : BitVec 32 := Scalar.addi v292 c0_i32_129
  let c1_i32_139 : BitVec 32 := 1#32
  let v303 : BitVec 32 := Scalar.muli v293 c1_i32_139
  let c0_i32_140 : BitVec 32 := 0#32
  let v304 : BitVec 32 := Scalar.addi v303 c0_i32_140
  let v305 : Index := Scalar.indexCast v304
  let c0_143 : Index := 0#32
  let c0_144 : Index := 0#32
  ![0, 0, v305.toNat, 0, 0]
def k0_mult7 (i : grid0.Coords) (k0_t2 : Fin (k0_t2_loop i).trips) : BitVec 32 :=
  let c0_i32_128 : BitVec 32 := 0#32
  let c4_i32_127 : BitVec 32 := 4#32
  let c0_i32_21 : BitVec 32 := 0#32
  let arg2 : BitVec 32 := BitVec.ofNat 32 (i 2).val
  let c1024_i32 : BitVec 32 := 1024#32
  let v13 : BitVec 32 := Scalar.muli arg2 c1024_i32
  let c0_i32 : BitVec 32 := 0#32
  let v15 : BitVec 1 := Scalar.cmpi .sgt v13 c0_i32
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c256_i32 : BitVec 32 := 256#32
  let c0_i32_4 : BitVec 32 := 0#32
  let v20 : BitVec 1 := Scalar.cmpi .sgt c256_i32 c0_i32_4
  let v21 : BitVec 32 := Scalar.extui v20
  let c0_i32_5 : BitVec 32 := 0#32
  let v22 : BitVec 1 := Scalar.cmpi .slt c256_i32 c0_i32_5
  let v23 : BitVec 32 := Scalar.extui v22
  let v24 : BitVec 32 := Scalar.subi v21 v23
  let v25 : BitVec 1 := Scalar.cmpi .ne v19 v24
  let v26 : BitVec 32 := Scalar.remsi v13 c256_i32
  let c0_i32_6 : BitVec 32 := 0#32
  let v27 : BitVec 1 := Scalar.cmpi .ne v26 c0_i32_6
  let v28 : BitVec 1 := Scalar.andi v25 v27
  let v14 : BitVec 32 := Scalar.divsi v13 c256_i32
  let c1_i32 : BitVec 32 := 1#32
  let v29 : BitVec 32 := Scalar.subi v14 c1_i32
  let v30 : BitVec 32 := Scalar.select v28 v29 v14
  let c0_i32_15 : BitVec 32 := 0#32
  let v43 : BitVec 1 := Scalar.cmpi .sgt v30 c0_i32_15
  let v44 : BitVec 32 := Scalar.extui v43
  let c0_i32_16 : BitVec 32 := 0#32
  let v45 : BitVec 1 := Scalar.cmpi .slt v30 c0_i32_16
  let v46 : BitVec 32 := Scalar.extui v45
  let v47 : BitVec 32 := Scalar.subi v44 v46
  let c4_i32 : BitVec 32 := 4#32
  let c0_i32_17 : BitVec 32 := 0#32
  let v48 : BitVec 1 := Scalar.cmpi .sgt c4_i32 c0_i32_17
  let v49 : BitVec 32 := Scalar.extui v48
  let c0_i32_18 : BitVec 32 := 0#32
  let v50 : BitVec 1 := Scalar.cmpi .slt c4_i32 c0_i32_18
  let v51 : BitVec 32 := Scalar.extui v50
  let v52 : BitVec 32 := Scalar.subi v49 v51
  let v53 : BitVec 1 := Scalar.cmpi .ne v47 v52
  let v54 : BitVec 32 := Scalar.remsi v30 c4_i32
  let c0_i32_19 : BitVec 32 := 0#32
  let v55 : BitVec 1 := Scalar.cmpi .ne v54 c0_i32_19
  let v56 : BitVec 1 := Scalar.andi v53 v55
  let v42 : BitVec 32 := Scalar.divsi v30 c4_i32
  let c1_i32_20 : BitVec 32 := 1#32
  let v57 : BitVec 32 := Scalar.subi v42 c1_i32_20
  let v58 : BitVec 32 := Scalar.select v56 v57 v42
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg9 : BitVec 32 := Scf.iv v63 c1_i32_24 k0_t2
  let v291 : BitVec 32 := Scalar.muli c4_i32_127 arg9
  let v292 : BitVec 32 := Scalar.addi c0_i32_128 v291
  let c0_i32_129 : BitVec 32 := 0#32
  let v293 : BitVec 32 := Scalar.addi v292 c0_i32_129
  let c2_i32_153 : BitVec 32 := 2#32
  let v322 : BitVec 32 := Scalar.addi v293 c2_i32_153
  let c0_i32_12 : BitVec 32 := 0#32
  let v37 : BitVec 32 := Scalar.addi c0_i32_12 v30
  let c1_i32_13 : BitVec 32 := 1#32
  let v38 : BitVec 32 := Scalar.subi v37 c1_i32_13
  let v323 : BitVec 32 := Scalar.minsi v322 v38
  let c256_i32_154 : BitVec 32 := 256#32
  let v324 : BitVec 32 := Scalar.muli v323 c256_i32_154
  v324
def k0_off7 (i : grid0.Coords) (k0_t2 : Fin (k0_t2_loop i).trips) (c0_i32_129 : BitVec 32) : Fin 4 → Nat :=
  let c0_155 : Index := 0#32
  let c0_156 : Index := 0#32
  let c0_i32_128 : BitVec 32 := 0#32
  let c4_i32_127 : BitVec 32 := 4#32
  let c0_i32_21 : BitVec 32 := 0#32
  let arg2 : BitVec 32 := BitVec.ofNat 32 (i 2).val
  let c1024_i32 : BitVec 32 := 1024#32
  let v13 : BitVec 32 := Scalar.muli arg2 c1024_i32
  let c0_i32 : BitVec 32 := 0#32
  let v15 : BitVec 1 := Scalar.cmpi .sgt v13 c0_i32
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c256_i32 : BitVec 32 := 256#32
  let c0_i32_4 : BitVec 32 := 0#32
  let v20 : BitVec 1 := Scalar.cmpi .sgt c256_i32 c0_i32_4
  let v21 : BitVec 32 := Scalar.extui v20
  let c0_i32_5 : BitVec 32 := 0#32
  let v22 : BitVec 1 := Scalar.cmpi .slt c256_i32 c0_i32_5
  let v23 : BitVec 32 := Scalar.extui v22
  let v24 : BitVec 32 := Scalar.subi v21 v23
  let v25 : BitVec 1 := Scalar.cmpi .ne v19 v24
  let v26 : BitVec 32 := Scalar.remsi v13 c256_i32
  let c0_i32_6 : BitVec 32 := 0#32
  let v27 : BitVec 1 := Scalar.cmpi .ne v26 c0_i32_6
  let v28 : BitVec 1 := Scalar.andi v25 v27
  let v14 : BitVec 32 := Scalar.divsi v13 c256_i32
  let c1_i32 : BitVec 32 := 1#32
  let v29 : BitVec 32 := Scalar.subi v14 c1_i32
  let v30 : BitVec 32 := Scalar.select v28 v29 v14
  let c0_i32_15 : BitVec 32 := 0#32
  let v43 : BitVec 1 := Scalar.cmpi .sgt v30 c0_i32_15
  let v44 : BitVec 32 := Scalar.extui v43
  let c0_i32_16 : BitVec 32 := 0#32
  let v45 : BitVec 1 := Scalar.cmpi .slt v30 c0_i32_16
  let v46 : BitVec 32 := Scalar.extui v45
  let v47 : BitVec 32 := Scalar.subi v44 v46
  let c4_i32 : BitVec 32 := 4#32
  let c0_i32_17 : BitVec 32 := 0#32
  let v48 : BitVec 1 := Scalar.cmpi .sgt c4_i32 c0_i32_17
  let v49 : BitVec 32 := Scalar.extui v48
  let c0_i32_18 : BitVec 32 := 0#32
  let v50 : BitVec 1 := Scalar.cmpi .slt c4_i32 c0_i32_18
  let v51 : BitVec 32 := Scalar.extui v50
  let v52 : BitVec 32 := Scalar.subi v49 v51
  let v53 : BitVec 1 := Scalar.cmpi .ne v47 v52
  let v54 : BitVec 32 := Scalar.remsi v30 c4_i32
  let c0_i32_19 : BitVec 32 := 0#32
  let v55 : BitVec 1 := Scalar.cmpi .ne v54 c0_i32_19
  let v56 : BitVec 1 := Scalar.andi v53 v55
  let v42 : BitVec 32 := Scalar.divsi v30 c4_i32
  let c1_i32_20 : BitVec 32 := 1#32
  let v57 : BitVec 32 := Scalar.subi v42 c1_i32_20
  let v58 : BitVec 32 := Scalar.select v56 v57 v42
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg9 : BitVec 32 := Scf.iv v63 c1_i32_24 k0_t2
  let v291 : BitVec 32 := Scalar.muli c4_i32_127 arg9
  let v292 : BitVec 32 := Scalar.addi c0_i32_128 v291
  let v293 : BitVec 32 := Scalar.addi v292 c0_i32_129
  let c2_i32_153 : BitVec 32 := 2#32
  let v322 : BitVec 32 := Scalar.addi v293 c2_i32_153
  let c0_i32_12 : BitVec 32 := 0#32
  let v37 : BitVec 32 := Scalar.addi c0_i32_12 v30
  let c1_i32_13 : BitVec 32 := 1#32
  let v38 : BitVec 32 := Scalar.subi v37 c1_i32_13
  let v323 : BitVec 32 := Scalar.minsi v322 v38
  let c256_i32_154 : BitVec 32 := 256#32
  let v324 : BitVec 32 := Scalar.muli v323 c256_i32_154
  let v325 : BitVec 32 := v324
  let v326 : Index := Scalar.indexCast v325
  let c0_157 : Index := 0#32
  ![0, 0, v326.toNat, 0]
def k0_off8 (i : grid0.Coords) (k0_t2 : Fin (k0_t2_loop i).trips) (c0_i32_129 : BitVec 32) : Fin 5 → Nat :=
  let c0_165 : Index := 0#32
  let c0_166 : Index := 0#32
  let c0_i32_128 : BitVec 32 := 0#32
  let c4_i32_127 : BitVec 32 := 4#32
  let c0_i32_21 : BitVec 32 := 0#32
  let arg2 : BitVec 32 := BitVec.ofNat 32 (i 2).val
  let c1024_i32 : BitVec 32 := 1024#32
  let v13 : BitVec 32 := Scalar.muli arg2 c1024_i32
  let c0_i32 : BitVec 32 := 0#32
  let v15 : BitVec 1 := Scalar.cmpi .sgt v13 c0_i32
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c256_i32 : BitVec 32 := 256#32
  let c0_i32_4 : BitVec 32 := 0#32
  let v20 : BitVec 1 := Scalar.cmpi .sgt c256_i32 c0_i32_4
  let v21 : BitVec 32 := Scalar.extui v20
  let c0_i32_5 : BitVec 32 := 0#32
  let v22 : BitVec 1 := Scalar.cmpi .slt c256_i32 c0_i32_5
  let v23 : BitVec 32 := Scalar.extui v22
  let v24 : BitVec 32 := Scalar.subi v21 v23
  let v25 : BitVec 1 := Scalar.cmpi .ne v19 v24
  let v26 : BitVec 32 := Scalar.remsi v13 c256_i32
  let c0_i32_6 : BitVec 32 := 0#32
  let v27 : BitVec 1 := Scalar.cmpi .ne v26 c0_i32_6
  let v28 : BitVec 1 := Scalar.andi v25 v27
  let v14 : BitVec 32 := Scalar.divsi v13 c256_i32
  let c1_i32 : BitVec 32 := 1#32
  let v29 : BitVec 32 := Scalar.subi v14 c1_i32
  let v30 : BitVec 32 := Scalar.select v28 v29 v14
  let c0_i32_15 : BitVec 32 := 0#32
  let v43 : BitVec 1 := Scalar.cmpi .sgt v30 c0_i32_15
  let v44 : BitVec 32 := Scalar.extui v43
  let c0_i32_16 : BitVec 32 := 0#32
  let v45 : BitVec 1 := Scalar.cmpi .slt v30 c0_i32_16
  let v46 : BitVec 32 := Scalar.extui v45
  let v47 : BitVec 32 := Scalar.subi v44 v46
  let c4_i32 : BitVec 32 := 4#32
  let c0_i32_17 : BitVec 32 := 0#32
  let v48 : BitVec 1 := Scalar.cmpi .sgt c4_i32 c0_i32_17
  let v49 : BitVec 32 := Scalar.extui v48
  let c0_i32_18 : BitVec 32 := 0#32
  let v50 : BitVec 1 := Scalar.cmpi .slt c4_i32 c0_i32_18
  let v51 : BitVec 32 := Scalar.extui v50
  let v52 : BitVec 32 := Scalar.subi v49 v51
  let v53 : BitVec 1 := Scalar.cmpi .ne v47 v52
  let v54 : BitVec 32 := Scalar.remsi v30 c4_i32
  let c0_i32_19 : BitVec 32 := 0#32
  let v55 : BitVec 1 := Scalar.cmpi .ne v54 c0_i32_19
  let v56 : BitVec 1 := Scalar.andi v53 v55
  let v42 : BitVec 32 := Scalar.divsi v30 c4_i32
  let c1_i32_20 : BitVec 32 := 1#32
  let v57 : BitVec 32 := Scalar.subi v42 c1_i32_20
  let v58 : BitVec 32 := Scalar.select v56 v57 v42
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg9 : BitVec 32 := Scf.iv v63 c1_i32_24 k0_t2
  let v291 : BitVec 32 := Scalar.muli c4_i32_127 arg9
  let v292 : BitVec 32 := Scalar.addi c0_i32_128 v291
  let v293 : BitVec 32 := Scalar.addi v292 c0_i32_129
  let c1_i32_159 : BitVec 32 := 1#32
  let v330 : BitVec 32 := Scalar.addi v293 c1_i32_159
  let c1_i32_163 : BitVec 32 := 1#32
  let v333 : BitVec 32 := Scalar.muli v330 c1_i32_163
  let c0_i32_164 : BitVec 32 := 0#32
  let v334 : BitVec 32 := Scalar.addi v333 c0_i32_164
  let v335 : Index := Scalar.indexCast v334
  let c0_167 : Index := 0#32
  let c0_168 : Index := 0#32
  ![0, 0, v335.toNat, 0, 0]
def k0_mult8 (i : grid0.Coords) (k0_t2 : Fin (k0_t2_loop i).trips) : BitVec 32 :=
  let c0_i32_179 : BitVec 32 := 0#32
  let c4_i32_178 : BitVec 32 := 4#32
  let c0_i32_21 : BitVec 32 := 0#32
  let arg2 : BitVec 32 := BitVec.ofNat 32 (i 2).val
  let c1024_i32 : BitVec 32 := 1024#32
  let v13 : BitVec 32 := Scalar.muli arg2 c1024_i32
  let c0_i32 : BitVec 32 := 0#32
  let v15 : BitVec 1 := Scalar.cmpi .sgt v13 c0_i32
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c256_i32 : BitVec 32 := 256#32
  let c0_i32_4 : BitVec 32 := 0#32
  let v20 : BitVec 1 := Scalar.cmpi .sgt c256_i32 c0_i32_4
  let v21 : BitVec 32 := Scalar.extui v20
  let c0_i32_5 : BitVec 32 := 0#32
  let v22 : BitVec 1 := Scalar.cmpi .slt c256_i32 c0_i32_5
  let v23 : BitVec 32 := Scalar.extui v22
  let v24 : BitVec 32 := Scalar.subi v21 v23
  let v25 : BitVec 1 := Scalar.cmpi .ne v19 v24
  let v26 : BitVec 32 := Scalar.remsi v13 c256_i32
  let c0_i32_6 : BitVec 32 := 0#32
  let v27 : BitVec 1 := Scalar.cmpi .ne v26 c0_i32_6
  let v28 : BitVec 1 := Scalar.andi v25 v27
  let v14 : BitVec 32 := Scalar.divsi v13 c256_i32
  let c1_i32 : BitVec 32 := 1#32
  let v29 : BitVec 32 := Scalar.subi v14 c1_i32
  let v30 : BitVec 32 := Scalar.select v28 v29 v14
  let c0_i32_15 : BitVec 32 := 0#32
  let v43 : BitVec 1 := Scalar.cmpi .sgt v30 c0_i32_15
  let v44 : BitVec 32 := Scalar.extui v43
  let c0_i32_16 : BitVec 32 := 0#32
  let v45 : BitVec 1 := Scalar.cmpi .slt v30 c0_i32_16
  let v46 : BitVec 32 := Scalar.extui v45
  let v47 : BitVec 32 := Scalar.subi v44 v46
  let c4_i32 : BitVec 32 := 4#32
  let c0_i32_17 : BitVec 32 := 0#32
  let v48 : BitVec 1 := Scalar.cmpi .sgt c4_i32 c0_i32_17
  let v49 : BitVec 32 := Scalar.extui v48
  let c0_i32_18 : BitVec 32 := 0#32
  let v50 : BitVec 1 := Scalar.cmpi .slt c4_i32 c0_i32_18
  let v51 : BitVec 32 := Scalar.extui v50
  let v52 : BitVec 32 := Scalar.subi v49 v51
  let v53 : BitVec 1 := Scalar.cmpi .ne v47 v52
  let v54 : BitVec 32 := Scalar.remsi v30 c4_i32
  let c0_i32_19 : BitVec 32 := 0#32
  let v55 : BitVec 1 := Scalar.cmpi .ne v54 c0_i32_19
  let v56 : BitVec 1 := Scalar.andi v53 v55
  let v42 : BitVec 32 := Scalar.divsi v30 c4_i32
  let c1_i32_20 : BitVec 32 := 1#32
  let v57 : BitVec 32 := Scalar.subi v42 c1_i32_20
  let v58 : BitVec 32 := Scalar.select v56 v57 v42
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg9 : BitVec 32 := Scf.iv v63 c1_i32_24 k0_t2
  let v352 : BitVec 32 := Scalar.muli c4_i32_178 arg9
  let v353 : BitVec 32 := Scalar.addi c0_i32_179 v352
  let c2_i32_180 : BitVec 32 := 2#32
  let v354 : BitVec 32 := Scalar.addi v353 c2_i32_180
  let c1_i32_181 : BitVec 32 := 1#32
  let v355 : BitVec 32 := Scalar.addi v354 c1_i32_181
  let c256_i32_182 : BitVec 32 := 256#32
  let v356 : BitVec 32 := Scalar.muli v355 c256_i32_182
  v356
def k0_mult9 (i : grid0.Coords) (k0_t2 : Fin (k0_t2_loop i).trips) : BitVec 32 :=
  let c0_i32_179 : BitVec 32 := 0#32
  let c4_i32_178 : BitVec 32 := 4#32
  let c0_i32_21 : BitVec 32 := 0#32
  let arg2 : BitVec 32 := BitVec.ofNat 32 (i 2).val
  let c1024_i32 : BitVec 32 := 1024#32
  let v13 : BitVec 32 := Scalar.muli arg2 c1024_i32
  let c0_i32 : BitVec 32 := 0#32
  let v15 : BitVec 1 := Scalar.cmpi .sgt v13 c0_i32
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c256_i32 : BitVec 32 := 256#32
  let c0_i32_4 : BitVec 32 := 0#32
  let v20 : BitVec 1 := Scalar.cmpi .sgt c256_i32 c0_i32_4
  let v21 : BitVec 32 := Scalar.extui v20
  let c0_i32_5 : BitVec 32 := 0#32
  let v22 : BitVec 1 := Scalar.cmpi .slt c256_i32 c0_i32_5
  let v23 : BitVec 32 := Scalar.extui v22
  let v24 : BitVec 32 := Scalar.subi v21 v23
  let v25 : BitVec 1 := Scalar.cmpi .ne v19 v24
  let v26 : BitVec 32 := Scalar.remsi v13 c256_i32
  let c0_i32_6 : BitVec 32 := 0#32
  let v27 : BitVec 1 := Scalar.cmpi .ne v26 c0_i32_6
  let v28 : BitVec 1 := Scalar.andi v25 v27
  let v14 : BitVec 32 := Scalar.divsi v13 c256_i32
  let c1_i32 : BitVec 32 := 1#32
  let v29 : BitVec 32 := Scalar.subi v14 c1_i32
  let v30 : BitVec 32 := Scalar.select v28 v29 v14
  let c0_i32_15 : BitVec 32 := 0#32
  let v43 : BitVec 1 := Scalar.cmpi .sgt v30 c0_i32_15
  let v44 : BitVec 32 := Scalar.extui v43
  let c0_i32_16 : BitVec 32 := 0#32
  let v45 : BitVec 1 := Scalar.cmpi .slt v30 c0_i32_16
  let v46 : BitVec 32 := Scalar.extui v45
  let v47 : BitVec 32 := Scalar.subi v44 v46
  let c4_i32 : BitVec 32 := 4#32
  let c0_i32_17 : BitVec 32 := 0#32
  let v48 : BitVec 1 := Scalar.cmpi .sgt c4_i32 c0_i32_17
  let v49 : BitVec 32 := Scalar.extui v48
  let c0_i32_18 : BitVec 32 := 0#32
  let v50 : BitVec 1 := Scalar.cmpi .slt c4_i32 c0_i32_18
  let v51 : BitVec 32 := Scalar.extui v50
  let v52 : BitVec 32 := Scalar.subi v49 v51
  let v53 : BitVec 1 := Scalar.cmpi .ne v47 v52
  let v54 : BitVec 32 := Scalar.remsi v30 c4_i32
  let c0_i32_19 : BitVec 32 := 0#32
  let v55 : BitVec 1 := Scalar.cmpi .ne v54 c0_i32_19
  let v56 : BitVec 1 := Scalar.andi v53 v55
  let v42 : BitVec 32 := Scalar.divsi v30 c4_i32
  let c1_i32_20 : BitVec 32 := 1#32
  let v57 : BitVec 32 := Scalar.subi v42 c1_i32_20
  let v58 : BitVec 32 := Scalar.select v56 v57 v42
  let v59 : BitVec 32 := Scalar.subi v58 c0_i32_21
  let c1_i32_22 : BitVec 32 := 1#32
  let v61 : BitVec 32 := Scalar.divsi v59 c1_i32_22
  let v62 : BitVec 32 := Scalar.muli v61 c1_i32_22
  let v63 : BitVec 32 := Scalar.addi c0_i32_21 v62
  let c1_i32_24 : BitVec 32 := 1#32
  let arg9 : BitVec 32 := Scf.iv v63 c1_i32_24 k0_t2
  let v352 : BitVec 32 := Scalar.muli c4_i32_178 arg9
  let v353 : BitVec 32 := Scalar.addi c0_i32_179 v352
  let c2_i32_180 : BitVec 32 := 2#32
  let v354 : BitVec 32 := Scalar.addi v353 c2_i32_180
  let c2_i32_205 : BitVec 32 := 2#32
  let v383 : BitVec 32 := Scalar.addi v354 c2_i32_205
  let c0_i32_12 : BitVec 32 := 0#32
  let v37 : BitVec 32 := Scalar.addi c0_i32_12 v30
  let c1_i32_13 : BitVec 32 := 1#32
  let v38 : BitVec 32 := Scalar.subi v37 c1_i32_13
  let v384 : BitVec 32 := Scalar.minsi v383 v38
  let c256_i32_206 : BitVec 32 := 256#32
  let v385 : BitVec 32 := Scalar.muli v384 c256_i32_206
  v385
def k0_mult10 (i : grid0.Coords) : BitVec 32 :=
  let arg2 : BitVec 32 := BitVec.ofNat 32 (i 2).val
  let c1024_i32 : BitVec 32 := 1024#32
  let v13 : BitVec 32 := Scalar.muli arg2 c1024_i32
  let c0_i32 : BitVec 32 := 0#32
  let v15 : BitVec 1 := Scalar.cmpi .sgt v13 c0_i32
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c256_i32 : BitVec 32 := 256#32
  let c0_i32_4 : BitVec 32 := 0#32
  let v20 : BitVec 1 := Scalar.cmpi .sgt c256_i32 c0_i32_4
  let v21 : BitVec 32 := Scalar.extui v20
  let c0_i32_5 : BitVec 32 := 0#32
  let v22 : BitVec 1 := Scalar.cmpi .slt c256_i32 c0_i32_5
  let v23 : BitVec 32 := Scalar.extui v22
  let v24 : BitVec 32 := Scalar.subi v21 v23
  let v25 : BitVec 1 := Scalar.cmpi .ne v19 v24
  let v26 : BitVec 32 := Scalar.remsi v13 c256_i32
  let c0_i32_6 : BitVec 32 := 0#32
  let v27 : BitVec 1 := Scalar.cmpi .ne v26 c0_i32_6
  let v28 : BitVec 1 := Scalar.andi v25 v27
  let v14 : BitVec 32 := Scalar.divsi v13 c256_i32
  let c1_i32 : BitVec 32 := 1#32
  let v29 : BitVec 32 := Scalar.subi v14 c1_i32
  let v30 : BitVec 32 := Scalar.select v28 v29 v14
  let c0_i32_35 : BitVec 32 := 0#32
  let v100 : BitVec 32 := Scalar.addi v30 c0_i32_35
  let c256_i32_36 : BitVec 32 := 256#32
  let v101 : BitVec 32 := Scalar.muli v100 c256_i32_36
  v101
def k0_off9 (i : grid0.Coords) (c0_i32_35 : BitVec 32) : Fin 4 → Nat :=
  let c0_38 : Index := 0#32
  let c0_39 : Index := 0#32
  let arg2 : BitVec 32 := BitVec.ofNat 32 (i 2).val
  let c1024_i32 : BitVec 32 := 1024#32
  let v13 : BitVec 32 := Scalar.muli arg2 c1024_i32
  let c0_i32 : BitVec 32 := 0#32
  let v15 : BitVec 1 := Scalar.cmpi .sgt v13 c0_i32
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c256_i32 : BitVec 32 := 256#32
  let c0_i32_4 : BitVec 32 := 0#32
  let v20 : BitVec 1 := Scalar.cmpi .sgt c256_i32 c0_i32_4
  let v21 : BitVec 32 := Scalar.extui v20
  let c0_i32_5 : BitVec 32 := 0#32
  let v22 : BitVec 1 := Scalar.cmpi .slt c256_i32 c0_i32_5
  let v23 : BitVec 32 := Scalar.extui v22
  let v24 : BitVec 32 := Scalar.subi v21 v23
  let v25 : BitVec 1 := Scalar.cmpi .ne v19 v24
  let v26 : BitVec 32 := Scalar.remsi v13 c256_i32
  let c0_i32_6 : BitVec 32 := 0#32
  let v27 : BitVec 1 := Scalar.cmpi .ne v26 c0_i32_6
  let v28 : BitVec 1 := Scalar.andi v25 v27
  let v14 : BitVec 32 := Scalar.divsi v13 c256_i32
  let c1_i32 : BitVec 32 := 1#32
  let v29 : BitVec 32 := Scalar.subi v14 c1_i32
  let v30 : BitVec 32 := Scalar.select v28 v29 v14
  let v100 : BitVec 32 := Scalar.addi v30 c0_i32_35
  let c256_i32_36 : BitVec 32 := 256#32
  let v101 : BitVec 32 := Scalar.muli v100 c256_i32_36
  let v102 : BitVec 32 := v101
  let v108 : Index := Scalar.indexCast v102
  let c0_40 : Index := 0#32
  ![0, 0, v108.toNat, 0]
def k0_off10 (i : grid0.Coords) (c0_i32_42 : BitVec 32) : Fin 5 → Nat :=
  let c0_45 : Index := 0#32
  let c0_46 : Index := 0#32
  let arg2 : BitVec 32 := BitVec.ofNat 32 (i 2).val
  let c1024_i32 : BitVec 32 := 1024#32
  let v13 : BitVec 32 := Scalar.muli arg2 c1024_i32
  let c0_i32 : BitVec 32 := 0#32
  let v15 : BitVec 1 := Scalar.cmpi .sgt v13 c0_i32
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c256_i32 : BitVec 32 := 256#32
  let c0_i32_4 : BitVec 32 := 0#32
  let v20 : BitVec 1 := Scalar.cmpi .sgt c256_i32 c0_i32_4
  let v21 : BitVec 32 := Scalar.extui v20
  let c0_i32_5 : BitVec 32 := 0#32
  let v22 : BitVec 1 := Scalar.cmpi .slt c256_i32 c0_i32_5
  let v23 : BitVec 32 := Scalar.extui v22
  let v24 : BitVec 32 := Scalar.subi v21 v23
  let v25 : BitVec 1 := Scalar.cmpi .ne v19 v24
  let v26 : BitVec 32 := Scalar.remsi v13 c256_i32
  let c0_i32_6 : BitVec 32 := 0#32
  let v27 : BitVec 1 := Scalar.cmpi .ne v26 c0_i32_6
  let v28 : BitVec 1 := Scalar.andi v25 v27
  let v14 : BitVec 32 := Scalar.divsi v13 c256_i32
  let c1_i32 : BitVec 32 := 1#32
  let v29 : BitVec 32 := Scalar.subi v14 c1_i32
  let v30 : BitVec 32 := Scalar.select v28 v29 v14
  let v115 : BitVec 32 := Scalar.addi v30 c0_i32_42
  let c1_i32_43 : BitVec 32 := 1#32
  let v116 : BitVec 32 := Scalar.muli v115 c1_i32_43
  let c0_i32_44 : BitVec 32 := 0#32
  let v117 : BitVec 32 := Scalar.addi v116 c0_i32_44
  let v118 : Index := Scalar.indexCast v117
  let c0_47 : Index := 0#32
  let c0_48 : Index := 0#32
  ![0, 0, v118.toNat, 0, 0]
def k0_mult11 (i : grid0.Coords) : BitVec 32 :=
  let arg2 : BitVec 32 := BitVec.ofNat 32 (i 2).val
  let c1024_i32 : BitVec 32 := 1024#32
  let v13 : BitVec 32 := Scalar.muli arg2 c1024_i32
  let c0_i32 : BitVec 32 := 0#32
  let v15 : BitVec 1 := Scalar.cmpi .sgt v13 c0_i32
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c256_i32 : BitVec 32 := 256#32
  let c0_i32_4 : BitVec 32 := 0#32
  let v20 : BitVec 1 := Scalar.cmpi .sgt c256_i32 c0_i32_4
  let v21 : BitVec 32 := Scalar.extui v20
  let c0_i32_5 : BitVec 32 := 0#32
  let v22 : BitVec 1 := Scalar.cmpi .slt c256_i32 c0_i32_5
  let v23 : BitVec 32 := Scalar.extui v22
  let v24 : BitVec 32 := Scalar.subi v21 v23
  let v25 : BitVec 1 := Scalar.cmpi .ne v19 v24
  let v26 : BitVec 32 := Scalar.remsi v13 c256_i32
  let c0_i32_6 : BitVec 32 := 0#32
  let v27 : BitVec 1 := Scalar.cmpi .ne v26 c0_i32_6
  let v28 : BitVec 1 := Scalar.andi v25 v27
  let v14 : BitVec 32 := Scalar.divsi v13 c256_i32
  let c1_i32 : BitVec 32 := 1#32
  let v29 : BitVec 32 := Scalar.subi v14 c1_i32
  let v30 : BitVec 32 := Scalar.select v28 v29 v14
  let c1_i32_58 : BitVec 32 := 1#32
  let v144 : BitVec 32 := Scalar.addi v30 c1_i32_58
  let c256_i32_59 : BitVec 32 := 256#32
  let v145 : BitVec 32 := Scalar.muli v144 c256_i32_59
  v145
def k0_mult12 (i : grid0.Coords) : BitVec 32 :=
  let arg2 : BitVec 32 := BitVec.ofNat 32 (i 2).val
  let c1024_i32 : BitVec 32 := 1024#32
  let v13 : BitVec 32 := Scalar.muli arg2 c1024_i32
  let c0_i32 : BitVec 32 := 0#32
  let v15 : BitVec 1 := Scalar.cmpi .sgt v13 c0_i32
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c256_i32 : BitVec 32 := 256#32
  let c0_i32_4 : BitVec 32 := 0#32
  let v20 : BitVec 1 := Scalar.cmpi .sgt c256_i32 c0_i32_4
  let v21 : BitVec 32 := Scalar.extui v20
  let c0_i32_5 : BitVec 32 := 0#32
  let v22 : BitVec 1 := Scalar.cmpi .slt c256_i32 c0_i32_5
  let v23 : BitVec 32 := Scalar.extui v22
  let v24 : BitVec 32 := Scalar.subi v21 v23
  let v25 : BitVec 1 := Scalar.cmpi .ne v19 v24
  let v26 : BitVec 32 := Scalar.remsi v13 c256_i32
  let c0_i32_6 : BitVec 32 := 0#32
  let v27 : BitVec 1 := Scalar.cmpi .ne v26 c0_i32_6
  let v28 : BitVec 1 := Scalar.andi v25 v27
  let v14 : BitVec 32 := Scalar.divsi v13 c256_i32
  let c1_i32 : BitVec 32 := 1#32
  let v29 : BitVec 32 := Scalar.subi v14 c1_i32
  let v30 : BitVec 32 := Scalar.select v28 v29 v14
  let c2_i32_80 : BitVec 32 := 2#32
  let v190 : BitVec 32 := Scalar.addi v30 c2_i32_80
  let c256_i32_81 : BitVec 32 := 256#32
  let v191 : BitVec 32 := Scalar.muli v190 c256_i32_81
  v191
def k0_mult13 (i : grid0.Coords) : BitVec 32 :=
  let arg2 : BitVec 32 := BitVec.ofNat 32 (i 2).val
  let c1024_i32 : BitVec 32 := 1024#32
  let v13 : BitVec 32 := Scalar.muli arg2 c1024_i32
  let c0_i32 : BitVec 32 := 0#32
  let v15 : BitVec 1 := Scalar.cmpi .sgt v13 c0_i32
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c256_i32 : BitVec 32 := 256#32
  let c0_i32_4 : BitVec 32 := 0#32
  let v20 : BitVec 1 := Scalar.cmpi .sgt c256_i32 c0_i32_4
  let v21 : BitVec 32 := Scalar.extui v20
  let c0_i32_5 : BitVec 32 := 0#32
  let v22 : BitVec 1 := Scalar.cmpi .slt c256_i32 c0_i32_5
  let v23 : BitVec 32 := Scalar.extui v22
  let v24 : BitVec 32 := Scalar.subi v21 v23
  let v25 : BitVec 1 := Scalar.cmpi .ne v19 v24
  let v26 : BitVec 32 := Scalar.remsi v13 c256_i32
  let c0_i32_6 : BitVec 32 := 0#32
  let v27 : BitVec 1 := Scalar.cmpi .ne v26 c0_i32_6
  let v28 : BitVec 1 := Scalar.andi v25 v27
  let v14 : BitVec 32 := Scalar.divsi v13 c256_i32
  let c1_i32 : BitVec 32 := 1#32
  let v29 : BitVec 32 := Scalar.subi v14 c1_i32
  let v30 : BitVec 32 := Scalar.select v28 v29 v14
  let c3_i32 : BitVec 32 := 3#32
  let v236 : BitVec 32 := Scalar.addi v30 c3_i32
  let c256_i32_102 : BitVec 32 := 256#32
  let v237 : BitVec 32 := Scalar.muli v236 c256_i32_102
  v237
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x32x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8192x16x96 : Shape := ⟨4, ![2, 8192, 16, 96]⟩
abbrev S2x8192x16x64 : Shape := ⟨4, ![2, 8192, 16, 64]⟩
abbrev S1 : Shape := ⟨1, ![1]⟩
abbrev S8192 : Shape := ⟨1, ![8192]⟩
abbrev S_ : Shape := ⟨0, ![]⟩
abbrev S2x16x8192x8192 : Shape := ⟨4, ![2, 16, 8192, 8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S2x16x8192 : Shape := ⟨3, ![2, 16, 8192]⟩
abbrev S2x16x8192x1 : Shape := ⟨4, ![2, 16, 8192, 1]⟩
abbrev S2x16x64x8192 : Shape := ⟨4, ![2, 16, 64, 8192]⟩
abbrev S2x8192x1024 : Shape := ⟨3, ![2, 8192, 1024]⟩

abbrev nBuf : Space → Nat
  | .hbm => 62
  | .vmem => 0
  | .smem => 0
  | _ => 0

abbrev bufTy : (tb : Table) → Fin (tcTables nBuf tb) → BufTy
  | .hbm, ⟨0, _⟩ => ⟨S2x8192x16x96, .f32⟩
  | .hbm, ⟨1, _⟩ => ⟨S2x8192x16x96, .f32⟩
  | .hbm, ⟨2, _⟩ => ⟨S2x8192x16x64, .f32⟩
  | .hbm, ⟨3, _⟩ => ⟨S1, .f32⟩
  | .hbm, ⟨4, _⟩ => ⟨S8192, .i32⟩
  | .hbm, ⟨5, _⟩ => ⟨S_, .i32⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S_, .i32⟩
  | .hbm, ⟨11, _⟩ => ⟨S8192, .i32⟩
  | .hbm, ⟨12, _⟩ => ⟨S8192, .i1⟩
  | .hbm, ⟨13, _⟩ => ⟨S8192, .i32⟩
  | .hbm, ⟨14, _⟩ => ⟨S8192, .i32⟩
  | .hbm, ⟨15, _⟩ => ⟨S_, .i32⟩
  | .hbm, ⟨16, _⟩ => ⟨S8192, .i32⟩
  | .hbm, ⟨17, _⟩ => ⟨S8192, .i1⟩
  | .hbm, ⟨18, _⟩ => ⟨S8192, .i1⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .i32⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S_, .i32⟩
  | .hbm, ⟨27, _⟩ => ⟨S8192, .i32⟩
  | .hbm, ⟨28, _⟩ => ⟨S8192, .i32⟩
  | .hbm, ⟨29, _⟩ => ⟨S2x16x8192x8192, .f32⟩
  | .hbm, ⟨30, _⟩ => ⟨S_, .f32⟩
  | .hbm, ⟨31, _⟩ => ⟨S2x16x8192x8192, .f32⟩
  | .hbm, ⟨32, _⟩ => ⟨S2x16x8192x8192, .f32⟩
  | .hbm, ⟨33, _⟩ => ⟨S1x8192, .i32⟩
  | .hbm, ⟨34, _⟩ => ⟨S8192x1, .i32⟩
  | .hbm, ⟨35, _⟩ => ⟨S8192x8192, .i32⟩
  | .hbm, ⟨36, _⟩ => ⟨S8192x8192, .i32⟩
  | .hbm, ⟨37, _⟩ => ⟨S8192x8192, .i1⟩
  | .hbm, ⟨38, _⟩ => ⟨S1x1x8192x8192, .i1⟩
  | .hbm, ⟨39, _⟩ => ⟨S_, .f32⟩
  | .hbm, ⟨40, _⟩ => ⟨S_, .f32⟩
  | .hbm, ⟨41, _⟩ => ⟨S2x16x8192x8192, .i1⟩
  | .hbm, ⟨42, _⟩ => ⟨S2x16x8192x8192, .f32⟩
  | .hbm, ⟨43, _⟩ => ⟨S2x16x8192x8192, .f32⟩
  | .hbm, ⟨44, _⟩ => ⟨S_, .f32⟩
  | .hbm, ⟨45, _⟩ => ⟨S2x16x8192, .f32⟩
  | .hbm, ⟨46, _⟩ => ⟨S_, .f32⟩
  | .hbm, ⟨47, _⟩ => ⟨S2x16x8192, .f32⟩
  | .hbm, ⟨48, _⟩ => ⟨S2x16x8192, .f32⟩
  | .hbm, ⟨49, _⟩ => ⟨S2x16x8192x1, .f32⟩
  | .hbm, ⟨50, _⟩ => ⟨S2x16x8192x8192, .f32⟩
  | .hbm, ⟨51, _⟩ => ⟨S2x16x8192x8192, .f32⟩
  | .hbm, ⟨52, _⟩ => ⟨S2x16x8192x8192, .f32⟩
  | .hbm, ⟨53, _⟩ => ⟨S_, .f32⟩
  | .hbm, ⟨54, _⟩ => ⟨S2x16x8192, .f32⟩
  | .hbm, ⟨55, _⟩ => ⟨S2x16x8192x1, .f32⟩
  | .hbm, ⟨56, _⟩ => ⟨S2x16x8192x8192, .f32⟩
  | .hbm, ⟨57, _⟩ => ⟨S2x16x8192x8192, .f32⟩
  | .hbm, ⟨58, _⟩ => ⟨S2x16x64x8192, .f32⟩
  | .hbm, ⟨59, _⟩ => ⟨S2x8192x16x64, .f32⟩
  | .hbm, ⟨60, _⟩ => ⟨S2x8192x1024, .f32⟩
  | .hbm, ⟨61, _⟩ => ⟨S2x8192x1024, .bf16⟩
  | _, _ => ⟨S2x8192x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_c_1 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_2 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v15 : Ref sig .tc := ⟨.hbm, 43, rfl⟩
abbrev main_cst_3 : Ref sig .tc := ⟨.hbm, 44, rfl⟩
abbrev main_v16 : Ref sig .tc := ⟨.hbm, 45, rfl⟩
abbrev main_cst_4 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst_5 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩

abbrev nD : Nat := 1
abbrev τ : Topo := Topo.v7x

variable {F : FTy → Type} [FloatOps F]
-- ==== Kernel2.lean ====
abbrev S2x8192x1024 : Shape := ⟨3, ![2, 8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024x2x11x256 : Shape := ⟨4, ![1024, 2, 11, 256]⟩
abbrev S2x11x1024x256 : Shape := ⟨4, ![2, 11, 1024, 256]⟩
abbrev S3x2x11x256 : Shape := ⟨4, ![3, 2, 11, 256]⟩
abbrev S11x2x3x256 : Shape := ⟨4, ![11, 2, 3, 256]⟩
abbrev S2x11x1x256 : Shape := ⟨4, ![2, 11, 1, 256]⟩
abbrev S11x2x1x256 : Shape := ⟨4, ![11, 2, 1, 256]⟩
abbrev S11x256x1024 : Shape := ⟨3, ![11, 256, 1024]⟩
abbrev S1x1024 : Shape := ⟨2, ![1, 1024]⟩
abbrev S1x11x1024x256 : Shape := ⟨4, ![1, 11, 1024, 256]⟩
abbrev S11x1024x256 : Shape := ⟨3, ![11, 1024, 256]⟩
abbrev S1x512x1024 : Shape := ⟨3, ![1, 512, 1024]⟩
abbrev S1x8x1024 : Shape := ⟨3, ![1, 8, 1024]⟩
abbrev S512x1024 : Shape := ⟨2, ![512, 1024]⟩
abbrev S520x1024 : Shape := ⟨2, ![520, 1024]⟩
abbrev S2x2x520x256 : Shape := ⟨4, ![2, 2, 520, 256]⟩
abbrev S8x1024 : Shape := ⟨2, ![8, 1024]⟩
abbrev S8 : Shape := ⟨1, ![8]⟩
abbrev S8x1 : Shape := ⟨2, ![8, 1]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S520x256 : Shape := ⟨2, ![520, 256]⟩
abbrev S1x1x520x256 : Shape := ⟨4, ![1, 1, 520, 256]⟩
abbrev S1x2x3x256 : Shape := ⟨4, ![1, 2, 3, 256]⟩
abbrev S2x3x256 : Shape := ⟨3, ![2, 3, 256]⟩
abbrev S1x2x1x256 : Shape := ⟨4, ![1, 2, 1, 256]⟩
abbrev S2x1x256 : Shape := ⟨3, ![2, 1, 256]⟩
abbrev S1x3x256 : Shape := ⟨3, ![1, 3, 256]⟩
abbrev S3x256 : Shape := ⟨2, ![3, 256]⟩
abbrev S1x1x256 : Shape := ⟨3, ![1, 1, 256]⟩
abbrev S1x256 : Shape := ⟨2, ![1, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 21
  | .vmem => 15
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024x5632, .bf16⟩
  | .hbm, ⟨7, _⟩ => ⟨S1024x2x11x256, .bf16⟩
  | .hbm, ⟨8, _⟩ => ⟨S2x11x1024x256, .bf16⟩
  | .hbm, ⟨9, _⟩ => ⟨S3x2x11x256, .f32⟩
  | .hbm, ⟨10, _⟩ => ⟨S11x2x3x256, .f32⟩
  | .hbm, ⟨11, _⟩ => ⟨S2x11x1x256, .f32⟩
  | .hbm, ⟨12, _⟩ => ⟨S11x2x1x256, .f32⟩
  | .hbm, ⟨13, _⟩ => ⟨S2816x1024, .bf16⟩
  | .hbm, ⟨14, _⟩ => ⟨S11x256x1024, .bf16⟩
  | .hbm, ⟨15, _⟩ => ⟨S1x1024, .f32⟩
  | .hbm, ⟨16, _⟩ => ⟨S1x11x1024x256, .bf16⟩
  | .hbm, ⟨17, _⟩ => ⟨S11x1024x256, .bf16⟩
  | .hbm, ⟨18, _⟩ => ⟨S1x11x1024x256, .bf16⟩
  | .hbm, ⟨19, _⟩ => ⟨S11x1024x256, .bf16⟩
  | .hbm, ⟨20, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S11x1024x256, .bf16⟩
  | .local _ .vmem, ⟨6, _⟩ => ⟨S11x1024x256, .bf16⟩
  | .local _ .vmem, ⟨7, _⟩ => ⟨S11x2x3x256, .f32⟩
  | .local _ .vmem, ⟨8, _⟩ => ⟨S11x2x1x256, .f32⟩
  | .local _ .vmem, ⟨9, _⟩ => ⟨S11x256x1024, .bf16⟩
  | .local _ .vmem, ⟨10, _⟩ => ⟨S1x512x1024, .f32⟩
  | .local _ .vmem, ⟨11, _⟩ => ⟨S1x512x1024, .f32⟩
  | .local _ .vmem, ⟨12, _⟩ => ⟨S512x1024, .f32⟩
  | .local _ .vmem, ⟨13, _⟩ => ⟨S520x1024, .bf16⟩
  | .local _ .vmem, ⟨14, _⟩ => ⟨S2x2x520x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_37 : BitVec 32 := 0#32
  let c5_i32 : BitVec 32 := 5#32
  let v59 : BitVec 32 := Scalar.addi c0_i32_37 c5_i32
  let c1_i32 : BitVec 32 := 1#32
  ⟨c0_i32_37, v59, c1_i32⟩
def k0_off1 (k0_t1 : Fin k0_t1_loop.trips) (c1_i32_70 : BitVec 32) : Fin 3 → Nat :=
  let c2_i32 : BitVec 32 := 2#32
  let c0_i32_37 : BitVec 32 := 0#32
  let c1_i32 : BitVec 32 := 1#32
  let arg14 : BitVec 32 := Scf.iv c0_i32_37 c1_i32 k0_t1
  let v127 : BitVec 32 := Scalar.muli c2_i32 arg14
  let v128 : BitVec 32 := Scalar.addi v127 c1_i32_70
  let v130 : Index := Scalar.indexCast v128
  let c0_73 : Index := 0#32
  let c0_74 : Index := 0#32
  ![v130.toNat, 0, 0]
def k0_off2 (k0_t1 : Fin k0_t1_loop.trips) : Fin 4 → Nat :=
  let c2_i32 : BitVec 32 := 2#32
  let c0_i32_37 : BitVec 32 := 0#32
  let c1_i32 : BitVec 32 := 1#32
  let arg14 : BitVec 32 := Scf.iv c0_i32_37 c1_i32 k0_t1
  let v127 : BitVec 32 := Scalar.muli c2_i32 arg14
  let v144 : Index := Scalar.indexCast v127
  let c0_87 : Index := 0#32
  let c0_88 : Index := 0#32
  let c0_89 : Index := 0#32
  ![v144.toNat, 0, 0, 0]
def k0_off3 (k0_t1 : Fin k0_t1_loop.trips) : Fin 4 → Nat :=
  let c2_i32 : BitVec 32 := 2#32
  let c0_i32_37 : BitVec 32 := 0#32
  let c1_i32 : BitVec 32 := 1#32
  let arg14 : BitVec 32 := Scf.iv c0_i32_37 c1_i32 k0_t1
  let v127 : BitVec 32 := Scalar.muli c2_i32 arg14
  let v147 : Index := Scalar.indexCast v127
  let c0_90 : Index := 0#32
  let c0_91 : Index := 0#32
  let c0_92 : Index := 0#32
  ![v147.toNat, 0, 0, 0]
def k0_off4 (k0_t1 : Fin k0_t1_loop.trips) : Fin 3 → Nat :=
  let c2_i32 : BitVec 32 := 2#32
  let c0_i32_37 : BitVec 32 := 0#32
  let c1_i32 : BitVec 32 := 1#32
  let arg14 : BitVec 32 := Scf.iv c0_i32_37 c1_i32 k0_t1
  let v127 : BitVec 32 := Scalar.muli c2_i32 arg14
  let v199 : Index := Scalar.indexCast v127
  let c0_103 : Index := 0#32
  let c0_104 : Index := 0#32
  ![v199.toNat, 0, 0]
def k0_off5 (k0_t1 : Fin k0_t1_loop.trips) : Fin 4 → Nat :=
  let c2_i32 : BitVec 32 := 2#32
  let c0_i32_37 : BitVec 32 := 0#32
  let c1_i32 : BitVec 32 := 1#32
  let arg14 : BitVec 32 := Scf.iv c0_i32_37 c1_i32 k0_t1
  let v127 : BitVec 32 := Scalar.muli c2_i32 arg14
  let c1_i32_125 : BitVec 32 := 1#32
  let v223 : BitVec 32 := Scalar.addi v127 c1_i32_125
  let v224 : Index := Scalar.indexCast v223
  let c0_126 : Index := 0#32
  let c0_127 : Index := 0#32
  let c0_128 : Index := 0#32
  ![v224.toNat, 0, 0, 0]
def k0_off6 (k0_t1 : Fin k0_t1_loop.trips) : Fin 4 → Nat :=
  let c2_i32 : BitVec 32 := 2#32
  let c0_i32_37 : BitVec 32 := 0#32
  let c1_i32 : BitVec 32 := 1#32
  let arg14 : BitVec 32 := Scf.iv c0_i32_37 c1_i32 k0_t1
  let v127 : BitVec 32 := Scalar.muli c2_i32 arg14
  let c1_i32_125 : BitVec 32 := 1#32
  let v223 : BitVec 32 := Scalar.addi v127 c1_i32_125
  let v227 : Index := Scalar.indexCast v223
  let c0_129 : Index := 0#32
  let c0_130 : Index := 0#32
  let c0_131 : Index := 0#32
  ![v227.toNat, 0, 0, 0]
def k0_off7 (k0_t1 : Fin k0_t1_loop.trips) : Fin 3 → Nat :=
  let c2_i32 : BitVec 32 := 2#32
  let c0_i32_37 : BitVec 32 := 0#32
  let c1_i32 : BitVec 32 := 1#32
  let arg14 : BitVec 32 := Scf.iv c0_i32_37 c1_i32 k0_t1
  let v127 : BitVec 32 := Scalar.muli c2_i32 arg14
  let c1_i32_125 : BitVec 32 := 1#32
  let v223 : BitVec 32 := Scalar.addi v127 c1_i32_125
  let v279 : Index := Scalar.indexCast v223
  let c0_142 : Index := 0#32
  let c0_143 : Index := 0#32
  ![v279.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S11x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S11x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S11x2x3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S11x2x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S11x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S2x8192x1024 : Shape := ⟨3, ![2, 8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8194x5632 : Shape := ⟨3, ![2, 8194, 5632]⟩
abbrev S1x5632 : Shape := ⟨2, ![1, 5632]⟩
abbrev S1x1x5632 : Shape := ⟨3, ![1, 1, 5632]⟩
abbrev S2x8192x2816 : Shape := ⟨3, ![2, 8192, 2816]⟩

abbrev nBuf : Space → Nat
  | .hbm => 66
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S2x8192x5632, .f32⟩
  | .hbm, ⟨23, _⟩ => ⟨S_, .i32⟩
  | .hbm, ⟨24, _⟩ => ⟨S_, .f32⟩
  | .hbm, ⟨25, _⟩ => ⟨S2x8194x5632, .f32⟩
  | .hbm, ⟨26, _⟩ => ⟨S1x5632, .f32⟩
  | .hbm, ⟨27, _⟩ => ⟨S5632, .f32⟩
  | .hbm, ⟨28, _⟩ => ⟨S2x8192x5632, .f32⟩
  | .hbm, ⟨29, _⟩ => ⟨S1x1x5632, .f32⟩
  | .hbm, ⟨30, _⟩ => ⟨S2x8192x5632, .f32⟩
  | .hbm, ⟨31, _⟩ => ⟨S2x8192x5632, .f32⟩
  | .hbm, ⟨32, _⟩ => ⟨S_, .f32⟩
  | .hbm, ⟨33, _⟩ => ⟨S2x8192x5632, .f32⟩
  | .hbm, ⟨34, _⟩ => ⟨S2x8192x5632, .f32⟩
  | .hbm, ⟨35, _⟩ => ⟨S1x5632, .f32⟩
  | .hbm, ⟨36, _⟩ => ⟨S5632, .f32⟩
  | .hbm, ⟨37, _⟩ => ⟨S2x8192x5632, .f32⟩
  | .hbm, ⟨38, _⟩ => ⟨S1x1x5632, .f32⟩
  | .hbm, ⟨39, _⟩ => ⟨S2x8192x5632, .f32⟩
  | .hbm, ⟨40, _⟩ => ⟨S2x8192x5632, .f32⟩
  | .hbm, ⟨41, _⟩ => ⟨S2x8192x5632, .f32⟩
  | .hbm, ⟨42, _⟩ => ⟨S1x5632, .f32⟩
  | .hbm, ⟨43, _⟩ => ⟨S5632, .f32⟩
  | .hbm, ⟨44, _⟩ => ⟨S2x8192x5632, .f32⟩
  | .hbm, ⟨45, _⟩ => ⟨S1x1x5632, .f32⟩
  | .hbm, ⟨46, _⟩ => ⟨S2x8192x5632, .f32⟩
  | .hbm, ⟨47, _⟩ => ⟨S2x8192x5632, .f32⟩
  | .hbm, ⟨48, _⟩ => ⟨S2x8192x5632, .f32⟩
  | .hbm, ⟨49, _⟩ => ⟨S1x1x5632, .f32⟩
  | .hbm, ⟨50, _⟩ => ⟨S2x8192x5632, .f32⟩
  | .hbm, ⟨51, _⟩ => ⟨S2x8192x5632, .f32⟩
  | .hbm, ⟨52, _⟩ => ⟨S2x8192x2816, .f32⟩
  | .hbm, ⟨53, _⟩ => ⟨S2x8192x2816, .f32⟩
  | .hbm, ⟨54, _⟩ => ⟨S2x8192x2816, .f32⟩
  | .hbm, ⟨55, _⟩ => ⟨S2x8192x2816, .f32⟩
  | .hbm, ⟨56, _⟩ => ⟨S_, .f32⟩
  | .hbm, ⟨57, _⟩ => ⟨S2x8192x2816, .f32⟩
  | .hbm, ⟨58, _⟩ => ⟨S2x8192x2816, .f32⟩
  | .hbm, ⟨59, _⟩ => ⟨S_, .f32⟩
  | .hbm, ⟨60, _⟩ => ⟨S2x8192x2816, .f32⟩
  | .hbm, ⟨61, _⟩ => ⟨S2x8192x2816, .f32⟩
  | .hbm, ⟨62, _⟩ => ⟨S2x8192x2816, .f32⟩
  | .hbm, ⟨63, _⟩ => ⟨S2x8192x2816, .f32⟩
  | .hbm, ⟨64, _⟩ => ⟨S2x8192x1024, .f32⟩
  | .hbm, ⟨65, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]
-- ==== Kernel3.lean ====
abbrev S2x8192x1024 : Shape := ⟨3, ![2, 8192, 1024]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S1024x1024, .f32⟩
  | .hbm, ⟨3, _⟩ => ⟨S2x8192x1024, .bf16⟩
  | .hbm, ⟨4, _⟩ => ⟨S1024x1024, .bf16⟩
  | .hbm, ⟨5, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S1x512x1024, .f32⟩
  | .local _ .vmem, ⟨6, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S2x8192x1024 : Shape := ⟨3, ![2, 8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S1024x1024, .f32⟩
  | .hbm, ⟨3, _⟩ => ⟨S2x8192x1024, .f32⟩
  | .hbm, ⟨4, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel4.lean ====
abbrev S2x8192x1024 : Shape := ⟨3, ![2, 8192, 1024]⟩
abbrev S1024 : Shape := ⟨1, ![1024]⟩
abbrev S1024x3072 : Shape := ⟨2, ![1024, 3072]⟩
abbrev S64 : Shape := ⟨1, ![64]⟩
abbrev S4x4 : Shape := ⟨2, ![4, 4]⟩
abbrev S_ : Shape := ⟨0, ![]⟩
abbrev S64x64 : Shape := ⟨2, ![64, 64]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S1x1024 : Shape := ⟨2, ![1, 1024]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S2x8x8192x128 : Shape := ⟨4, ![2, 8, 8192, 128]⟩
abbrev S2x8x32x128x256 : Shape := ⟨5, ![2, 8, 32, 128, 256]⟩
abbrev S1x512x1024 : Shape := ⟨3, ![1, 512, 1024]⟩
abbrev S1x8x512x128 : Shape := ⟨4, ![1, 8, 512, 128]⟩
abbrev S1x8x2x128x256 : Shape := ⟨5, ![1, 8, 2, 128, 256]⟩
abbrev S512x1024 : Shape := ⟨2, ![512, 1024]⟩
abbrev S2x512x256 : Shape := ⟨3, ![2, 512, 256]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x512x256 : Shape := ⟨3, ![1, 512, 256]⟩
abbrev S512x128 : Shape := ⟨2, ![512, 128]⟩
abbrev S1x1x512x128 : Shape := ⟨4, ![1, 1, 512, 128]⟩
abbrev S128x512 : Shape := ⟨2, ![128, 512]⟩
abbrev S128x256 : Shape := ⟨2, ![128, 256]⟩
abbrev S1x1x1x128x256 : Shape := ⟨5, ![1, 1, 1, 128, 256]⟩

abbrev nBuf : Space → Nat
  | .hbm => 34
  | .vmem => 15
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S4x4, .i32⟩
  | .hbm, ⟨6, _⟩ => ⟨S4x4, .i32⟩
  | .hbm, ⟨7, _⟩ => ⟨S_, .i32⟩
  | .hbm, ⟨8, _⟩ => ⟨S4x4, .i32⟩
  | .hbm, ⟨9, _⟩ => ⟨S4x4, .i32⟩
  | .hbm, ⟨10, _⟩ => ⟨S4x4, .i1⟩
  | .hbm, ⟨11, _⟩ => ⟨S4x4, .f32⟩
  | .hbm, ⟨12, _⟩ => ⟨S_, .f32⟩
  | .hbm, ⟨13, _⟩ => ⟨S64x64, .f32⟩
  | .hbm, ⟨14, _⟩ => ⟨S4x1x4x1, .f32⟩
  | .hbm, ⟨15, _⟩ => ⟨S1x64x1x64, .f32⟩
  | .hbm, ⟨16, _⟩ => ⟨S4x64x4x64, .f32⟩
  | .hbm, ⟨17, _⟩ => ⟨S4x64x4x64, .f32⟩
  | .hbm, ⟨18, _⟩ => ⟨S4x64x4x64, .f32⟩
  | .hbm, ⟨19, _⟩ => ⟨S256x256, .f32⟩
  | .hbm, ⟨20, _⟩ => ⟨S256x256, .bf16⟩
  | .hbm, ⟨21, _⟩ => ⟨S1x1024, .f32⟩
  | .hbm, ⟨22, _⟩ => ⟨S1024x3072, .bf16⟩
  | .hbm, ⟨23, _⟩ => ⟨S1x64, .f32⟩
  | .hbm, ⟨24, _⟩ => ⟨S4x64, .f32⟩
  | .hbm, ⟨25, _⟩ => ⟨S256, .f32⟩
  | .hbm, ⟨26, _⟩ => ⟨S1x256, .f32⟩
  | .hbm, ⟨27, _⟩ => ⟨S1x64, .f32⟩
  | .hbm, ⟨28, _⟩ => ⟨S4x64, .f32⟩
  | .hbm, ⟨29, _⟩ => ⟨S256, .f32⟩
  | .hbm, ⟨30, _⟩ => ⟨S1x256, .f32⟩
  | .hbm, ⟨31, _⟩ => ⟨S2x8x8192x128, .bf16⟩
  | .hbm, ⟨32, _⟩ => ⟨S2x8x8192x128, .bf16⟩
  | .hbm, ⟨33, _⟩ => ⟨S2x8x32x128x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3072, .bf16⟩
  | .local _ .vmem, ⟨4, _⟩ => ⟨S1x256, .f32⟩
  | .local _ .vmem, ⟨5, _⟩ => ⟨S1x256, .f32⟩
  | .local _ .vmem, ⟨6, _⟩ => ⟨S256x256, .bf16⟩
  | .local _ .vmem, ⟨7, _⟩ => ⟨S1x8x512x128, .bf16⟩
  | .local _ .vmem, ⟨8, _⟩ => ⟨S1x8x512x128, .bf16⟩
  | .local _ .vmem, ⟨9, _⟩ => ⟨S1x8x512x128, .bf16⟩
  | .local _ .vmem, ⟨10, _⟩ => ⟨S1x8x512x128, .bf16⟩
  | .local _ .vmem, ⟨11, _⟩ => ⟨S1x8x2x128x256, .bf16⟩
  | .local _ .vmem, ⟨12, _⟩ => ⟨S1x8x2x128x256, .bf16⟩
  | .local _ .vmem, ⟨13, _⟩ => ⟨S512x1024, .bf16⟩
  | .local _ .vmem, ⟨14, _⟩ => ⟨S2x512x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x2x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S2x8192x1024 : Shape := ⟨3, ![2, 8192, 1024]⟩
abbrev S1024 : Shape := ⟨1, ![1024]⟩
abbrev S1024x3072 : Shape := ⟨2, ![1024, 3072]⟩
abbrev S64 : Shape := ⟨1, ![64]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3072 : Shape := ⟨3, ![2, 8192, 3072]⟩
abbrev S2x8192x16x64 : Shape := ⟨4, ![2, 8192, 16, 64]⟩
abbrev S2x8192x16 : Shape := ⟨3, ![2, 8192, 16]⟩
abbrev S2x8192x16x1 : Shape := ⟨4, ![2, 8192, 16, 1]⟩
abbrev S1x1x1x64 : Shape := ⟨4, ![1, 1, 1, 64]⟩
abbrev S2x8192x8x128 : Shape := ⟨4, ![2, 8192, 8, 128]⟩
abbrev S2x8x8192x128 : Shape := ⟨4, ![2, 8, 8192, 128]⟩
abbrev S2x32x256x8x128 : Shape := ⟨5, ![2, 32, 256, 8, 128]⟩
abbrev S2x8x32x128x256 : Shape := ⟨5, ![2, 8, 32, 128, 256]⟩

abbrev nBuf : Space → Nat
  | .hbm => 68
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S2x8192x3072, .f32⟩
  | .hbm, ⟨22, _⟩ => ⟨S2x8192x1024, .f32⟩
  | .hbm, ⟨23, _⟩ => ⟨S2x8192x1024, .f32⟩
  | .hbm, ⟨24, _⟩ => ⟨S2x8192x1024, .f32⟩
  | .hbm, ⟨25, _⟩ => ⟨S2x8192x16x64, .f32⟩
  | .hbm, ⟨26, _⟩ => ⟨S2x8192x16x64, .f32⟩
  | .hbm, ⟨27, _⟩ => ⟨S_, .f32⟩
  | .hbm, ⟨28, _⟩ => ⟨S2x8192x16, .f32⟩
  | .hbm, ⟨29, _⟩ => ⟨S2x8192x16x1, .f32⟩
  | .hbm, ⟨30, _⟩ => ⟨S_, .f32⟩
  | .hbm, ⟨31, _⟩ => ⟨S2x8192x16x1, .f32⟩
  | .hbm, ⟨32, _⟩ => ⟨S2x8192x16x1, .f32⟩
  | .hbm, ⟨33, _⟩ => ⟨S_, .f32⟩
  | .hbm, ⟨34, _⟩ => ⟨S2x8192x16x1, .f32⟩
  | .hbm, ⟨35, _⟩ => ⟨S2x8192x16x1, .f32⟩
  | .hbm, ⟨36, _⟩ => ⟨S2x8192x16x1, .f32⟩
  | .hbm, ⟨37, _⟩ => ⟨S2x8192x16x64, .f32⟩
  | .hbm, ⟨38, _⟩ => ⟨S2x8192x16x64, .f32⟩
  | .hbm, ⟨39, _⟩ => ⟨S1x1x1x64, .f32⟩
  | .hbm, ⟨40, _⟩ => ⟨S2x8192x16x64, .f32⟩
  | .hbm, ⟨41, _⟩ => ⟨S2x8192x16x64, .f32⟩
  | .hbm, ⟨42, _⟩ => ⟨S2x8192x16x64, .f32⟩
  | .hbm, ⟨43, _⟩ => ⟨S2x8192x16x64, .f32⟩
  | .hbm, ⟨44, _⟩ => ⟨S_, .f32⟩
  | .hbm, ⟨45, _⟩ => ⟨S2x8192x16, .f32⟩
  | .hbm, ⟨46, _⟩ => ⟨S2x8192x16x1, .f32⟩
  | .hbm, ⟨47, _⟩ => ⟨S_, .f32⟩
  | .hbm, ⟨48, _⟩ => ⟨S2x8192x16x1, .f32⟩
  | .hbm, ⟨49, _⟩ => ⟨S2x8192x16x1, .f32⟩
  | .hbm, ⟨50, _⟩ => ⟨S_, .f32⟩
  | .hbm, ⟨51, _⟩ => ⟨S2x8192x16x1, .f32⟩
  | .hbm, ⟨52, _⟩ => ⟨S2x8192x16x1, .f32⟩
  | .hbm, ⟨53, _⟩ => ⟨S2x8192x16x1, .f32⟩
  | .hbm, ⟨54, _⟩ => ⟨S2x8192x16x64, .f32⟩
  | .hbm, ⟨55, _⟩ => ⟨S2x8192x16x64, .f32⟩
  | .hbm, ⟨56, _⟩ => ⟨S1x1x1x64, .f32⟩
  | .hbm, ⟨57, _⟩ => ⟨S2x8192x16x64, .f32⟩
  | .hbm, ⟨58, _⟩ => ⟨S2x8192x16x64, .f32⟩
  | .hbm, ⟨59, _⟩ => ⟨S2x8192x8x128, .f32⟩
  | .hbm, ⟨60, _⟩ => ⟨S2x8x8192x128, .f32⟩
  | .hbm, ⟨61, _⟩ => ⟨S2x8192x8x128, .f32⟩
  | .hbm, ⟨62, _⟩ => ⟨S2x8x8192x128, .f32⟩
  | .hbm, ⟨63, _⟩ => ⟨S2x32x256x8x128, .f32⟩
  | .hbm, ⟨64, _⟩ => ⟨S2x8x32x128x256, .f32⟩
  | .hbm, ⟨65, _⟩ => ⟨S2x8x8192x128, .bf16⟩
  | .hbm, ⟨66, _⟩ => ⟨S2x8x8192x128, .bf16⟩
  | .hbm, ⟨67, _⟩ => ⟨S2x8x32x128x256, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== Kernel5.lean ====
abbrev S2x8192x1024 : Shape := ⟨3, ![2, 8192, 1024]⟩
abbrev S1024 : Shape := ⟨1, ![1024]⟩
abbrev S1024x584 : Shape := ⟨2, ![1024, 584]⟩
abbrev S64 : Shape := ⟨1, ![64]⟩
abbrev S8192x16 : Shape := ⟨2, ![8192, 16]⟩
abbrev S_ : Shape := ⟨0, ![]⟩
abbrev S8192x1 : Shape := ⟨2, ![8192, 1]⟩
abbrev S1x8192x1x1 : Shape := ⟨4, ![1, 8192, 1, 1]⟩
abbrev S1x8192x32x1 : Shape := ⟨4, ![1, 8192, 32, 1]⟩
abbrev S8192x32 : Shape := ⟨2, ![8192, 32]⟩
abbrev S1x8192x0x1 : Shape := ⟨4, ![1, 8192, 0, 1]⟩
abbrev S8192x0 : Shape := ⟨2, ![8192, 0]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1024x512 : Shape := ⟨2, ![1024, 512]⟩
abbrev S1024x64 : Shape := ⟨2, ![1024, 64]⟩
abbrev S1024x8 : Shape := ⟨2, ![1024, 8]⟩
abbrev S1024x128 : Shape := ⟨2, ![1024, 128]⟩
abbrev S1024x768 : Shape := ⟨2, ![1024, 768]⟩
abbrev S128 : Shape := ⟨1, ![128]⟩
abbrev S1x128 : Shape := ⟨2, ![1, 128]⟩
abbrev S1x1024 : Shape := ⟨2, ![1, 1024]⟩
abbrev S2x8x256x8192 : Shape := ⟨4, ![2, 8, 256, 8192]⟩
abbrev S2x8192x256 : Shape := ⟨3, ![2, 8192, 256]⟩
abbrev S2x8x8192 : Shape := ⟨3, ![2, 8, 8192]⟩
abbrev S1x512x1024 : Shape := ⟨3, ![1, 512, 1024]⟩
abbrev S512x128 : Shape := ⟨2, ![512, 128]⟩
abbrev S1x8x256x512 : Shape := ⟨4, ![1, 8, 256, 512]⟩
abbrev S1x512x256 : Shape := ⟨3, ![1, 512, 256]⟩
abbrev S1x8x512 : Shape := ⟨3, ![1, 8, 512]⟩
abbrev S512x1024 : Shape := ⟨2, ![512, 1024]⟩
abbrev S512 : Shape := ⟨1, ![512]⟩
abbrev S512x1 : Shape := ⟨2, ![512, 1]⟩
abbrev S128x512 : Shape := ⟨2, ![128, 512]⟩
abbrev S1x1x128x512 : Shape := ⟨4, ![1, 1, 128, 512]⟩
abbrev S1x512x128 : Shape := ⟨3, ![1, 512, 128]⟩
abbrev S8x512 : Shape := ⟨2, ![8, 512]⟩

abbrev nBuf : Space → Nat
  | .hbm => 67
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x584, .f32⟩
  | .hbm, ⟨3, _⟩ => ⟨S64, .f32⟩
  | .hbm, ⟨4, _⟩ => ⟨S8192x16, .f32⟩
  | .hbm, ⟨5, _⟩ => ⟨S8192x16, .f32⟩
  | .hbm, ⟨6, _⟩ => ⟨S_, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S1x8192x1x1, .f32⟩
  | .hbm, ⟨11, _⟩ => ⟨S1x8192x32x1, .f32⟩
  | .hbm, ⟨12, _⟩ => ⟨S8192x32, .f32⟩
  | .hbm, ⟨13, _⟩ => ⟨S1x8192x1x1, .f32⟩
  | .hbm, ⟨14, _⟩ => ⟨S1x8192x0x1, .f32⟩
  | .hbm, ⟨15, _⟩ => ⟨S8192x0, .f32⟩
  | .hbm, ⟨16, _⟩ => ⟨S8192x64, .f32⟩
  | .hbm, ⟨17, _⟩ => ⟨S1x8192x1x64, .f32⟩
  | .hbm, ⟨18, _⟩ => ⟨S1x8192x2x64, .f32⟩
  | .hbm, ⟨19, _⟩ => ⟨S8192x128, .f32⟩
  | .hbm, ⟨20, _⟩ => ⟨S8192x16, .f32⟩
  | .hbm, ⟨21, _⟩ => ⟨S8192x16, .f32⟩
  | .hbm, ⟨22, _⟩ => ⟨S8192x16, .f32⟩
  | .hbm, ⟨23, _⟩ => ⟨S1x8192x1x1, .f32⟩
  | .hbm, ⟨24, _⟩ => ⟨S1x8192x32x1, .f32⟩
  | .hbm, ⟨25, _⟩ => ⟨S8192x32, .f32⟩
  | .hbm, ⟨26, _⟩ => ⟨S1x8192x1x1, .f32⟩
  | .hbm, ⟨27, _⟩ => ⟨S1x8192x0x1, .f32⟩
  | .hbm, ⟨28, _⟩ => ⟨S8192x0, .f32⟩
  | .hbm, ⟨29, _⟩ => ⟨S8192x64, .f32⟩
  | .hbm, ⟨30, _⟩ => ⟨S1x8192x1x64, .f32⟩
  | .hbm, ⟨31, _⟩ => ⟨S1x8192x2x64, .f32⟩
  | .hbm, ⟨32, _⟩ => ⟨S8192x128, .f32⟩
  | .hbm, ⟨33, _⟩ => ⟨S8192x16, .f32⟩
  | .hbm, ⟨34, _⟩ => ⟨S8192x16, .f32⟩
  | .hbm, ⟨35, _⟩ => ⟨S1x8192x1x1, .f32⟩
  | .hbm, ⟨36, _⟩ => ⟨S1x8192x32x1, .f32⟩
  | .hbm, ⟨37, _⟩ => ⟨S8192x32, .f32⟩
  | .hbm, ⟨38, _⟩ => ⟨S1x8192x1x1, .f32⟩
  | .hbm, ⟨39, _⟩ => ⟨S1x8192x0x1, .f32⟩
  | .hbm, ⟨40, _⟩ => ⟨S8192x0, .f32⟩
  | .hbm, ⟨41, _⟩ => ⟨S8192x64, .f32⟩
  | .hbm, ⟨42, _⟩ => ⟨S1x8192x1x64, .f32⟩
  | .hbm, ⟨43, _⟩ => ⟨S1x8192x2x64, .f32⟩
  | .hbm, ⟨44, _⟩ => ⟨S8192x128, .f32⟩
  | .hbm, ⟨45, _⟩ => ⟨S1024x512, .f32⟩
  | .hbm, ⟨46, _⟩ => ⟨S1024x64, .f32⟩
  | .hbm, ⟨47, _⟩ => ⟨S1024x8, .f32⟩
  | .hbm, ⟨48, _⟩ => ⟨S_, .i32⟩
  | .hbm, ⟨49, _⟩ => ⟨S_, .f32⟩
  | .hbm, ⟨50, _⟩ => ⟨S1024x128, .f32⟩
  | .hbm, ⟨51, _⟩ => ⟨S_, .i32⟩
  | .hbm, ⟨52, _⟩ => ⟨S_, .f32⟩
  | .hbm, ⟨53, _⟩ => ⟨S1024x128, .f32⟩
  | .hbm, ⟨54, _⟩ => ⟨S1024x768, .f32⟩
  | .hbm, ⟨55, _⟩ => ⟨S1024x768, .bf16⟩
  | .hbm, ⟨56, _⟩ => ⟨S1024x768, .f32⟩
  | .hbm, ⟨57, _⟩ => ⟨S1024x768, .f32⟩
  | .hbm, ⟨58, _⟩ => ⟨S1024x768, .bf16⟩
  | .hbm, ⟨59, _⟩ => ⟨S_, .i32⟩
  | .hbm, ⟨60, _⟩ => ⟨S_, .f32⟩
  | .hbm, ⟨61, _⟩ => ⟨S128, .f32⟩
  | .hbm, ⟨62, _⟩ => ⟨S1x128, .f32⟩
  | .hbm, ⟨63, _⟩ => ⟨S1x1024, .f32⟩
  | .hbm, ⟨64, _⟩ => ⟨S2x8x256x8192, .bf16⟩
  | .hbm, ⟨65, _⟩ => ⟨S2x8192x256, .bf16⟩
  | .hbm, ⟨66, _⟩ => ⟨S2x8x8192, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x768, .bf16⟩
  | .local _ .vmem, ⟨4, _⟩ => ⟨S1024x768, .bf16⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x8x256x512, .bf16⟩
  | .local _ .vmem, ⟨13, _⟩ => ⟨S1x8x256x512, .bf16⟩
  | .local _ .vmem, ⟨14, _⟩ => ⟨S1x512x256, .bf16⟩
  | .local _ .vmem, ⟨15, _⟩ => ⟨S1x512x256, .bf16⟩
  | .local _ .vmem, ⟨16, _⟩ => ⟨S1x8x512, .f32⟩
  | .local _ .vmem, ⟨17, _⟩ => ⟨S1x8x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_c : Ref sig .tc := ⟨.hbm, 48, rfl⟩
abbrev main_call0_v0 : Ref sig .tc := ⟨.hbm, 49, rfl⟩
abbrev main_v40 : Ref sig .tc := ⟨.hbm, 50, rfl⟩
abbrev main_c_1 : Ref sig .tc := ⟨.hbm, 51, rfl⟩
abbrev main_call1_v0 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_c_2 : Ref sig .tc := ⟨.hbm, 59, rfl⟩
abbrev main_call2_v0 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50_0 : Ref sig .tc := ⟨.hbm, 64, rfl⟩
abbrev main_v50_1 : Ref sig .tc := ⟨.hbm, 65, rfl⟩
abbrev main_v50_2 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x8x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference5Ideal.lean ====
abbrev S2x8192x1024 : Shape := ⟨3, ![2, 8192, 1024]⟩
abbrev S1024 : Shape := ⟨1, ![1024]⟩
abbrev S1024x584 : Shape := ⟨2, ![1024, 584]⟩
abbrev S64 : Shape := ⟨1, ![64]⟩
abbrev S8192x16 : Shape := ⟨2, ![8192, 16]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x584 : Shape := ⟨3, ![2, 8192, 584]⟩
abbrev S2x8192x512 : Shape := ⟨3, ![2, 8192, 512]⟩
abbrev S2x8192x64 : Shape := ⟨3, ![2, 8192, 64]⟩
abbrev S2x8192x8 : Shape := ⟨3, ![2, 8192, 8]⟩
abbrev S2x8192x8x64 : Shape := ⟨4, ![2, 8192, 8, 64]⟩
abbrev S8192x1x16 : Shape := ⟨3, ![8192, 1, 16]⟩
abbrev S2x8192x8x32 : Shape := ⟨4, ![2, 8192, 8, 32]⟩
abbrev S2x8192x8x16 : Shape := ⟨4, ![2, 8192, 8, 16]⟩
abbrev S1x8192x1x16 : Shape := ⟨4, ![1, 8192, 1, 16]⟩
abbrev S1x1x64 : Shape := ⟨3, ![1, 1, 64]⟩
abbrev S2x8192x32 : Shape := ⟨3, ![2, 8192, 32]⟩
abbrev S2x8192x16 : Shape := ⟨3, ![2, 8192, 16]⟩
abbrev S1x8192x16 : Shape := ⟨3, ![1, 8192, 16]⟩
abbrev S2x8192x8x256 : Shape := ⟨4, ![2, 8192, 8, 256]⟩
abbrev S2x8x256x8192 : Shape := ⟨4, ![2, 8, 256, 8192]⟩
abbrev S2x8192x256 : Shape := ⟨3, ![2, 8192, 256]⟩
abbrev S2x8x8192 : Shape := ⟨3, ![2, 8, 8192]⟩

abbrev nBuf : Space → Nat
  | .hbm => 101
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x584, .f32⟩
  | .hbm, ⟨3, _⟩ => ⟨S64, .f32⟩
  | .hbm, ⟨4, _⟩ => ⟨S8192x16, .f32⟩
  | .hbm, ⟨5, _⟩ => ⟨S8192x16, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S2x8192x584, .f32⟩
  | .hbm, ⟨23, _⟩ => ⟨S2x8192x512, .f32⟩
  | .hbm, ⟨24, _⟩ => ⟨S2x8192x64, .f32⟩
  | .hbm, ⟨25, _⟩ => ⟨S2x8192x8, .f32⟩
  | .hbm, ⟨26, _⟩ => ⟨S2x8192x8x64, .f32⟩
  | .hbm, ⟨27, _⟩ => ⟨S8192x1x16, .f32⟩
  | .hbm, ⟨28, _⟩ => ⟨S8192x1x16, .f32⟩
  | .hbm, ⟨29, _⟩ => ⟨S2x8192x8x32, .f32⟩
  | .hbm, ⟨30, _⟩ => ⟨S2x8192x8x32, .f32⟩
  | .hbm, ⟨31, _⟩ => ⟨S2x8192x8x16, .f32⟩
  | .hbm, ⟨32, _⟩ => ⟨S2x8192x8x16, .f32⟩
  | .hbm, ⟨33, _⟩ => ⟨S1x8192x1x16, .f32⟩
  | .hbm, ⟨34, _⟩ => ⟨S2x8192x8x16, .f32⟩
  | .hbm, ⟨35, _⟩ => ⟨S2x8192x8x16, .f32⟩
  | .hbm, ⟨36, _⟩ => ⟨S1x8192x1x16, .f32⟩
  | .hbm, ⟨37, _⟩ => ⟨S2x8192x8x16, .f32⟩
  | .hbm, ⟨38, _⟩ => ⟨S2x8192x8x16, .f32⟩
  | .hbm, ⟨39, _⟩ => ⟨S2x8192x8x16, .f32⟩
  | .hbm, ⟨40, _⟩ => ⟨S1x8192x1x16, .f32⟩
  | .hbm, ⟨41, _⟩ => ⟨S2x8192x8x16, .f32⟩
  | .hbm, ⟨42, _⟩ => ⟨S2x8192x8x16, .f32⟩
  | .hbm, ⟨43, _⟩ => ⟨S1x8192x1x16, .f32⟩
  | .hbm, ⟨44, _⟩ => ⟨S2x8192x8x16, .f32⟩
  | .hbm, ⟨45, _⟩ => ⟨S2x8192x8x16, .f32⟩
  | .hbm, ⟨46, _⟩ => ⟨S2x8192x8x16, .f32⟩
  | .hbm, ⟨47, _⟩ => ⟨S2x8192x8x32, .f32⟩
  | .hbm, ⟨48, _⟩ => ⟨S2x8192x8x64, .f32⟩
  | .hbm, ⟨49, _⟩ => ⟨S2x8192x64, .f32⟩
  | .hbm, ⟨50, _⟩ => ⟨S_, .f32⟩
  | .hbm, ⟨51, _⟩ => ⟨S2x8192, .f32⟩
  | .hbm, ⟨52, _⟩ => ⟨S2x8192x1, .f32⟩
  | .hbm, ⟨53, _⟩ => ⟨S_, .f32⟩
  | .hbm, ⟨54, _⟩ => ⟨S2x8192x1, .f32⟩
  | .hbm, ⟨55, _⟩ => ⟨S2x8192x1, .f32⟩
  | .hbm, ⟨56, _⟩ => ⟨S_, .f32⟩
  | .hbm, ⟨57, _⟩ => ⟨S2x8192x1, .f32⟩
  | .hbm, ⟨58, _⟩ => ⟨S2x8192x1, .f32⟩
  | .hbm, ⟨59, _⟩ => ⟨S2x8192x1, .f32⟩
  | .hbm, ⟨60, _⟩ => ⟨S2x8192x64, .f32⟩
  | .hbm, ⟨61, _⟩ => ⟨S2x8192x64, .f32⟩
  | .hbm, ⟨62, _⟩ => ⟨S1x1x64, .f32⟩
  | .hbm, ⟨63, _⟩ => ⟨S2x8192x64, .f32⟩
  | .hbm, ⟨64, _⟩ => ⟨S2x8192x64, .f32⟩
  | .hbm, ⟨65, _⟩ => ⟨S2x8192x32, .f32⟩
  | .hbm, ⟨66, _⟩ => ⟨S2x8192x32, .f32⟩
  | .hbm, ⟨67, _⟩ => ⟨S2x8192x16, .f32⟩
  | .hbm, ⟨68, _⟩ => ⟨S2x8192x16, .f32⟩
  | .hbm, ⟨69, _⟩ => ⟨S1x8192x16, .f32⟩
  | .hbm, ⟨70, _⟩ => ⟨S2x8192x16, .f32⟩
  | .hbm, ⟨71, _⟩ => ⟨S2x8192x16, .f32⟩
  | .hbm, ⟨72, _⟩ => ⟨S1x8192x16, .f32⟩
  | .hbm, ⟨73, _⟩ => ⟨S2x8192x16, .f32⟩
  | .hbm, ⟨74, _⟩ => ⟨S2x8192x16, .f32⟩
  | .hbm, ⟨75, _⟩ => ⟨S2x8192x16, .f32⟩
  | .hbm, ⟨76, _⟩ => ⟨S1x8192x16, .f32⟩
  | .hbm, ⟨77, _⟩ => ⟨S2x8192x16, .f32⟩
  | .hbm, ⟨78, _⟩ => ⟨S2x8192x16, .f32⟩
  | .hbm, ⟨79, _⟩ => ⟨S1x8192x16, .f32⟩
  | .hbm, ⟨80, _⟩ => ⟨S2x8192x16, .f32⟩
  | .hbm, ⟨81, _⟩ => ⟨S2x8192x16, .f32⟩
  | .hbm, ⟨82, _⟩ => ⟨S2x8192x16, .f32⟩
  | .hbm, ⟨83, _⟩ => ⟨S2x8192x32, .f32⟩
  | .hbm, ⟨84, _⟩ => ⟨S2x8192x64, .f32⟩
  | .hbm, ⟨85, _⟩ => ⟨S_, .f32⟩
  | .hbm, ⟨86, _⟩ => ⟨S2x8192x8, .f32⟩
  | .hbm, ⟨87, _⟩ => ⟨S2x8192x8, .f32⟩
  | .hbm, ⟨88, _⟩ => ⟨S_, .f32⟩
  | .hbm, ⟨89, _⟩ => ⟨S2x8192x8, .f32⟩
  | .hbm, ⟨90, _⟩ => ⟨S2x8192x8, .f32⟩
  | .hbm, ⟨91, _⟩ => ⟨S_, .f32⟩
  | .hbm, ⟨92, _⟩ => ⟨S2x8192x8x64, .f32⟩
  | .hbm, ⟨93, _⟩ => ⟨S_, .f32⟩
  | .hbm, ⟨94, _⟩ => ⟨S2x8192x64, .f32⟩
  | .hbm, ⟨95, _⟩ => ⟨S2x8192x8x256, .f32⟩
  | .hbm, ⟨96, _⟩ => ⟨S2x8x256x8192, .f32⟩
  | .hbm, ⟨97, _⟩ => ⟨S2x8192x256, .f32⟩
  | .hbm, ⟨98, _⟩ => ⟨S2x8x256x8192, .bf16⟩
  | .hbm, ⟨99, _⟩ => ⟨S2x8192x256, .bf16⟩
  | .hbm, ⟨100, _⟩ => ⟨S2x8x8192, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_2 : Ref sig .tc := ⟨.hbm, 50, rfl⟩
abbrev main_v41 : Ref sig .tc := ⟨.hbm, 51, rfl⟩
abbrev main_v42 : Ref sig .tc := ⟨.hbm, 52, rfl⟩
abbrev main_cst_3 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_5 : Ref sig .tc := ⟨.hbm, 85, rfl⟩
abbrev main_v73 : Ref sig .tc := ⟨.hbm, 86, rfl⟩
abbrev main_v74 : Ref sig .tc := ⟨.hbm, 87, rfl⟩
abbrev main_cst_6 : Ref sig .tc := ⟨.hbm, 88, rfl⟩
abbrev main_v75 : Ref sig .tc := ⟨.hbm, 89, rfl⟩
abbrev main_v76 : Ref sig .tc := ⟨.hbm, 90, rfl⟩
abbrev main_cst_7 : Ref sig .tc := ⟨.hbm, 91, rfl⟩
abbrev main_v77 : Ref sig .tc := ⟨.hbm, 92, rfl⟩
abbrev main_cst_8 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩

abbrev nD : Nat := 1
abbrev τ : Topo := Topo.v7x

variable {F : FTy → Type} [FloatOps F]
-- ==== Proof.Mla.Run.lean ====
module

public import proofs.«01_k».proof.Proof.Gen.KernelIdeal.Frame
public import proofs.«01_k».proof.Proof.Gen.KernelIdeal.Skeleton
public import Idealize.ShloMosaic.Lib.VecWindow

@[expose] public section

set_option maxRecDepth 8192
set_option maxHeartbeats 4000000

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.VecWindow (window put)

variable {F : FTy → Type} [FloatOps F] [Named F]

local notation "𝕄" => MT nD τ sig Unit (Elt F) ℕ (UR sig nD τ) ℕ

/-! ## The words the kernel computes -/

/-- A statement about the third grid coordinate, checked at its eight values. -/
theorem of_coord {P : grid0.Coords → Prop} {Q : Fin 8 → Prop} (hq : ∀ n, Q n) (h : ∀ i : grid0.Coords, Q (i 2) → P i) (i : grid0.Coords) : P i :=
  h i (hq (i 2))

/-- The main loop makes one trip for each block of 1024 queries before the present one. -/
theorem trips_eq (i : grid0.Coords) : (k0_t1_loop i).trips = (i 2).val := by
  have h : ∀ n : Fin 8, ∀ j : grid0.Coords, j 2 = n → (k0_t1_loop j).trips = n.val := by
    intro n j hj
    unfold k0_t1_loop
    simp only [hj]
    clear hj; revert n; decide
  exact h (i 2) i rfl

/-- The remainder loop makes no trip. -/
theorem trips2_eq (i : grid0.Coords) : (k0_t2_loop i).trips = 0 := by
  have h : ∀ n : Fin 8, ∀ j : grid0.Coords, j 2 = n → (k0_t2_loop j).trips = 0 := by
    intro n j hj
    unfold k0_t2_loop
    simp only [hj]
    clear hj; revert n; decide
  exact h (i 2) i rfl

/-- The first scores are computed ahead of the loop exactly when the loop makes a trip. -/
theorem cond1_iff (i : grid0.Coords) : k0_cond1 i = 1#1 ↔ 0 < (i 2).val := by
  have h : ∀ n : Fin 8, ∀ j : grid0.Coords, j 2 = n → (k0_cond1 j = 1#1 ↔ 0 < n.val) := by
    intro n j hj
    unfold k0_cond1
    simp only [hj]
    clear hj; revert n; decide
  exact h (i 2) i rfl

/-- Where block `n` of 256 keys starts. -/
def kOff (n : ℕ) : Fin 4 → ℕ := ![0, 0, 256 * min n 31, 0]
theorem kOff_inb (n : ℕ) : ∀ a, kOff n a + S1x1x256x256.size a ≤ S1x1x8192x256.size a := by
  intro a; fin_cases a
  · show 0 + 1 ≤ 1; omega
  · show 0 + 1 ≤ 1; omega
  · show 256 * min n 31 + 256 ≤ 8192; omega
  · show 0 + 256 ≤ 256; omega
/-- Which block of 256 values is block `n`. -/
def vOff (n : ℕ) : Fin 5 → ℕ := ![0, 0, min n 31, 0, 0]
theorem vOff_inb (n : ℕ) : ∀ a, vOff n a + S1x1x1x128x256.size a ≤ S1x1x32x128x256.size a := by
  intro a; fin_cases a
  · show 0 + 1 ≤ 1; omega
  · show 0 + 1 ≤ 1; omega
  · show min n 31 + 1 ≤ 32; omega
  · show 0 + 128 ≤ 128; omega
  · show 0 + 256 ≤ 256; omega

theorem trip_lt (i : grid0.Coords) (k : Fin (k0_t1_loop i).trips) : k.val < 7 := by
  have h1 := lt_of_lt_of_eq k.isLt (trips_eq i)
  have h2 : (i 2).val < 8 := (i 2).isLt
  omega

/-- A word below the modulus is the number it is made from. -/
theorem iv_nat {N : ℕ} (k : Fin N) : Scf.iv 0#32 1#32 k = BitVec.ofNat 32 k.val := by
  unfold Scf.iv; simp

theorem off2_eq (i : grid0.Coords) (k : Fin (k0_t1_loop i).trips) (r : Fin 2) : k0_off2 i k (BitVec.ofNat 32 (2 * r.val)) = vOff (4 * k.val + 2 * r.val) := by
  have hk := trip_lt i k
  unfold k0_off2 vOff
  simp only [iv_nat]
  generalize k.val = n at hk
  interval_cases n <;> fin_cases r <;> rfl

theorem off1_eq (i : grid0.Coords) (k : Fin (k0_t1_loop i).trips) (r : Fin 2) : k0_off1 i k (BitVec.ofNat 32 (2 * r.val)) = kOff (4 * k.val + 2 * r.val + 1) := by
  have hk := trip_lt i k
  unfold k0_off1 kOff
  simp only [iv_nat]
  generalize k.val = n at hk
  interval_cases n <;> fin_cases r <;> rfl

theorem off4_eq (i : grid0.Coords) (k : Fin (k0_t1_loop i).trips) (r : Fin 2) : k0_off4 i k (BitVec.ofNat 32 (2 * r.val)) = vOff (4 * k.val + 2 * r.val + 1) := by
  have hk := trip_lt i k
  unfold k0_off4 vOff
  simp only [iv_nat]
  generalize k.val = n at hk
  interval_cases n <;> fin_cases r <;> rfl

/-- The second block scored in a half trip is the next one, the last block of the range again past its end. -/
theorem off3_eq (i : grid0.Coords) (k : Fin (k0_t1_loop i).trips) (r : Fin 2) :
    k0_off3 i k (BitVec.ofNat 32 (2 * r.val)) = kOff (min (4 * k.val + 2 * r.val + 2) (4 * (i 2).val - 1)) := by
  have hk := lt_of_lt_of_eq k.isLt (trips_eq i)
  have h : ∀ m : Fin 8, ∀ j : grid0.Coords, j 2 = m → ∀ k : Fin (k0_t1_loop j).trips, k.val < m.val → ∀ r : Fin 2,
      k0_off3 j k (BitVec.ofNat 32 (2 * r.val)) = kOff (min (4 * k.val + 2 * r.val + 2) (4 * m.val - 1)) := by
    intro m j hj k hk r
    unfold k0_off3 kOff
    simp only [iv_nat, hj]
    generalize k.val = n at hk
    clear hj
    have hn : n < 8 := lt_trans hk m.isLt
    congr 1
    funext a
    interval_cases n <;> revert m r a <;> decide
  exact h (i 2) i rfl k hk r

theorem off9_eq (i : grid0.Coords) (r : Fin 4) : k0_off9 i (BitVec.ofNat 32 r.val) = kOff (4 * (i 2).val + r.val) := by
  have h : ∀ m : Fin 8, ∀ j : grid0.Coords, j 2 = m → ∀ r : Fin 4, k0_off9 j (BitVec.ofNat 32 r.val) = kOff (4 * m.val + r.val) := by
    intro m j hj r
    unfold k0_off9 kOff
    simp only [hj]
    clear hj
    fin_cases m <;> fin_cases r <;> rfl
  exact h (i 2) i rfl r

theorem off10_eq (i : grid0.Coords) (r : Fin 4) : k0_off10 i (BitVec.ofNat 32 r.val) = vOff (4 * (i 2).val + r.val) := by
  have h : ∀ m : Fin 8, ∀ j : grid0.Coords, j 2 = m → ∀ r : Fin 4, k0_off10 j (BitVec.ofNat 32 r.val) = vOff (4 * m.val + r.val) := by
    intro m j hj r
    unfold k0_off10 vOff
    simp only [hj]
    clear hj
    fin_cases m <;> fin_cases r <;> rfl
  exact h (i 2) i rfl r

/-! ## What the kernel computes, in closed form -/

/-- Block `n` of 256 keys. -/
def kBlk (x1 : FVec F S1x1x8192x256 .bf16) (n : ℕ) : FVec F S1x1x256x256 .bf16 := window x1 (kOff n) S1x1x256x256.size (kOff_inb n)
/-- Block `n` of 256 values. -/
def vBlk (x2 : FVec F S1x1x32x128x256 .bf16) (n : ℕ) : FVec F S1x1x1x128x256 .bf16 := window x2 (vOff n) S1x1x1x128x256.size (vOff_inb n)
/-- The scores of the stacked queries against block `n` of keys. -/
def sc (q : FVec F S256x2048 .bf16) (x1 : FVec F S1x1x8192x256 .bf16) (n : ℕ) : FVec F S1x256x2048 .f32 := k0_pay5 q (kBlk x1 n)
/-- The weighted sum of values and the sum of weights, after the first `n` blocks. -/
def stAt (q : FVec F S256x2048 .bf16) (x1 : FVec F S1x1x8192x256 .bf16) (x2 : FVec F S1x1x32x128x256 .bf16) : ℕ → FVec F S128x2048 .f32 × FVec F S1x2048 .f32
  | 0 => (k0_pay27, k0_pay28)
  | n + 1 => (k0_pay3 (sc q x1 n) (vBlk x2 n) (stAt q x1 x2 n).1, k0_pay4 (stAt q x1 x2 n).2 (sc q x1 n))

/-- The first slot of the score buffer. -/
def slot0 (f : FVec F S2x256x2048 .f32) : FVec F S1x256x2048 .f32 := window f ![0, 0, 0] S1x256x2048.size inb_S2x256x2048_S1x256x2048_0_0_0

/-- Reading a rectangle whose start is known reads that window. -/
theorem kRead {arg4 : Memref sig .tc .vmem S1x1x8192x256 .bf16} (f4 : BufTy.Contents (Elt F) arg4.view.ty) {off : Fin 4 → ℕ} (inb : ∀ a, off a + S1x1x256x256.size a ≤ S1x1x8192x256.size a) {n : ℕ} (h : off = kOff n) :
    View.readAt (Elt F) arg4.view (Rect.unit (s := S1x1x8192x256) off S1x1x256x256.size inb).toLoadRect f4 = kBlk (arg4.view.read (Elt F) f4) n :=
  View.readAt_unit arg4.view f4 inb h (kOff_inb n)

/-- Reading a rectangle whose start is known reads that window. -/
theorem vRead {arg5 : Memref sig .tc .vmem S1x1x32x128x256 .bf16} (f5 : BufTy.Contents (Elt F) arg5.view.ty) {off : Fin 5 → ℕ} (inb : ∀ a, off a + S1x1x1x128x256.size a ≤ S1x1x32x128x256.size a) {n : ℕ} (h : off = vOff n) :
    View.readAt (Elt F) arg5.view (Rect.unit (s := S1x1x32x128x256) off S1x1x1x128x256.size inb).toLoadRect f5 = vBlk (arg5.view.read (Elt F) f5) n :=
  View.readAt_unit arg5.view f5 inb h (vOff_inb n)

/-- The first slot after a write of it. -/
theorem slot0_writes {arg8 : Memref sig .tc .vmem S2x256x2048 .f32} (f8 : BufTy.Contents (Elt F) arg8.view.ty) (w : FVec F S1x256x2048 .f32) (L) :
    slot0 (arg8.view.read (Elt F) (arg8.view.writes (Elt F) f8 (⟨Rect.unit (s := S2x256x2048) ![0, 0, 0] S1x256x2048.size inb_S2x256x2048_S1x256x2048_0_0_0, w⟩ :: L))) = w := by
  unfold slot0
  rw [View.read_writes_cons_put (off := ![0, 0, 0]) (off' := ![0, 0, 0]) (size := S1x256x2048.size) arg8.view f8 inb_S2x256x2048_S1x256x2048_0_0_0 w L rfl]
  exact VecWindow.window_put_same _ _ _ _ _

/-- What holds before trip `k` of the main loop. -/
def inv1 (c : Dev nD) (i : grid0.Coords) (arg4 : Memref sig .tc .vmem S1x1x8192x256 .bf16) (arg5 : Memref sig .tc .vmem S1x1x32x128x256 .bf16) (arg7 : Memref sig .tc .vmem S128x2048 .f32) (arg8 : Memref sig .tc .vmem S2x256x2048 .f32) (q : FVec F S256x2048 .bf16) (f4 : BufTy.Contents (Elt F) arg4.view.ty) (f5 : BufTy.Contents (Elt F) arg5.view.ty) (k : ℕ) (acc : FVec F S1x2048 .f32) : sProp 𝕄 :=
  iprop((arg4.view.loc (c : Thread nD τ) ↦[arg4.view.set]{fullShare} f4) ∗ (arg5.view.loc (c : Thread nD τ) ↦[arg5.view.set]{fullShare} f5)
    ∗ (∃ f7 : BufTy.Contents (Elt F) arg7.view.ty, (arg7.view.loc (c : Thread nD τ) ↦[arg7.view.set]{fullShare} f7) ∗ ⌜arg7.view.read (Elt F) f7 = (stAt q (arg4.view.read (Elt F) f4) (arg5.view.read (Elt F) f5) (4 * k)).1⌝)
    ∗ (∃ f8 : BufTy.Contents (Elt F) arg8.view.ty, (arg8.view.loc (c : Thread nD τ) ↦[arg8.view.set]{fullShare} f8) ∗ ⌜k < (i 2).val → slot0 (arg8.view.read (Elt F) f8) = sc q (arg4.view.read (Elt F) f4) (4 * k)⌝)
    ∗ ⌜acc = (stAt q (arg4.view.read (Elt F) f4) (arg5.view.read (Elt F) f5) (4 * k)).2⌝)

set_option backward.isDefEq.respectTransparency.types false in
/-- One trip takes what holds before it to what holds before the next. -/
theorem inv1_step (c : Dev nD) (i : grid0.Coords) (arg3 : Memref sig .tc .vmem S1x1x1024x256 .bf16) (harg3 : arg3.IsWhole) (arg4 : Memref sig .tc .vmem S1x1x8192x256 .bf16) (harg4 : arg4.IsWhole) (arg5 : Memref sig .tc .vmem S1x1x32x128x256 .bf16) (harg5 : arg5.IsWhole) (arg6 : Memref sig .tc .vmem S1x1024x128 .bf16) (harg6 : arg6.IsWhole) (arg7 : Memref sig .tc .vmem S128x2048 .f32) (harg7 : arg7.IsWhole) (arg8 : Memref sig .tc .vmem S2x256x2048 .f32) (harg8 : arg8.IsWhole) (v12 : FVec F S256x2048 .bf16) (v30 : BitVec 32) (v36 : FVec F S1x2048 .f32) (v38 : BitVec 32) (f4 : BufTy.Contents (Elt F) arg4.view.ty) (f5 : BufTy.Contents (Elt F) arg5.view.ty)
    (k : Fin (k0_t1_loop i).trips) (acc : FVec F S1x2048 .f32) :
    inv1 c i arg4 arg5 arg7 arg8 v12 f4 f5 k.val acc ⊢ wp Idealize.ShloMosaic.frame (wpE (defs₀ (F := F)) Variants.none (c : Thread nD τ) none) Set.univ
      (k0_t1_body (F := F) i arg3 harg3 arg4 harg4 arg5 harg5 arg6 harg6 arg7 harg7 arg8 harg8 v12 v30 v36 v38 k acc)
      (fun y => inv1 c i arg4 arg5 arg7 arg8 v12 f4 f5 (k.val + 1) y) := by
  have hk := lt_of_lt_of_eq k.isLt (trips_eq i)
  have hk8 : (i 2).val < 8 := (i 2).isLt
  unfold inv1 k0_t1_body
  iintro ⟨H4, H5, ⟨%f7, H7, %h7⟩, ⟨%f8, H8, %h8⟩, %hacc⟩
  have h8 := h8 hk
  have e1 : k0_off1 i k 0#32 = kOff (4 * k.val + 1) := off1_eq i k 0
  have e2 : k0_off3 i k 0#32 = kOff (4 * k.val + 2) := (off3_eq i k 0).trans (congrArg kOff (by show min (4 * k.val + 0 + 2) _ = _; omega))
  have e3 : k0_off1 i k 2#32 = kOff (4 * k.val + 3) := off1_eq i k 1
  have v0 : k0_off2 i k 0#32 = vOff (4 * k.val) := off2_eq i k 0
  have v1 : k0_off4 i k 0#32 = vOff (4 * k.val + 1) := off4_eq i k 0
  have v2 : k0_off2 i k 2#32 = vOff (4 * k.val + 2) := off2_eq i k 1
  have v3 : k0_off4 i k 2#32 = vOff (4 * k.val + 3) := off4_eq i k 1
  subst hacc
  sl_exec
  sl_step
  isplitl [H4]; · iexact H4
  isplitl [H5]; · iexact H5
  isplitl [H7]
  · iexists _; isplitl [H7]; · iexact H7
    ipureintro
    sl_unfold_run_names
    rw [View.read_writes_full, View.readAt_full, h7]
    simp only [View.readCov_cons_toLoadRect, kRead f4 _ e1, kRead f4 _ e2, kRead f4 _ e3, vRead f5 _ v0, vRead f5 _ v1, vRead f5 _ v2, vRead f5 _ v3]
    rfl
  isplitl [H8]
  · iexists _; isplitl [H8]; · iexact H8
    ipureintro
    intro hk1
    sl_unfold_run_names
    have e4 : k0_off3 i k 2#32 = kOff (4 * (k.val + 1)) := (off3_eq i k 1).trans (congrArg kOff (by show min (4 * k.val + 2 + 2) _ = _; omega))
    rw [slot0_writes, kRead f4 _ e4]
    rfl
  · ipureintro
    sl_unfold_run_names
    simp only [View.readCov_cons_toLoadRect, kRead f4 _ e1, kRead f4 _ e2, kRead f4 _ e3, vRead f5 _ v0, vRead f5 _ v1, vRead f5 _ v2, vRead f5 _ v3]
    rfl

/-! ### The last four key blocks, which reach past some of the queries -/

/-- Columns `off …` of the weighted sums. -/
def cols {n : Fin 2 → ℕ} (a : FVec F S128x2048 .f32) (off : Fin 2 → ℕ) (inb : ∀ d, off d + n d ≤ S128x2048.size d) : ((d : Fin 2) → Fin (n d)) → F .f32 := window a off n inb
/-- The weighted sums with columns `off …` replaced. -/
def setCols {n : Fin 2 → ℕ} (a : FVec F S128x2048 .f32) (off : Fin 2 → ℕ) (w : ((d : Fin 2) → Fin (n d)) → F .f32) : FVec F S128x2048 .f32 := put a off n w

/-- The mask on a diagonal block of 256 keys by 256 queries. -/
def msk : FVec F S256x256 .f32 := k0_pay40 (iota .tc S256x256 32 [0] iota_S256x256_d0_w32) (iota .tc S256x256 32 [1] iota_S256x256_d1_w32) 64#32 k0_pay38 k0_pay39 0#32
/-- The weights of the first edge block. -/
def wt0 (q : FVec F S256x2048 .bf16) (kb : FVec F S1x1x256x256 .bf16) : FVec F S256x2048 .f32 := k0_pay41 q (iota .tc S256x256 32 [0] iota_S256x256_d0_w32) (iota .tc S256x256 32 [1] iota_S256x256_d1_w32) 64#32 k0_pay38 k0_pay39 0#32 kb

/-- The weighted sums after the first edge block. -/
def acc1 (q : FVec F S256x2048 .bf16) (kb : FVec F S1x1x256x256 .bf16) (vb : FVec F S1x1x1x128x256 .bf16) (a : FVec F S128x2048 .f32) : FVec F S128x2048 .f32 :=
  setCols (setCols a ![0, 0] (k0_pay43 (wt0 q kb) vb (cols a ![0, 0] inb_S128x2048_S128x1024_0_0))) ![0, 1024] (k0_pay44 (wt0 q kb) vb (cols a ![0, 1024] inb_S128x2048_S128x1024_0_1024))
/-- The weighted sums after the second edge block. -/
def acc2 (q : FVec F S256x2048 .bf16) (kb : FVec F S1x1x256x256 .bf16) (vb : FVec F S1x1x1x128x256 .bf16) (a : FVec F S128x2048 .f32) : FVec F S128x2048 .f32 :=
  let a' := setCols a ![0, 256] (k0_pay50 (k0_pay46 q kb) (k0_pay47 msk) vb (cols a ![0, 256] inb_S128x2048_S128x768_0_256))
  setCols a' ![0, 1280] (k0_pay51 (k0_pay46 q kb) (k0_pay47 msk) vb (cols a' ![0, 1280] inb_S128x2048_S128x768_0_1280))
/-- The weighted sums after the third edge block. -/
def acc3 (q : FVec F S256x2048 .bf16) (kb : FVec F S1x1x256x256 .bf16) (vb : FVec F S1x1x1x128x256 .bf16) (a : FVec F S128x2048 .f32) : FVec F S128x2048 .f32 :=
  let a' := setCols a ![0, 512] (k0_pay56 msk (k0_pay53 q) kb vb (cols a ![0, 512] inb_S128x2048_S128x512_0_512))
  setCols a' ![0, 1536] (k0_pay57 msk (k0_pay53 q) kb vb (cols a' ![0, 1536] inb_S128x2048_S128x512_0_1536))
/-- The weighted sums after the last edge block. -/
def acc4 (q : FVec F S256x2048 .bf16) (kb : FVec F S1x1x256x256 .bf16) (vb : FVec F S1x1x1x128x256 .bf16) (a : FVec F S128x2048 .f32) : FVec F S128x2048 .f32 :=
  let a' := setCols a ![0, 768] (k0_pay65 q msk kb vb (cols a ![0, 768] inb_S128x2048_S128x256_0_768))
  setCols a' ![0, 1792] (k0_pay66 q msk kb vb (cols a' ![0, 1792] inb_S128x2048_S128x256_0_1792))
/-- The sums of weights after the third edge block. -/
def den3 (q : FVec F S256x2048 .bf16) (kb0 kb1 kb2 : FVec F S1x1x256x256 .bf16) (l : FVec F S1x2048 .f32) : FVec F S1x2048 .f32 :=
  let l1 := k0_pay45 l (wt0 q kb0)
  let l2 := k0_pay52 l1 (k0_pay46 q kb1) (k0_pay47 msk)
  k0_pay62 l2 (k0_pay59 msk l2 (k0_pay53 q) kb2) (k0_pay60 l2) (k0_pay61 msk (k0_pay53 q) kb2)

/-- What one grid point leaves in its output block, from its blocks of queries, keys and values. -/
def outBlock (i : grid0.Coords) (x0 : FVec F S1x1x1024x256 .bf16) (x1 : FVec F S1x1x8192x256 .bf16) (x2 : FVec F S1x1x32x128x256 .bf16) : FVec F S1x1024x128 .bf16 :=
  let q := k0_pay26 x0
  let b := 4 * (i 2).val
  let s := stAt q x1 x2 b
  k0_pay1 (den3 q (kBlk x1 b) (kBlk x1 (b + 1)) (kBlk x1 (b + 2)) s.2) (k0_pay63 q msk (kBlk x1 (b + 3)))
    (acc4 q (kBlk x1 (b + 3)) (vBlk x2 (b + 3)) (acc3 q (kBlk x1 (b + 2)) (vBlk x2 (b + 2)) (acc2 q (kBlk x1 (b + 1)) (vBlk x2 (b + 1)) (acc1 q (kBlk x1 b) (vBlk x2 b) s.1))))

/-- Writing both halves of the columns leaves nothing of what was there. -/
theorem setCols_cover (x y : FVec F S128x2048 .f32) (w0 w1 : FVec F S128x1024 .f32) :
    setCols (setCols x ![0, 0] w0) ![0, 1024] w1 = setCols (setCols y ![0, 0] w0) ![0, 1024] w1 := by
  funext j
  unfold setCols put
  by_cases h1 : ∀ a, (![0, 1024] : Fin 2 → ℕ) a ≤ (j a).val ∧ (j a).val < (![0, 1024] : Fin 2 → ℕ) a + S128x1024.size a
  · rw [dif_pos h1, dif_pos h1]
  · rw [dif_neg h1, dif_neg h1]
    have h0 : ∀ a, (![0, 0] : Fin 2 → ℕ) a ≤ (j a).val ∧ (j a).val < (![0, 0] : Fin 2 → ℕ) a + S128x1024.size a := by
      have j0 : (j 0).val < 128 := (j 0).isLt
      have j1 : (j 1).val < 2048 := (j 1).isLt
      have hlt : (j 1).val < 1024 := by
        by_contra hge
        refine h1 fun a => ?_
        fin_cases a
        · exact ⟨Nat.zero_le _, by show (j 0).val < 0 + 128; omega⟩
        · exact ⟨by show 1024 ≤ (j 1).val; omega, by show (j 1).val < 1024 + 1024; omega⟩
      intro a
      fin_cases a
      · exact ⟨Nat.zero_le _, by show (j 0).val < 0 + 128; omega⟩
      · exact ⟨Nat.zero_le _, by show (j 1).val < 0 + 1024; omega⟩
    rw [dif_pos h0, dif_pos h0]

/-- Reading columns out of the buffer. -/
theorem readCols {arg7 : Memref sig .tc .vmem S128x2048 .f32} (f : BufTy.Contents (Elt F) arg7.view.ty) {off : Fin 2 → ℕ} {n : Fin 2 → ℕ} (inb : ∀ d, off d + n d ≤ S128x2048.size d) :
    View.readAt (Elt F) arg7.view (Rect.unit (s := S128x2048) off n inb).toLoadRect f = cols (arg7.view.read (Elt F) f) off inb :=
  View.readAt_unit arg7.view f inb rfl inb
/-- Writing columns of the buffer. -/
theorem writeCols {arg7 : Memref sig .tc .vmem S128x2048 .f32} (f : BufTy.Contents (Elt F) arg7.view.ty) {off : Fin 2 → ℕ} {n : Fin 2 → ℕ} (inb : ∀ d, off d + n d ≤ S128x2048.size d) (w : ((d : Fin 2) → Fin (n d)) → F .f32) (L) :
    arg7.view.read (Elt F) (arg7.view.writes (Elt F) f (⟨Rect.unit (s := S128x2048) off n inb, w⟩ :: L)) = setCols (arg7.view.read (Elt F) (arg7.view.writes (Elt F) f L)) off w :=
  View.read_writes_cons_put (off := off) (off' := off) (size := n) arg7.view f inb w L rfl

set_option backward.isDefEq.respectTransparency.types false in
theorem body_run (c : Dev nD) (i : grid0.Coords) (arg3 : Memref sig .tc .vmem S1x1x1024x256 .bf16) (harg3 : arg3.IsWhole) (arg4 : Memref sig .tc .vmem S1x1x8192x256 .bf16) (harg4 : arg4.IsWhole) (arg5 : Memref sig .tc .vmem S1x1x32x128x256 .bf16) (harg5 : arg5.IsWhole) (arg6 : Memref sig .tc .vmem S1x1024x128 .bf16) (harg6 : arg6.IsWhole) (arg7 : Memref sig .tc .vmem S128x2048 .f32) (harg7 : arg7.IsWhole) (arg8 : Memref sig .tc .vmem S2x256x2048 .f32) (harg8 : arg8.IsWhole)
    (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) :
    iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8))
    ⊢ wp Idealize.ShloMosaic.frame (wpE (defs₀ (F := F)) Variants.none (c : Thread nD τ) none) Set.univ
      (cc0_mla_attn (F := F) i arg3 harg3 arg4 harg4 arg5 harg5 arg6 harg6 arg7 harg7 arg8 harg8)
      (fun _ => (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5)
        ∗ (∃ g6 : BufTy.Contents (Elt F) arg6.view.ty, (arg6.view.loc (c : Thread nD τ) ↦[arg6.view.set]{fullShare} g6) ∗ ⌜arg6.view.read (Elt F) g6 = outBlock i (arg3.view.read (Elt F) f3) (arg4.view.read (Elt F) f4) (arg5.view.read (Elt F) f5)⌝)
        ∗ (∃ g7 : BufTy.Contents (Elt F) arg7.view.ty, (arg7.view.loc (c : Thread nD τ) ↦[arg7.view.set]{fullShare} g7)) ∗ (∃ g8 : BufTy.Contents (Elt F) arg8.view.ty, (arg8.view.loc (c : Thread nD τ) ↦[arg8.view.set]{fullShare} g8))) : sProp 𝕄)) := by
  simp only [cc0_mla_attn_eq_skeleton]
  unfold cc0_mla_attn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  have ht2 : (k0_t2_loop i).trips = 0 := trips2_eq i
  iintro ⟨H3, H4, H5, H6, H7, H8⟩
  sl_exec
  sl_for (inv1 c i arg4 arg5 arg7 arg8 (k0_pay26 (arg3.view.read (Elt F) f3)) f4 f5) $$ [H4 H5 H7 H8]
  · intro k acc
    sl_unfold_run_names
    rw [View.readAt_full]
    exact inv1_step c i arg3 harg3 arg4 harg4 arg5 harg5 arg6 harg6 arg7 harg7 arg8 harg8 _ _ _ _ f4 f5 k acc
  · unfold inv1
    isplitl [H4]; · iexact H4
    isplitl [H5]; · iexact H5
    isplitl [H7]
    · iexists _; isplitl [H7]; · iexact H7
      ipureintro
      sl_unfold_run_names
      rw [View.read_writes_full]
      rfl
    isplitl [H8]
    · iexists _; isplitl [H8]; · iexact H8
      ipureintro
      intro hk
      rw [dif_pos ((cond1_iff i).mpr hk)]
      sl_unfold_run_names
      rw [slot0_writes, kRead f4 _ (show (![0, 0, 0, 0] : Fin 4 → ℕ) = kOff (4 * 0) from rfl), View.readAt_full]
      rfl
    · ipureintro
      rfl
  iintro %acc HI
  unfold inv1
  icases HI with ⟨H4, H5, ⟨%g7, H7, %h7⟩, ⟨%g8, H8, %h8⟩, %hacc⟩
  sl_exec
  sl_step
  isplitl [H3]; · iexact H3
  isplitl [H4]; · iexact H4
  isplitl [H5]; · iexact H5
  isplitl [H6]
  · iexists _; isplitl [H6]; · iexact H6
    ipureintro
    have ht := trips_eq i
    unfold Scf.Loop.trips at ht
    rw [ht] at h7 hacc
    subst hacc
    have k0 : ∀ inb, View.readAt (Elt F) arg4.view (Rect.unit (s := S1x1x8192x256) (k0_off9 i 0#32) S1x1x256x256.size inb).toLoadRect f4 = kBlk (arg4.view.read (Elt F) f4) (4 * (i 2).val) := fun inb => kRead f4 inb (off9_eq i 0)
    have k1 : ∀ inb, View.readAt (Elt F) arg4.view (Rect.unit (s := S1x1x8192x256) (k0_off9 i 1#32) S1x1x256x256.size inb).toLoadRect f4 = kBlk (arg4.view.read (Elt F) f4) (4 * (i 2).val + 1) := fun inb => kRead f4 inb (off9_eq i 1)
    have k2 : ∀ inb, View.readAt (Elt F) arg4.view (Rect.unit (s := S1x1x8192x256) (k0_off9 i 2#32) S1x1x256x256.size inb).toLoadRect f4 = kBlk (arg4.view.read (Elt F) f4) (4 * (i 2).val + 2) := fun inb => kRead f4 inb (off9_eq i 2)
    have k3 : ∀ inb, View.readAt (Elt F) arg4.view (Rect.unit (s := S1x1x8192x256) (k0_off9 i 3#32) S1x1x256x256.size inb).toLoadRect f4 = kBlk (arg4.view.read (Elt F) f4) (4 * (i 2).val + 3) := fun inb => kRead f4 inb (off9_eq i 3)
    have v0 : ∀ inb, View.readAt (Elt F) arg5.view (Rect.unit (s := S1x1x32x128x256) (k0_off10 i 0#32) S1x1x1x128x256.size inb).toLoadRect f5 = vBlk (arg5.view.read (Elt F) f5) (4 * (i 2).val) := fun inb => vRead f5 inb (off10_eq i 0)
    have v1 : ∀ inb, View.readAt (Elt F) arg5.view (Rect.unit (s := S1x1x32x128x256) (k0_off10 i 1#32) S1x1x1x128x256.size inb).toLoadRect f5 = vBlk (arg5.view.read (Elt F) f5) (4 * (i 2).val + 1) := fun inb => vRead f5 inb (off10_eq i 1)
    have v2 : ∀ inb, View.readAt (Elt F) arg5.view (Rect.unit (s := S1x1x32x128x256) (k0_off10 i 2#32) S1x1x1x128x256.size inb).toLoadRect f5 = vBlk (arg5.view.read (Elt F) f5) (4 * (i 2).val + 2) := fun inb => vRead f5 inb (off10_eq i 2)
    have v3 : ∀ inb, View.readAt (Elt F) arg5.view (Rect.unit (s := S1x1x32x128x256) (k0_off10 i 3#32) S1x1x1x128x256.size inb).toLoadRect f5 = vBlk (arg5.view.read (Elt F) f5) (4 * (i 2).val + 3) := fun inb => vRead f5 inb (off10_eq i 3)
    have hq : body_run.sl.r arg3 f3 = k0_pay26 (arg3.view.read (Elt F) f3) := by
      unfold body_run.sl.r
      rw [View.readAt_full]
    have hm : body_run.sl.r_1 (F := F) = msk := rfl
    generalize arg3.view.read (Elt F) f3 = x0 at *
    generalize hx1 : arg4.view.read (Elt F) f4 = x1 at *
    generalize hx2 : arg5.view.read (Elt F) f5 = x2 at *
    generalize hb : 4 * (i 2).val = b at *
    have a1 : arg7.view.read (Elt F) (arg7.view.writes (Elt F) arg7.view.junk (body_run.sl.H7_2 i arg3 arg4 arg5 arg7 f3 f4 f5 g7)) = acc1 (k0_pay26 x0) (kBlk x1 b) (vBlk x2 b) (stAt (k0_pay26 x0) x1 x2 b).1 := by
      unfold body_run.sl.H7_2 body_run.sl.r_2 body_run.sl.v129
      rw [writeCols, writeCols, readCols, readCols, h7, hq, k0, v0]
      exact setCols_cover _ _ _ _
    have a2 : arg7.view.read (Elt F) (arg7.view.writes (Elt F) arg7.view.junk (body_run.sl.H7_4 i arg3 arg4 arg5 arg7 f3 f4 f5 g7)) = acc2 (k0_pay26 x0) (kBlk x1 (b + 1)) (vBlk x2 (b + 1)) (acc1 (k0_pay26 x0) (kBlk x1 b) (vBlk x2 b) (stAt (k0_pay26 x0) x1 x2 b).1) := by
      unfold body_run.sl.H7_4 body_run.sl.v173 View.readCov body_run.sl.H7_3 body_run.sl.v167 View.readCov body_run.sl.r_4 body_run.sl.r_5
      rw [readCols, readCols, writeCols, writeCols, a1, hq, k1, v1]
      rfl
    have a3 : arg7.view.read (Elt F) (arg7.view.writes (Elt F) arg7.view.junk (body_run.sl.H7_6 i arg3 arg4 arg5 arg7 f3 f4 f5 g7)) = acc3 (k0_pay26 x0) (kBlk x1 (b + 2)) (vBlk x2 (b + 2)) (acc2 (k0_pay26 x0) (kBlk x1 (b + 1)) (vBlk x2 (b + 1)) (acc1 (k0_pay26 x0) (kBlk x1 b) (vBlk x2 b) (stAt (k0_pay26 x0) x1 x2 b).1)) := by
      unfold body_run.sl.H7_6 body_run.sl.v219 View.readCov body_run.sl.H7_5 body_run.sl.v213 View.readCov body_run.sl.r_7
      rw [readCols, readCols, writeCols, writeCols, a2, hq, k2, v2]
      rfl
    have a4 : arg7.view.read (Elt F) (arg7.view.writes (Elt F) arg7.view.junk (body_run.sl.H7_8 i arg3 arg4 arg5 arg7 f3 f4 f5 g7)) = acc4 (k0_pay26 x0) (kBlk x1 (b + 3)) (vBlk x2 (b + 3)) (acc3 (k0_pay26 x0) (kBlk x1 (b + 2)) (vBlk x2 (b + 2)) (acc2 (k0_pay26 x0) (kBlk x1 (b + 1)) (vBlk x2 (b + 1)) (acc1 (k0_pay26 x0) (kBlk x1 b) (vBlk x2 b) (stAt (k0_pay26 x0) x1 x2 b).1))) := by
      unfold body_run.sl.H7_8 body_run.sl.r_13 body_run.sl.v263 View.readCov body_run.sl.H7_7 body_run.sl.v257 View.readCov
      rw [readCols, readCols, writeCols, writeCols, a3, hq, k3, v3]
      rfl
    have e1 : body_run.sl.v280 i arg3 arg4 arg5 arg7 f3 f4 f5 g7 = _ := (View.readAt_full arg7.view _ _).trans a4
    rw [View.read_writes_full, e1]
    unfold body_run.sl.r_11 body_run.sl.r_12 body_run.sl.r_8 body_run.sl.r_9 body_run.sl.r_10 body_run.sl.r_6 body_run.sl.r_7 body_run.sl.r_3 body_run.sl.r_4 body_run.sl.r_5 body_run.sl.r_2
    rw [hq, hm, k0, k1, k2, k3]
    unfold outBlock
    rw [hb]
    rfl
  isplitl [H7]
  · iexists _; iexact H7
  · iexists _; iexact H8

/-! ## The run -/

variable (m : (ℓ : Loc nD τ sig) → Buf (Elt F) ℓ) (ρ : Dev nD → PrngReg)

/-- What grid point `t` leaves in its output block. -/
def outAt (c : Dev nD) (t : Fin cfg0.N) : FVec F S1x1024x128 .bf16 := outBlock (grid0.coords t) (iblk m c 0 t) (iblk m c 1 t) (iblk m c 2 t)

/-- What each window's staging buffer holds after the body. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d

/-- What the body is entered with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
/-- What the body is left with at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- What the body keeps between points: its two scratch buffers at anything, and the random-number state. -/
theorem kept_eq (c : Dev nD) : (Pipeline.ΦA spec0 c : sProp 𝕄)
    = iprop(((∃ f : BufTy.Contents (Elt F) (Memref.whole cc0_scratch0).view.ty, ((Memref.whole cc0_scratch0).view.loc (c : Thread nD τ) ↦[(Memref.whole cc0_scratch0).view.set]{fullShare} f))
      ∗ (∃ f : BufTy.Contents (Elt F) (Memref.whole cc0_scratch1).view.ty, ((Memref.whole cc0_scratch1).view.loc (c : Thread nD τ) ↦[(Memref.whole cc0_scratch1).view.set]{fullShare} f))) ∗ ∃ r, prngReg c r) := by
  unfold Pipeline.ΦA
  rw [scopedRest0_eq]
  rw [(Memref.isWhole_whole cc0_scratch0).set_eq_univ, (Memref.isWhole_whole cc0_scratch1).set_eq_univ]

set_option backward.isDefEq.respectTransparency.types false in
/-- The body at point `t`. -/
theorem sound (c : Dev nD) (t : Fin cfg0.N) :
    bodyPre m c t ⊢ wp Idealize.ShloMosaic.frame (wpE (defs₀ (F := F)) Variants.none (c : Thread nD τ) none) Set.univ (bodyAt0 t) (fun _ => bodyPost m c t) := by
  unfold bodyPre bodyPost
  simp only [before_0, before_1, before_2]
  rw [show (dats m 0 c).Φ t.succ = (dats m 0 c).Φ t.castSucc from rfl, show (dats m 0 c).owesAt () t.succ = (dats m 0 c).owesAt () t.castSucc from rfl, after_0, after_1, after_2, after_3]
  rw [show (dats m 0 c).Φ t.castSucc = Pipeline.ΦA spec0 c from rfl, kept_eq]
  unfold owns
  iintro ⟨⟨⟨⟨%f7, H7⟩, ⟨%f8, H8⟩⟩, Hp⟩, Ho, ⟨%d0, ⟨%f3, %h3, H3⟩⟩, ⟨%d1, ⟨%f4, %h4, H4⟩⟩, ⟨%d2, ⟨%f5, %h5, H5⟩⟩, ⟨%d3, ⟨%f6, %h6, H6⟩⟩⟩
  iapply (wp_wand_r Idealize.ShloMosaic.frame (wpE (defs₀ (F := F)) Variants.none (c : Thread nD τ) none) Set.univ)
  isplitl [H3 H4 H5 H6 H7 H8]
  · iapply (body_run c (grid0.coords t) _ _ _ _ _ _ _ _ _ _ _ _ f3 f4 f5 f6 f7 f8)
    isplitl [H3]; · iexact H3
    isplitl [H4]; · iexact H4
    isplitl [H5]; · iexact H5
    isplitl [H6]; · iexact H6
    isplitl [H7]; · iexact H7
    iexact H8
  · iintro %y ⟨H3, H4, H5, ⟨%g6, H6, %h6'⟩, H7, H8⟩
    isplitl [H7 H8 Hp]
    · isplitl [H7 H8]
      · isplitl [H7]; · iexact H7
        iexact H8
      · iexact Hp
    isplitl [Ho]; · iexact Ho
    isplitl [H3]
    · iexists f3; isplitr; · ipureintro; exact h3
      iexact H3
    isplitl [H4]
    · iexists f4; isplitr; · ipureintro; exact h4
      iexact H4
    isplitl [H5]
    · iexists f5; isplitr; · ipureintro; exact h5
      iexact H5
    · iexists g6; isplitr
      · ipureintro
        rw [h6', h3, h4, h5]
        rfl
      · iexact H6

theorem defs₀_row (t : Fin cfg0.N) : defs₀ (F := F) .tc cfg0.body (cfg0.bodyArgs t (cfg0.slots t)) = bodyAt0 t := by
  unfold defs₀
  rw [Defs.onTc_tc]

theorem body_obligation (c : Dev nD) : BodyObligation (dats m 0 c) (defs₀ (F := F)) Variants.none () Set.univ := fun t => by
  rw [bigSep_W0, bigSep_W0, defs₀_row]
  exact triple_restated (sound m c t) rfl .rfl fun _ => .rfl

set_option backward.isDefEq.respectTransparency.types false in
/-- The whole program runs, every array ends as the points leave it, and every semaphore counter ends at zero. -/
theorem run_main : θ_run defs (onTc (τ := τ) (main (F := F))) (s₀ m ρ) (fun r => Pipeline.FramePost cfgs (dats m) 0 (V m) r ∧ r.2.sem = fun _ => 0) :=
  Pipeline.θ_run_frame cfgs (dats m) 0 launch0 defs₀ Variants.none m ρ main
    (fun c => (body_obligation m c).loose) (fun c w => by fin_cases w <;> rfl) (fun c t => by dsimp only [dats]) (V m) (hmain m Variants.none)
    (fun c w => A_eq m c w) (fun c t => by dsimp only [dats]) (Q' := _)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_with_sems (Gen.frame_of m ρ (dats m) (A_eq m)) (run_main m ρ)

end Cert.KernelIdeal.Att
end
-- ==== Proof.Mla.Arrays.lean ====
/-
  The arrays the host lays out for the attention call, entry by entry in the four arguments.
-/
module

public import proofs.«01_k».proof.Proof.Mla.Run
public import Idealize.ShloMosaic.Lib.Pointwise

@[expose] public section

set_option maxRecDepth 16384

noncomputable section

namespace Cert.KernelIdeal.Att

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (c : Dev nD)

/-- The four arguments the run starts from: queries, keys, values, and the shift. -/
abbrev argQ : S2x8192x16x96.Idx → EReal := m ((c : Thread nD τ).loc main_arg0)
abbrev argK : S2x8192x16x96.Idx → EReal := m ((c : Thread nD τ).loc main_arg1)
abbrev argV : S2x8192x16x64.Idx → EReal := m ((c : Thread nD τ).loc main_arg2)
abbrev argS : S1.Idx → EReal := m ((c : Thread nD τ).loc main_arg3)

/-! ## The arrays the host lays out -/

/-- The values, two heads to a row of 128 channels, the positions last and in chunks of 256. -/
theorem vArr (b : Fin 2) (pr : Fin 8) (n : Fin 32) (dd : Fin 128) (t : Fin 256) :
    (V m c main_v20 : S2x8x32x128x256.Idx → EReal) (ix5 b pr n dd t)
      = argV m c (ix4 b (⟨n.val * 256 + t.val, by omega⟩ : Fin 8192) (⟨pr.val * 2 + dd.val / 64, by omega⟩ : Fin 16) (⟨dd.val % 64, by omega⟩ : Fin 64)) := by
  unfold V
  after_results_simp
  pointwise []

/-- The queries, two heads to a row of 256 channels: 96 of the head's own, scaled; the shift; and 31 zeros. -/
theorem qArr (b : Fin 2) (pr : Fin 8) (s : Fin 8192) (ch : Fin 256) :
    (V m c main_v14 : S2x8x8192x256.Idx → EReal) (ix4 b pr s ch)
      = if h : ch.val % 128 < 96 then
          Ideal.div (argQ m c (ix4 b s (⟨pr.val * 2 + ch.val / 128, by omega⟩ : Fin 16) (⟨ch.val % 128, h⟩ : Fin 96)) * Ideal.ofBits .f32 0x3DD105EC#32) (Ideal.log (Ideal.ofBits .f32 0x40000000#32))
        else if ch.val % 128 = 96 then argS m c (ix1 0) else 0 := by
  unfold V
  after_results_simp
  pointwise []
  by_cases h : ch.val % 128 < 96
  · rw [dif_pos h, dif_pos h]
    after_results_simp
    pointwise []
  · rw [dif_neg h, dif_neg h]
    by_cases h' : ch.val % 128 - 96 < 1
    · rw [dif_pos h', if_pos (show ch.val % 128 = 96 by omega)]
      after_results_simp
      pointwise []
    · rw [dif_neg h', if_neg (show ¬ch.val % 128 = 96 by omega)]
      after_results_simp
      pointwise []

/-- The keys in the same channels: 96 of the head's own; a one, which meets the shift; and 31 zeros. -/
theorem kArr (b : Fin 2) (pr : Fin 8) (s : Fin 8192) (ch : Fin 256) :
    (V m c main_v17 : S2x8x8192x256.Idx → EReal) (ix4 b pr s ch)
      = if h : ch.val % 128 < 96 then
          argK m c (ix4 b s (⟨pr.val * 2 + ch.val / 128, by omega⟩ : Fin 16) (⟨ch.val % 128, h⟩ : Fin 96))
        else if ch.val % 128 = 96 then 1 else 0 := by
  unfold V
  after_results_simp
  pointwise []
  by_cases h : ch.val % 128 < 96
  · rw [dif_pos h, dif_pos h]
    after_results_simp
  · rw [dif_neg h, dif_neg h]
    by_cases h' : ch.val % 128 - 96 < 1
    · rw [dif_pos h', if_pos (show ch.val % 128 = 96 by omega)]
      after_results_simp
      pointwise []
    · rw [dif_neg h', if_neg (show ¬ch.val % 128 = 96 by omega)]
      after_results_simp
      pointwise []

end Cert.KernelIdeal.Att

end
-- ==== Proof.Mla.Blocks.lean ====
/-
  The part of each array that a grid point's body is given.
-/
module

public import proofs.«01_k».proof.Proof.Mla.Run
public import Idealize.ShloMosaic.Lib.Pointwise
public import Idealize.ShloMosaic.Lib.Pipeline.ValueKit.Geometry

@[expose] public section

set_option maxRecDepth 16384

noncomputable section

namespace Cert.KernelIdeal.Att

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (c : Dev nD)

/-! ## The blocks of one grid point -/

theorem index_0 (i : grid0.Coords) : cc0_transform_0 i = ![(i 0).val, (i 1).val, (i 2).val, 0] := by
  have h0 : (i 0).val < 2 := (i 0).isLt
  have h1 : (i 1).val < 8 := (i 1).isLt
  have h2 : (i 2).val < 8 := (i 2).isLt
  funext a
  fin_cases a
  · show (BitVec.ofNat 32 (i 0).val).toNat = (i 0).val
    rw [BitVec.toNat_ofNat]
    omega
  · show (BitVec.ofNat 32 (i 1).val).toNat = (i 1).val
    rw [BitVec.toNat_ofNat]
    omega
  · show (BitVec.ofNat 32 (i 2).val).toNat = (i 2).val
    rw [BitVec.toNat_ofNat]
    omega
  · rfl

theorem index_1 (i : grid0.Coords) : cc0_transform_1 i = ![(i 0).val, (i 1).val, 0, 0] := by
  funext a
  fin_cases a
  · exact congrFun (index_0 i) 0
  · exact congrFun (index_0 i) 1
  · rfl
  · rfl

theorem index_2 (i : grid0.Coords) : cc0_transform_2 i = ![(i 0).val, (i 1).val, 0, 0, 0] := by
  funext a
  fin_cases a
  · exact congrFun (index_0 i) 0
  · exact congrFun (index_0 i) 1
  · rfl
  · rfl
  · rfl

theorem index_3 (i : grid0.Coords) : cc0_transform_3 i = ![(i 0).val, (i 2).val, (i 1).val] := by
  funext a
  fin_cases a
  · exact congrFun (index_0 i) 0
  · exact congrFun (index_0 i) 2
  · exact congrFun (index_0 i) 1

/-- The batch, the pair of heads and the block of queries of a grid point. -/
abbrev bAt (t : Fin cfg0.N) : Fin 2 := grid0.coords t 0
abbrev prAt (t : Fin cfg0.N) : Fin 8 := grid0.coords t 1
abbrev qbAt (t : Fin cfg0.N) : Fin 8 := grid0.coords t 2

theorem iblk_0 (t : Fin cfg0.N) (r : Fin 1024) (ch : Fin 256) :
    (iblk m c 0 t : S1x1x1024x256.Idx → EReal) (ix4 0 0 r ch)
      = (V m c main_v14 : S2x8x8192x256.Idx → EReal) (ix4 (bAt t) (prAt t) (⟨(qbAt t).val * 1024 + r.val, by have := (qbAt t).isLt; omega⟩ : Fin 8192) ch) := by
  have e : win0_0.index t = ![(bAt t).val, (prAt t).val, (qbAt t).val, 0] := index_0 (grid0.coords t)
  have h : (win0_0.blk t).view.emb (ix4 0 0 r ch) = ix4 (bAt t) (prAt t) (⟨(qbAt t).val * 1024 + r.val, by have := (qbAt t).isLt; omega⟩ : Fin 8192) ch := by
    refine funext fun a => Fin.ext ?_
    match a with
    | ⟨0, _⟩ => exact (win0_0.rect_emb_val t _ 0).trans (by rw [e]; exact (Nat.add_zero _).trans (Nat.mul_one _))
    | ⟨1, _⟩ => exact (win0_0.rect_emb_val t _ 1).trans (by rw [e]; exact (Nat.add_zero _).trans (Nat.mul_one _))
    | ⟨2, _⟩ => exact (win0_0.rect_emb_val t _ 2).trans (by rw [e]; rfl)
    | ⟨3, _⟩ => exact win0_0.rect_emb_val_of_index_zero t 3 (congrFun e 3) _
  unfold iblk
  rw [View.read_apply]
  generalize V m c = W
  exact eq_of_heq ((cast_heq _ _).trans (heq_of_eq (congrArg (W main_v14) h)))

theorem iblk_1 (t : Fin cfg0.N) (p : Fin 8192) (ch : Fin 256) :
    (iblk m c 1 t : S1x1x8192x256.Idx → EReal) (ix4 0 0 p ch)
      = (V m c main_v17 : S2x8x8192x256.Idx → EReal) (ix4 (bAt t) (prAt t) p ch) := by
  have e : win0_1.index t = ![(bAt t).val, (prAt t).val, 0, 0] := index_1 (grid0.coords t)
  have h : (win0_1.blk t).view.emb (ix4 0 0 p ch) = ix4 (bAt t) (prAt t) p ch := by
    refine funext fun a => Fin.ext ?_
    match a with
    | ⟨0, _⟩ => exact (win0_1.rect_emb_val t _ 0).trans (by rw [e]; exact (Nat.add_zero _).trans (Nat.mul_one _))
    | ⟨1, _⟩ => exact (win0_1.rect_emb_val t _ 1).trans (by rw [e]; exact (Nat.add_zero _).trans (Nat.mul_one _))
    | ⟨2, _⟩ => exact win0_1.rect_emb_val_of_index_zero t 2 (congrFun e 2) _
    | ⟨3, _⟩ => exact win0_1.rect_emb_val_of_index_zero t 3 (congrFun e 3) _
  unfold iblk
  rw [View.read_apply]
  generalize V m c = W
  exact eq_of_heq ((cast_heq _ _).trans (heq_of_eq (congrArg (W main_v17) h)))

theorem iblk_2 (t : Fin cfg0.N) (n : Fin 32) (dd : Fin 128) (s : Fin 256) :
    (iblk m c 2 t : S1x1x32x128x256.Idx → EReal) (ix5 0 0 n dd s)
      = (V m c main_v20 : S2x8x32x128x256.Idx → EReal) (ix5 (bAt t) (prAt t) n dd s) := by
  have e : win0_2.index t = ![(bAt t).val, (prAt t).val, 0, 0, 0] := index_2 (grid0.coords t)
  have h : (win0_2.blk t).view.emb (ix5 0 0 n dd s) = ix5 (bAt t) (prAt t) n dd s := by
    refine funext fun a => Fin.ext ?_
    match a with
    | ⟨0, _⟩ => exact (win0_2.rect_emb_val t _ 0).trans (by rw [e]; exact (Nat.add_zero _).trans (Nat.mul_one _))
    | ⟨1, _⟩ => exact (win0_2.rect_emb_val t _ 1).trans (by rw [e]; exact (Nat.add_zero _).trans (Nat.mul_one _))
    | ⟨2, _⟩ => exact win0_2.rect_emb_val_of_index_zero t 2 (congrFun e 2) _
    | ⟨3, _⟩ => exact win0_2.rect_emb_val_of_index_zero t 3 (congrFun e 3) _
    | ⟨4, _⟩ => exact win0_2.rect_emb_val_of_index_zero t 4 (congrFun e 4) _
  unfold iblk
  rw [View.read_apply]
  generalize V m c = W
  exact eq_of_heq ((cast_heq _ _).trans (heq_of_eq (congrArg (W main_v20) h)))

end Cert.KernelIdeal.Att

end
-- ==== Proof.Mla.Block.lean ====
module

public import proofs.«01_k».proof.Proof.Mla.Run
public import Idealize.ShloMosaic.Lib.Pointwise

@[expose] public section

set_option maxRecDepth 16384
set_option maxHeartbeats 4000000

noncomputable section

namespace Cert.KernelIdeal.Att

open Cert.KernelIdeal Cert.KernelIdeal.Gen
open Idealize.ShloMosaic
open Idealize.ShloMosaic.VecWindow (window put)

/-! ## One edge block, entry by entry, over the extended reals -/

/-- The score of key `t` of a block against stacked query column `c`. -/
def score (q : FVec Ideal S256x2048 .bf16) (kb : FVec Ideal S1x1x256x256 .bf16) (t : Fin 256) (c : Fin 2048) : EReal :=
  ∑ ch : Fin 256, kb (ix4 0 0 t ch) * q (ix2 ch c)

/-- What the diagonal mask adds: nothing to keys of the query's own chunk of 64 or of an earlier one, minus infinity to later ones. -/
def maskAt (t r : ℕ) : EReal := if t < (r / 64 + 1) * 64 then 0 else ⊥

/-- The weight of key `t` of edge block `j` for stacked query column `c`. -/
def wt (q : FVec Ideal S256x2048 .bf16) (kb : FVec Ideal S1x1x256x256 .bf16) (j : ℕ) (t : Fin 256) (c : Fin 2048) : EReal :=
  if c.val % 1024 / 256 < j then 0
  else Ideal.exp2 (score q kb t c + if c.val % 1024 / 256 = j then maskAt t.val (c.val % 256) else 0)

theorem wt_out {q : FVec Ideal S256x2048 .bf16} {kb : FVec Ideal S1x1x256x256 .bf16} {j : ℕ} {t : Fin 256} {c : Fin 2048} (h : c.val % 1024 / 256 < j) :
    wt q kb j t c = 0 := by
  unfold wt
  rw [if_pos h]
theorem wt_edge {q : FVec Ideal S256x2048 .bf16} {kb : FVec Ideal S1x1x256x256 .bf16} {j : ℕ} {t : Fin 256} {c : Fin 2048} (h : c.val % 1024 / 256 = j) {r : ℕ} (hr : r = c.val % 256) :
    wt q kb j t c = Ideal.exp2 (score q kb t c + maskAt t.val r) := by
  unfold wt
  rw [if_neg (by omega), if_pos h, hr]
theorem wt_in {q : FVec Ideal S256x2048 .bf16} {kb : FVec Ideal S1x1x256x256 .bf16} {j : ℕ} {t : Fin 256} {c : Fin 2048} (h : j < c.val % 1024 / 256) :
    wt q kb j t c = Ideal.exp2 (score q kb t c + 0) := by
  unfold wt
  rw [if_neg (by omega), if_neg (by omega)]

/-- The chunk bound that the mask compares with, as a word. -/
theorem bound_word : ∀ c : Fin 256, IntOp.muli (IntOp.addi (Scalar.select
      (IntOp.andi (IntOp.cmpi CmpIPredicate.ne
          (IntOp.subi (BitVec.setWidth 32 (IntOp.cmpi CmpIPredicate.sgt (BitVec.ofNat 32 c.val) 0#32)) (BitVec.setWidth 32 (IntOp.cmpi CmpIPredicate.slt (BitVec.ofNat 32 c.val) 0#32)))
          (Scalar.subi (Scalar.extui (Scalar.cmpi CmpIPredicate.sgt 64#32 0#32)) (Scalar.extui (Scalar.cmpi CmpIPredicate.slt 64#32 0#32))))
        (IntOp.cmpi CmpIPredicate.ne (IntOp.remsi ArithUnit.vector (BitVec.ofNat 32 c.val) 64#32) 0#32))
      (IntOp.subi (IntOp.divsi ArithUnit.vector (BitVec.ofNat 32 c.val) 64#32) 1#32)
      (IntOp.divsi ArithUnit.vector (BitVec.ofNat 32 c.val) 64#32)) 1#32) 64#32 = BitVec.ofNat 32 ((c.val / 64 + 1) * 64) := by
  decide

theorem slt_small {a b : ℕ} (ha : a < 2 ^ 31) (hb : b < 2 ^ 31) : IntOp.cmpi CmpIPredicate.slt (BitVec.ofNat 32 a) (BitVec.ofNat 32 b) = BitVec.ofBool (decide (a < b)) := by
  show BitVec.ofBool ((BitVec.ofNat 32 a).slt (BitVec.ofNat 32 b)) = _
  congr 1
  rw [BitVec.slt_eq_decide, BitVec.toInt_eq_toNat_of_lt (by rw [BitVec.toNat_ofNat]; omega), BitVec.toInt_eq_toNat_of_lt (by rw [BitVec.toNat_ofNat]; omega), BitVec.toNat_ofNat, BitVec.toNat_ofNat,
    Nat.mod_eq_of_lt (by omega), Nat.mod_eq_of_lt (by omega)]
  simp

theorem select_ofBool {α : Type} (p : Prop) [Decidable p] (x y : α) : Scalar.select (BitVec.ofBool (decide p)) x y = if p then x else y := by
  by_cases h : p
  · rw [if_pos h, decide_eq_true h]; rfl
  · rw [if_neg h, decide_eq_false h]; rfl

theorem msk_apply (t c : Fin 256) : (msk (F := Ideal)) (ix2 t c) = maskAt t.val c.val := by
  pointwise [msk, k0_pay40, k0_pay38, k0_pay39]
  rw [bound_word, slt_small (by omega) (by omega), select_ofBool]
  rfl

theorem setCols_hit (a : FVec Ideal S128x2048 .f32) {o N : ℕ} (w : FVec Ideal ⟨2, ![128, N]⟩ .f32) (d : Fin 128) (c : Fin 2048) (h : o ≤ c.val) (h' : c.val - o < N) :
    setCols (n := ![128, N]) a ![0, o] w (ix2 d c) = w (ix2 d ⟨c.val - o, h'⟩) := by
  unfold setCols put
  have hh : ∀ x, (![0, o] : Fin 2 → ℕ) x ≤ ((ix2 d c : S128x2048.Idx) x).val ∧ ((ix2 d c : S128x2048.Idx) x).val < (![0, o] : Fin 2 → ℕ) x + (![128, N] : Fin 2 → ℕ) x := by
    intro x
    fin_cases x
    · exact ⟨Nat.zero_le _, by show d.val < 0 + 128; omega⟩
    · exact ⟨h, by show c.val < o + N; omega⟩
  rw [dif_pos hh]
  refine congrArg w (funext fun x => Fin.ext ?_)
  fin_cases x <;> rfl
theorem setCols_miss (a : FVec Ideal S128x2048 .f32) {o N : ℕ} (w : FVec Ideal ⟨2, ![128, N]⟩ .f32) (d : Fin 128) (c : Fin 2048) (h : ¬(o ≤ c.val ∧ c.val - o < N)) :
    setCols (n := ![128, N]) a ![0, o] w (ix2 d c) = a (ix2 d c) := by
  unfold setCols put
  rw [dif_neg]
  intro hh
  have h1 : o ≤ c.val := (hh 1).1
  have h2 : c.val < o + N := (hh 1).2
  omega
theorem cols_apply (a : FVec Ideal S128x2048 .f32) {o N : ℕ} (inb) (d : Fin 128) (c : Fin N) (h : o + c.val < 2048) :
    cols (n := ![128, N]) a ![0, o] inb (ix2 d c) = a (ix2 d ⟨o + c.val, h⟩) := by
  unfold cols window
  refine congrArg a (funext fun x => Fin.ext ?_)
  fin_cases x
  · show 0 + 1 * d.val = d.val
    omega
  · show o + 1 * c.val = o + c.val
    omega

theorem pay51_apply (q : FVec Ideal S256x2048 .bf16) (kb : FVec Ideal S1x1x256x256 .bf16) (vb : FVec Ideal S1x1x1x128x256 .bf16) (x : FVec Ideal S128x768 .f32) (d : Fin 128) (c : Fin 768) (h : 1280 + c.val < 2048) :
    k0_pay51 (k0_pay46 q kb) (k0_pay47 msk) vb x (ix2 d c) = x (ix2 d c) + ∑ t : Fin 256, vb (ix5 0 0 0 d t) * wt q kb 1 t ⟨1280 + c.val, h⟩ := by
  unfold k0_pay51 k0_pay49 k0_pay48 k0_pay46 k0_pay47
  pointwise []
  refine congrArg _ (Finset.sum_congr rfl fun t _ => congrArg _ ?_)
  split_ifs with hc
  · rw [wt_edge (r := c.val) (by dsimp only; omega) (by dsimp only; omega), msk_apply]; rfl
  · rw [wt_in (by dsimp only; omega)]; rfl
theorem pay50_apply (q : FVec Ideal S256x2048 .bf16) (kb : FVec Ideal S1x1x256x256 .bf16) (vb : FVec Ideal S1x1x1x128x256 .bf16) (x : FVec Ideal S128x768 .f32) (d : Fin 128) (c : Fin 768) (h : 256 + c.val < 2048) :
    k0_pay50 (k0_pay46 q kb) (k0_pay47 msk) vb x (ix2 d c) = x (ix2 d c) + ∑ t : Fin 256, vb (ix5 0 0 0 d t) * wt q kb 1 t ⟨256 + c.val, h⟩ := by
  unfold k0_pay50 k0_pay49 k0_pay48 k0_pay46 k0_pay47
  pointwise []
  refine congrArg _ (Finset.sum_congr rfl fun t _ => congrArg _ ?_)
  split_ifs with hc
  · rw [wt_edge (r := c.val) (by dsimp only; omega) (by dsimp only; omega), msk_apply]; rfl
  · rw [wt_in (by dsimp only; omega)]; rfl
theorem acc2_apply (q : FVec Ideal S256x2048 .bf16) (kb : FVec Ideal S1x1x256x256 .bf16) (vb : FVec Ideal S1x1x1x128x256 .bf16) (a : FVec Ideal S128x2048 .f32) (d : Fin 128) (c : Fin 2048) :
    acc2 q kb vb a (ix2 d c) = a (ix2 d c) + ∑ t : Fin 256, vb (ix5 0 0 0 d t) * wt q kb 1 t c := by
  unfold acc2
  by_cases h1 : 1280 ≤ c.val
  · rw [setCols_hit (N := 768) (o := 1280) _ _ d c h1 (by omega), pay51_apply _ _ _ _ _ _ (by dsimp only; omega), cols_apply _ _ _ _ (by dsimp only; omega)]
    have e : (⟨1280 + (c.val - 1280), by omega⟩ : Fin 2048) = c := Fin.ext (by dsimp only; omega)
    simp only [e]
    rw [setCols_miss (N := 768) (o := 256) _ _ d c (by omega)]
  · rw [setCols_miss (N := 768) (o := 1280) _ _ d c (by omega)]
    by_cases h2 : 256 ≤ c.val ∧ c.val - 256 < 768
    · rw [setCols_hit (N := 768) (o := 256) _ _ d c h2.1 h2.2, pay50_apply _ _ _ _ _ _ (by dsimp only; omega), cols_apply _ _ _ _ (by dsimp only; omega)]
      have e : (⟨256 + (c.val - 256), by omega⟩ : Fin 2048) = c := Fin.ext (by dsimp only; omega)
      simp only [e]
    · rw [setCols_miss (N := 768) (o := 256) _ _ d c h2]
      rw [Finset.sum_eq_zero fun t _ => by rw [wt_out (by omega), mul_zero], add_zero]
theorem wt0_apply (q : FVec Ideal S256x2048 .bf16) (kb : FVec Ideal S1x1x256x256 .bf16) (t : Fin 256) (c : Fin 2048) : wt0 q kb (ix2 t c) = wt q kb 0 t c := by
  rw [wt0, k0_pay41, ← msk]
  pointwise []
  have e : ∀ h : ¬ c.val < 1024, (⟨1024 + (c.val - 1024), by omega⟩ : Fin 2048) = c := fun h => Fin.ext (by dsimp only; omega)
  by_cases h1 : c.val < 1024
  · by_cases h2 : c.val < 256
    · simp only [dif_pos h1, dif_pos h2]
      rw [wt_edge (r := c.val) (by omega) (by omega), msk_apply]; rfl
    · simp only [dif_pos h1, dif_neg h2]
      rw [wt_in (by omega)]; rfl
  · by_cases h2 : c.val - 1024 < 256
    · simp only [dif_neg h1, dif_pos h2, e h1]
      rw [wt_edge (r := c.val - 1024) (by omega) (by omega), msk_apply]; rfl
    · simp only [dif_neg h1, dif_neg h2, e h1]
      rw [wt_in (by omega)]; rfl

theorem pay44_apply (q : FVec Ideal S256x2048 .bf16) (kb : FVec Ideal S1x1x256x256 .bf16) (vb : FVec Ideal S1x1x1x128x256 .bf16) (x : FVec Ideal S128x1024 .f32) (d : Fin 128) (c : Fin 1024) (h : 1024 + c.val < 2048) :
    k0_pay44 (wt0 q kb) vb x (ix2 d c) = x (ix2 d c) + ∑ t : Fin 256, vb (ix5 0 0 0 d t) * wt q kb 0 t ⟨1024 + c.val, h⟩ := by
  unfold k0_pay44 k0_pay42
  pointwise []
  refine congrArg _ (Finset.sum_congr rfl fun t _ => congrArg _ ?_)
  exact (wt0_apply q kb t _).trans (congrArg (wt q kb 0 t) (Fin.ext (by simp)))
theorem pay43_apply (q : FVec Ideal S256x2048 .bf16) (kb : FVec Ideal S1x1x256x256 .bf16) (vb : FVec Ideal S1x1x1x128x256 .bf16) (x : FVec Ideal S128x1024 .f32) (d : Fin 128) (c : Fin 1024) (h : 0 + c.val < 2048) :
    k0_pay43 (wt0 q kb) vb x (ix2 d c) = x (ix2 d c) + ∑ t : Fin 256, vb (ix5 0 0 0 d t) * wt q kb 0 t ⟨0 + c.val, h⟩ := by
  unfold k0_pay43 k0_pay42
  pointwise []
  refine congrArg _ (Finset.sum_congr rfl fun t _ => congrArg _ ?_)
  exact (wt0_apply q kb t _).trans (congrArg (wt q kb 0 t) (Fin.ext (by simp)))
theorem acc1_apply (q : FVec Ideal S256x2048 .bf16) (kb : FVec Ideal S1x1x256x256 .bf16) (vb : FVec Ideal S1x1x1x128x256 .bf16) (a : FVec Ideal S128x2048 .f32) (d : Fin 128) (c : Fin 2048) :
    acc1 q kb vb a (ix2 d c) = a (ix2 d c) + ∑ t : Fin 256, vb (ix5 0 0 0 d t) * wt q kb 0 t c := by
  unfold acc1
  by_cases h1 : 1024 ≤ c.val
  · rw [setCols_hit (N := 1024) (o := 1024) _ _ d c h1 (by omega), pay44_apply _ _ _ _ _ _ (by dsimp only; omega), cols_apply _ _ _ _ (by dsimp only; omega)]
    have e : (⟨1024 + (c.val - 1024), by omega⟩ : Fin 2048) = c := Fin.ext (by dsimp only; omega)
    simp only [e]
  · rw [setCols_miss (N := 1024) (o := 1024) _ _ d c (by omega)]
    by_cases h2 : 0 ≤ c.val ∧ c.val - 0 < 1024
    · rw [setCols_hit (N := 1024) (o := 0) _ _ d c h2.1 h2.2, pay43_apply _ _ _ _ _ _ (by dsimp only; omega), cols_apply _ _ _ _ (by dsimp only; omega)]
      have e : (⟨0 + (c.val - 0), by omega⟩ : Fin 2048) = c := Fin.ext (by dsimp only; omega)
      simp only [e]
    · omega

theorem pay57_apply (q : FVec Ideal S256x2048 .bf16) (kb : FVec Ideal S1x1x256x256 .bf16) (vb : FVec Ideal S1x1x1x128x256 .bf16) (x : FVec Ideal S128x512 .f32) (d : Fin 128) (c : Fin 512) (h : 1536 + c.val < 2048) :
    k0_pay57 msk (k0_pay53 q) kb vb x (ix2 d c) = x (ix2 d c) + ∑ t : Fin 256, vb (ix5 0 0 0 d t) * wt q kb 2 t ⟨1536 + c.val, h⟩ := by
  unfold k0_pay57 k0_pay55 k0_pay54 k0_pay53
  pointwise []
  refine congrArg _ (Finset.sum_congr rfl fun t _ => congrArg _ ?_)
  split_ifs with hc
  · rw [wt_edge (r := c.val) (by dsimp only; omega) (by dsimp only; omega), msk_apply]; rfl
  · rw [wt_in (by dsimp only; omega)]; rfl
theorem pay56_apply (q : FVec Ideal S256x2048 .bf16) (kb : FVec Ideal S1x1x256x256 .bf16) (vb : FVec Ideal S1x1x1x128x256 .bf16) (x : FVec Ideal S128x512 .f32) (d : Fin 128) (c : Fin 512) (h : 512 + c.val < 2048) :
    k0_pay56 msk (k0_pay53 q) kb vb x (ix2 d c) = x (ix2 d c) + ∑ t : Fin 256, vb (ix5 0 0 0 d t) * wt q kb 2 t ⟨512 + c.val, h⟩ := by
  unfold k0_pay56 k0_pay55 k0_pay54 k0_pay53
  pointwise []
  refine congrArg _ (Finset.sum_congr rfl fun t _ => congrArg _ ?_)
  split_ifs with hc
  · rw [wt_edge (r := c.val) (by dsimp only; omega) (by dsimp only; omega), msk_apply]; rfl
  · rw [wt_in (by dsimp only; omega)]; rfl
theorem acc3_apply (q : FVec Ideal S256x2048 .bf16) (kb : FVec Ideal S1x1x256x256 .bf16) (vb : FVec Ideal S1x1x1x128x256 .bf16) (a : FVec Ideal S128x2048 .f32) (d : Fin 128) (c : Fin 2048) :
    acc3 q kb vb a (ix2 d c) = a (ix2 d c) + ∑ t : Fin 256, vb (ix5 0 0 0 d t) * wt q kb 2 t c := by
  unfold acc3
  by_cases h1 : 1536 ≤ c.val
  · rw [setCols_hit (N := 512) (o := 1536) _ _ d c h1 (by omega), pay57_apply _ _ _ _ _ _ (by dsimp only; omega), cols_apply _ _ _ _ (by dsimp only; omega)]
    have e : (⟨1536 + (c.val - 1536), by omega⟩ : Fin 2048) = c := Fin.ext (by dsimp only; omega)
    simp only [e]
    rw [setCols_miss (N := 512) (o := 512) _ _ d c (by omega)]
  · rw [setCols_miss (N := 512) (o := 1536) _ _ d c (by omega)]
    by_cases h2 : 512 ≤ c.val ∧ c.val - 512 < 512
    · rw [setCols_hit (N := 512) (o := 512) _ _ d c h2.1 h2.2, pay56_apply _ _ _ _ _ _ (by dsimp only; omega), cols_apply _ _ _ _ (by dsimp only; omega)]
      have e : (⟨512 + (c.val - 512), by omega⟩ : Fin 2048) = c := Fin.ext (by dsimp only; omega)
      simp only [e]
    · rw [setCols_miss (N := 512) (o := 512) _ _ d c h2]
      rw [Finset.sum_eq_zero fun t _ => by rw [wt_out (by omega), mul_zero], add_zero]

theorem pay66_apply (q : FVec Ideal S256x2048 .bf16) (kb : FVec Ideal S1x1x256x256 .bf16) (vb : FVec Ideal S1x1x1x128x256 .bf16) (x : FVec Ideal S128x256 .f32) (d : Fin 128) (c : Fin 256) (h : 1792 + c.val < 2048) :
    k0_pay66 q msk kb vb x (ix2 d c) = x (ix2 d c) + ∑ t : Fin 256, vb (ix5 0 0 0 d t) * wt q kb 3 t ⟨1792 + c.val, h⟩ := by
  unfold k0_pay66 k0_pay64 k0_pay63
  pointwise []
  refine congrArg _ (Finset.sum_congr rfl fun t _ => congrArg _ ?_)
  rw [wt_edge (r := c.val) (by dsimp only; omega) (by dsimp only; omega), msk_apply]; rfl
theorem pay65_apply (q : FVec Ideal S256x2048 .bf16) (kb : FVec Ideal S1x1x256x256 .bf16) (vb : FVec Ideal S1x1x1x128x256 .bf16) (x : FVec Ideal S128x256 .f32) (d : Fin 128) (c : Fin 256) (h : 768 + c.val < 2048) :
    k0_pay65 q msk kb vb x (ix2 d c) = x (ix2 d c) + ∑ t : Fin 256, vb (ix5 0 0 0 d t) * wt q kb 3 t ⟨768 + c.val, h⟩ := by
  unfold k0_pay65 k0_pay64 k0_pay63
  pointwise []
  refine congrArg _ (Finset.sum_congr rfl fun t _ => congrArg _ ?_)
  rw [wt_edge (r := c.val) (by dsimp only; omega) (by dsimp only; omega), msk_apply]; rfl
theorem acc4_apply (q : FVec Ideal S256x2048 .bf16) (kb : FVec Ideal S1x1x256x256 .bf16) (vb : FVec Ideal S1x1x1x128x256 .bf16) (a : FVec Ideal S128x2048 .f32) (d : Fin 128) (c : Fin 2048) :
    acc4 q kb vb a (ix2 d c) = a (ix2 d c) + ∑ t : Fin 256, vb (ix5 0 0 0 d t) * wt q kb 3 t c := by
  unfold acc4
  by_cases h1 : 1792 ≤ c.val
  · rw [setCols_hit (N := 256) (o := 1792) _ _ d c h1 (by omega), pay66_apply _ _ _ _ _ _ (by dsimp only; omega), cols_apply _ _ _ _ (by dsimp only; omega)]
    have e : (⟨1792 + (c.val - 1792), by omega⟩ : Fin 2048) = c := Fin.ext (by dsimp only; omega)
    simp only [e]
    rw [setCols_miss (N := 256) (o := 768) _ _ d c (by omega)]
  · rw [setCols_miss (N := 256) (o := 1792) _ _ d c (by omega)]
    by_cases h2 : 768 ≤ c.val ∧ c.val - 768 < 256
    · rw [setCols_hit (N := 256) (o := 768) _ _ d c h2.1 h2.2, pay65_apply _ _ _ _ _ _ (by dsimp only; omega), cols_apply _ _ _ _ (by dsimp only; omega)]
      have e : (⟨768 + (c.val - 768), by omega⟩ : Fin 2048) = c := Fin.ext (by dsimp only; omega)
      simp only [e]
    · rw [setCols_miss (N := 256) (o := 768) _ _ d c h2]
      rw [Finset.sum_eq_zero fun t _ => by rw [wt_out (by omega), mul_zero], add_zero]

theorem den1_apply (q : FVec Ideal S256x2048 .bf16) (kb : FVec Ideal S1x1x256x256 .bf16) (l : FVec Ideal S1x2048 .f32) (c : Fin 2048) :
    k0_pay45 l (wt0 q kb) (ix2 0 c) = l (ix2 0 c) + ∑ t : Fin 256, wt q kb 0 t c := by
  unfold k0_pay45
  pointwise []
  have e : ∀ h : ¬ c.val < 1024, (⟨1024 + (c.val - 1024), by omega⟩ : Fin 2048) = c := fun h => Fin.ext (by dsimp only; omega)
  by_cases h : c.val < 1024
  · simp only [dif_pos h]
    exact congrArg _ (Finset.sum_congr rfl fun t _ => wt0_apply q kb t c)
  · simp only [dif_neg h, e h]
    exact congrArg _ (Finset.sum_congr rfl fun t _ => wt0_apply q kb t c)
theorem den2_apply (q : FVec Ideal S256x2048 .bf16) (kb : FVec Ideal S1x1x256x256 .bf16) (l : FVec Ideal S1x2048 .f32) (c : Fin 2048) :
    k0_pay52 l (k0_pay46 q kb) (k0_pay47 msk) (ix2 0 c) = l (ix2 0 c) + ∑ t : Fin 256, wt q kb 1 t c := by
  unfold k0_pay52 k0_pay48 k0_pay46 k0_pay47
  pointwise []
  have z : c.val % 1024 / 256 < 1 → ∑ t : Fin 256, wt q kb 1 t c = 0 := fun h => Finset.sum_eq_zero fun t _ => wt_out h
  by_cases h1 : c.val < 256
  · simp only [dif_pos h1]
    rw [z (by omega), add_zero]
  · by_cases h2 : c.val - 256 < 768
    · have e : (⟨256 + (c.val - 256), by omega⟩ : Fin 2048) = c := Fin.ext (by dsimp only; omega)
      simp only [dif_neg h1, dif_pos h2, e]
      refine congrArg _ (Finset.sum_congr rfl fun t _ => ?_)
      by_cases h3 : c.val - 256 < 256
      · rw [dif_pos h3, wt_edge (r := c.val - 256) (by omega) (by omega), msk_apply]; rfl
      · rw [dif_neg h3, wt_in (by omega)]; rfl
    · by_cases h3 : c.val - 256 - 768 < 256
      · have e : (⟨1024 + (c.val - 256 - 768), by omega⟩ : Fin 2048) = c := Fin.ext (by dsimp only; omega)
        simp only [dif_neg h1, dif_neg h2, dif_pos h3, e]
        rw [z (by omega), add_zero]
      · have e : (⟨1280 + (c.val - 256 - 768 - 256), by omega⟩ : Fin 2048) = c := Fin.ext (by dsimp only; omega)
        simp only [dif_neg h1, dif_neg h2, dif_neg h3, e]
        refine congrArg _ (Finset.sum_congr rfl fun t _ => ?_)
        by_cases h4 : c.val - 256 - 768 - 256 < 256
        · rw [dif_pos h4, wt_edge (r := c.val - 256 - 768 - 256) (by omega) (by omega), msk_apply]; rfl
        · rw [dif_neg h4, wt_in (by omega)]; rfl
theorem den3_apply' (q : FVec Ideal S256x2048 .bf16) (kb : FVec Ideal S1x1x256x256 .bf16) (l : FVec Ideal S1x2048 .f32) (c : Fin 2048) :
    k0_pay62 l (k0_pay59 msk l (k0_pay53 q) kb) (k0_pay60 l) (k0_pay61 msk (k0_pay53 q) kb) (ix2 0 c) = l (ix2 0 c) + ∑ t : Fin 256, wt q kb 2 t c := by
  unfold k0_pay62 k0_pay59 k0_pay60 k0_pay61 k0_pay58 k0_pay54 k0_pay53
  pointwise []
  have z : c.val % 1024 / 256 < 2 → ∑ t : Fin 256, wt q kb 2 t c = 0 := fun h => Finset.sum_eq_zero fun t _ => wt_out h
  by_cases h1 : c.val < 512
  · simp only [dif_pos h1]
    rw [z (by omega), add_zero]
  · by_cases h2 : c.val - 512 < 512
    · have e : (⟨512 + (c.val - 512), by omega⟩ : Fin 2048) = c := Fin.ext (by dsimp only; omega)
      simp only [dif_neg h1, dif_pos h2, e]
      refine congrArg _ (Finset.sum_congr rfl fun t _ => ?_)
      by_cases h3 : c.val - 512 < 256
      · rw [dif_pos h3, wt_edge (r := c.val - 512) (by omega) (by omega), msk_apply]; rfl
      · rw [dif_neg h3, wt_in (by omega)]; rfl
    · by_cases h3 : c.val - 512 - 512 < 512
      · have e : (⟨1024 + (c.val - 512 - 512), by omega⟩ : Fin 2048) = c := Fin.ext (by dsimp only; omega)
        simp only [dif_neg h1, dif_neg h2, dif_pos h3, e]
        rw [z (by omega), add_zero]
      · have e : (⟨1536 + (c.val - 512 - 512 - 512), by omega⟩ : Fin 2048) = c := Fin.ext (by dsimp only; omega)
        simp only [dif_neg h1, dif_neg h2, dif_neg h3, e]
        refine congrArg _ (Finset.sum_congr rfl fun t _ => ?_)
        by_cases h4 : c.val - 512 - 512 - 512 < 256
        · rw [dif_pos h4, wt_edge (r := c.val - 512 - 512 - 512) (by omega) (by omega), msk_apply]; rfl
        · rw [dif_neg h4, wt_in (by omega)]; rfl

/-- The stacked column that holds query row `r` for output channel `dd`: the lower head's queries come first, the upper head's after them. -/
def col (r : Fin 1024) (dd : Fin 128) : Fin 2048 := ⟨dd.val / 64 * 1024 + r.val, by omega⟩

theorem out_apply (q : FVec Ideal S256x2048 .bf16) (kb : FVec Ideal S1x1x256x256 .bf16) (l : FVec Ideal S1x2048 .f32) (a : FVec Ideal S128x2048 .f32) (r : Fin 1024) (dd : Fin 128) :
    k0_pay1 l (k0_pay63 q msk kb) a (ix3 0 r dd) = Ideal.div (a (ix2 dd (col r dd))) (l (ix2 0 (col r dd)) + ∑ t : Fin 256, wt q kb 3 t (col r dd)) := by
  unfold k0_pay1 k0_pay63
  pointwise []
  have hv : (col r dd).val = dd.val / 64 * 1024 + r.val := rfl
  generalize col r dd = c at hv
  have z : c.val % 1024 / 256 < 3 → ∑ t : Fin 256, wt q kb 3 t c = 0 := fun h => Finset.sum_eq_zero fun t _ => wt_out h
  by_cases h : dd.val < 64
  · have e : (⟨r.val, by omega⟩ : Fin 2048) = c := Fin.ext (by dsimp only; omega)
    by_cases h1 : r.val < 768
    · simp only [dif_pos h, dif_pos h1, e]
      rw [z (by omega), add_zero]
    · have e' : (⟨768 + (r.val - 768), by omega⟩ : Fin 2048) = c := Fin.ext (by dsimp only; omega)
      simp only [dif_pos h, dif_neg h1, dif_pos (show r.val - 768 < 256 by omega), e, e']
      refine congrArg (fun w => Ideal.div _ (_ + w)) (Finset.sum_congr rfl fun t _ => ?_)
      rw [wt_edge (r := r.val - 768) (by omega) (by omega), msk_apply]; rfl
  · have e : (⟨1024 + r.val, by omega⟩ : Fin 2048) = c := Fin.ext (by dsimp only; omega)
    have ed : (⟨64 + (dd.val - 64), by omega⟩ : Fin 128) = dd := Fin.ext (by dsimp only; omega)
    by_cases h1 : r.val < 768
    · have e' : (⟨1024 + (1024 + r.val - 768 - 256), by omega⟩ : Fin 2048) = c := Fin.ext (by dsimp only; omega)
      simp only [dif_neg h, dif_neg (show ¬ 1024 + r.val < 768 by omega), dif_neg (show ¬ 1024 + r.val - 768 < 256 by omega), dif_pos (show 1024 + r.val - 768 - 256 < 768 by omega), e, e', ed]
      rw [z (by omega), add_zero]
    · have e' : (⟨1792 + (1024 + r.val - 768 - 256 - 768), by omega⟩ : Fin 2048) = c := Fin.ext (by dsimp only; omega)
      simp only [dif_neg h, dif_neg (show ¬ 1024 + r.val < 768 by omega), dif_neg (show ¬ 1024 + r.val - 768 < 256 by omega), dif_neg (show ¬ 1024 + r.val - 768 - 256 < 768 by omega), e, e', ed]
      refine congrArg (fun w => Ideal.div _ (_ + w)) (Finset.sum_congr rfl fun t _ => ?_)
      rw [wt_edge (r := 1024 + r.val - 768 - 256 - 768) (by omega) (by omega), msk_apply]; rfl

/-- The stacked queries: a column of the lower half holds the low 128 channels of its row and zeros, one of the upper half the other 128. -/
theorem q_apply (x : FVec Ideal S1x1x1024x256 .bf16) (ch : Fin 256) (c : Fin 2048) (r : Fin 1024) (hr : r.val = c.val % 1024) :
    k0_pay26 (F := Ideal) x (ix2 ch c) = if ch.val / 128 = c.val / 1024 then x (ix4 0 0 r ch) else 0 := by
  unfold k0_pay26
  pointwise []
  have hc := slt_small (a := ch.val) (b := 128) (by omega) (by omega)
  have sp : ch.val < 128 → ∀ y z : EReal, Scalar.select (IntOp.cmpi CmpIPredicate.slt (BitVec.ofNat 32 ch.val) 128#32) y z = y := fun h2 y z =>
    (congrArg (fun w => Scalar.select w y z) hc).trans ((select_ofBool _ y z).trans (if_pos h2))
  have sn : ¬ ch.val < 128 → ∀ y z : EReal, Scalar.select (IntOp.cmpi CmpIPredicate.slt (BitVec.ofNat 32 ch.val) 128#32) y z = z := fun h2 y z =>
    (congrArg (fun w => Scalar.select w y z) hc).trans ((select_ofBool _ y z).trans (if_neg h2))
  by_cases h : c.val < 1024
  · have e : (⟨c.val, h⟩ : Fin 1024) = r := Fin.ext (by dsimp only; omega)
    by_cases h2 : ch.val < 128
    · exact (dif_pos h).trans ((sp h2 _ _).trans ((congrArg (fun k => x (ix4 0 0 k ch)) e).trans (if_pos (by omega)).symm))
    · exact (dif_pos h).trans ((sn h2 _ _).trans (if_neg (by omega)).symm)
  · have e : (⟨c.val - 1024, by omega⟩ : Fin 1024) = r := Fin.ext (by dsimp only; omega)
    by_cases h2 : ch.val < 128
    · exact (dif_neg h).trans ((sp h2 _ _).trans (if_neg (by omega)).symm)
    · exact (dif_neg h).trans ((sn h2 _ _).trans ((congrArg (fun k => x (ix4 0 0 k ch)) e).trans (if_pos (by omega)).symm))

/-- A block of scores, entry by entry. -/
theorem sc_apply (q : FVec Ideal S256x2048 .bf16) (x1 : FVec Ideal S1x1x8192x256 .bf16) (n : ℕ) (t : Fin 256) (c : Fin 2048) :
    sc q x1 n (ix3 0 t c) = score q (kBlk x1 n) t c := by
  unfold sc k0_pay5
  pointwise []
  rfl
theorem pay3_apply (s : FVec Ideal S1x256x2048 .f32) (vb : FVec Ideal S1x1x1x128x256 .bf16) (a : FVec Ideal S128x2048 .f32) (d : Fin 128) (c : Fin 2048) :
    k0_pay3 s vb a (ix2 d c) = a (ix2 d c) + ∑ t : Fin 256, vb (ix5 0 0 0 d t) * Ideal.exp2 (s (ix3 0 t c)) := by
  unfold k0_pay3 k0_pay2
  pointwise []
  rfl
theorem pay4_apply (s : FVec Ideal S1x256x2048 .f32) (l : FVec Ideal S1x2048 .f32) (c : Fin 2048) :
    k0_pay4 l s (ix2 0 c) = l (ix2 0 c) + ∑ t : Fin 256, Ideal.exp2 (s (ix3 0 t c)) := by
  unfold k0_pay4 k0_pay2
  pointwise []
  rfl

end Cert.KernelIdeal.Att
end
-- ==== Proof.Mla.Fold.lean ====
module

public import proofs.«01_k».proof.Proof.Mla.Block
public import Idealize.ShloMosaic.Lib.Pointwise

@[expose] public section

set_option maxRecDepth 16384
set_option maxHeartbeats 4000000

noncomputable section

namespace Cert.KernelIdeal.Att

open Cert.KernelIdeal Cert.KernelIdeal.Gen
open Idealize.ShloMosaic
open Idealize.ShloMosaic.VecWindow (window put)

/-! ## The blocks of keys added up -/

/-- A key position as a row of the array of 8192 keys. -/
def row (p : ℕ) : Fin 8192 := ⟨p % 8192, Nat.mod_lt _ (by decide)⟩

/-- The score of key `p` against query row `r` of head `u` of the pair: the products over the head's 128 channels. -/
def keyScore (x0 : FVec Ideal S1x1x1024x256 .bf16) (x1 : FVec Ideal S1x1x8192x256 .bf16) (r : Fin 1024) (u p : ℕ) : EReal :=
  ∑ ch : Fin 256, x1 (ix4 0 0 (row p) ch) * (if ch.val / 128 = u then x0 (ix4 0 0 r ch) else 0)

/-- The value of key `p` at channel `dd`. -/
def valAt (x2 : FVec Ideal S1x1x32x128x256 .bf16) (dd : Fin 128) (p : ℕ) : EReal :=
  x2 (ix5 0 0 ⟨p / 256 % 32, Nat.mod_lt _ (by decide)⟩ dd ⟨p % 256, Nat.mod_lt _ (by decide)⟩)

/-- The weight that a query at position `Q` gives a key at position `p` of score `s`: two to the score up to the end of the query's chunk, nothing after it. -/
def wgt (Q p : ℕ) (s : EReal) : EReal := if p < (Q / 64 + 1) * 64 then Ideal.exp2 s else 0

theorem kBlk_apply (x1 : FVec Ideal S1x1x8192x256 .bf16) {n : ℕ} (hn : n < 32) (t ch : Fin 256) :
    kBlk x1 n (ix4 0 0 t ch) = x1 (ix4 0 0 (row (256 * n + t.val)) ch) := by
  unfold kBlk window
  refine congrArg x1 (funext fun a => Fin.ext ?_)
  fin_cases a
  · rfl
  · rfl
  · show 256 * min n 31 + 1 * t.val = (256 * n + t.val) % 8192
    omega
  · show 0 + 1 * ch.val = ch.val
    omega
theorem vBlk_apply (x2 : FVec Ideal S1x1x32x128x256 .bf16) {n : ℕ} (hn : n < 32) (d : Fin 128) (t : Fin 256) :
    vBlk x2 n (ix5 0 0 0 d t) = valAt x2 d (256 * n + t.val) := by
  unfold vBlk window valAt
  refine congrArg x2 (funext fun a => Fin.ext ?_)
  fin_cases a
  · rfl
  · rfl
  · show min n 31 + 1 * 0 = (256 * n + t.val) / 256 % 32
    omega
  · show 0 + 1 * d.val = d.val
    omega
  · show 0 + 1 * t.val = (256 * n + t.val) % 256
    omega
theorem score_eq (x0 : FVec Ideal S1x1x1024x256 .bf16) (x1 : FVec Ideal S1x1x8192x256 .bf16) {n : ℕ} (hn : n < 32) (t : Fin 256) (c : Fin 2048) (r : Fin 1024) (hr : r.val = c.val % 1024) :
    score (k0_pay26 x0) (kBlk x1 n) t c = keyScore x0 x1 r (c.val / 1024) (256 * n + t.val) := by
  unfold score keyScore
  exact Finset.sum_congr rfl fun ch _ => by rw [kBlk_apply x1 hn, q_apply x0 ch c r hr]

theorem pay27_apply (d : Fin 128) (c : Fin 2048) : (k0_pay27 (F := Ideal)) (ix2 d c) = 0 := by
  unfold k0_pay27
  pointwise []
theorem pay28_apply (c : Fin 2048) : (k0_pay28 (F := Ideal)) (ix2 0 c) = 0 := by
  unfold k0_pay28
  pointwise []

/-- The weighted sums after `n` whole blocks. -/
theorem stAt_fst (q : FVec Ideal S256x2048 .bf16) (x1 : FVec Ideal S1x1x8192x256 .bf16) (x2 : FVec Ideal S1x1x32x128x256 .bf16) (d : Fin 128) (c : Fin 2048) : ∀ n : ℕ,
    (stAt q x1 x2 n).1 (ix2 d c) = ∑ b ∈ Finset.range n, ∑ t : Fin 256, vBlk x2 b (ix5 0 0 0 d t) * Ideal.exp2 (score q (kBlk x1 b) t c)
  | 0 => by rw [Finset.range_zero, Finset.sum_empty]; exact pay27_apply d c
  | n + 1 => by
    rw [Finset.sum_range_succ, ← stAt_fst q x1 x2 d c n]
    show k0_pay3 (sc q x1 n) (vBlk x2 n) (stAt q x1 x2 n).1 (ix2 d c) = _
    rw [pay3_apply]
    exact congrArg _ (Finset.sum_congr rfl fun t _ => by rw [sc_apply])
/-- The sums of weights after `n` whole blocks. -/
theorem stAt_snd (q : FVec Ideal S256x2048 .bf16) (x1 : FVec Ideal S1x1x8192x256 .bf16) (x2 : FVec Ideal S1x1x32x128x256 .bf16) (c : Fin 2048) : ∀ n : ℕ,
    (stAt q x1 x2 n).2 (ix2 0 c) = ∑ b ∈ Finset.range n, ∑ t : Fin 256, Ideal.exp2 (score q (kBlk x1 b) t c)
  | 0 => by rw [Finset.range_zero, Finset.sum_empty]; exact pay28_apply c
  | n + 1 => by
    rw [Finset.sum_range_succ, ← stAt_snd q x1 x2 c n]
    show k0_pay4 (stAt q x1 x2 n).2 (sc q x1 n) (ix2 0 c) = _
    rw [pay4_apply]
    exact congrArg _ (Finset.sum_congr rfl fun t _ => by rw [sc_apply])

/-- Blocks of 256 terms added in order are the terms added in order. -/
theorem sum_blocks (g : ℕ → EReal) : ∀ n : ℕ, ∑ b ∈ Finset.range n, ∑ t : Fin 256, g (256 * b + t.val) = ∑ p ∈ Finset.range (256 * n), g p
  | 0 => rfl
  | n + 1 => by
    rw [Finset.sum_range_succ, sum_blocks g n, Nat.mul_succ, Finset.sum_range_add, Finset.sum_range (fun x => g (256 * n + x))]

/-- The whole blocks before the query's, then the four at it, are all the keys where those after weigh nothing. -/
theorem sum_all (g : ℕ → EReal) {i : ℕ} (hi : i < 8) (hz : ∀ p, 1024 * (i + 1) ≤ p → g p = 0) :
    (∑ b ∈ Finset.range (4 * i), ∑ t : Fin 256, g (256 * b + t.val)) + (∑ t : Fin 256, g (256 * (4 * i) + t.val)) + (∑ t : Fin 256, g (256 * (4 * i + 1) + t.val))
      + (∑ t : Fin 256, g (256 * (4 * i + 2) + t.val)) + (∑ t : Fin 256, g (256 * (4 * i + 3) + t.val)) = ∑ p : Fin 8192, g p.val := by
  rw [← Finset.sum_range_succ (fun b => ∑ t : Fin 256, g (256 * b + t.val)), ← Finset.sum_range_succ (fun b => ∑ t : Fin 256, g (256 * b + t.val)),
    ← Finset.sum_range_succ (fun b => ∑ t : Fin 256, g (256 * b + t.val)), ← Finset.sum_range_succ (fun b => ∑ t : Fin 256, g (256 * b + t.val)), sum_blocks, ← Finset.sum_range g]
  refine Finset.sum_subset (fun p hp => ?_) (fun p _ hp => hz p ?_)
  · rw [Finset.mem_range] at hp ⊢
    omega
  · rw [Finset.mem_range] at hp
    omega

theorem exp2_bot : Ideal.exp2 (⊥ : EReal) = 0 := rfl

/-- A weight of edge block `j` is the weight by position. -/
theorem wt_eq (q : FVec Ideal S256x2048 .bf16) (kb : FVec Ideal S1x1x256x256 .bf16) (j : ℕ) (t : Fin 256) (c : Fin 2048) (r : Fin 1024) (hr : r.val = c.val % 1024) (i : ℕ) :
    wt q kb j t c = wgt (1024 * i + r.val) (256 * (4 * i + j) + t.val) (score q kb t c) := by
  unfold wgt
  rcases lt_trichotomy (c.val % 1024 / 256) j with h | h | h
  · rw [wt_out h, if_neg (by omega)]
  · rw [wt_edge h rfl]
    unfold maskAt
    by_cases h2 : t.val < (c.val % 256 / 64 + 1) * 64
    · rw [if_pos h2, if_pos (by omega), add_zero]
    · rw [if_neg h2, if_neg (by omega), EReal.add_bot, exp2_bot]
  · rw [wt_in h, if_pos (by omega), add_zero]

/-- One entry of the output block: the weighted mean of the values by weights over all key positions. -/
theorem outBlock_apply (i : grid0.Coords) (x0 : FVec Ideal S1x1x1024x256 .bf16) (x1 : FVec Ideal S1x1x8192x256 .bf16) (x2 : FVec Ideal S1x1x32x128x256 .bf16) (r : Fin 1024) (dd : Fin 128) :
    outBlock i x0 x1 x2 (ix3 0 r dd)
      = Ideal.div (∑ p : Fin 8192, valAt x2 dd p.val * wgt (1024 * (i 2).val + r.val) p.val (keyScore x0 x1 r (dd.val / 64) p.val))
          (∑ p : Fin 8192, wgt (1024 * (i 2).val + r.val) p.val (keyScore x0 x1 r (dd.val / 64) p.val)) := by
  have hi : (i 2).val < 8 := (i 2).isLt
  have hr : r.val = (col r dd).val % 1024 := by show r.val = (dd.val / 64 * 1024 + r.val) % 1024; omega
  have hu : (col r dd).val / 1024 = dd.val / 64 := by show (dd.val / 64 * 1024 + r.val) / 1024 = dd.val / 64; omega
  unfold outBlock
  dsimp only
  rw [out_apply]
  generalize (i 2).val = n at hi
  generalize hc : col r dd = c at hr hu
  have hs : ∀ b, b < 32 → ∀ t : Fin 256, score (k0_pay26 x0) (kBlk x1 b) t c = keyScore x0 x1 r (dd.val / 64) (256 * b + t.val) := fun b hb t => by
    rw [score_eq x0 x1 hb t c r hr, hu]
  have hw : ∀ j, j < 4 → ∀ t : Fin 256, wt (k0_pay26 x0) (kBlk x1 (4 * n + j)) j t c
      = wgt (1024 * n + r.val) (256 * (4 * n + j) + t.val) (keyScore x0 x1 r (dd.val / 64) (256 * (4 * n + j) + t.val)) := fun j hj t => by
    rw [wt_eq _ _ j t c r hr n, hs _ (by omega)]
  have h0 : ∀ b ∈ Finset.range (4 * n), ∀ t : Fin 256, Ideal.exp2 (score (k0_pay26 x0) (kBlk x1 b) t c)
      = wgt (1024 * n + r.val) (256 * b + t.val) (keyScore x0 x1 r (dd.val / 64) (256 * b + t.val)) := fun b hb t => by
    rw [Finset.mem_range] at hb
    rw [hs _ (by omega)]
    unfold wgt
    rw [if_pos (by omega)]
  congr 1
  · rw [acc4_apply, acc3_apply, acc2_apply, acc1_apply, stAt_fst]
    refine Eq.trans ?_ (sum_all (fun p => valAt x2 dd p * wgt (1024 * n + r.val) p (keyScore x0 x1 r (dd.val / 64) p)) hi fun p hp => by
      unfold wgt; rw [if_neg (by omega), mul_zero])
    refine congrArg₂ (· + ·) (congrArg₂ (· + ·) (congrArg₂ (· + ·) (congrArg₂ (· + ·) (Finset.sum_congr rfl fun b hb => Finset.sum_congr rfl fun t _ => ?_) (Finset.sum_congr rfl fun t _ => ?_))
      (Finset.sum_congr rfl fun t _ => ?_)) (Finset.sum_congr rfl fun t _ => ?_)) (Finset.sum_congr rfl fun t _ => ?_)
    · rw [h0 b hb t, vBlk_apply x2 (by rw [Finset.mem_range] at hb; omega)]
    · rw [vBlk_apply x2 (by omega)]; exact congrArg _ (hw 0 (by omega) t)
    · rw [vBlk_apply x2 (by omega), hw 1 (by omega)]
    · rw [vBlk_apply x2 (by omega), hw 2 (by omega)]
    · rw [vBlk_apply x2 (by omega), hw 3 (by omega)]
  · unfold den3
    rw [den3_apply', den2_apply, den1_apply, stAt_snd]
    refine Eq.trans ?_ (sum_all (fun p => wgt (1024 * n + r.val) p (keyScore x0 x1 r (dd.val / 64) p)) hi fun p hp => by
      unfold wgt; rw [if_neg (by omega)])
    refine congrArg₂ (· + ·) (congrArg₂ (· + ·) (congrArg₂ (· + ·) (congrArg₂ (· + ·) (Finset.sum_congr rfl fun b hb => Finset.sum_congr rfl fun t _ => ?_) (Finset.sum_congr rfl fun t _ => ?_))
      (Finset.sum_congr rfl fun t _ => ?_)) (Finset.sum_congr rfl fun t _ => ?_)) (Finset.sum_congr rfl fun t _ => ?_)
    · exact h0 b hb t
    · exact hw 0 (by omega) t
    · exact hw 1 (by omega) t
    · exact hw 2 (by omega) t
    · exact hw 3 (by omega) t

end Cert.KernelIdeal.Att
end
-- ==== Proof.Mla.Equation.lean ====
/-
  Softmax attention two ways, over the extended reals: the exponentials base e of the masked scores less their maximum,
  each divided by their sum before the values are weighted; and powers of two of the scores divided by log 2 and shifted by
  any real, the division made once at the end. The two are equal for real scores and shift, whatever the values are.
-/
module

public import Idealize.ShloMosaic.PureOps.Ideal
public import Idealize.ShloMosaic.PureOps.Ideal.Laws
public import Mathlib.Data.Finset.Fold
public import Mathlib.Analysis.SpecialFunctions.Pow.Real

@[expose] public section

noncomputable section

namespace Cert.Softmax

open Idealize.ShloMosaic

variable {ι : Type} (s : Finset ι)

theorem coe_sum (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem sum_mul_real {c : ℝ} (hc : 0 ≤ c) (f : ι → EReal) : (∑ k ∈ s, f k) * (c : EReal) = ∑ k ∈ s, f k * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top _), ih]

/-- The exponential of a masked score less the maximum, as a real. -/
theorem exp_masked (p : Prop) [Decidable p] (a M : ℝ) : Ideal.exp ((if p then (a : EReal) else ⊥) - (M : EReal)) = ((if p then Real.exp (a - M) else 0 : ℝ) : EReal) := by
  by_cases h : p
  · rw [if_pos h, if_pos h, ← EReal.coe_sub, Ideal.exp_coe]
  · rw [if_neg h, if_neg h, EReal.bot_sub, Ideal.exp_bot, EReal.coe_zero]

/-- The power of two of a shifted score where it is not masked, as a multiple of that exponential. -/
theorem exp2_masked (p : Prop) [Decidable p] (a M sh : ℝ) :
    (if p then Ideal.exp2 ((a / Real.log 2 + sh : ℝ) : EReal) else 0) = ((Real.exp (M + sh * Real.log 2) * (if p then Real.exp (a - M) else 0) : ℝ) : EReal) := by
  have h2 : Real.log 2 ≠ 0 := (Real.log_pos (by norm_num)).ne'
  by_cases h : p
  · rw [if_pos h, if_pos h, Ideal.exp2_coe, ← Real.exp_add]
    congr 1
    show (2 : ℝ) ^ (a / Real.log 2 + sh) = _
    rw [Real.rpow_def_of_pos (by norm_num)]
    congr 1
    field_simp
    ring
  · rw [if_neg h, if_neg h, mul_zero, EReal.coe_zero]

theorem attention_eq [Fintype ι] (v : ι → EReal) (a : ι → ℝ) (p : ι → Prop) [DecidablePred p] (M sh : ℝ) (k₀ : ι) (h₀ : p k₀) :
    ∑ k, v k * Ideal.div (Ideal.exp ((if p k then (a k : EReal) else ⊥) - (M : EReal))) (0 + ∑ k', Ideal.exp ((if p k' then (a k' : EReal) else ⊥) - (M : EReal)))
      = Ideal.div (∑ k, v k * (if p k then Ideal.exp2 ((a k / Real.log 2 + sh : ℝ) : EReal) else 0)) (∑ k, if p k then Ideal.exp2 ((a k / Real.log 2 + sh : ℝ) : EReal) else 0) := by
  simp only [exp_masked, exp2_masked _ _ M sh, zero_add, ← coe_sum]
  generalize he : (fun k => if p k then Real.exp (a k - M) else 0) = e
  have he' : ∀ k, (if p k then Real.exp (a k - M) else 0) = e k := fun k => congrFun he k
  simp only [he']
  have hC := Real.exp_pos (M + sh * Real.log 2)
  generalize Real.exp (M + sh * Real.log 2) = C at hC
  have hn : ∀ k, 0 ≤ e k := fun k => by
    rw [← he' k]
    split_ifs
    · exact (Real.exp_pos _).le
    · exact le_refl _
  have hp : 0 < ∑ k, e k := Finset.sum_pos' (fun k _ => hn k) ⟨k₀, Finset.mem_univ _, by rw [← he' k₀, if_pos h₀]; exact Real.exp_pos _⟩
  rw [← Finset.mul_sum, Ideal.div_coe (mul_pos hC hp).ne', sum_mul_real _ (by positivity)]
  refine Finset.sum_congr rfl fun k _ => ?_
  rw [Ideal.div_coe hp.ne', mul_assoc, ← EReal.coe_mul, ← EReal.coe_mul]
  congr 2
  field_simp

/-- The dot product of one head out of the pair's 256 channels: 96 products, then one channel that adds the shift, then nothing. -/
theorem dot_head (u : ℕ) (hu : u < 2) (f : ℕ → ℝ) (sh : ℝ) :
    ∑ ch : Fin 256, (if ch.val / 128 = u then (if ch.val % 128 < 96 then f (ch.val % 128) else if ch.val % 128 = 96 then sh else 0) else 0)
      = (∑ d : Fin 96, f d.val) + sh := by
  have h128 : ∑ x ∈ Finset.range 128, (if x < 96 then f x else if x = 96 then sh else 0) = (∑ d : Fin 96, f d.val) + sh := by
    rw [show 128 = 96 + 32 from rfl, Finset.sum_range_add, ← Finset.sum_range f]
    refine congrArg₂ (· + ·) (Finset.sum_congr rfl fun x hx => if_pos (Finset.mem_range.mp hx)) ?_
    rw [Finset.sum_eq_single 0]
    · rw [if_neg (by omega), if_pos (by omega)]
    · intro b _ hb
      rw [if_neg (by omega), if_neg (by omega)]
    · intro h
      exact absurd (Finset.mem_range.mpr (by omega)) h
  rw [Finset.sum_fin_eq_sum_range, ← h128, show 256 = 128 + 128 from rfl, Finset.sum_range_add]
  have z : ∀ x ∈ Finset.range 128, x < 128 := fun x hx => Finset.mem_range.mp hx
  rcases (by omega : u = 0 ∨ u = 1) with rfl | rfl
  · refine (congrArg₂ (· + ·) (Finset.sum_congr rfl fun x hx => ?_) (Finset.sum_eq_zero fun x hx => ?_)).trans (add_zero _)
    · have := z x hx
      rw [dif_pos (by omega)]
      dsimp only
      rw [if_pos (by omega), Nat.mod_eq_of_lt this]
    · have := z x hx
      rw [dif_pos (by omega)]
      dsimp only
      rw [if_neg (by omega)]
  · refine (congrArg₂ (· + ·) (Finset.sum_eq_zero fun x hx => ?_) (Finset.sum_congr rfl fun x hx => ?_)).trans (zero_add _)
    · have := z x hx
      rw [dif_pos (by omega)]
      dsimp only
      rw [if_neg (by omega)]
    · have := z x hx
      rw [dif_pos (by omega)]
      dsimp only
      rw [if_pos (by omega), Nat.add_mod_left, Nat.mod_eq_of_lt this]

/-- The maximum of a family none of which is +∞ and one of which is real is real. -/
theorem fold_max_real {κ : Type} (t : Finset κ) (L : κ → EReal) (ht : ∀ i, L i ≠ ⊤) (i₀ : κ) (hi : i₀ ∈ t) (hb : L i₀ ≠ ⊥) : ∃ M : ℝ, t.fold max ⊥ L = (M : EReal) := by
  have h1 : t.fold max ⊥ L < ⊤ := (Finset.fold_max_lt _).mpr ⟨bot_lt_top, fun x _ => lt_of_le_of_ne le_top (ht x)⟩
  have h2 : L i₀ ≤ t.fold max ⊥ L := (Finset.le_fold_max _).mpr (Or.inr ⟨i₀, hi, le_refl _⟩)
  exact ⟨_, (EReal.coe_toReal h1.ne (fun h => hb (le_bot_iff.mp (h ▸ h2)))).symm⟩

/-- A number whose absolute value is below infinity is real. -/
theorem real_of_abs_lt {x : EReal} (h : max x (-x) < ⊤) : ∃ r : ℝ, x = (r : EReal) := by
  induction x with
  | bot => simp at h
  | top => simp at h
  | coe r => exact ⟨r, rfl⟩

theorem ofBits_two : Ideal.ofBits .f32 0x40000000#32 = ((2 : ℝ) : EReal) := by
  simp [Ideal.ofBits, Ideal.ieee]
  rw [← EReal.coe_mul]
  norm_num
theorem ofBits_neg_inf : Ideal.ofBits .f32 0xFF800000#32 = (⊥ : EReal) := by
  simp [Ideal.ofBits, Ideal.ieee]
theorem ofBits_inf : Ideal.ofBits .f32 0x7F800000#32 = (⊤ : EReal) := by
  simp [Ideal.ofBits, Ideal.ieee]
/-- The scale is a real number. -/
theorem scale_real : ∃ c : ℝ, Ideal.ofBits .f32 0x3DD105EC#32 = (c : EReal) := by
  have h : ∃ c : ℝ, Ideal.ieee 8 23 (0x3DD105EC#32) = (c : EReal) := by
    unfold Ideal.ieee
    simp
    exact ⟨_, (EReal.coe_mul _ _).symm⟩
  exact h
theorem log_two : Ideal.log (Ideal.ofBits .f32 0x40000000#32) = ((Real.log 2 : ℝ) : EReal) := by
  rw [ofBits_two, Ideal.log_coe, if_neg (by norm_num)]

end Cert.Softmax

end
-- ==== Proof.Mla.Ref.lean ====
/-
  The reference's result, entry by entry: the softmax of the masked scores of one query against all 8192 keys,
  and the values weighted by it.
-/
module

public import proofs.«01_k».proof.Proof.Gen.ReferenceIdeal.Read
public import proofs.«01_k».proof.Proof.Mla.Equation
public import Idealize.ShloMosaic.Lib.Pointwise
public import Idealize.ShloMosaic.Lib.Routing.Words
public import Idealize.ShloMosaic.Lib.WordCmp
public import Idealize.ShloMosaic.Lib.Tactic.CleanTypes

@[expose] public section

set_option maxRecDepth 16384

noncomputable section

namespace Cert.ReferenceIdeal.Att

open Cert.ReferenceIdeal Cert.ReferenceIdeal.Gen Cert.ReferenceIdeal.Read
open Idealize.ShloMosaic

/-- The first position after the query's chunk of 64, as the program computes it in words. -/
theorem bound_apply (i : S8192.Idx) : val_main_v5 (F := Ideal) i = BitVec.ofNat 32 (((i 0).val / 64 + 1) * 64) := by
  have hi : (i 0).val < 8192 := (i 0).isLt
  rw [val_main_v5_apply, val_main_v3_apply, val_main_v1_apply, val_main_v2_apply, val_main_v4_apply, val_main_call0_v13_apply, val_main_call0_v11_apply,
    val_main_call0_v10_apply, val_main_call0_v6_apply, val_main_call0_v8_apply, val_main_call0_v2_apply, val_main_call0_v12_apply, val_main_call0_v9_apply,
    val_main_call0_v7_apply, val_main_call0_v5_apply, val_main_call0_v1_apply, val_main_v0_apply, val_main_c_0_apply, val_main_c_1_apply, val_main_call0_c_apply,
    val_main_call0_c_0_apply, val_main_call0_v0_apply, val_main_c_apply]
  have hd : IntOp.divsi .host (BitVec.ofNat 32 (i 0).val) 64#32 = BitVec.ofNat 32 ((i 0).val / 64) := Routing.divsi_word .host (by omega) (by norm_num) (by norm_num)
  have hr : IntOp.remsi .host (BitVec.ofNat 32 (i 0).val) 64#32 = BitVec.ofNat 32 ((i 0).val % 64) := Routing.remsi_word .host (by omega) (by norm_num) (by norm_num)
  have h4 : val_main_call0_v4 (F := Ideal) (idx_main_call0_v5 i) = 1#32 := by
    show (if (64#32 : BitVec 32) = 0 then (0 : BitVec 32) else if (64#32 : BitVec 32).msb then -1 else 1) = 1#32
    decide
  have hs : Scalar.select (IntOp.andi (IntOp.cmpi .ne (val_main_call0_v3 (F := Ideal) i) 1#32) (IntOp.cmpi .ne (BitVec.ofNat 32 ((i 0).val % 64)) 0#32))
      (IntOp.subi (BitVec.ofNat 32 ((i 0).val / 64)) 1#32) (BitVec.ofNat 32 ((i 0).val / 64)) = BitVec.ofNat 32 ((i 0).val / 64) := by
    have h3 : val_main_call0_v3 (F := Ideal) i = if BitVec.ofNat 32 (i 0).val = (0 : BitVec 32) then (0 : BitVec 32) else if (BitVec.ofNat 32 (i 0).val).msb then -1 else 1 := rfl
    have hm : (BitVec.ofNat 32 (i 0).val).msb = false := by
      rw [BitVec.msb_eq_decide]
      simp
      omega
    have hc : IntOp.andi (IntOp.cmpi .ne (val_main_call0_v3 (F := Ideal) i) 1#32) (IntOp.cmpi .ne (BitVec.ofNat 32 ((i 0).val % 64)) 0#32) = 0#1 := by
      rw [h3, hm]
      by_cases h0 : (i 0).val = 0
      · rw [h0]
        decide
      · have : BitVec.ofNat 32 (i 0).val ≠ (0 : BitVec 32) := fun h => h0 (by
          have := congrArg BitVec.toNat h
          simp at this
          omega)
        rw [if_neg this, if_neg (by simp)]
        have h1 : IntOp.cmpi .ne (1 : BitVec 32) 1#32 = 0#1 := by decide
        rw [h1]
        show (0#1 &&& _) = 0#1
        simp
    rw [hc]
    rfl
  rw [hd, hr, h4, hs]
  show (BitVec.ofNat 32 _ + 1#32) * 64#32 = _
  rw [show (1#32 : BitVec 32) = BitVec.ofNat 32 1 from rfl, show (64#32 : BitVec 32) = BitVec.ofNat 32 64 from rfl, ← BitVec.ofNat_add, ← BitVec.ofNat_mul]

/-- A key is seen when it lies before that position. -/
theorem mask_apply (b : Fin 2) (h : Fin 16) (Q p : Fin 8192) : val_main_call1_v1 (F := Ideal) (ix4 b h Q p) = BitVec.ofBool (decide (p.val < (Q.val / 64 + 1) * 64)) := by
  rw [val_main_call1_v1_apply, val_main_v14_apply, val_main_v13_apply, val_main_v11_apply, val_main_v12_apply, val_main_v10_apply, val_main_v9_apply, bound_apply, val_main_v0_apply]
  have hQ := Q.isLt
  have hp := p.isLt
  show IntOp.cmpi .slt (BitVec.ofNat 32 p.val) (BitVec.ofNat 32 ((Q.val / 64 + 1) * 64)) = _
  rw [WordCmp.cmpi_slt_ofNat (by omega) (by omega)]

variable {x0 x1 : (⟨S2x8192x16x96, .f32⟩ : BufTy).Contents (Elt Ideal)} (x2 : (⟨S2x8192x16x64, .f32⟩ : BufTy).Contents (Elt Ideal))
variable {q k : S2x8192x16x96.Idx → ℝ} (hq : ∀ i, x0 i = (q i : EReal)) (hk : ∀ i, x1 i = (k i : EReal)) {c : ℝ} (hc : Ideal.ofBits .f32 0x3DD105EC#32 = (c : EReal))

/-- The scaled score of one query and one key of one head. -/
def logit (q k : S2x8192x16x96.Idx → ℝ) (c : ℝ) (b : Fin 2) (h : Fin 16) (Q p : Fin 8192) : ℝ := (∑ d : Fin 96, q (ix4 b Q h d) * k (ix4 b p h d)) * c

include hq hk hc in
theorem masked_apply (b : Fin 2) (h : Fin 16) (Q p : Fin 8192) :
    val_main_v15 (F := Ideal) x0 x1 (ix4 b h Q p) = if p.val < (Q.val / 64 + 1) * 64 then (logit q k c b h Q p : EReal) else ⊥ := by
  rw [val_main_v15_apply, mask_apply, val_main_v8_apply, val_main_v6_apply, val_main_v7_apply, val_main_cst_apply, val_main_call1_v2_apply, val_main_call1_v0_apply]
  have e1 : (∑ d : Fin 96, x0 (lidx_main_v6 (ix4 b h Q p) d) * x1 (ridx_main_v6 (ix4 b h Q p) d)) = ((∑ d : Fin 96, q (ix4 b Q h d) * k (ix4 b p h d) : ℝ) : EReal) := by
    rw [Softmax.coe_sum]
    refine Finset.sum_congr rfl fun d _ => ?_
    rw [hq, hk, EReal.coe_mul]
    congr 2
    · exact congrArg q (funext fun a => by fin_cases a <;> rfl)
    · exact congrArg k (funext fun a => by fin_cases a <;> rfl)
  rw [e1]
  have e2 : FloatOps.mulf (F := Ideal) (φ := .f32) (((∑ d : Fin 96, q (ix4 b Q h d) * k (ix4 b p h d) : ℝ) : EReal)) (FloatOps.ofBits .f32 0x3DD105EC#32) = (logit q k c b h Q p : EReal) := by
    show _ * Ideal.ofBits .f32 0x3DD105EC#32 = _
    rw [hc, ← EReal.coe_mul]
    rfl
  rw [e2]
  have e3 : val_main_cst_2 (F := Ideal) (idx_main_call1_v2 (ix4 b h Q p)) = (⊥ : EReal) := Softmax.ofBits_neg_inf
  rw [e3]
  by_cases hp : p.val < (Q.val / 64 + 1) * 64
  · rw [if_pos hp, decide_eq_true hp]
    rfl
  · rw [if_neg hp, decide_eq_false hp]
    rfl

include hq hk hc in
/-- The maximum that is subtracted is a real number. -/
theorem max_real (b : Fin 2) (h : Fin 16) (Q : Fin 8192) : ∃ M : ℝ, val_main_v18 (F := Ideal) x0 x1 (ix3 b h Q) = (M : EReal) := by
  have e : val_main_v16 (F := Ideal) x0 x1 (ix3 b h Q) = Finset.univ.fold max (⊥ : EReal) (fun p : Fin 8192 => val_main_v15 (F := Ideal) x0 x1 (ix4 b h Q p)) := by
    unfold val_main_v16
    generalize val_main_v15 (F := Ideal) x0 x1 = y
    rw [← Softmax.ofBits_neg_inf]
    unfold val_main_cst_3
    clean_types
    pointwise
  obtain ⟨M, hM⟩ := Softmax.fold_max_real Finset.univ (fun p : Fin 8192 => val_main_v15 (F := Ideal) x0 x1 (ix4 b h Q p)) (fun p => by
      rw [masked_apply hq hk hc]
      split_ifs
      · exact EReal.coe_ne_top _
      · exact bot_ne_top) (0 : Fin 8192) (Finset.mem_univ _) (by
      rw [masked_apply hq hk hc, if_pos (by show 0 < _; omega)]
      exact EReal.coe_ne_bot _)
  refine ⟨M, ?_⟩
  rw [val_main_v18_apply, e, hM, val_main_v17_apply]
  show max (Ideal.ofBits .f32 0xFF800000#32) (M : EReal) = _
  rw [Softmax.ofBits_neg_inf]
  exact max_eq_right bot_le

include hq hk hc in
/-- One entry of the reference, in powers of two: any real shift may be added to the scores, for it cancels. -/
theorem ref_apply (sh : ℝ) (b : Fin 2) (Q : Fin 8192) (h : Fin 16) (e : Fin 64) (i : S2x8192x1024.Idx) (hi : i = ix3 b Q (⟨h.val * 64 + e.val, by omega⟩ : Fin 1024)) :
    val_main_v30 (F := Ideal) x0 x1 x2 i
      = Ideal.div (∑ p : Fin 8192, x2 (ix4 b p h e) * (if p.val < (Q.val / 64 + 1) * 64 then Ideal.exp2 ((logit q k c b h Q p / Real.log 2 + sh : ℝ) : EReal) else 0))
          (∑ p : Fin 8192, if p.val < (Q.val / 64 + 1) * 64 then Ideal.exp2 ((logit q k c b h Q p / Real.log 2 + sh : ℝ) : EReal) else 0) := by
  obtain ⟨M, hM⟩ := max_real hq hk hc b h Q
  have hQ := Q.isLt
  have hb := b.isLt
  have hh := h.isLt
  have he := e.isLt
  rw [← Softmax.attention_eq (fun p : Fin 8192 => x2 (ix4 b p h e)) (fun p => logit q k c b h Q p) (fun p => p.val < (Q.val / 64 + 1) * 64) M sh 0 (by show 0 < _; omega)]
  have hw : ∀ p : Fin 8192, val_main_v22 (F := Ideal) x0 x1 (ix4 b h Q p) = Ideal.exp ((if p.val < (Q.val / 64 + 1) * 64 then (logit q k c b h Q p : EReal) else ⊥) - (M : EReal)) := by
    intro p
    rw [val_main_v22_apply, val_main_v21_apply, masked_apply hq hk hc, val_main_v20_apply, val_main_v19_apply]
    have e1 : val_main_v18 (F := Ideal) x0 x1 (idx_main_v19 (idx_main_v20 (ix4 b h Q p))) = (M : EReal) := by
      rw [← hM]
      exact congrArg _ (funext fun a => by fin_cases a <;> rfl)
    rw [e1]
    rfl
  have hden : ∀ p : Fin 8192, val_main_v25 (F := Ideal) x0 x1 (ix4 b h Q p) = 0 + ∑ p' : Fin 8192, Ideal.exp ((if p'.val < (Q.val / 64 + 1) * 64 then (logit q k c b h Q p' : EReal) else ⊥) - (M : EReal)) := by
    intro p
    rw [val_main_v25_apply, val_main_v24_apply, val_main_v23_apply]
    refine congrArg₂ (· + ·) ?_ (Finset.sum_congr rfl fun p' _ => ?_)
    · show Ideal.ofBits .f32 0x00000000#32 = 0
      simp [Ideal.ofBits, Ideal.ieee]
    · rw [← hw]
      exact congrArg _ (funext fun a => by fin_cases a <;> rfl)
  rw [val_main_v30_apply]
  show val_main_v29 (F := Ideal) x0 x1 x2 i = _
  rw [val_main_v29_apply, val_main_v28_apply]
  have ei : idx_main_v28 (idx_main_v29 i) = ix4 b h e Q := by
    subst hi
    funext a
    apply Fin.ext
    fin_cases a
    · show ((b.val * 8192 + Q.val) * 1024 + (h.val * 64 + e.val)) / 8388608 = b.val
      omega
    · show ((b.val * 8192 + Q.val) * 1024 + (h.val * 64 + e.val)) / 64 % 16 = h.val
      omega
    · show ((b.val * 8192 + Q.val) * 1024 + (h.val * 64 + e.val)) % 64 = e.val
      omega
    · show ((b.val * 8192 + Q.val) * 1024 + (h.val * 64 + e.val)) / 1024 % 8192 = Q.val
      omega
  rw [ei, val_main_v27_apply]
  refine Finset.sum_congr rfl fun p _ => ?_
  have el : lidx_main_v27 (ix4 b h e Q) p = ix4 b p h e := funext fun a => by fin_cases a <;> rfl
  have er : ridx_main_v27 (ix4 b h e Q) p = ix4 b h Q p := funext fun a => by fin_cases a <;> rfl
  rw [el, er, val_main_v26_apply, hw, hden]
  rfl

end Cert.ReferenceIdeal.Att

end
-- ==== Proof.Mla.Value.lean ====
/-
  The attention call's result array: the scores the packed channels give, what the body leaves at one grid point, and
  that the blocks together are the reference's function of the arguments.
-/
module

public import proofs.«01_k».proof.Proof.Mla.Arrays
public import proofs.«01_k».proof.Proof.Mla.Blocks
public import proofs.«01_k».proof.Proof.Mla.Fold
public import proofs.«01_k».proof.Proof.Mla.Ref
public import Idealize.ShloMosaic.Lib.Pipeline.Covers

@[expose] public section

set_option maxRecDepth 16384

noncomputable section

namespace Cert.KernelIdeal.Att

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (c : Dev nD)

/-! ## The value of one block -/

theorem row_val (p : Fin 8192) : row p.val = p := Fin.ext (Nat.mod_eq_of_lt p.isLt)

/-- The three input blocks of a grid point. -/
abbrev qIn (t : Fin cfg0.N) : S1x1x1024x256.Idx → EReal := iblk m c 0 t
abbrev kIn (t : Fin cfg0.N) : S1x1x8192x256.Idx → EReal := iblk m c 1 t
abbrev vIn (t : Fin cfg0.N) : S1x1x32x128x256.Idx → EReal := iblk m c 2 t
theorem qIn_apply (t : Fin cfg0.N) (r : Fin 1024) (ch : Fin 256) :
    qIn m c t (ix4 0 0 r ch) = (V m c main_v14 : S2x8x8192x256.Idx → EReal) (ix4 (bAt t) (prAt t) (⟨(qbAt t).val * 1024 + r.val, by have := (qbAt t).isLt; omega⟩ : Fin 8192) ch) := iblk_0 m c t r ch
theorem kIn_apply (t : Fin cfg0.N) (p : Fin 8192) (ch : Fin 256) : kIn m c t (ix4 0 0 p ch) = (V m c main_v17 : S2x8x8192x256.Idx → EReal) (ix4 (bAt t) (prAt t) p ch) := iblk_1 m c t p ch
theorem vIn_apply (t : Fin cfg0.N) (n : Fin 32) (dd : Fin 128) (s : Fin 256) : vIn m c t (ix5 0 0 n dd s) = (V m c main_v20 : S2x8x32x128x256.Idx → EReal) (ix5 (bAt t) (prAt t) n dd s) := iblk_2 m c t n dd s

variable {q k : S2x8192x16x96.Idx → ℝ} {cst sh : ℝ}
variable (hq : ∀ i, argQ m c i = (q i : EReal)) (hk : ∀ i, argK m c i = (k i : EReal)) (hs : argS m c (ix1 0) = (sh : EReal)) (hc : Ideal.ofBits .f32 0x3DD105EC#32 = (cst : EReal))

include hq hk hs hc in
/-- The packed channels of one head contract to the head's scaled score over the logarithm of two, plus the shift. -/
theorem keyScore_eq (t : Fin cfg0.N) (r : Fin 1024) (u : ℕ) (hu : u < 2) (p : Fin 8192) :
    keyScore (qIn m c t) (kIn m c t) r u p.val
      = ((Cert.ReferenceIdeal.Att.logit q k cst (bAt t) (⟨(prAt t).val * 2 + u, by have := (prAt t).isLt; omega⟩ : Fin 16)
          (⟨(qbAt t).val * 1024 + r.val, by have := (qbAt t).isLt; omega⟩ : Fin 8192) p / Real.log 2 + sh : ℝ) : EReal) := by
  have hpr := (prAt t).isLt
  have hqb := (qbAt t).isLt
  set hd : Fin 16 := ⟨(prAt t).val * 2 + u, by omega⟩ with hhd
  set Q : Fin 8192 := ⟨(qbAt t).val * 1024 + r.val, by omega⟩ with hQ
  let f : ℕ → ℝ := fun d => k (ix4 (bAt t) p hd (⟨d % 96, by omega⟩ : Fin 96)) * (q (ix4 (bAt t) Q hd (⟨d % 96, by omega⟩ : Fin 96)) * cst * (1 / Real.log 2))
  have hl : Real.log 2 ≠ 0 := (Real.log_pos (by norm_num)).ne'
  have term : ∀ ch : Fin 256, kIn m c t (ix4 0 0 (row p.val) ch)
        * (if ch.val / 128 = u then qIn m c t (ix4 0 0 r ch) else 0)
      = ((if ch.val / 128 = u then (if ch.val % 128 < 96 then f (ch.val % 128) else if ch.val % 128 = 96 then sh else 0) else 0 : ℝ) : EReal) := by
    intro ch
    rw [qIn_apply, kIn_apply, row_val, qArr, kArr]
    by_cases h1 : ch.val / 128 = u
    · rw [if_pos h1, if_pos h1]
      have hh : (⟨(prAt t).val * 2 + ch.val / 128, by omega⟩ : Fin 16) = hd := Fin.ext (by show _ + _ = _ + _; rw [h1])
      by_cases h2 : ch.val % 128 < 96
      · rw [dif_pos h2, dif_pos h2, if_pos h2, hh, hq, hk, hc, Softmax.log_two, ← EReal.coe_mul, Ideal.div_coe hl, ← EReal.coe_mul, ← EReal.coe_mul]
        have h3 : (⟨ch.val % 128 % 96, by omega⟩ : Fin 96) = ⟨ch.val % 128, h2⟩ := Fin.ext (Nat.mod_eq_of_lt h2)
        show _ = ((k (ix4 (bAt t) p hd (⟨ch.val % 128 % 96, _⟩ : Fin 96)) * (q (ix4 (bAt t) Q hd (⟨ch.val % 128 % 96, _⟩ : Fin 96)) * cst * (1 / Real.log 2)) : ℝ) : EReal)
        rw [h3]
      · rw [dif_neg h2, dif_neg h2, if_neg h2]
        by_cases h3 : ch.val % 128 = 96
        · rw [if_pos h3, if_pos h3, if_pos h3, one_mul, hs]
        · rw [if_neg h3, if_neg h3, if_neg h3, zero_mul]
          rfl
    · rw [if_neg h1, if_neg h1, mul_zero]
      rfl
  unfold keyScore
  rw [Finset.sum_congr rfl fun ch _ => term ch, ← Softmax.coe_sum, Softmax.dot_head u hu f sh]
  congr 2
  unfold Cert.ReferenceIdeal.Att.logit
  rw [Finset.sum_mul, Finset.sum_div]
  refine Finset.sum_congr rfl fun d _ => ?_
  show k (ix4 (bAt t) p hd (⟨d.val % 96, _⟩ : Fin 96)) * (q (ix4 (bAt t) Q hd (⟨d.val % 96, _⟩ : Fin 96)) * cst * (1 / Real.log 2)) = _
  have h3 : (⟨d.val % 96, by omega⟩ : Fin 96) = d := Fin.ext (Nat.mod_eq_of_lt d.isLt)
  rw [h3]
  ring

/-- The result: the reference's function of the three arrays. -/
def result : S2x8192x1024.Idx → EReal := Cert.ReferenceIdeal.Read.val_main_v30 (F := Ideal) (argQ m c) (argK m c) (argV m c)

include hq hk hs hc in
/-- What the body leaves at one point is the result's block there. -/
theorem outAt_eq (t : Fin cfg0.N) (r : Fin 1024) (dd : Fin 128) :
    (outAt m c t : S1x1024x128.Idx → EReal) (ix3 0 r dd)
      = result m c (ix3 (bAt t) (⟨(qbAt t).val * 1024 + r.val, by have := (qbAt t).isLt; omega⟩ : Fin 8192) (⟨(prAt t).val * 128 + dd.val, by have := (prAt t).isLt; omega⟩ : Fin 1024)) := by
  have hpr := (prAt t).isLt
  have hqb := (qbAt t).isLt
  have hdd := dd.isLt
  have hu : dd.val / 64 < 2 := by omega
  have hR := Cert.ReferenceIdeal.Att.ref_apply (argV m c) hq hk hc sh (bAt t) (⟨(qbAt t).val * 1024 + r.val, by omega⟩ : Fin 8192) (⟨(prAt t).val * 2 + dd.val / 64, by omega⟩ : Fin 16) (⟨dd.val % 64, by omega⟩ : Fin 64)
    (ix3 (bAt t) (⟨(qbAt t).val * 1024 + r.val, by omega⟩ : Fin 8192) (⟨(prAt t).val * 128 + dd.val, by omega⟩ : Fin 1024))
    (congrArg (fun x : Fin 1024 => ix3 (bAt t) (⟨(qbAt t).val * 1024 + r.val, by omega⟩ : Fin 8192) x) (Fin.ext (by
      show (prAt t).val * 128 + dd.val = ((prAt t).val * 2 + dd.val / 64) * 64 + dd.val % 64
      omega)))
  refine Eq.trans ?_ hR.symm
  refine (outBlock_apply (grid0.coords t) (qIn m c t) (kIn m c t) (vIn m c t) r dd).trans ?_
  have hw : ∀ p : Fin 8192, wgt (1024 * (grid0.coords t 2).val + r.val) p.val (keyScore (qIn m c t) (kIn m c t) r (dd.val / 64) p.val)
      = if p.val < (((qbAt t).val * 1024 + r.val) / 64 + 1) * 64 then Ideal.exp2 ((Cert.ReferenceIdeal.Att.logit q k cst (bAt t) (⟨(prAt t).val * 2 + dd.val / 64, by omega⟩ : Fin 16)
          (⟨(qbAt t).val * 1024 + r.val, by omega⟩ : Fin 8192) p / Real.log 2 + sh : ℝ) : EReal) else 0 := by
    intro p
    rw [keyScore_eq m c hq hk hs hc t r _ hu p]
    unfold wgt
    rw [mul_comm 1024]
  have hv : ∀ p : Fin 8192, valAt (vIn m c t) dd p.val = argV m c (ix4 (bAt t) p (⟨(prAt t).val * 2 + dd.val / 64, by omega⟩ : Fin 16) (⟨dd.val % 64, by omega⟩ : Fin 64)) := by
    intro p
    have hp := p.isLt
    unfold valAt
    rw [vIn_apply, vArr]
    congr 1
    have e : (⟨(⟨p.val / 256 % 32, by omega⟩ : Fin 32).val * 256 + (⟨p.val % 256, by omega⟩ : Fin 256).val, by show p.val / 256 % 32 * 256 + p.val % 256 < 8192; omega⟩ : Fin 8192) = p :=
      Fin.ext (by show p.val / 256 % 32 * 256 + p.val % 256 = p.val; omega)
    rw [e]
  exact congrArg₂ Ideal.div (Finset.sum_congr rfl fun p _ => congrArg₂ (· * ·) (hv p) (hw p)) (Finset.sum_congr rfl fun p _ => hw p)

include hq hk hs hc in
theorem flushed_eq (t : Fin cfg0.N) : (dats m 0 c).flushed 3 t = ((cfg0.win 3).blk t).view.read (Elt Ideal) (result m c) := by
  show (cfg0.win 3).cut (grid0.coords t) ((dats m 0 c).after 3 t) = _
  rw [after_3]
  funext j
  have h0 : (j 0).val = 0 := by have : (j 0).val < 1 := (j 0).isLt; omega
  have hj : j = (ix3 (0 : Fin 1) (j 1 : Fin 1024) (j 2 : Fin 128) : S1x1024x128.Idx) := by
    funext a
    match a with
    | ⟨0, _⟩ => exact Fin.ext h0
    | ⟨1, _⟩ => rfl
    | ⟨2, _⟩ => rfl
  have e : win0_3.index t = ![(bAt t).val, (qbAt t).val, (prAt t).val] := index_3 (grid0.coords t)
  have h : (win0_3.blk t).view.emb j = ix3 (bAt t) (⟨(qbAt t).val * 1024 + (j 1 : Fin 1024).val, by have := (qbAt t).isLt; have : (j 1).val < 1024 := (j 1).isLt; omega⟩ : Fin 8192)
      (⟨(prAt t).val * 128 + (j 2 : Fin 128).val, by have := (prAt t).isLt; have : (j 2).val < 128 := (j 2).isLt; omega⟩ : Fin 1024) := by
    refine funext fun a => Fin.ext ?_
    match a with
    | ⟨0, _⟩ => exact (win0_3.rect_emb_val t j 0).trans (by rw [e, h0]; exact (Nat.add_zero _).trans (Nat.mul_one _))
    | ⟨1, _⟩ => exact (win0_3.rect_emb_val t j 1).trans (by rw [e]; rfl)
    | ⟨2, _⟩ => exact (win0_3.rect_emb_val t j 2).trans (by rw [e]; rfl)
  have ho := outAt_eq m c hq hk hs hc t (j 1) (j 2)
  rw [View.read_apply]
  generalize result m c = R at ho ⊢
  refine eq_of_heq (HEq.trans (heq_of_eq ?_) (cast_heq _ _).symm)
  refine (congrArg (outAt m c t : S1x1024x128.Idx → EReal) hj).trans (ho.trans (congrArg R h.symm))

include hq hk hs hc in
/-- So the result array ends at the result: every entry lies in some point's block. -/
theorem final_o : (dats m 0 c).arrAt 3 cfg0.N = result m c :=
  (dats m 0 c).arrAt_eq_of_cover 3 (result m c) (fun t _ => flushed_eq m c hq hk hs hc t) fun i => by
    have h0 : (i 0).val < 2 := (i 0).isLt
    have h1 : (i 1).val < 8192 := (i 1).isLt
    have h2 : (i 2).val < 1024 := (i 2).isLt
    let x : grid0.Coords := fun a => match a with
      | ⟨0, _⟩ => (⟨(i 0).val, h0⟩ : Fin 2)
      | ⟨1, _⟩ => (⟨(i 2).val / 128, by omega⟩ : Fin 8)
      | ⟨2, _⟩ => (⟨(i 1).val / 1024, by omega⟩ : Fin 8)
    obtain ⟨t, ht⟩ := Pipeline.Grid.coords_surjective grid0 x
    refine ⟨t, flush0_3 t, ?_⟩
    show i ∈ ((View.whole main_v21).slice (win0_3.rect t)).set
    rw [View.set_slice_whole, Rect.mem_set_unit]
    intro a
    match a with
    | ⟨0, _⟩ =>
      show cc0_transform_3 (grid0.coords t) 0 * 1 ≤ (i 0).val ∧ (i 0).val < cc0_transform_3 (grid0.coords t) 0 * 1 + 1
      rw [index_3, ht]
      show (i 0).val * 1 ≤ (i 0).val ∧ (i 0).val < (i 0).val * 1 + 1
      omega
    | ⟨1, _⟩ =>
      show cc0_transform_3 (grid0.coords t) 1 * 1024 ≤ (i 1).val ∧ (i 1).val < cc0_transform_3 (grid0.coords t) 1 * 1024 + 1024
      rw [index_3, ht]
      show (i 1).val / 1024 * 1024 ≤ (i 1).val ∧ (i 1).val < (i 1).val / 1024 * 1024 + 1024
      omega
    | ⟨2, _⟩ =>
      show cc0_transform_3 (grid0.coords t) 2 * 128 ≤ (i 2).val ∧ (i 2).val < cc0_transform_3 (grid0.coords t) 2 * 128 + 128
      rw [index_3, ht]
      show (i 2).val / 128 * 128 ≤ (i 2).val ∧ (i 2).val < (i 2).val / 128 * 128 + 128
      omega

/-- The run, read: on every device the result array ends at the reference's function of the arguments, and the arguments are unchanged. -/
theorem run_value (ρ : Dev nD → PrngReg) (h0 : ∀ c i, ∃ x : ℝ, argQ m c i = (x : EReal)) (h1 : ∀ c i, ∃ x : ℝ, argK m c i = (x : EReal)) (h3 : ∀ c i, ∃ x : ℝ, argS m c i = (x : EReal)) :
    θ_run defs (onTc (τ := τ) (main (F := Ideal))) ⟨m, fun _ => 0, ρ⟩ (fun r => ∀ c : Dev nD,
      r.2.mem ((c.tc : Thread nD τ).loc main_v21) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  obtain ⟨cst, hc⟩ := Softmax.scale_real
  refine (θ_run defs _ _).mono (fun r h c => ?_) (run_main m ρ)
  choose q hq using h0 c
  choose k hk using h1 c
  obtain ⟨sh, hs⟩ := h3 c (ix1 0)
  exact ⟨((h.1 c).1 3).trans (final_o m c hq hk hs hc),
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c)⟩

end Cert.KernelIdeal.Att

end
-- ==== Proof.Mla.Finite.lean ====
/-
  What the precondition gives: every query, every key and the shift is a real number.
-/
module

public import proofs.«01_k».proof.Pre_finite
public import proofs.«01_k».proof.Proof.Mla.Equation
public import Idealize.ShloMosaic.Lib.ReduceAll

@[expose] public section

noncomputable section

namespace Cert.Pre_finite.Att

open Cert.Pre_finite Idealize.ShloMosaic

/-- A comparison of an absolute value with the word of +∞ that says one says its argument is real. -/
theorem real_of_cmp (x : EReal) (h : FloatOps.cmpf (F := Ideal) (φ := .f32) .olt (FloatOps.hostAbsf (F := Ideal) (φ := .f32) x) (FloatOps.ofBits (F := Ideal) .f32 0x7F800000#32) = 1#1) : ∃ r : ℝ, x = (r : EReal) := by
  refine Softmax.real_of_abs_lt (Softmax.ofBits_inf ▸ ?_)
  have h' : BitVec.ofBool (decide (max x (-x) < Ideal.ofBits .f32 0x7F800000#32)) = 1#1 := h
  by_contra hn
  rw [decide_eq_false hn] at h'
  exact absurd h' (by decide)

variable [Facts]

theorem reals (x0 x1 : FVec Ideal S2x8192x16x96 .f32) (x2 : FVec Ideal S2x8192x16x64 .f32) (x3 : FVec Ideal S1 .f32)
    (h : fn (F := Ideal) x0 x1 x2 x3 = fun _ => 1#1) :
    (∀ i, ∃ r : ℝ, x0 i = (r : EReal)) ∧ (∀ i, ∃ r : ℝ, x1 i = (r : EReal)) ∧ ∀ i, ∃ r : ℝ, x3 i = (r : EReal) := by
  have h' := congrFun h (fun a => a.elim0)
  dsimp only [fn] at h'
  obtain ⟨h1, h3⟩ := IntOp.andi_eq_one.1 h'
  obtain ⟨h1, h2⟩ := IntOp.andi_eq_one.1 h1
  haveI : Subsingleton S_.Idx := ⟨fun a b => funext fun k => k.elim0⟩
  exact ⟨fun i => real_of_cmp _ (Host.reduce_andi_all _ _ _ _ _ h1 i), fun i => real_of_cmp _ (Host.reduce_andi_all _ _ _ _ _ h2 i),
    fun i => real_of_cmp _ (Host.reduce_andi_all _ _ _ _ _ h3 i)⟩

end Cert.Pre_finite.Att

end
-- ==== Proof.Ffn.Run.lean ====
module

public import proofs.«01_k».proof.Proof.Gen.Kernel2Ideal.Frame
public import proofs.«01_k».proof.Proof.Gen.Kernel2Ideal.Skeleton
public import Idealize.ShloMosaic.Lib.VecWindow
public import Idealize.ShloMosaic.Lib.Pointwise

@[expose] public section

set_option maxRecDepth 8192
set_option maxHeartbeats 4000000

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.VecWindow (window put)

variable {F : FTy → Type} [FloatOps F]

local notation "𝕄" => MT nD τ sig Unit (Elt F) ℕ (UR sig nD τ) ℕ

/-! ## Where the chunks lie -/

/-- The start of chunk `n` in an array of eleven with two further axes. -/
def wOff (n : ℕ) : Fin 3 → ℕ := ![min n 10, 0, 0]
/-- The start of chunk `n` in an array of eleven with three further axes. -/
def cOff (n : ℕ) : Fin 4 → ℕ := ![min n 10, 0, 0, 0]
theorem wOff_inb (n : ℕ) : ∀ a, wOff n a + S1x1024x256.size a ≤ S11x1024x256.size a := fun a => by
  fin_cases a
  · show min n 10 + 1 ≤ 11; omega
  · exact le_refl 1024
  · exact le_refl 256
theorem dOff_inb (n : ℕ) : ∀ a, wOff n a + S1x256x1024.size a ≤ S11x256x1024.size a := fun a => by
  fin_cases a
  · show min n 10 + 1 ≤ 11; omega
  · exact le_refl 256
  · exact le_refl 1024
theorem cwOff_inb (n : ℕ) : ∀ a, cOff n a + S1x2x3x256.size a ≤ S11x2x3x256.size a := fun a => by
  fin_cases a
  · show min n 10 + 1 ≤ 11; omega
  · exact le_refl 2
  · exact le_refl 3
  · exact le_refl 256
theorem cbOff_inb (n : ℕ) : ∀ a, cOff n a + S1x2x1x256.size a ≤ S11x2x1x256.size a := fun a => by
  fin_cases a
  · show min n 10 + 1 ≤ 11; omega
  · exact le_refl 2
  · exact le_refl 1
  · exact le_refl 256

theorem trips_eq : k0_t1_loop.trips = 5 := by decide
theorem wOff_eq {n : ℕ} (h : n ≤ 10) : wOff n = ![n, 0, 0] := by unfold wOff; rw [Nat.min_eq_left h]
theorem cOff_eq {n : ℕ} (h : n ≤ 10) : cOff n = ![n, 0, 0, 0] := by unfold cOff; rw [Nat.min_eq_left h]
theorem trip_lt (k : Fin k0_t1_loop.trips) : k.val < 5 := lt_of_lt_of_eq k.isLt trips_eq

theorem off1_eq (k : Fin k0_t1_loop.trips) (r : Fin 2) : k0_off1 k (BitVec.ofNat 32 (1 + r.val)) = wOff (2 * k.val + r.val + 1) :=
  (k0_off1_eq k r).trans (wOff_eq (by have := trip_lt k; have := r.isLt; omega)).symm
theorem off2_eq (k : Fin k0_t1_loop.trips) : k0_off2 k = cOff (2 * k.val) := (k0_off2_eq k).trans (cOff_eq (by have := trip_lt k; omega)).symm
theorem off3_eq (k : Fin k0_t1_loop.trips) : k0_off3 k = cOff (2 * k.val) := (k0_off3_eq k).trans (cOff_eq (by have := trip_lt k; omega)).symm
theorem off4_eq (k : Fin k0_t1_loop.trips) : k0_off4 k = wOff (2 * k.val) := (k0_off4_eq k).trans (wOff_eq (by have := trip_lt k; omega)).symm
theorem off5_eq (k : Fin k0_t1_loop.trips) : k0_off5 k = cOff (2 * k.val + 1) := (k0_off5_eq k).trans (cOff_eq (by have := trip_lt k; omega)).symm
theorem off6_eq (k : Fin k0_t1_loop.trips) : k0_off6 k = cOff (2 * k.val + 1) := (k0_off6_eq k).trans (cOff_eq (by have := trip_lt k; omega)).symm
theorem off7_eq (k : Fin k0_t1_loop.trips) : k0_off7 k = wOff (2 * k.val + 1) := (k0_off7_eq k).trans (wOff_eq (by have := trip_lt k; omega)).symm

/-! ## What the kernel computes, in closed form -/

/-- Chunk `n` of the columns of an up projection. -/
def wBlk (x : FVec F S11x1024x256 .bf16) (n : ℕ) : FVec F S1x1024x256 .bf16 := window x (wOff n) S1x1024x256.size (wOff_inb n)
/-- Chunk `n` of the convolution's taps. -/
def cwBlk (x : FVec F S11x2x3x256 .f32) (n : ℕ) : FVec F S1x2x3x256 .f32 := window x (cOff n) S1x2x3x256.size (cwOff_inb n)
/-- Chunk `n` of the convolution's bias. -/
def cbBlk (x : FVec F S11x2x1x256 .f32) (n : ℕ) : FVec F S1x2x1x256 .f32 := window x (cOff n) S1x2x1x256.size (cbOff_inb n)
/-- Chunk `n` of the rows of the down projection. -/
def dBlk (x : FVec F S11x256x1024 .bf16) (n : ℕ) : FVec F S1x256x1024 .bf16 := window x (wOff n) S1x256x1024.size (dOff_inb n)

/-- Eight rows, then 512 more. -/
def heCat (a : FVec F S8x1024 .bf16) (b : FVec F S512x1024 .bf16) : FVec F S520x1024 .bf16 := fun j =>
  if h : (j 0).val < 8 then a (ix2 ⟨(j 0).val, h⟩ (j 1))
  else b (ix2 ⟨(j 0).val - 8, by have h0 : (j 0).val < 520 := (j 0).isLt; show (j 0).val - 8 < 512; omega⟩ (j 1))
/-- The normalised rows: the last eight of the block before (zero in the first block), then the block's own. -/
def heOf (i : grid0.Coords) (x0 : FVec F S1x512x1024 .f32) (x1 : FVec F S1x8x1024 .f32) (x2 : FVec F S1x1024 .f32) : FVec F S520x1024 .bf16 :=
  heCat (k0_pay20 i x2 x1) (k0_pay22 (k0_pay21 x2 x0))
/-- A chunk's columns of an up projection. -/
def up (he : FVec F S520x1024 .bf16) (w : FVec F S1x1024x256 .bf16) : FVec F S1x1x520x256 .f32 := k0_pay24 he w
/-- The sum with one chunk's share of the down projection added. -/
def down (a : FVec F S512x1024 .f32) (cw : FVec F S1x2x3x256 .f32) (cb : FVec F S1x2x1x256 .f32) (ug uv : FVec F S1x1x520x256 .f32) (wd : FVec F S1x256x1024 .bf16) : FVec F S512x1024 .f32 :=
  k0_pay11 (k0_pay10 (k0_pay5 cw) (k0_pay6 cb) (k0_pay7 ug) (k0_pay8 cw) (k0_pay9 cb) uv a wd)
/-- The sum after the first `n` chunks. -/
def accAt (he : FVec F S520x1024 .bf16) (x3 x4 : FVec F S11x1024x256 .bf16) (x5 : FVec F S11x2x3x256 .f32) (x6 : FVec F S11x2x1x256 .f32) (x7 : FVec F S11x256x1024 .bf16) : ℕ → FVec F S512x1024 .f32
  | 0 => k0_pay23
  | n + 1 => down (accAt he x3 x4 x5 x6 x7 n) (cwBlk x5 n) (cbBlk x6 n) (up he (wBlk x3 n)) (up he (wBlk x4 n)) (dBlk x7 n)
/-- A block of the output. -/
def outBlock (i : grid0.Coords) (x0 : FVec F S1x512x1024 .f32) (x1 : FVec F S1x8x1024 .f32) (x2 : FVec F S1x1024 .f32) (x3 x4 : FVec F S11x1024x256 .bf16) (x5 : FVec F S11x2x3x256 .f32) (x6 : FVec F S11x2x1x256 .f32) (x7 : FVec F S11x256x1024 .bf16) : FVec F S1x512x1024 .f32 :=
  k0_pay2 x0 (accAt (heOf i x0 x1 x2) x3 x4 x5 x6 x7 11)

/-- Slot 0 of the up projection's buffer, the gate's half. -/
def gSlot (f : FVec F S2x2x520x256 .f32) : FVec F S1x1x520x256 .f32 := window f ![0, 0, 0, 0] S1x1x520x256.size inb_S2x2x520x256_S1x1x520x256_0_0_0_0
/-- Slot 0 of the up projection's buffer, the value's half. -/
def vSlot (f : FVec F S2x2x520x256 .f32) : FVec F S1x1x520x256 .f32 := window f ![0, 1, 0, 0] S1x1x520x256.size inb_S2x2x520x256_S1x1x520x256_0_1_0_0

/-- Reading a rectangle whose start is known reads that chunk. -/
theorem wRead {arg : Memref sig .tc .vmem S11x1024x256 .bf16} (f : BufTy.Contents (Elt F) arg.view.ty) {off : Fin 3 → ℕ} (inb : ∀ a, off a + S1x1024x256.size a ≤ S11x1024x256.size a) {n : ℕ} (h : off = wOff n) :
    View.readAt (Elt F) arg.view (Rect.unit (s := S11x1024x256) off S1x1024x256.size inb).toLoadRect f = wBlk (arg.view.read (Elt F) f) n :=
  View.readAt_unit arg.view f inb h (wOff_inb n)
/-- Reading a rectangle whose start is known reads that chunk. -/
theorem cwRead {arg : Memref sig .tc .vmem S11x2x3x256 .f32} (f : BufTy.Contents (Elt F) arg.view.ty) {off : Fin 4 → ℕ} (inb : ∀ a, off a + S1x2x3x256.size a ≤ S11x2x3x256.size a) {n : ℕ} (h : off = cOff n) :
    View.readAt (Elt F) arg.view (Rect.unit (s := S11x2x3x256) off S1x2x3x256.size inb).toLoadRect f = cwBlk (arg.view.read (Elt F) f) n :=
  View.readAt_unit arg.view f inb h (cwOff_inb n)
/-- Reading a rectangle whose start is known reads that chunk. -/
theorem cbRead {arg : Memref sig .tc .vmem S11x2x1x256 .f32} (f : BufTy.Contents (Elt F) arg.view.ty) {off : Fin 4 → ℕ} (inb : ∀ a, off a + S1x2x1x256.size a ≤ S11x2x1x256.size a) {n : ℕ} (h : off = cOff n) :
    View.readAt (Elt F) arg.view (Rect.unit (s := S11x2x1x256) off S1x2x1x256.size inb).toLoadRect f = cbBlk (arg.view.read (Elt F) f) n :=
  View.readAt_unit arg.view f inb h (cbOff_inb n)
/-- Reading a rectangle whose start is known reads that chunk. -/
theorem dRead {arg : Memref sig .tc .vmem S11x256x1024 .bf16} (f : BufTy.Contents (Elt F) arg.view.ty) {off : Fin 3 → ℕ} (inb : ∀ a, off a + S1x256x1024.size a ≤ S11x256x1024.size a) {n : ℕ} (h : off = wOff n) :
    View.readAt (Elt F) arg.view (Rect.unit (s := S11x256x1024) off S1x256x1024.size inb).toLoadRect f = dBlk (arg.view.read (Elt F) f) n :=
  View.readAt_unit arg.view f inb h (dOff_inb n)

/-- Reading the two stores of the normalised rows. -/
theorem he_writes {arg12 : Memref sig .tc .vmem S520x1024 .bf16} (f : BufTy.Contents (Elt F) arg12.view.ty) (a : FVec F S8x1024 .bf16) (b : FVec F S512x1024 .bf16) :
    arg12.view.read (Elt F) (arg12.view.writes (Elt F) f [⟨Rect.unit (s := S520x1024) ![8, 0] S512x1024.size inb_S520x1024_S512x1024_8_0, b⟩, ⟨Rect.unit (s := S520x1024) ![0, 0] S8x1024.size inb_S520x1024_S8x1024_0_0, a⟩]) = heCat a b := by
  rw [View.read_writes_cons_put (off := ![8, 0]) (off' := ![8, 0]) (size := S512x1024.size) arg12.view f inb_S520x1024_S512x1024_8_0 b _ rfl]
  rw [View.read_writes_cons_put (off := ![0, 0]) (off' := ![0, 0]) (size := S8x1024.size) arg12.view f inb_S520x1024_S8x1024_0_0 a _ rfl]
  funext j
  have j0 : (j 0).val < 520 := (j 0).isLt
  have j1 : (j 1).val < 1024 := (j 1).isLt
  unfold put heCat
  by_cases h : (j 0).val < 8
  · rw [dif_pos h, dif_neg (fun hall => by have := (hall 0).1; have h8 : 8 ≤ (j 0).val := this; omega)]
    have hall : ∀ a, (![0, 0] : Fin 2 → ℕ) a ≤ (j a).val ∧ (j a).val < (![0, 0] : Fin 2 → ℕ) a + S8x1024.size a := fun a => by
      fin_cases a
      · exact ⟨Nat.zero_le _, by show (j 0).val < 0 + 8; omega⟩
      · exact ⟨Nat.zero_le _, by show (j 1).val < 0 + 1024; omega⟩
    rw [dif_pos hall]
    refine congrArg a (funext fun d => Fin.ext ?_)
    fin_cases d <;> rfl
  · rw [dif_neg h]
    have hall : ∀ a, (![8, 0] : Fin 2 → ℕ) a ≤ (j a).val ∧ (j a).val < (![8, 0] : Fin 2 → ℕ) a + S512x1024.size a := fun a => by
      fin_cases a
      · exact ⟨by show 8 ≤ (j 0).val; omega, by show (j 0).val < 8 + 512; omega⟩
      · exact ⟨Nat.zero_le _, by show (j 1).val < 0 + 1024; omega⟩
    rw [dif_pos hall]
    refine congrArg b (funext fun d => Fin.ext ?_)
    fin_cases d <;> rfl
/-- Loading the normalised rows after the two stores. -/
theorem he_cov {arg12 : Memref sig .tc .vmem S520x1024 .bf16} (a : FVec F S8x1024 .bf16) (b : FVec F S512x1024 .bf16) :
    View.readCov (Val := Elt F) arg12.view [⟨Rect.unit (s := S520x1024) ![8, 0] S512x1024.size inb_S520x1024_S512x1024_8_0, b⟩, ⟨Rect.unit (s := S520x1024) ![0, 0] S8x1024.size inb_S520x1024_S8x1024_0_0, a⟩] (Rect.unit (s := S520x1024) ![0, 0] S520x1024.size inb_S520x1024_S520x1024_0_0).toLoadRect = heCat (F := F) a b :=
  (View.readAt_full arg12.view _ _).trans (he_writes _ a b)

/-- Loading a slot just stored. -/
theorem slot_hit {arg13 : Memref sig .tc .vmem S2x2x520x256 .f32} (f : BufTy.Contents (Elt F) arg13.view.ty) {off : Fin 4 → ℕ} (inb inb' : ∀ a, off a + S1x1x520x256.size a ≤ S2x2x520x256.size a) (w : FVec F S1x1x520x256 .f32) (L) :
    window (arg13.view.read (Elt F) (arg13.view.writes (Elt F) f (⟨Rect.unit (s := S2x2x520x256) off S1x1x520x256.size inb, w⟩ :: L))) off S1x1x520x256.size inb' = w := by
  rw [View.read_writes_cons_put (off := off) (off' := off) (size := S1x1x520x256.size) arg13.view f inb w L rfl]
  exact VecWindow.window_put_same _ _ _ _ _
/-- Loading a slot passes over a store of another. -/
theorem slot_skip {arg13 : Memref sig .tc .vmem S2x2x520x256 .f32} (f : BufTy.Contents (Elt F) arg13.view.ty) {off off' : Fin 4 → ℕ} (inb : ∀ a, off a + S1x1x520x256.size a ≤ S2x2x520x256.size a) (inb' : ∀ a, off' a + S1x1x520x256.size a ≤ S2x2x520x256.size a) (w : FVec F S1x1x520x256 .f32) (L)
    (a : Fin 4) (ha : off' a + S1x1x520x256.size a ≤ off a ∨ off a + S1x1x520x256.size a ≤ off' a) :
    window (arg13.view.read (Elt F) (arg13.view.writes (Elt F) f (⟨Rect.unit (s := S2x2x520x256) off S1x1x520x256.size inb, w⟩ :: L))) off' S1x1x520x256.size inb'
      = window (arg13.view.read (Elt F) (arg13.view.writes (Elt F) f L)) off' S1x1x520x256.size inb' := by
  rw [View.read_writes_cons_put (off := off) (off' := off) (size := S1x1x520x256.size) arg13.view f inb w L rfl]
  exact VecWindow.window_put_of_disjoint _ _ _ _ _ _ _ a ha
section Slots
variable {arg13 : Memref sig .tc .vmem S2x2x520x256 .f32} (f : BufTy.Contents (Elt F) arg13.view.ty) (w0 w1 w2 w3 : FVec F S1x1x520x256 .f32) (L : List (View.Piece (Elt F) S2x2x520x256 .f32))
/-- Slot 1, the gate's half, after stores of slot 1 and slot 0. -/
theorem slot10 : View.readCov (Val := Elt F) arg13.view [⟨Rect.unit (s := S2x2x520x256) ![0, 1, 0, 0] S1x1x520x256.size inb_S2x2x520x256_S1x1x520x256_0_1_0_0, w3⟩, ⟨Rect.unit (s := S2x2x520x256) ![0, 0, 0, 0] S1x1x520x256.size inb_S2x2x520x256_S1x1x520x256_0_0_0_0, w2⟩, ⟨Rect.unit (s := S2x2x520x256) ![1, 1, 0, 0] S1x1x520x256.size inb_S2x2x520x256_S1x1x520x256_1_1_0_0, w1⟩, ⟨Rect.unit (s := S2x2x520x256) ![1, 0, 0, 0] S1x1x520x256.size inb_S2x2x520x256_S1x1x520x256_1_0_0_0, w0⟩]
    (Rect.unit (s := S2x2x520x256) ![1, 0, 0, 0] S1x1x520x256.size inb_S2x2x520x256_S1x1x520x256_1_0_0_0).toLoadRect = w0 :=
  (View.readAt_unit arg13.view _ _ rfl inb_S2x2x520x256_S1x1x520x256_1_0_0_0).trans ((slot_skip _ _ _ w3 _ 0 (.inr (by decide))).trans ((slot_skip _ _ _ w2 _ 0 (.inr (by decide))).trans
    ((slot_skip _ _ _ w1 _ 1 (.inl (by decide))).trans (slot_hit _ _ _ w0 _))))
/-- Slot 1, the value's half, after stores of slot 1 and slot 0. -/
theorem slot11 : View.readCov (Val := Elt F) arg13.view [⟨Rect.unit (s := S2x2x520x256) ![0, 1, 0, 0] S1x1x520x256.size inb_S2x2x520x256_S1x1x520x256_0_1_0_0, w3⟩, ⟨Rect.unit (s := S2x2x520x256) ![0, 0, 0, 0] S1x1x520x256.size inb_S2x2x520x256_S1x1x520x256_0_0_0_0, w2⟩, ⟨Rect.unit (s := S2x2x520x256) ![1, 1, 0, 0] S1x1x520x256.size inb_S2x2x520x256_S1x1x520x256_1_1_0_0, w1⟩, ⟨Rect.unit (s := S2x2x520x256) ![1, 0, 0, 0] S1x1x520x256.size inb_S2x2x520x256_S1x1x520x256_1_0_0_0, w0⟩]
    (Rect.unit (s := S2x2x520x256) ![1, 1, 0, 0] S1x1x520x256.size inb_S2x2x520x256_S1x1x520x256_1_1_0_0).toLoadRect = w1 :=
  (View.readAt_unit arg13.view _ _ rfl inb_S2x2x520x256_S1x1x520x256_1_1_0_0).trans ((slot_skip _ _ _ w3 _ 0 (.inr (by decide))).trans ((slot_skip _ _ _ w2 _ 0 (.inr (by decide))).trans
    (slot_hit _ _ _ w1 _)))
/-- Slot 0, the gate's half, just stored. -/
theorem gSlot_writes : gSlot (arg13.view.read (Elt F) (arg13.view.writes (Elt F) f (⟨Rect.unit (s := S2x2x520x256) ![0, 1, 0, 0] S1x1x520x256.size inb_S2x2x520x256_S1x1x520x256_0_1_0_0, w1⟩ :: ⟨Rect.unit (s := S2x2x520x256) ![0, 0, 0, 0] S1x1x520x256.size inb_S2x2x520x256_S1x1x520x256_0_0_0_0, w0⟩ :: L))) = w0 :=
  (slot_skip _ _ inb_S2x2x520x256_S1x1x520x256_0_0_0_0 w1 _ 1 (.inl (by decide))).trans (slot_hit _ _ _ w0 _)
/-- Slot 0, the value's half, just stored. -/
theorem vSlot_writes : vSlot (arg13.view.read (Elt F) (arg13.view.writes (Elt F) f (⟨Rect.unit (s := S2x2x520x256) ![0, 1, 0, 0] S1x1x520x256.size inb_S2x2x520x256_S1x1x520x256_0_1_0_0, w1⟩ :: L))) = w1 :=
  slot_hit _ _ inb_S2x2x520x256_S1x1x520x256_0_1_0_0 w1 _
/-- Loading slot 0, the gate's half. -/
theorem gRead : View.readAt (Elt F) arg13.view (Rect.unit (s := S2x2x520x256) ![0, 0, 0, 0] S1x1x520x256.size inb_S2x2x520x256_S1x1x520x256_0_0_0_0).toLoadRect f = gSlot (arg13.view.read (Elt F) f) :=
  View.readAt_unit arg13.view f _ rfl inb_S2x2x520x256_S1x1x520x256_0_0_0_0
/-- Loading slot 0, the value's half. -/
theorem vRead : View.readAt (Elt F) arg13.view (Rect.unit (s := S2x2x520x256) ![0, 1, 0, 0] S1x1x520x256.size inb_S2x2x520x256_S1x1x520x256_0_1_0_0).toLoadRect f = vSlot (arg13.view.read (Elt F) f) :=
  View.readAt_unit arg13.view f _ rfl inb_S2x2x520x256_S1x1x520x256_0_1_0_0
end Slots

/-- What holds before trip `k` of the loop. -/
def inv1 (c : Dev nD) (arg5 : Memref sig .tc .vmem S11x1024x256 .bf16) (arg6 : Memref sig .tc .vmem S11x1024x256 .bf16) (arg7 : Memref sig .tc .vmem S11x2x3x256 .f32) (arg8 : Memref sig .tc .vmem S11x2x1x256 .f32) (arg9 : Memref sig .tc .vmem S11x256x1024 .bf16) (arg11 : Memref sig .tc .vmem S512x1024 .f32) (arg12 : Memref sig .tc .vmem S520x1024 .bf16) (arg13 : Memref sig .tc .vmem S2x2x520x256 .f32) (he : FVec F S520x1024 .bf16) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (k : ℕ) : sProp 𝕄 :=
  iprop((arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)
    ∗ (∃ f11 : BufTy.Contents (Elt F) arg11.view.ty, (arg11.view.loc (c : Thread nD τ) ↦[arg11.view.set]{fullShare} f11) ∗ ⌜(arg11.view.read (Elt F) f11) = accAt he (arg5.view.read (Elt F) f5) (arg6.view.read (Elt F) f6) (arg7.view.read (Elt F) f7) (arg8.view.read (Elt F) f8) (arg9.view.read (Elt F) f9) (2 * k)⌝)
    ∗ (∃ f12 : BufTy.Contents (Elt F) arg12.view.ty, (arg12.view.loc (c : Thread nD τ) ↦[arg12.view.set]{fullShare} f12) ∗ ⌜(arg12.view.read (Elt F) f12) = he⌝)
    ∗ (∃ f13 : BufTy.Contents (Elt F) arg13.view.ty, (arg13.view.loc (c : Thread nD τ) ↦[arg13.view.set]{fullShare} f13) ∗ ⌜gSlot (arg13.view.read (Elt F) f13) = up he (wBlk (arg5.view.read (Elt F) f5) (2 * k)) ∧ vSlot (arg13.view.read (Elt F) f13) = up he (wBlk (arg6.view.read (Elt F) f6) (2 * k))⌝))

set_option backward.isDefEq.respectTransparency.types false in
/-- One trip takes what holds before it to what holds before the next. -/
theorem inv1_step (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S11x1024x256 .bf16) (harg5 : arg5.IsWhole) (arg6 : Memref sig .tc .vmem S11x1024x256 .bf16) (harg6 : arg6.IsWhole) (arg7 : Memref sig .tc .vmem S11x2x3x256 .f32) (harg7 : arg7.IsWhole) (arg8 : Memref sig .tc .vmem S11x2x1x256 .f32) (harg8 : arg8.IsWhole) (arg9 : Memref sig .tc .vmem S11x256x1024 .bf16) (harg9 : arg9.IsWhole) (arg10 : Memref sig .tc .vmem S1x512x1024 .f32) (harg10 : arg10.IsWhole) (arg11 : Memref sig .tc .vmem S512x1024 .f32) (harg11 : arg11.IsWhole) (arg12 : Memref sig .tc .vmem S520x1024 .bf16) (harg12 : arg12.IsWhole) (arg13 : Memref sig .tc .vmem S2x2x520x256 .f32) (harg13 : arg13.IsWhole) (v37 : FVec F S512x1024 .f32) (he : FVec F S520x1024 .bf16) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (k : Fin k0_t1_loop.trips) (acc : Unit) :
    inv1 c arg5 arg6 arg7 arg8 arg9 arg11 arg12 arg13 he f5 f6 f7 f8 f9 k.val ⊢ wp Idealize.ShloMosaic.frame (wpE (defs₀ (F := F)) Variants.none (c : Thread nD τ) none) Set.univ
      (k0_t1_body (F := F) i arg2 harg2 arg3 harg3 arg4 harg4 arg5 harg5 arg6 harg6 arg7 harg7 arg8 harg8 arg9 harg9 arg10 harg10 arg11 harg11 arg12 harg12 arg13 harg13 v37 k acc)
      (fun _ => inv1 c arg5 arg6 arg7 arg8 arg9 arg11 arg12 arg13 he f5 f6 f7 f8 f9 (k.val + 1)) := by
  have e1 : k0_off1 k 1#32 = wOff (2 * k.val + 1) := off1_eq k 0
  have e2 : k0_off1 k 2#32 = wOff (2 * k.val + 2) := off1_eq k 1
  unfold inv1 k0_t1_body
  iintro ⟨H5, H6, H7, H8, H9, ⟨%f11, H11, %h11⟩, ⟨%f12, H12, %h12⟩, ⟨%f13, H13, %h13⟩⟩
  sl_exec
  sl_step
  isplitl [H5]; · iexact H5
  isplitl [H6]; · iexact H6
  isplitl [H7]; · iexact H7
  isplitl [H8]; · iexact H8
  isplitl [H9]; · iexact H9
  isplitl [H11]
  · iexists _; isplitl [H11]; · iexact H11
    ipureintro
    sl_unfold_run_names
    rw [View.read_writes_full]
    rw [slot10, slot11, gRead f13, vRead f13, View.readCov_full, View.readAt_full arg11.view f11, View.readAt_full arg12.view f12, h11, h12, h13.1, h13.2, wRead f5 _ e1, wRead f6 _ e1, cwRead f7 _ (off2_eq k), cwRead f7 _ (off5_eq k), cbRead f8 _ (off3_eq k), cbRead f8 _ (off6_eq k), dRead f9 _ (off4_eq k), dRead f9 _ (off7_eq k)]
    rfl
  isplitl [H12]
  · iexists _; isplitl [H12]; · iexact H12
    ipureintro
    exact h12
  iexists _; isplitl [H13]; · iexact H13
  ipureintro
  sl_unfold_run_names
  rw [gSlot_writes, vSlot_writes, View.readAt_full, h12, wRead f5 _ e2, wRead f6 _ e2]
  exact ⟨rfl, rfl⟩

set_option backward.isDefEq.respectTransparency.types false in
/-- One run of the body from any contents. -/
theorem body_run (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S11x1024x256 .bf16) (harg5 : arg5.IsWhole) (arg6 : Memref sig .tc .vmem S11x1024x256 .bf16) (harg6 : arg6.IsWhole) (arg7 : Memref sig .tc .vmem S11x2x3x256 .f32) (harg7 : arg7.IsWhole) (arg8 : Memref sig .tc .vmem S11x2x1x256 .f32) (harg8 : arg8.IsWhole) (arg9 : Memref sig .tc .vmem S11x256x1024 .bf16) (harg9 : arg9.IsWhole) (arg10 : Memref sig .tc .vmem S1x512x1024 .f32) (harg10 : arg10.IsWhole) (arg11 : Memref sig .tc .vmem S512x1024 .f32) (harg11 : arg11.IsWhole) (arg12 : Memref sig .tc .vmem S520x1024 .bf16) (harg12 : arg12.IsWhole) (arg13 : Memref sig .tc .vmem S2x2x520x256 .f32) (harg13 : arg13.IsWhole)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13))
    ⊢ wp Idealize.ShloMosaic.frame (wpE (defs₀ (F := F)) Variants.none (c : Thread nD τ) none) Set.univ
      (cc0_conv_ffn (F := F) i arg2 harg2 arg3 harg3 arg4 harg4 arg5 harg5 arg6 harg6 arg7 harg7 arg8 harg8 arg9 harg9 arg10 harg10 arg11 harg11 arg12 harg12 arg13 harg13)
      (fun _ => (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)
        ∗ (∃ g10 : BufTy.Contents (Elt F) arg10.view.ty, (arg10.view.loc (c : Thread nD τ) ↦[arg10.view.set]{fullShare} g10) ∗ ⌜arg10.view.read (Elt F) g10 = outBlock i (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9)⌝)
        ∗ (∃ g11 : BufTy.Contents (Elt F) arg11.view.ty, (arg11.view.loc (c : Thread nD τ) ↦[arg11.view.set]{fullShare} g11)) ∗ (∃ g12 : BufTy.Contents (Elt F) arg12.view.ty, (arg12.view.loc (c : Thread nD τ) ↦[arg12.view.set]{fullShare} g12)) ∗ (∃ g13 : BufTy.Contents (Elt F) arg13.view.ty, (arg13.view.loc (c : Thread nD τ) ↦[arg13.view.set]{fullShare} g13))) : sProp 𝕄)) := by
  simp only [cc0_conv_ffn_eq_skeleton]
  unfold cc0_conv_ffn_skel
  simp only [k0_part1_eq_skeleton, k0_part2_eq_skeleton, k0_part3_eq_skeleton, k0_part4_eq_skeleton, k0_part5_eq_skeleton, k0_part6_eq_skeleton, k0_part7_eq_skeleton]
  iintro ⟨H2, H3, H4, H5, H6, H7, H8, H9, H10, H11, H12, H13⟩
  sl_exec
  sl_for (fun k (_ : Unit) => inv1 c arg5 arg6 arg7 arg8 arg9 arg11 arg12 arg13 (heOf i (arg2.view.read (Elt F) f2) (arg3.view.read (Elt F) f3) (arg4.view.read (Elt F) f4)) f5 f6 f7 f8 f9 k) $$ [H5 H6 H7 H8 H9 H11 H12 H13]
  · intro k acc
    sl_unfold_run_names
    exact inv1_step c i arg2 harg2 arg3 harg3 arg4 harg4 arg5 harg5 arg6 harg6 arg7 harg7 arg8 harg8 arg9 harg9 arg10 harg10 arg11 harg11 arg12 harg12 arg13 harg13 _ _ f5 f6 f7 f8 f9 k acc
  · unfold inv1
    isplitl [H5]; · iexact H5
    isplitl [H6]; · iexact H6
    isplitl [H7]; · iexact H7
    isplitl [H8]; · iexact H8
    isplitl [H9]; · iexact H9
    isplitl [H11]
    · iexists _; isplitl [H11]; · iexact H11
      ipureintro
      sl_unfold_run_names
      rw [View.read_writes_full]
      rfl
    isplitl [H12]
    · iexists _; isplitl [H12]; · iexact H12
      ipureintro
      sl_unfold_run_names
      rw [he_writes]
      rw [View.readAt_full arg4.view f4, View.readAt_full arg2.view f2, View.readAt_full arg3.view f3]
      rfl
    iexists _; isplitl [H13]; · iexact H13
    ipureintro
    sl_unfold_run_names
    rw [gSlot_writes, vSlot_writes, he_cov, wRead f5 _ (show (![0, 0, 0] : Fin 3 → ℕ) = wOff (2 * 0) from rfl), wRead f6 _ (show (![0, 0, 0] : Fin 3 → ℕ) = wOff (2 * 0) from rfl)]
    rw [View.readAt_full arg4.view f4, View.readAt_full arg2.view f2, View.readAt_full arg3.view f3]
    exact ⟨rfl, rfl⟩
  iintro %acc HI
  unfold inv1
  icases HI with ⟨H5, H6, H7, H8, H9, ⟨%g11, H11, %h11⟩, ⟨%g12, H12, %h12⟩, ⟨%g13, H13, %h13⟩⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _; isplitl [H10]; · iexact H10
    ipureintro
    have ht := trips_eq
    unfold Scf.Loop.trips at ht
    rw [ht] at h11 h13
    sl_unfold_run_names
    rw [View.read_writes_full]
    rw [gRead g13, vRead g13, View.readCov_full, View.readAt_full arg11.view g11, View.readAt_full arg2.view f2, h11, h13.1, h13.2, cwRead f7 _ (show (![10, 0, 0, 0] : Fin 4 → ℕ) = cOff 10 from rfl), cbRead f8 _ (show (![10, 0, 0, 0] : Fin 4 → ℕ) = cOff 10 from rfl), dRead f9 _ (show (![10, 0, 0] : Fin 3 → ℕ) = wOff 10 from rfl)]
    rfl
  isplitl [H11]; · iexists _; iexact H11
  isplitl [H12]; · iexists _; iexact H12
  iexists _; iexact H13

/-! ## The run -/

variable (m : (ℓ : Loc nD τ sig) → Buf (Elt F) ℓ) (ρ : Dev nD → PrngReg)

/-- What grid point `t` leaves in its output block. -/
def outAt (c : Dev nD) (t : Fin cfg0.N) : FVec F S1x512x1024 .f32 := outBlock (grid0.coords t) (iblk m c 0 t) (iblk m c 1 t) (iblk m c 2 t) (iblk m c 3 t) (iblk m c 4 t) (iblk m c 5 t) (iblk m c 6 t) (iblk m c 7 t)

/-- What each window's staging buffer holds after the body. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => outAt m c t
  Φ _ := Pipeline.ΦA spec0 c
  q := Pipeline.shareOf spec0
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outAt m c t := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d

/-- What the body is entered with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
/-- What the body is left with at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- What the body keeps between points: its three scratch buffers at anything, and the random-number state. -/
theorem kept_eq (c : Dev nD) : (Pipeline.ΦA spec0 c : sProp 𝕄)
    = iprop(((∃ f : BufTy.Contents (Elt F) (Memref.whole cc0_scratch0).view.ty, ((Memref.whole cc0_scratch0).view.loc (c : Thread nD τ) ↦[(Memref.whole cc0_scratch0).view.set]{fullShare} f)) ∗ (∃ f : BufTy.Contents (Elt F) (Memref.whole cc0_scratch1).view.ty, ((Memref.whole cc0_scratch1).view.loc (c : Thread nD τ) ↦[(Memref.whole cc0_scratch1).view.set]{fullShare} f)) ∗ (∃ f : BufTy.Contents (Elt F) (Memref.whole cc0_scratch2).view.ty, ((Memref.whole cc0_scratch2).view.loc (c : Thread nD τ) ↦[(Memref.whole cc0_scratch2).view.set]{fullShare} f))) ∗ ∃ r, prngReg c r) := by
  unfold Pipeline.ΦA
  rw [scopedRest0_eq]
  rw [(Memref.isWhole_whole cc0_scratch0).set_eq_univ, (Memref.isWhole_whole cc0_scratch1).set_eq_univ, (Memref.isWhole_whole cc0_scratch2).set_eq_univ]

set_option backward.isDefEq.respectTransparency.types false in
/-- The body at point `t`. -/
theorem sound (c : Dev nD) (t : Fin cfg0.N) :
    bodyPre m c t ⊢ wp Idealize.ShloMosaic.frame (wpE (defs₀ (F := F)) Variants.none (c : Thread nD τ) none) Set.univ (bodyAt0 t) (fun _ => bodyPost m c t) := by
  unfold bodyPre bodyPost
  simp only [before_0, before_1, before_2, before_3, before_4, before_5, before_6, before_7]
  rw [show (dats m 0 c).Φ t.succ = (dats m 0 c).Φ t.castSucc from rfl, show (dats m 0 c).owesAt () t.succ = (dats m 0 c).owesAt () t.castSucc from rfl, after_0, after_1, after_2, after_3, after_4, after_5, after_6, after_7, after_8]
  rw [show (dats m 0 c).Φ t.castSucc = Pipeline.ΦA spec0 c from rfl, kept_eq]
  unfold owns
  iintro ⟨⟨⟨⟨%f11, H11⟩, ⟨%f12, H12⟩, ⟨%f13, H13⟩⟩, Hp⟩, Ho, ⟨%d0, ⟨%f2, %h2, H2⟩⟩, ⟨%d1, ⟨%f3, %h3, H3⟩⟩, ⟨%d2, ⟨%f4, %h4, H4⟩⟩, ⟨%d3, ⟨%f5, %h5, H5⟩⟩, ⟨%d4, ⟨%f6, %h6, H6⟩⟩, ⟨%d5, ⟨%f7, %h7, H7⟩⟩, ⟨%d6, ⟨%f8, %h8, H8⟩⟩, ⟨%d7, ⟨%f9, %h9, H9⟩⟩, ⟨%d8, ⟨%f10, %h10, H10⟩⟩⟩
  iapply (wp_wand_r Idealize.ShloMosaic.frame (wpE (defs₀ (F := F)) Variants.none (c : Thread nD τ) none) Set.univ)
  isplitl [H2 H3 H4 H5 H6 H7 H8 H9 H10 H11 H12 H13]
  · iapply (body_run c (grid0.coords t) _ _ _ _ _ _ _ _ _ _ _ _ _ _ _ _ _ _ _ _ _ _ _ _ f2 f3 f4 f5 f6 f7 f8 f9 f10 f11 f12 f13)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro %y ⟨H2, H3, H4, H5, H6, H7, H8, H9, ⟨%g10, H10, %h10'⟩, H11, H12, H13⟩
    isplitl [H11 H12 H13 Hp]
    · isplitl [H11 H12 H13]
      · isplitl [H11]; · iexact H11
        isplitl [H12]; · iexact H12
        iexact H13
      · iexact Hp
    isplitl [Ho]; · iexact Ho
    isplitl [H2]
    · iexists f2; isplitr; · ipureintro; exact h2
      iexact H2
    isplitl [H3]
    · iexists f3; isplitr; · ipureintro; exact h3
      iexact H3
    isplitl [H4]
    · iexists f4; isplitr; · ipureintro; exact h4
      iexact H4
    isplitl [H5]
    · iexists f5; isplitr; · ipureintro; exact h5
      iexact H5
    isplitl [H6]
    · iexists f6; isplitr; · ipureintro; exact h6
      iexact H6
    isplitl [H7]
    · iexists f7; isplitr; · ipureintro; exact h7
      iexact H7
    isplitl [H8]
    · iexists f8; isplitr; · ipureintro; exact h8
      iexact H8
    isplitl [H9]
    · iexists f9; isplitr; · ipureintro; exact h9
      iexact H9
    · iexists g10; isplitr
      · ipureintro
        rw [h10', h2, h3, h4, h5, h6, h7, h8, h9]
        rfl
      · iexact H10

theorem defs₀_row (t : Fin cfg0.N) : defs₀ (F := F) .tc cfg0.body (cfg0.bodyArgs t (cfg0.slots t)) = bodyAt0 t := by
  unfold defs₀
  rw [Defs.onTc_tc]

theorem body_obligation (c : Dev nD) : BodyObligation (dats m 0 c) (defs₀ (F := F)) Variants.none () Set.univ := fun t => by
  rw [bigSep_W0, bigSep_W0, defs₀_row]
  exact triple_restated (sound m c t) rfl .rfl fun _ => .rfl

set_option backward.isDefEq.respectTransparency.types false in
/-- The whole program runs, every array ends as the points leave it, and every semaphore counter ends at zero. -/
theorem run_main : θ_run defs (onTc (τ := τ) (main (F := F))) (s₀ m ρ) (fun r => Pipeline.FramePost cfgs (dats m) 0 (V m) r ∧ r.2.sem = fun _ => 0) :=
  Pipeline.θ_run_frame_shared cfgs (dats m) 0 launch₀0 defs₀ Variants.none m ρ main
    (fun c => (body_obligation m c).loose) (fun c w _ => rfl) (fun c t => by dsimp only [dats]) (V m) (hmain m Variants.none)
    (fun c w => A_eq m c w) (fun c t => by dsimp only [dats]) (Q' := _)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  θ_run_with_sems (Gen.frame_of m ρ (dats m) (A_eq m)) (run_main m ρ)

end Cert.Kernel2Ideal.Ffn
end
-- ==== Proof.Ffn.Same.lean ====
/-
  The feed-forward program over float words and the one over the extended reals have the same text, so that over any
  float values their body tables and their host functions are equal.
-/
module

public import proofs.«01_k».proof.Proof.Gen.Kernel2
public import proofs.«01_k».proof.Proof.Gen.Kernel2Ideal

@[expose] public section

set_option maxRecDepth 100000
set_option maxHeartbeats 4000000

namespace Cert.Kernel2.Ffn

open Idealize.ShloMosaic

variable {F : FTy → Type} [FloatOps F]

/-- The bodies of the call. -/
theorem body_same : @Cert.Kernel2.cc0_conv_ffn F _ _ = @Cert.Kernel2Ideal.cc0_conv_ffn F _ _ := rfl
/-- The tables of bodies: the one label has the same body. -/
theorem bodies_same : Cert.Kernel2.defs₀ (F := F) = Cert.Kernel2Ideal.defs₀ (F := F) := by
  refine congrArg Defs.onTc (funext fun l => ?_)
  match l with
  | ⟨0, _⟩ => exact funext fun _ => rfl
/-- The tables with the call's pipeline. -/
theorem defs_same : Cert.Kernel2.defs (F := F) = Cert.Kernel2Ideal.defs (F := F) := congrArg (Pipeline.defs Cert.Kernel2.pcfgs) bodies_same
/-- The host functions. -/
theorem main_same : Cert.Kernel2.main (F := F) = Cert.Kernel2Ideal.main (F := F) := rfl

end Cert.Kernel2.Ffn
-- ==== Proof.Ffn.Equation.lean ====
/-
  The feed-forward block, entry by entry: rows scaled to unit mean square, an up projection to 5632 columns, a causal
  convolution of three taps along the positions, the gated unit, and a down projection added to the input.
-/
module

public import Idealize.ShloMosaic.Lib.Pointwise

@[expose] public section

noncomputable section

namespace FeedForward

open Idealize.ShloMosaic

/-- A row over its root mean square, times the gain. -/
def rms (row g : Fin 1024 → EReal) (k : Fin 1024) : EReal :=
  row k * Ideal.rsqrt (Ideal.div (∑ d : Fin 1024, row d * row d) (Ideal.ofBits .f32 0x44800000#32) + Ideal.ofBits .f32 0x358637BD#32) * g k
/-- The gated unit: the gate times its logistic function, times the value. -/
def unit (g v : EReal) : EReal := g * Ideal.logistic g * v
/-- Three taps over the two rows before and the row itself, and a bias. -/
def taps (b w0 w1 w2 u0 u1 u2 : EReal) : EReal := b + w0 * u0 + w1 * u1 + w2 * u2

variable (x : (⟨3, ![2, 8192, 1024]⟩ : Shape).Idx → EReal) (g : (⟨1, ![1024]⟩ : Shape).Idx → EReal) (wu : (⟨2, ![1024, 5632]⟩ : Shape).Idx → EReal)
  (cw : (⟨2, ![3, 5632]⟩ : Shape).Idx → EReal) (cb : (⟨1, ![5632]⟩ : Shape).Idx → EReal) (wd : (⟨2, ![2816, 1024]⟩ : Shape).Idx → EReal)

/-- The normalised row of one position. -/
def hid (b : Fin 2) (p : Fin 8192) (k : Fin 1024) : EReal := rms (fun d => x (ix3 b p d)) (fun d => g (ix1 d)) k
/-- One column of the up projection of one position. -/
def upAt (b : Fin 2) (p : Fin 8192) (col : Fin 5632) : EReal := ∑ k : Fin 1024, hid x g b p k * wu (ix2 k col)
/-- The same with two rows of zeros put first: row `q` is position `q - 2`. -/
def padded (b : Fin 2) (q : ℕ) (col : Fin 5632) : EReal := if h : 2 ≤ q ∧ q - 2 < 8192 then upAt x g wu b ⟨q - 2, h.2⟩ col else 0
/-- One convolved column at one position. -/
def conv (b : Fin 2) (p : Fin 8192) (col : Fin 5632) : EReal :=
  taps (cb (ix1 col)) (cw (ix2 0 col)) (cw (ix2 1 col)) (cw (ix2 2 col)) (padded x g wu b p.val col) (padded x g wu b (1 + p.val) col) (padded x g wu b (2 + p.val) col)
/-- The gated unit's entry `j` at one position: the gate is column `j`, the value column `2816 + j`. -/
def act (b : Fin 2) (p : Fin 8192) (j : Fin 2816) : EReal := unit (conv x g wu cw cb b p ⟨j.val, by omega⟩) (conv x g wu cw cb b p ⟨2816 + j.val, by omega⟩)
/-- One entry of the block's result. -/
def entry (b : Fin 2) (p : Fin 8192) (k : Fin 1024) : EReal := x (ix3 b p k) + ∑ j : Fin 2816, act x g wu cw cb b p j * wd (ix2 j k)

/-- A sum over 2816 is the sum over eleven chunks of 256. -/
theorem sum_chunks (f : Fin 2816 → EReal) : ∑ j, f j = ∑ n : Fin 11, ∑ j : Fin 256, f ⟨n.val * 256 + j.val, by omega⟩ := by
  rw [← Equiv.sum_comp (finProdFinEquiv (m := 11) (n := 256)), Fintype.sum_prod_type]
  refine Finset.sum_congr rfl fun n _ => Finset.sum_congr rfl fun j _ => congrArg f (Fin.ext ?_)
  show j.val + 256 * n.val = n.val * 256 + j.val
  omega

/-- Adding the chunks one after another, from zero, adds them all. -/
theorem sum_steps (a : ℕ → EReal) (s : ℕ → EReal) (h0 : a 0 = 0) (hs : ∀ n, n < 11 → a (n + 1) = a n + s n) : a 11 = ∑ n : Fin 11, s n.val := by
  have h : ∀ n, n ≤ 11 → a n = ∑ k ∈ Finset.range n, s k := by
    intro n
    induction n with
    | zero => intro _; rw [h0, Finset.sum_range_zero]
    | succ n ih => intro hn; rw [hs n (by omega), ih (by omega), Finset.sum_range_succ]
  rw [h 11 le_rfl, Finset.sum_range]

end FeedForward

end
-- ==== Proof.Ffn.Ref.lean ====
/-
  The reference's result, entry by entry: it is the feed-forward block's entry.
-/
module

public import proofs.«01_k».proof.Proof.Gen.Reference2Ideal.Read
public import proofs.«01_k».proof.Proof.Ffn.Equation
public import Idealize.ShloMosaic.Lib.KernelVsHost

@[expose] public section

set_option maxRecDepth 16384

noncomputable section

namespace Cert.Reference2Ideal.Ffn

open Cert.Reference2Ideal Cert.Reference2Ideal.Gen Cert.Reference2Ideal.Read
open Idealize.ShloMosaic FeedForward

variable (x0 : (⟨S2x8192x1024, .f32⟩ : BufTy).Contents (Elt Ideal)) (x1 : (⟨S1024, .f32⟩ : BufTy).Contents (Elt Ideal)) (x2 : (⟨S1024x5632, .f32⟩ : BufTy).Contents (Elt Ideal))
  (x3 : (⟨S3x5632, .f32⟩ : BufTy).Contents (Elt Ideal)) (x4 : (⟨S5632, .f32⟩ : BufTy).Contents (Elt Ideal)) (x5 : (⟨S2816x1024, .f32⟩ : BufTy).Contents (Elt Ideal))

theorem zero_bits : Ideal.ofBits .f32 0x00000000#32 = 0 := by simp [Ideal.ofBits, Ideal.ieee]
theorem one_bits : Ideal.ofBits .f32 0x3F800000#32 = 1 := by
  simp [Ideal.ofBits, Ideal.ieee]
  rw [← EReal.coe_mul]
  norm_num

theorem hid_apply (b : Fin 2) (p : Fin 8192) (k : Fin 1024) : val_main_v12 (F := Ideal) x0 x1 (ix3 b p k) = hid x0 x1 b p k := by
  rw [val_main_v12_apply, val_main_v9_apply, val_main_v8_apply, val_main_v7_apply, val_main_v6_apply, val_main_v5_apply, val_main_v4_apply, val_main_v3_apply, val_main_v2_apply, val_main_v1_apply,
    val_main_v11_apply, val_main_v10_apply, val_main_cst_0_apply, val_main_cst_1_apply, val_main_cst_apply]
  have hz : FloatOps.ofBits (F := Ideal) .f32 0x00000000#32 = 0 := zero_bits
  rw [hz, zero_add]
  have es : (∑ d : Fin 1024, val_main_v0 (F := Ideal) x0 (idx_main_v1 (idx_main_v2 (idx_main_v8 (ix3 b p k))) d)) = ∑ d : Fin 1024, x0 (ix3 b p d) * x0 (ix3 b p d) := by
    refine Finset.sum_congr rfl fun d _ => ?_
    rw [val_main_v0_apply]
    have e : idx_main_v1 (idx_main_v2 (idx_main_v8 (ix3 b p k))) d = ix3 b p d := funext fun a => by fin_cases a <;> rfl
    rw [e]
    rfl
  rw [es]
  have eg : idx_main_v10 (idx_main_v11 (ix3 b p k)) = ix1 k := funext fun a => by fin_cases a <;> rfl
  rw [eg]
  rfl

theorem up_apply (b : Fin 2) (p : Fin 8192) (col : Fin 5632) : val_main_v13 (F := Ideal) x0 x1 x2 (ix3 b p col) = upAt x0 x1 x2 b p col := by
  rw [val_main_v13_apply]
  refine Finset.sum_congr rfl fun k _ => ?_
  have el : lidx_main_v13 (ix3 b p col) k = ix3 b p k := funext fun a => by fin_cases a <;> rfl
  have er : ridx_main_v13 (ix3 b p col) k = ix2 k col := funext fun a => by fin_cases a <;> rfl
  rw [el, er, hid_apply]

theorem padded_apply (b : Fin 2) (q : Fin 8194) (col : Fin 5632) : val_main_v14 (F := Ideal) x0 x1 x2 (ix3 b q col) = padded x0 x1 x2 b q.val col := by
  unfold val_main_v14 padded
  have hq := q.isLt
  by_cases h : 2 ≤ q.val
  · rw [dif_pos ⟨h, by omega⟩, ← up_apply]
    refine pad_apply_of_inside _ _ _ _ _ _ _ _ (ix3 b (⟨q.val - 2, by omega⟩ : Fin 8192) col) fun a => ?_
    fin_cases a
    · show b.val = 0 + b.val * 1
      omega
    · show q.val = 2 + (q.val - 2) * 1
      omega
    · show col.val = 0 + col.val * 1
      omega
  · rw [dif_neg fun hh => h hh.1]
    refine (pad_apply_of_not_inside _ _ _ _ _ _ _ _ 1 fun hh => h hh.1).trans ?_
    rw [val_main_call0_v0_apply, val_main_c_apply]
    show (((0#32 : BitVec 32).toInt : ℝ) : EReal) = 0
    simp

theorem conv_apply (b : Fin 2) (p : Fin 8192) (col : Fin 5632) : val_main_v39 (F := Ideal) x0 x1 x2 x3 x4 (ix3 b p col) = conv x0 x1 x2 x3 x4 b p col := by
  have hp := p.isLt
  have hc := col.isLt
  have em : (⟨col.val % 5632, by omega⟩ : Fin 5632) = col := Fin.ext (Nat.mod_eq_of_lt hc)
  rw [val_main_v39_apply, val_main_v38_apply, val_main_v37_apply, val_main_v36_apply, val_main_v35_apply, val_main_v34_apply, val_main_v33_apply, val_main_v32_apply, val_main_v31_apply, val_main_v30_apply,
    val_main_v29_apply, val_main_v28_apply, val_main_v27_apply, val_main_v26_apply, val_main_v25_apply, val_main_v24_apply, val_main_v23_apply, val_main_v22_apply, val_main_v21_apply, val_main_v20_apply,
    val_main_v19_apply, val_main_v18_apply, val_main_v17_apply, val_main_v16_apply, val_main_v15_apply, val_main_cst_2_apply]
  have e0 : idx_main_v15 (idx_main_v16 (idx_main_v18 (idx_main_v19 (ix3 b p col)))) = ix2 0 col := funext fun a => by
    fin_cases a
    · rfl
    · exact em
  have e1 : idx_main_v23 (idx_main_v24 (idx_main_v26 (idx_main_v27 (ix3 b p col)))) = ix2 1 col := funext fun a => by
    fin_cases a
    · rfl
    · exact em
  have e2 : idx_main_v30 (idx_main_v31 (idx_main_v33 (idx_main_v34 (ix3 b p col)))) = ix2 2 col := funext fun a => by
    fin_cases a
    · rfl
    · exact em
  have eb : idx_main_v37 (idx_main_v38 (ix3 b p col)) = ix1 col := funext fun a => by fin_cases a; rfl
  have u0 : idx_main_v17 (ix3 b p col) = ix3 b (⟨p.val, by omega⟩ : Fin 8194) col := funext fun a => by fin_cases a <;> rfl
  have u1 : idx_main_v25 (ix3 b p col) = ix3 b (⟨1 + p.val, by omega⟩ : Fin 8194) col := funext fun a => by fin_cases a <;> rfl
  have u2 : idx_main_v32 (ix3 b p col) = ix3 b (⟨2 + p.val, by omega⟩ : Fin 8194) col := funext fun a => by fin_cases a <;> rfl
  rw [e0, e1, e2, eb, u0, u1, u2, padded_apply, padded_apply, padded_apply]
  have hz : FloatOps.ofBits (F := Ideal) .f32 0x00000000#32 = 0 := zero_bits
  rw [hz]
  unfold conv taps
  show x4 (ix1 col) + (0 + x3 (ix2 0 col) * _ + x3 (ix2 1 col) * _ + x3 (ix2 2 col) * _) = x4 (ix1 col) + x3 (ix2 0 col) * _ + x3 (ix2 1 col) * _ + x3 (ix2 2 col) * _
  rw [zero_add, ← add_assoc, ← add_assoc]

theorem act_apply (b : Fin 2) (p : Fin 8192) (j : Fin 2816) : val_main_v43 (F := Ideal) x0 x1 x2 x3 x4 (ix3 b p j) = act x0 x1 x2 x3 x4 b p j := by
  have hj := j.isLt
  rw [val_main_v43_apply, val_main_v42_apply, val_main_call1_v5_apply, val_main_call1_v4_apply, val_main_call1_v3_apply, val_main_call1_v2_apply, val_main_call1_v1_apply, val_main_call1_v0_apply,
    val_main_v41_apply, val_main_v40_apply, val_main_call1_cst_0_apply, val_main_call1_cst_apply]
  have e0 : idx_main_v40 (ix3 b p j) = ix3 b p (⟨j.val, by omega⟩ : Fin 5632) := funext fun a => by fin_cases a <;> rfl
  have e1 : idx_main_v41 (ix3 b p j) = ix3 b p (⟨2816 + j.val, by omega⟩ : Fin 5632) := funext fun a => by fin_cases a <;> rfl
  rw [e0, e1, conv_apply, conv_apply]
  have ho : FloatOps.ofBits (F := Ideal) .f32 0x3F800000#32 = 1 := one_bits
  rw [ho]
  rfl

/-- One entry of the reference. -/
theorem ref_apply (b : Fin 2) (p : Fin 8192) (k : Fin 1024) : val_main_v45 (F := Ideal) x0 x1 x2 x3 x4 x5 (ix3 b p k) = entry x0 x1 x2 x3 x4 x5 b p k := by
  rw [val_main_v45_apply, val_main_v44_apply]
  refine congrArg (x0 (ix3 b p k) + ·) (Finset.sum_congr rfl fun j _ => ?_)
  have el : lidx_main_v44 (ix3 b p k) j = ix3 b p j := funext fun a => by fin_cases a <;> rfl
  have er : ridx_main_v44 (ix3 b p k) j = ix2 j k := funext fun a => by fin_cases a <;> rfl
  rw [el, er, act_apply]

end Cert.Reference2Ideal.Ffn

end
-- ==== Proof.Ffn.Arrays.lean ====
/-
  The arrays the host lays out for the feed-forward call, entry by entry in the arguments.
-/
module

public import proofs.«01_k».proof.Proof.Ffn.Run
public import Idealize.ShloMosaic.Lib.Pointwise

@[expose] public section

set_option maxRecDepth 16384

noncomputable section

namespace Cert.Kernel2Ideal.Ffn

open Cert.Kernel2Ideal Cert.Kernel2Ideal.Gen
open Idealize.ShloMosaic Idealize.ShloMosaic.TcCoe Idealize.SL.Sem Idealize.ShloMosaic.StableHlo

variable (m : (ℓ : Loc nD τ sig) → Buf (Elt Ideal) ℓ) (c : Dev nD)

/-- The six arguments the run starts from: activations, gain, up projection, taps, bias, down projection. -/
abbrev argX : S2x8192x1024.Idx → EReal := m ((c : Thread nD τ).loc main_arg0)
abbrev argG : S1024.Idx → EReal := m ((c : Thread nD τ).loc main_arg1)
abbrev argU : S1024x5632.Idx → EReal := m ((c : Thread nD τ).loc main_arg2)
abbrev argW : S3x5632.Idx → EReal := m ((c : Thread nD τ).loc main_arg3)
abbrev argB : S5632.Idx → EReal := m ((c : Thread nD τ).loc main_arg4)
abbrev argD : S2816x1024.Idx → EReal := m ((c : Thread nD τ).loc main_arg5)

theorem gArr (k : Fin 1024) : (V m c main_v9 : S1x1024.Idx → EReal) (ix2 0 k) = argG m c (ix1 k) := by
  unfold V
  after_results_simp
  pointwise []

/-- The gate's columns of the up projection, in chunks of 256. -/
theorem gateArr (n : Fin 11) (k : Fin 1024) (j : Fin 256) :
    (V m c main_v11 : S11x1024x256.Idx → EReal) (ix3 n k j) = argU m c (ix2 k (⟨n.val * 256 + j.val, by omega⟩ : Fin 5632)) := by
  unfold V
  after_results_simp
  pointwise []

/-- The value's columns of the up projection, in chunks of 256. -/
theorem valueArr (n : Fin 11) (k : Fin 1024) (j : Fin 256) :
    (V m c main_v13 : S11x1024x256.Idx → EReal) (ix3 n k j) = argU m c (ix2 k (⟨2816 + n.val * 256 + j.val, by omega⟩ : Fin 5632)) := by
  unfold V
  after_results_simp
  pointwise []

/-- The taps of one chunk: the gate's (`h = 0`) and the value's (`h = 1`). -/
theorem tapArr (n : Fin 11) (h : Fin 2) (w : Fin 3) (j : Fin 256) :
    (V m c main_v4 : S11x2x3x256.Idx → EReal) (ix4 n h w j) = argW m c (ix2 w (⟨h.val * 2816 + n.val * 256 + j.val, by omega⟩ : Fin 5632)) := by
  unfold V
  after_results_simp
  pointwise []

/-- The bias of one chunk. -/
theorem biasArr (n : Fin 11) (h : Fin 2) (j : Fin 256) :
    (V m c main_v6 : S11x2x1x256.Idx → EReal) (ix4 n h 0 j) = argB m c (ix1 (⟨h.val * 2816 + n.val * 256 + j.val, by omega⟩ : Fin 5632)) := by
  unfold V
  after_results_simp
  pointwise []

/-- The rows of the down projection, in chunks of 256. -/
theorem downArr (n : Fin 11) (j : Fin 256) (k : Fin 1024) :
    (V m c main_v8 : S11x256x1024.Idx → EReal) (ix3 n j k) = argD m c (ix2 (⟨n.val * 256 + j.val, by omega⟩ : Fin 2816) k) := by
  unfold V
  after_results_simp
  pointwise []

end Cert.Kernel2Ideal.Ffn

end
-- ==== Proof.Ffn.Blocks.lean ====
/-
  The part of each array that a grid point's body is given.
-/
module

public import proofs.«01_k».proof.Proof.Ffn.Run
public import Idealize.ShloMosaic.Lib.Pointwise
public import Idealize.ShloMosaic.Lib.Pipeline.ValueKit.Geometry

@[expose] public section

set_option maxRecDepth 16384

noncomputable section

namespace Cert.Kernel2Ideal.Ffn

open Cert.Kernel2Ideal Cert.Kernel2Ideal.Gen
open Idealize.ShloMosaic Idealize.ShloMosaic.TcCoe Idealize.SL.Sem Idealize.ShloMosaic.StableHlo

variable (m : (ℓ : Loc nD τ sig) → Buf (Elt Ideal) ℓ) (c : Dev nD)

/-! ## The blocks of one grid point -/

theorem index_0 (i : grid0.Coords) : cc0_transform_0 i = ![(i 0).val, (i 1).val, 0] := by
  have h0 : (i 0).val < 2 := (i 0).isLt
  have h1 : (i 1).val < 16 := (i 1).isLt
  funext a
  fin_cases a
  · show (BitVec.ofNat 32 (i 0).val).toNat = (i 0).val
    rw [BitVec.toNat_ofNat]
    omega
  · show (BitVec.ofNat 32 (i 1).val).toNat = (i 1).val
    rw [BitVec.toNat_ofNat]
    omega
  · rfl

/-- The block of eight rows that ends where the point's own block begins. -/
theorem halo_word : ∀ n : Fin 16, (Scalar.maxsi (Scalar.subi (Scalar.muli (BitVec.ofNat 32 n.val) 64#32) 1#32) 0#32).toNat = n.val * 64 - 1 := by decide
theorem index_1 (i : grid0.Coords) : cc0_transform_1 i = ![(i 0).val, (i 1).val * 64 - 1, 0] := by
  funext a
  fin_cases a
  · exact congrFun (index_0 i) 0
  · exact halo_word (i 1)
  · rfl
theorem index_8 (i : grid0.Coords) : cc0_transform_8 i = ![(i 0).val, (i 1).val, 0] := index_0 i

/-- The batch and the block of positions of a grid point. -/
abbrev bAt (t : Fin cfg0.N) : Fin 2 := grid0.coords t 0
abbrev iAt (t : Fin cfg0.N) : Fin 16 := grid0.coords t 1

theorem iblk_0 (t : Fin cfg0.N) (r : Fin 512) (k : Fin 1024) :
    (iblk m c 0 t : S1x512x1024.Idx → EReal) (ix3 0 r k)
      = (V m c main_arg0 : S2x8192x1024.Idx → EReal) (ix3 (bAt t) (⟨(iAt t).val * 512 + r.val, by have := (iAt t).isLt; omega⟩ : Fin 8192) k) := by
  have e : win0_0.index t = ![(bAt t).val, (iAt t).val, 0] := index_0 (grid0.coords t)
  have h : (win0_0.blk t).view.emb (ix3 0 r k) = ix3 (bAt t) (⟨(iAt t).val * 512 + r.val, by have := (iAt t).isLt; omega⟩ : Fin 8192) k := by
    refine funext fun a => Fin.ext ?_
    match a with
    | ⟨0, _⟩ => exact (win0_0.rect_emb_val t _ 0).trans (by rw [e]; exact (Nat.add_zero _).trans (Nat.mul_one _))
    | ⟨1, _⟩ => exact (win0_0.rect_emb_val t _ 1).trans (by rw [e]; rfl)
    | ⟨2, _⟩ => exact win0_0.rect_emb_val_of_index_zero t 2 (congrFun e 2) _
  unfold iblk
  rw [View.read_apply]
  generalize V m c = W
  exact eq_of_heq ((cast_heq _ _).trans (heq_of_eq (congrArg (W main_arg0) h)))

theorem iblk_1 (t : Fin cfg0.N) (r : Fin 8) (k : Fin 1024) :
    (iblk m c 1 t : S1x8x1024.Idx → EReal) (ix3 0 r k)
      = (V m c main_arg0 : S2x8192x1024.Idx → EReal) (ix3 (bAt t) (⟨((iAt t).val * 64 - 1) * 8 + r.val, by have := (iAt t).isLt; omega⟩ : Fin 8192) k) := by
  have e : win0_1.index t = ![(bAt t).val, (iAt t).val * 64 - 1, 0] := index_1 (grid0.coords t)
  have h : (win0_1.blk t).view.emb (ix3 0 r k) = ix3 (bAt t) (⟨((iAt t).val * 64 - 1) * 8 + r.val, by have := (iAt t).isLt; omega⟩ : Fin 8192) k := by
    refine funext fun a => Fin.ext ?_
    match a with
    | ⟨0, _⟩ => exact (win0_1.rect_emb_val t _ 0).trans (by rw [e]; exact (Nat.add_zero _).trans (Nat.mul_one _))
    | ⟨1, _⟩ => exact (win0_1.rect_emb_val t _ 1).trans (by rw [e]; rfl)
    | ⟨2, _⟩ => exact win0_1.rect_emb_val_of_index_zero t 2 (congrFun e 2) _
  unfold iblk
  rw [View.read_apply]
  generalize V m c = W
  exact eq_of_heq ((cast_heq _ _).trans (heq_of_eq (congrArg (W main_arg0) h)))

theorem iblk_2 (t : Fin cfg0.N) (j : S1x1024.Idx) : (iblk m c 2 t : S1x1024.Idx → EReal) j = (V m c main_v9 : S1x1024.Idx → EReal) j := by
  have e : win0_2.index t = ![0, 0] := rfl
  have h : (win0_2.blk t).view.emb j = j := by
    refine funext fun a => Fin.ext ?_
    match a with
    | ⟨0, _⟩ => exact win0_2.rect_emb_val_of_index_zero t 0 (congrFun e 0) _
    | ⟨1, _⟩ => exact win0_2.rect_emb_val_of_index_zero t 1 (congrFun e 1) _
  unfold iblk
  rw [View.read_apply]
  generalize V m c = W
  exact eq_of_heq ((cast_heq _ _).trans (heq_of_eq (congrArg (W main_v9) h)))

theorem iblk_3 (t : Fin cfg0.N) (j : S11x1024x256.Idx) : (iblk m c 3 t : S11x1024x256.Idx → EReal) j = (V m c main_v11 : S11x1024x256.Idx → EReal) j := by
  have e : win0_3.index t = ![0, 0, 0] := rfl
  have h : (win0_3.blk t).view.emb j = j := by
    refine funext fun a => Fin.ext ?_
    match a with
    | ⟨0, _⟩ => exact win0_3.rect_emb_val_of_index_zero t 0 (congrFun e 0) _
    | ⟨1, _⟩ => exact win0_3.rect_emb_val_of_index_zero t 1 (congrFun e 1) _
    | ⟨2, _⟩ => exact win0_3.rect_emb_val_of_index_zero t 2 (congrFun e 2) _
  unfold iblk
  rw [View.read_apply]
  generalize V m c = W
  exact eq_of_heq ((cast_heq _ _).trans (heq_of_eq (congrArg (W main_v11) h)))

theorem iblk_4 (t : Fin cfg0.N) (j : S11x1024x256.Idx) : (iblk m c 4 t : S11x1024x256.Idx → EReal) j = (V m c main_v13 : S11x1024x256.Idx → EReal) j := by
  have e : win0_4.index t = ![0, 0, 0] := rfl
  have h : (win0_4.blk t).view.emb j = j := by
    refine funext fun a => Fin.ext ?_
    match a with
    | ⟨0, _⟩ => exact win0_4.rect_emb_val_of_index_zero t 0 (congrFun e 0) _
    | ⟨1, _⟩ => exact win0_4.rect_emb_val_of_index_zero t 1 (congrFun e 1) _
    | ⟨2, _⟩ => exact win0_4.rect_emb_val_of_index_zero t 2 (congrFun e 2) _
  unfold iblk
  rw [View.read_apply]
  generalize V m c = W
  exact eq_of_heq ((cast_heq _ _).trans (heq_of_eq (congrArg (W main_v13) h)))

theorem iblk_5 (t : Fin cfg0.N) (j : S11x2x3x256.Idx) : (iblk m c 5 t : S11x2x3x256.Idx → EReal) j = (V m c main_v4 : S11x2x3x256.Idx → EReal) j := by
  have e : win0_5.index t = ![0, 0, 0, 0] := rfl
  have h : (win0_5.blk t).view.emb j = j := by
    refine funext fun a => Fin.ext ?_
    match a with
    | ⟨0, _⟩ => exact win0_5.rect_emb_val_of_index_zero t 0 (congrFun e 0) _
    | ⟨1, _⟩ => exact win0_5.rect_emb_val_of_index_zero t 1 (congrFun e 1) _
    | ⟨2, _⟩ => exact win0_5.rect_emb_val_of_index_zero t 2 (congrFun e 2) _
    | ⟨3, _⟩ => exact win0_5.rect_emb_val_of_index_zero t 3 (congrFun e 3) _
  unfold iblk
  rw [View.read_apply]
  generalize V m c = W
  exact eq_of_heq ((cast_heq _ _).trans (heq_of_eq (congrArg (W main_v4) h)))

theorem iblk_6 (t : Fin cfg0.N) (j : S11x2x1x256.Idx) : (iblk m c 6 t : S11x2x1x256.Idx → EReal) j = (V m c main_v6 : S11x2x1x256.Idx → EReal) j := by
  have e : win0_6.index t = ![0, 0, 0, 0] := rfl
  have h : (win0_6.blk t).view.emb j = j := by
    refine funext fun a => Fin.ext ?_
    match a with
    | ⟨0, _⟩ => exact win0_6.rect_emb_val_of_index_zero t 0 (congrFun e 0) _
    | ⟨1, _⟩ => exact win0_6.rect_emb_val_of_index_zero t 1 (congrFun e 1) _
    | ⟨2, _⟩ => exact win0_6.rect_emb_val_of_index_zero t 2 (congrFun e 2) _
    | ⟨3, _⟩ => exact win0_6.rect_emb_val_of_index_zero t 3 (congrFun e 3) _
  unfold iblk
  rw [View.read_apply]
  generalize V m c = W
  exact eq_of_heq ((cast_heq _ _).trans (heq_of_eq (congrArg (W main_v6) h)))

theorem iblk_7 (t : Fin cfg0.N) (j : S11x256x1024.Idx) : (iblk m c 7 t : S11x256x1024.Idx → EReal) j = (V m c main_v8 : S11x256x1024.Idx → EReal) j := by
  have e : win0_7.index t = ![0, 0, 0] := rfl
  have h : (win0_7.blk t).view.emb j = j := by
    refine funext fun a => Fin.ext ?_
    match a with
    | ⟨0, _⟩ => exact win0_7.rect_emb_val_of_index_zero t 0 (congrFun e 0) _
    | ⟨1, _⟩ => exact win0_7.rect_emb_val_of_index_zero t 1 (congrFun e 1) _
    | ⟨2, _⟩ => exact win0_7.rect_emb_val_of_index_zero t 2 (congrFun e 2) _
  unfold iblk
  rw [View.read_apply]
  generalize V m c = W
  exact eq_of_heq ((cast_heq _ _).trans (heq_of_eq (congrArg (W main_v8) h)))

end Cert.Kernel2Ideal.Ffn

end
-- ==== Proof.Ffn.Block.lean ====
/-
  What the feed-forward kernel computes of one block, entry by entry.
-/
module

public import proofs.«01_k».proof.Proof.Ffn.Run
public import proofs.«01_k».proof.Proof.Ffn.Equation
public import Idealize.ShloMosaic.Lib.Pointwise

@[expose] public section

set_option maxRecDepth 16384
set_option maxHeartbeats 4000000

noncomputable section

namespace Cert.Kernel2Ideal.Ffn

open Cert.Kernel2Ideal Cert.Kernel2Ideal.Gen
open Idealize.ShloMosaic FeedForward
open Idealize.ShloMosaic.VecWindow (window put)

/-! ## One block, entry by entry, over the extended reals -/

theorem own_apply (x0 : FVec Ideal S1x512x1024 .f32) (x2 : FVec Ideal S1x1024 .f32) (r : Fin 512) (k : Fin 1024) :
    k0_pay22 (F := Ideal) (k0_pay21 x2 x0) (ix2 r k) = rms (fun d => x0 (ix3 0 r d)) (fun d => x2 (ix2 0 d)) k := by
  unfold k0_pay22 k0_pay21
  pointwise [k0_pay19]
  rfl

theorem first_word : ∀ n : Fin 16, Scalar.cmpi CmpIPredicate.sgt (BitVec.ofNat 32 n.val) 0#32 = BitVec.ofBool (decide (0 < n.val)) := by decide
/-- The eight rows before the block are zero in the first block. -/
theorem halo_apply (i : grid0.Coords) (x1 : FVec Ideal S1x8x1024 .f32) (x2 : FVec Ideal S1x1024 .f32) (r : Fin 8) (k : Fin 1024) :
    k0_pay20 (F := Ideal) i x2 x1 (ix2 r k) = if 0 < (i 1).val then rms (fun d => x1 (ix3 0 r d)) (fun d => x2 (ix2 0 d)) k else 0 := by
  unfold k0_pay20
  pointwise [k0_pay19]
  have hw := first_word (i 1)
  by_cases h : 0 < (i 1).val
  · rw [if_pos h]
    rw [decide_eq_true h] at hw
    rw [hw]
    rfl
  · rw [if_neg h]
    rw [decide_eq_false h] at hw
    rw [hw]
    rfl

theorem up_apply (he : FVec Ideal S520x1024 .bf16) (w : FVec Ideal S1x1024x256 .bf16) (r : Fin 520) (k : Fin 256) :
    up he w (ix4 0 0 r k) = ∑ d : Fin 1024, he (ix2 r d) * w (ix3 0 d k) := by
  unfold up k0_pay24
  pointwise []
theorem sum_apply (x : FVec Ideal S1x512x1024 .f32) (a : FVec Ideal S512x1024 .f32) (r : Fin 512) (k : Fin 1024) :
    k0_pay2 x a (ix3 0 r k) = x (ix3 0 r k) + a (ix2 r k) := by
  unfold k0_pay2
  pointwise []
theorem zero_apply (r : Fin 512) (k : Fin 1024) : (k0_pay23 (F := Ideal)) (ix2 r k) = 0 := by
  unfold k0_pay23
  pointwise []

/-- One chunk's convolved columns, entry by entry. -/
def convAt (h : Fin 2) (cw : FVec Ideal S1x2x3x256 .f32) (cb : FVec Ideal S1x2x1x256 .f32) (u : FVec Ideal S1x1x520x256 .f32) (r : Fin 512) (j : Fin 256) : EReal :=
  taps (cb (ix4 0 h 0 j)) (cw (ix4 0 h 0 j)) (cw (ix4 0 h 1 j)) (cw (ix4 0 h 2 j)) (u (ix4 0 0 (⟨6 + r.val, by omega⟩ : Fin 520) j)) (u (ix4 0 0 (⟨7 + r.val, by omega⟩ : Fin 520) j)) (u (ix4 0 0 (⟨8 + r.val, by omega⟩ : Fin 520) j))
/-- One chunk adds its share of the down projection. -/
theorem down_apply (a : FVec Ideal S512x1024 .f32) (cw : FVec Ideal S1x2x3x256 .f32) (cb : FVec Ideal S1x2x1x256 .f32) (ug uv : FVec Ideal S1x1x520x256 .f32) (wd : FVec Ideal S1x256x1024 .bf16) (r : Fin 512) (k : Fin 1024) :
    down a cw cb ug uv wd (ix2 r k) = a (ix2 r k) + ∑ j : Fin 256, unit (convAt 0 cw cb ug r j) (convAt 1 cw cb uv r j) * wd (ix3 0 j k) := by
  unfold down k0_pay11 k0_pay10 k0_pay5 k0_pay6 k0_pay7 k0_pay8 k0_pay9
  pointwise [k0_pay5, k0_pay6]
  rfl
theorem wBlk_apply (x : FVec Ideal S11x1024x256 .bf16) (n : Fin 11) (k : Fin 1024) (j : Fin 256) : wBlk x n.val (ix3 0 k j) = x (ix3 n k j) := by
  unfold wBlk window
  refine congrArg x (funext fun a => Fin.ext ?_)
  fin_cases a
  · show min n.val 10 + 1 * 0 = n.val
    omega
  · show 0 + 1 * k.val = k.val
    omega
  · show 0 + 1 * j.val = j.val
    omega
theorem dBlk_apply (x : FVec Ideal S11x256x1024 .bf16) (n : Fin 11) (k : Fin 256) (j : Fin 1024) : dBlk x n.val (ix3 0 k j) = x (ix3 n k j) := by
  unfold dBlk window
  refine congrArg x (funext fun a => Fin.ext ?_)
  fin_cases a
  · show min n.val 10 + 1 * 0 = n.val
    omega
  · show 0 + 1 * k.val = k.val
    omega
  · show 0 + 1 * j.val = j.val
    omega
theorem cwBlk_apply (x : FVec Ideal S11x2x3x256 .f32) (n : Fin 11) (h : Fin 2) (k : Fin 3) (j : Fin 256) : cwBlk x n.val (ix4 0 h k j) = x (ix4 n h k j) := by
  unfold cwBlk window
  refine congrArg x (funext fun a => Fin.ext ?_)
  fin_cases a
  · show min n.val 10 + 1 * 0 = n.val
    omega
  · show 0 + 1 * h.val = h.val
    omega
  · show 0 + 1 * k.val = k.val
    omega
  · show 0 + 1 * j.val = j.val
    omega
theorem cbBlk_apply (x : FVec Ideal S11x2x1x256 .f32) (n : Fin 11) (h : Fin 2) (j : Fin 256) : cbBlk x n.val (ix4 0 h 0 j) = x (ix4 n h 0 j) := by
  unfold cbBlk window
  refine congrArg x (funext fun a => Fin.ext ?_)
  fin_cases a
  · show min n.val 10 + 1 * 0 = n.val
    omega
  · show 0 + 1 * h.val = h.val
    omega
  · rfl
  · show 0 + 1 * j.val = j.val
    omega

/-- One entry of a block of the output: the input's, and the eleven chunks' shares. -/
theorem outBlock_apply (i : grid0.Coords) (x0 : FVec Ideal S1x512x1024 .f32) (x1 : FVec Ideal S1x8x1024 .f32) (x2 : FVec Ideal S1x1024 .f32) (x3 x4 : FVec Ideal S11x1024x256 .bf16) (x5 : FVec Ideal S11x2x3x256 .f32) (x6 : FVec Ideal S11x2x1x256 .f32) (x7 : FVec Ideal S11x256x1024 .bf16)
    (r : Fin 512) (k : Fin 1024) :
    outBlock i x0 x1 x2 x3 x4 x5 x6 x7 (ix3 0 r k) = x0 (ix3 0 r k) + ∑ n : Fin 11, ∑ j : Fin 256,
      unit (convAt 0 (cwBlk x5 n.val) (cbBlk x6 n.val) (up (heOf i x0 x1 x2) (wBlk x3 n.val)) r j) (convAt 1 (cwBlk x5 n.val) (cbBlk x6 n.val) (up (heOf i x0 x1 x2) (wBlk x4 n.val)) r j) * dBlk x7 n.val (ix3 0 j k) := by
  unfold outBlock
  rw [sum_apply]
  generalize heOf i x0 x1 x2 = he
  refine congrArg (x0 (ix3 0 r k) + ·) (sum_steps (fun n => accAt he x3 x4 x5 x6 x7 n (ix2 r k))
    (fun n => ∑ j : Fin 256, unit (convAt 0 (cwBlk x5 n) (cbBlk x6 n) (up he (wBlk x3 n)) r j) (convAt 1 (cwBlk x5 n) (cbBlk x6 n) (up he (wBlk x4 n)) r j) * dBlk x7 n (ix3 0 j k))
    (zero_apply r k) fun n _ => ?_)
  exact down_apply _ _ _ _ _ _ _ _

end Cert.Kernel2Ideal.Ffn

end
-- ==== Proof.Ffn.Value.lean ====
/-
  The feed-forward call's result array: what the body leaves at one grid point, and that the blocks together are the
  feed-forward block's entries.
-/
module

public import proofs.«01_k».proof.Proof.Ffn.Arrays
public import proofs.«01_k».proof.Proof.Ffn.Blocks
public import proofs.«01_k».proof.Proof.Ffn.Block
public import Idealize.ShloMosaic.Lib.Pipeline.Covers

@[expose] public section

set_option maxRecDepth 16384

noncomputable section

namespace Cert.Kernel2Ideal.Ffn

open Cert.Kernel2Ideal Cert.Kernel2Ideal.Gen
open Idealize.ShloMosaic Idealize.ShloMosaic.TcCoe Idealize.SL.Sem Idealize.ShloMosaic.StableHlo FeedForward

variable (m : (ℓ : Loc nD τ sig) → Buf (Elt Ideal) ℓ) (c : Dev nD)

/-! ## The value of one block -/

/-- The eight input blocks of a grid point. -/
abbrev xIn (t : Fin cfg0.N) : S1x512x1024.Idx → EReal := iblk m c 0 t
abbrev xpIn (t : Fin cfg0.N) : S1x8x1024.Idx → EReal := iblk m c 1 t
abbrev gIn (t : Fin cfg0.N) : S1x1024.Idx → EReal := iblk m c 2 t
abbrev wgIn (t : Fin cfg0.N) : S11x1024x256.Idx → EReal := iblk m c 3 t
abbrev wvIn (t : Fin cfg0.N) : S11x1024x256.Idx → EReal := iblk m c 4 t
abbrev cwIn (t : Fin cfg0.N) : S11x2x3x256.Idx → EReal := iblk m c 5 t
abbrev cbIn (t : Fin cfg0.N) : S11x2x1x256.Idx → EReal := iblk m c 6 t
abbrev wdIn (t : Fin cfg0.N) : S11x256x1024.Idx → EReal := iblk m c 7 t

theorem xArr (j : S2x8192x1024.Idx) : (V m c main_arg0 : S2x8192x1024.Idx → EReal) j = argX m c j := congrFun (V_main_arg0 m c) j
theorem xIn_apply (t : Fin cfg0.N) (r : Fin 512) (k : Fin 1024) : xIn m c t (ix3 0 r k) = argX m c (ix3 (bAt t) (⟨(iAt t).val * 512 + r.val, by have := (iAt t).isLt; omega⟩ : Fin 8192) k) := (iblk_0 m c t r k).trans (xArr m c _)
theorem xpIn_apply (t : Fin cfg0.N) (r : Fin 8) (k : Fin 1024) : xpIn m c t (ix3 0 r k) = argX m c (ix3 (bAt t) (⟨((iAt t).val * 64 - 1) * 8 + r.val, by have := (iAt t).isLt; omega⟩ : Fin 8192) k) := (iblk_1 m c t r k).trans (xArr m c _)
theorem gIn_apply (t : Fin cfg0.N) (k : Fin 1024) : gIn m c t (ix2 0 k) = argG m c (ix1 k) := (iblk_2 m c t _).trans (gArr m c k)
theorem wgIn_apply (t : Fin cfg0.N) (n : Fin 11) (k : Fin 1024) (j : Fin 256) : wgIn m c t (ix3 n k j) = argU m c (ix2 k (⟨n.val * 256 + j.val, by omega⟩ : Fin 5632)) := (iblk_3 m c t _).trans (gateArr m c n k j)
theorem wvIn_apply (t : Fin cfg0.N) (n : Fin 11) (k : Fin 1024) (j : Fin 256) : wvIn m c t (ix3 n k j) = argU m c (ix2 k (⟨2816 + n.val * 256 + j.val, by omega⟩ : Fin 5632)) := (iblk_4 m c t _).trans (valueArr m c n k j)
theorem cwIn_apply (t : Fin cfg0.N) (n : Fin 11) (h : Fin 2) (w : Fin 3) (j : Fin 256) : cwIn m c t (ix4 n h w j) = argW m c (ix2 w (⟨h.val * 2816 + n.val * 256 + j.val, by omega⟩ : Fin 5632)) := (iblk_5 m c t _).trans (tapArr m c n h w j)
theorem cbIn_apply (t : Fin cfg0.N) (n : Fin 11) (h : Fin 2) (j : Fin 256) : cbIn m c t (ix4 n h 0 j) = argB m c (ix1 (⟨h.val * 2816 + n.val * 256 + j.val, by omega⟩ : Fin 5632)) := (iblk_6 m c t _).trans (biasArr m c n h j)
theorem wdIn_apply (t : Fin cfg0.N) (n : Fin 11) (j : Fin 256) (k : Fin 1024) : wdIn m c t (ix3 n j k) = argD m c (ix2 (⟨n.val * 256 + j.val, by omega⟩ : Fin 2816) k) := (iblk_7 m c t _).trans (downArr m c n j k)

/-- The normalised rows a grid point computes. -/
abbrev heAt (t : Fin cfg0.N) : S520x1024.Idx → EReal := heOf (F := Ideal) (grid0.coords t) (xIn m c t) (xpIn m c t) (gIn m c t)

/-- Row `r` is the position eight before the block's own row `r`, and zero before the first position. -/
theorem heAt_apply (t : Fin cfg0.N) (r : Fin 520) (k : Fin 1024) :
    heAt m c t (ix2 r k) = if h : 8 ≤ (iAt t).val * 512 + r.val then hid (argX m c) (argG m c) (bAt t) (⟨(iAt t).val * 512 + r.val - 8, by have := (iAt t).isLt; omega⟩ : Fin 8192) k else 0 := by
  have hi := (iAt t).isLt
  have hr := r.isLt
  have hg : (fun d : Fin 1024 => gIn m c t (ix2 0 d)) = fun d => argG m c (ix1 d) := funext fun d => gIn_apply m c t d
  show heCat (F := Ideal) _ _ (ix2 r k) = _
  unfold heCat
  by_cases h8 : r.val < 8
  · refine (dif_pos h8).trans ((halo_apply (grid0.coords t) (xpIn m c t) (gIn m c t) ⟨r.val, h8⟩ k).trans ?_)
    by_cases h0 : 0 < (iAt t).val
    · rw [if_pos h0, dif_pos (show 8 ≤ (iAt t).val * 512 + r.val by omega), hg]
      unfold hid
      refine congrArg (fun row => rms row _ k) (funext fun d => ?_)
      rw [xpIn_apply]
      refine congrArg (fun q : Fin 8192 => argX m c (ix3 (bAt t) q d)) (Fin.ext ?_)
      show ((iAt t).val * 64 - 1) * 8 + r.val = (iAt t).val * 512 + r.val - 8
      omega
    · rw [if_neg h0, dif_neg (show ¬8 ≤ (iAt t).val * 512 + r.val by omega)]
  · refine (dif_neg h8).trans ((own_apply (xIn m c t) (gIn m c t) ⟨r.val - 8, by omega⟩ k).trans ?_)
    rw [dif_pos (show 8 ≤ (iAt t).val * 512 + r.val by omega), hg]
    unfold hid
    refine congrArg (fun row => rms row _ k) (funext fun d => ?_)
    rw [xIn_apply]
    refine congrArg (fun q : Fin 8192 => argX m c (ix3 (bAt t) q d)) (Fin.ext ?_)
    show (iAt t).val * 512 + (r.val - 8) = (iAt t).val * 512 + r.val - 8
    omega

/-- So its up projection is the padded one, six rows down. -/
theorem upAt_apply (t : Fin cfg0.N) (w : S1x1024x256.Idx → EReal) (j : Fin 256) (col : Fin 5632) (hw : ∀ k, w (ix3 0 k j) = argU m c (ix2 k col)) (r : Fin 520) (q : ℕ) (hq : q + 6 = (iAt t).val * 512 + r.val) :
    up (F := Ideal) (heAt m c t) w (ix4 0 0 r j) = padded (argX m c) (argG m c) (argU m c) (bAt t) q col := by
  have hi := (iAt t).isLt
  have hr := r.isLt
  rw [up_apply]
  unfold padded
  by_cases h : 2 ≤ q
  · rw [dif_pos ⟨h, by omega⟩]
    refine Finset.sum_congr rfl fun k _ => ?_
    rw [hw, heAt_apply, dif_pos (show 8 ≤ (iAt t).val * 512 + r.val by omega)]
    refine congrArg (fun p : Fin 8192 => hid (argX m c) (argG m c) (bAt t) p k * _) (Fin.ext ?_)
    show (iAt t).val * 512 + r.val - 8 = q - 2
    omega
  · rw [dif_neg fun hh => h hh.1]
    refine Finset.sum_eq_zero fun k _ => ?_
    rw [heAt_apply, dif_neg (show ¬8 ≤ (iAt t).val * 512 + r.val by omega), zero_mul]

/-- And its convolved columns are the block's. -/
theorem convAt_apply (t : Fin cfg0.N) (n : Fin 11) (h : Fin 2) (w : S1x1024x256.Idx → EReal) (j : Fin 256) (col : Fin 5632) (hcol : col.val = h.val * 2816 + n.val * 256 + j.val)
    (hw : ∀ k, w (ix3 0 k j) = argU m c (ix2 k col)) (r : Fin 512) :
    convAt h (cwBlk (F := Ideal) (cwIn m c t) n.val) (cbBlk (F := Ideal) (cbIn m c t) n.val) (up (F := Ideal) (heAt m c t) w) r j
      = conv (argX m c) (argG m c) (argU m c) (argW m c) (argB m c) (bAt t) (⟨(iAt t).val * 512 + r.val, by have := (iAt t).isLt; omega⟩ : Fin 8192) col := by
  have hi := (iAt t).isLt
  have hr := r.isLt
  have ec : (⟨h.val * 2816 + n.val * 256 + j.val, by omega⟩ : Fin 5632) = col := Fin.ext hcol.symm
  unfold convAt conv
  rw [cwBlk_apply, cwBlk_apply, cwBlk_apply, cbBlk_apply, cwIn_apply, cwIn_apply, cwIn_apply, cbIn_apply, ec,
    upAt_apply m c t w j col hw ⟨6 + r.val, by omega⟩ ((iAt t).val * 512 + r.val) (by show _ = (iAt t).val * 512 + (6 + r.val); omega),
    upAt_apply m c t w j col hw ⟨7 + r.val, by omega⟩ (1 + ((iAt t).val * 512 + r.val)) (by show _ = (iAt t).val * 512 + (7 + r.val); omega),
    upAt_apply m c t w j col hw ⟨8 + r.val, by omega⟩ (2 + ((iAt t).val * 512 + r.val)) (by show _ = (iAt t).val * 512 + (8 + r.val); omega)]

/-- The result: the feed-forward block of the six arrays. -/
def result : S2x8192x1024.Idx → EReal := fun i => entry (argX m c) (argG m c) (argU m c) (argW m c) (argB m c) (argD m c) (i 0) (i 1) (i 2)

/-- What the body leaves at one point is the result's block there. -/
theorem outAt_eq (t : Fin cfg0.N) (r : Fin 512) (k : Fin 1024) :
    (outAt m c t : S1x512x1024.Idx → EReal) (ix3 0 r k)
      = result m c (ix3 (bAt t) (⟨(iAt t).val * 512 + r.val, by have := (iAt t).isLt; omega⟩ : Fin 8192) k) := by
  have hi := (iAt t).isLt
  have hr := r.isLt
  refine (outBlock_apply (grid0.coords t) (xIn m c t) (xpIn m c t) (gIn m c t) (wgIn m c t) (wvIn m c t) (cwIn m c t) (cbIn m c t) (wdIn m c t) r k).trans ?_
  show _ = entry (argX m c) (argG m c) (argU m c) (argW m c) (argB m c) (argD m c) (bAt t) (⟨(iAt t).val * 512 + r.val, by omega⟩ : Fin 8192) k
  unfold entry
  rw [xIn_apply, sum_chunks]
  refine congrArg (_ + ·) (Finset.sum_congr rfl fun n _ => Finset.sum_congr rfl fun j _ => ?_)
  have hn := n.isLt
  have hj := j.isLt
  unfold act
  rw [dBlk_apply, wdIn_apply]
  refine congrArg (· * _) (congrArg₂ unit ?_ ?_)
  · exact convAt_apply m c t n 0 _ j (⟨n.val * 256 + j.val, by omega⟩ : Fin 5632) (by show n.val * 256 + j.val = 0 * 2816 + n.val * 256 + j.val; omega)
      (fun d => (wBlk_apply (wgIn m c t) n d j).trans (wgIn_apply m c t n d j)) r
  · refine convAt_apply m c t n 1 _ j (⟨2816 + (n.val * 256 + j.val), by omega⟩ : Fin 5632) (by show 2816 + (n.val * 256 + j.val) = 1 * 2816 + n.val * 256 + j.val; omega)
      (fun d => (wBlk_apply (wvIn m c t) n d j).trans ((wvIn_apply m c t n d j).trans (congrArg (fun col : Fin 5632 => argU m c (ix2 d col)) (Fin.ext ?_)))) r
    show 2816 + n.val * 256 + j.val = 2816 + (n.val * 256 + j.val)
    omega

theorem flushed_eq (t : Fin cfg0.N) : (dats m 0 c).flushed 8 t = ((cfg0.win 8).blk t).view.read (Elt Ideal) (result m c) := by
  show (cfg0.win 8).cut (grid0.coords t) ((dats m 0 c).after 8 t) = _
  rw [after_8]
  funext j
  have h0 : (j 0).val = 0 := by have : (j 0).val < 1 := (j 0).isLt; omega
  have hj : j = (ix3 (0 : Fin 1) (j 1 : Fin 512) (j 2 : Fin 1024) : S1x512x1024.Idx) := by
    funext a
    match a with
    | ⟨0, _⟩ => exact Fin.ext h0
    | ⟨1, _⟩ => rfl
    | ⟨2, _⟩ => rfl
  have e : win0_8.index t = ![(bAt t).val, (iAt t).val, 0] := index_8 (grid0.coords t)
  have h : (win0_8.blk t).view.emb j = ix3 (bAt t) (⟨(iAt t).val * 512 + (j 1 : Fin 512).val, by have := (iAt t).isLt; have : (j 1).val < 512 := (j 1).isLt; omega⟩ : Fin 8192) (j 2 : Fin 1024) := by
    refine funext fun a => Fin.ext ?_
    match a with
    | ⟨0, _⟩ => exact (win0_8.rect_emb_val t j 0).trans (by rw [e, h0]; exact (Nat.add_zero _).trans (Nat.mul_one _))
    | ⟨1, _⟩ => exact (win0_8.rect_emb_val t j 1).trans (by rw [e]; rfl)
    | ⟨2, _⟩ => exact win0_8.rect_emb_val_of_index_zero t 2 (congrFun e 2) _
  have ho := outAt_eq m c t (j 1) (j 2)
  rw [View.read_apply]
  generalize result m c = R at ho ⊢
  refine eq_of_heq (HEq.trans (heq_of_eq ?_) (cast_heq _ _).symm)
  refine (congrArg (outAt m c t : S1x512x1024.Idx → EReal) hj).trans (ho.trans (congrArg R h.symm))

/-- So the result array ends at the result: every entry lies in some point's block. -/
theorem final_o : (dats m 0 c).arrAt 8 cfg0.N = result m c :=
  (dats m 0 c).arrAt_eq_of_cover 8 (result m c) (fun t _ => flushed_eq m c t) fun i => by
    have h0 : (i 0).val < 2 := (i 0).isLt
    have h1 : (i 1).val < 8192 := (i 1).isLt
    have h2 : (i 2).val < 1024 := (i 2).isLt
    let x : grid0.Coords := fun a => match a with
      | ⟨0, _⟩ => (⟨(i 0).val, h0⟩ : Fin 2)
      | ⟨1, _⟩ => (⟨(i 1).val / 512, by omega⟩ : Fin 16)
    obtain ⟨t, ht⟩ := Pipeline.Grid.coords_surjective grid0 x
    refine ⟨t, flush0_8 t, ?_⟩
    show i ∈ ((View.whole main_v14).slice (win0_8.rect t)).set
    rw [View.set_slice_whole, Rect.mem_set_unit]
    intro a
    match a with
    | ⟨0, _⟩ =>
      show cc0_transform_8 (grid0.coords t) 0 * 1 ≤ (i 0).val ∧ (i 0).val < cc0_transform_8 (grid0.coords t) 0 * 1 + 1
      rw [index_8, ht]
      show (i 0).val * 1 ≤ (i 0).val ∧ (i 0).val < (i 0).val * 1 + 1
      omega
    | ⟨1, _⟩ =>
      show cc0_transform_8 (grid0.coords t) 1 * 512 ≤ (i 1).val ∧ (i 1).val < cc0_transform_8 (grid0.coords t) 1 * 512 + 512
      rw [index_8, ht]
      show (i 1).val / 512 * 512 ≤ (i 1).val ∧ (i 1).val < (i 1).val / 512 * 512 + 512
      omega
    | ⟨2, _⟩ =>
      show cc0_transform_8 (grid0.coords t) 2 * 1024 ≤ (i 2).val ∧ (i 2).val < cc0_transform_8 (grid0.coords t) 2 * 1024 + 1024
      rw [index_8]
      show 0 * 1024 ≤ (i 2).val ∧ (i 2).val < 0 * 1024 + 1024
      omega

/-- The run, read: on every device the result array ends at the feed-forward block of the arguments, and the arguments are unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (run_main m ρ)
  exact ⟨((h.1 c).1 8).trans (final_o m c),
    ((h.1 c).1 1).trans (((dats m 0 c).arrAt_in 1 rfl _).trans ((A_eq m c 1).trans (V_main_arg0 m c))),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c)⟩

end Cert.Kernel2Ideal.Ffn

end
-- ==== Proof.Out.Value.lean ====
/-
  The output projection's result array: what one grid point leaves, and that the blocks together are the residual plus
  the product with the weights.
-/
module

public import proofs.«01_k».proof.Proof.Gen.Kernel3Ideal.Value
public import proofs.«01_k».proof.Proof.Gen.Reference3Ideal.Read
public import Idealize.ShloMosaic.Lib.Pointwise
public import Idealize.ShloMosaic.Lib.Pipeline.ValueKit.Geometry
public import Idealize.ShloMosaic.Lib.Pipeline.Covers

@[expose] public section

set_option maxRecDepth 16384

noncomputable section

namespace Cert.Kernel3Ideal.Out

open Cert.Kernel3Ideal Cert.Kernel3Ideal.Gen
open Idealize.ShloMosaic Idealize.ShloMosaic.TcCoe Idealize.SL.Sem Idealize.ShloMosaic.StableHlo

/-- One entry: the residual, and the row of `a` against the column of `w`. -/
def entry (x a : S2x8192x1024.Idx → EReal) (w : S1024x1024.Idx → EReal) (b : Fin 2) (p : Fin 8192) (k : Fin 1024) : EReal :=
  x (ix3 b p k) + ∑ d : Fin 1024, a (ix3 b p d) * w (ix2 d k)

/-- What the body computes of one block. -/
theorem block_apply (x0 : FVec Ideal S1x512x1024 .f32) (x1 : FVec Ideal S1x512x1024 .bf16) (x2 : FVec Ideal S1024x1024 .bf16) (r : Fin 512) (k : Fin 1024) :
    out0_3 (F := Ideal) x0 x1 x2 (ix3 0 r k) = x0 (ix3 0 r k) + ∑ d : Fin 1024, x1 (ix3 0 r d) * x2 (ix2 d k) := by
  unfold out0_3
  rw [View.canon_unit_zero (by funext a; fin_cases a <;> rfl), View.ld_unit_zero (by funext a; fin_cases a <;> rfl), View.ld_unit_zero (by funext a; fin_cases a <;> rfl), View.ld_unit_zero (by funext a; fin_cases a <;> rfl)]
  unfold k0_pay1
  pointwise []

variable (m : (ℓ : Loc nD τ sig) → Buf (Elt Ideal) ℓ) (c : Dev nD)

/-- The three arguments the run starts from: the residual, the mixer's output, the weights. -/
abbrev argX : S2x8192x1024.Idx → EReal := m ((c : Thread nD τ).loc main_arg0)
abbrev argA : S2x8192x1024.Idx → EReal := m ((c : Thread nD τ).loc main_arg1)
abbrev argW : S1024x1024.Idx → EReal := m ((c : Thread nD τ).loc main_arg2)

theorem aArr (j : S2x8192x1024.Idx) : (V m c main_v0 : S2x8192x1024.Idx → EReal) j = argA m c j := by
  unfold V
  after_results_simp
  rfl
theorem wArr (j : S1024x1024.Idx) : (V m c main_v1 : S1024x1024.Idx → EReal) j = argW m c j := by
  unfold V
  after_results_simp
  rfl
theorem xArr (j : S2x8192x1024.Idx) : (V m c main_arg0 : S2x8192x1024.Idx → EReal) j = argX m c j := congrFun (V_main_arg0 m c) j

theorem index_0 (i : grid0.Coords) : cc0_transform_0 i = ![(i 0).val, (i 1).val, 0] := by
  have h0 : (i 0).val < 2 := (i 0).isLt
  have h1 : (i 1).val < 16 := (i 1).isLt
  funext a
  fin_cases a
  · show (BitVec.ofNat 32 (i 0).val).toNat = (i 0).val
    rw [BitVec.toNat_ofNat]
    omega
  · show (BitVec.ofNat 32 (i 1).val).toNat = (i 1).val
    rw [BitVec.toNat_ofNat]
    omega
  · rfl

/-- The batch and the block of positions of a grid point. -/
abbrev bAt (t : Fin cfg0.N) : Fin 2 := grid0.coords t 0
abbrev iAt (t : Fin cfg0.N) : Fin 16 := grid0.coords t 1
/-- The position of row `r` of a grid point's block. -/
abbrev rowAt (t : Fin cfg0.N) (r : Fin 512) : Fin 8192 := ⟨(iAt t).val * 512 + r.val, by have := (iAt t).isLt; omega⟩

theorem iblk_0 (t : Fin cfg0.N) (r : Fin 512) (k : Fin 1024) :
    (iblk m c 0 t : S1x512x1024.Idx → EReal) (ix3 0 r k) = argX m c (ix3 (bAt t) (rowAt t r) k) := by
  have e : win0_0.index t = ![(bAt t).val, (iAt t).val, 0] := index_0 (grid0.coords t)
  have h : (win0_0.blk t).view.emb (ix3 0 r k) = ix3 (bAt t) (rowAt t r) k := by
    refine funext fun a => Fin.ext ?_
    match a with
    | ⟨0, _⟩ => exact (win0_0.rect_emb_val t _ 0).trans (by rw [e]; exact (Nat.add_zero _).trans (Nat.mul_one _))
    | ⟨1, _⟩ => exact (win0_0.rect_emb_val t _ 1).trans (by rw [e]; rfl)
    | ⟨2, _⟩ => exact win0_0.rect_emb_val_of_index_zero t 2 (congrFun e 2) _
  refine Eq.trans ?_ (xArr m c _)
  unfold iblk
  rw [View.read_apply]
  generalize V m c = U
  exact eq_of_heq ((cast_heq _ _).trans (heq_of_eq (congrArg (U main_arg0) h)))

theorem iblk_1 (t : Fin cfg0.N) (r : Fin 512) (k : Fin 1024) :
    (iblk m c 1 t : S1x512x1024.Idx → EReal) (ix3 0 r k) = argA m c (ix3 (bAt t) (rowAt t r) k) := by
  have e : win0_1.index t = ![(bAt t).val, (iAt t).val, 0] := index_0 (grid0.coords t)
  have h : (win0_1.blk t).view.emb (ix3 0 r k) = ix3 (bAt t) (rowAt t r) k := by
    refine funext fun a => Fin.ext ?_
    match a with
    | ⟨0, _⟩ => exact (win0_1.rect_emb_val t _ 0).trans (by rw [e]; exact (Nat.add_zero _).trans (Nat.mul_one _))
    | ⟨1, _⟩ => exact (win0_1.rect_emb_val t _ 1).trans (by rw [e]; rfl)
    | ⟨2, _⟩ => exact win0_1.rect_emb_val_of_index_zero t 2 (congrFun e 2) _
  refine Eq.trans ?_ (aArr m c _)
  unfold iblk
  rw [View.read_apply]
  generalize V m c = U
  exact eq_of_heq ((cast_heq _ _).trans (heq_of_eq (congrArg (U main_v0) h)))

theorem iblk_2 (t : Fin cfg0.N) (j : S1024x1024.Idx) : (iblk m c 2 t : S1024x1024.Idx → EReal) j = argW m c j := by
  have e : win0_2.index t = ![0, 0] := rfl
  have h : (win0_2.blk t).view.emb j = j := by
    refine funext fun a => Fin.ext ?_
    match a with
    | ⟨0, _⟩ => exact win0_2.rect_emb_val_of_index_zero t 0 (congrFun e 0) _
    | ⟨1, _⟩ => exact win0_2.rect_emb_val_of_index_zero t 1 (congrFun e 1) _
  refine Eq.trans ?_ (wArr m c _)
  unfold iblk
  rw [View.read_apply]
  generalize V m c = U
  exact eq_of_heq ((cast_heq _ _).trans (heq_of_eq (congrArg (U main_v1) h)))

/-- The result: the residual plus the product. -/
def result : S2x8192x1024.Idx → EReal := fun i => entry (argX m c) (argA m c) (argW m c) (i 0) (i 1) (i 2)

/-- What the body leaves at a grid point. -/
abbrev outAt (t : Fin cfg0.N) : S1x512x1024.Idx → EReal := out0_3 (F := Ideal) (iblk m c 0 t) (iblk m c 1 t) (iblk m c 2 t)

theorem outAt_eq (t : Fin cfg0.N) (r : Fin 512) (k : Fin 1024) : outAt m c t (ix3 0 r k) = result m c (ix3 (bAt t) (rowAt t r) k) := by
  refine (block_apply _ _ _ r k).trans ?_
  refine congrArg₂ (· + ·) (iblk_0 m c t r k) (Finset.sum_congr rfl fun d _ => ?_)
  exact congrArg₂ (· * ·) (iblk_1 m c t r d) (iblk_2 m c t (ix2 d k))

theorem flushed_eq (t : Fin cfg0.N) : (dats m 0 c).flushed 3 t = ((cfg0.win 3).blk t).view.read (Elt Ideal) (result m c) := by
  rw [Value.flushed3]
  funext j
  have h0 : (j 0).val = 0 := by have : (j 0).val < 1 := (j 0).isLt; omega
  have hj : j = (ix3 (0 : Fin 1) (j 1 : Fin 512) (j 2 : Fin 1024) : S1x512x1024.Idx) := by
    funext a
    match a with
    | ⟨0, _⟩ => exact Fin.ext h0
    | ⟨1, _⟩ => rfl
    | ⟨2, _⟩ => rfl
  have e : win0_3.index t = ![(bAt t).val, (iAt t).val, 0] := index_0 (grid0.coords t)
  have h : (win0_3.blk t).view.emb j = ix3 (bAt t) (rowAt t (j 1)) (j 2 : Fin 1024) := by
    refine funext fun a => Fin.ext ?_
    match a with
    | ⟨0, _⟩ => exact (win0_3.rect_emb_val t j 0).trans (by rw [e, h0]; exact (Nat.add_zero _).trans (Nat.mul_one _))
    | ⟨1, _⟩ => exact (win0_3.rect_emb_val t j 1).trans (by rw [e]; rfl)
    | ⟨2, _⟩ => exact win0_3.rect_emb_val_of_index_zero t 2 (congrFun e 2) _
  have ho := outAt_eq m c t (j 1) (j 2)
  rw [View.read_apply]
  generalize result m c = R at ho ⊢
  refine eq_of_heq (HEq.trans (heq_of_eq ?_) (cast_heq _ _).symm)
  refine (congrArg (outAt m c t) hj).trans (ho.trans (congrArg R h.symm))

/-- So the result array ends at the result: every entry lies in some point's block. -/
theorem final_o : (dats m 0 c).arrAt 3 cfg0.N = result m c :=
  (dats m 0 c).arrAt_eq_of_cover 3 (result m c) (fun t _ => flushed_eq m c t) fun i => by
    have h0 : (i 0).val < 2 := (i 0).isLt
    have h1 : (i 1).val < 8192 := (i 1).isLt
    have h2 : (i 2).val < 1024 := (i 2).isLt
    let x : grid0.Coords := fun a => match a with
      | ⟨0, _⟩ => (⟨(i 0).val, h0⟩ : Fin 2)
      | ⟨1, _⟩ => (⟨(i 1).val / 512, by omega⟩ : Fin 16)
    obtain ⟨t, ht⟩ := Pipeline.Grid.coords_surjective grid0 x
    refine ⟨t, flush0_3 t, ?_⟩
    show i ∈ ((View.whole main_v2).slice (win0_3.rect t)).set
    rw [View.set_slice_whole, Rect.mem_set_unit]
    intro a
    match a with
    | ⟨0, _⟩ =>
      show cc0_transform_0 (grid0.coords t) 0 * 1 ≤ (i 0).val ∧ (i 0).val < cc0_transform_0 (grid0.coords t) 0 * 1 + 1
      rw [index_0, ht]
      show (i 0).val * 1 ≤ (i 0).val ∧ (i 0).val < (i 0).val * 1 + 1
      omega
    | ⟨1, _⟩ =>
      show cc0_transform_0 (grid0.coords t) 1 * 512 ≤ (i 1).val ∧ (i 1).val < cc0_transform_0 (grid0.coords t) 1 * 512 + 512
      rw [index_0, ht]
      show (i 1).val / 512 * 512 ≤ (i 1).val ∧ (i 1).val < (i 1).val / 512 * 512 + 512
      omega
    | ⟨2, _⟩ =>
      show cc0_transform_0 (grid0.coords t) 2 * 1024 ≤ (i 2).val ∧ (i 2).val < cc0_transform_0 (grid0.coords t) 2 * 1024 + 1024
      rw [index_0]
      show 0 * 1024 ≤ (i 2).val ∧ (i 2).val < 0 * 1024 + 1024
      omega

/-- One entry of the reference is the same. -/
theorem ref_eq (x a : S2x8192x1024.Idx → EReal) (w : S1024x1024.Idx → EReal) :
    Cert.Reference3Ideal.Read.val_main_v1 (F := Ideal) x a w = fun i => entry x a w (i 0) (i 1) (i 2) := by
  funext i
  rw [Cert.Reference3Ideal.Read.val_main_v1_apply, Cert.Reference3Ideal.Read.val_main_v0_apply]
  refine congrArg₂ (fun u v : EReal => u + v) (congrArg x (eq_ix3 i)) (Finset.sum_congr rfl fun d _ => ?_)
  exact congrArg₂ (fun u v : EReal => u * v) (congrArg a (funext fun e => by fin_cases e <;> rfl)) (congrArg w (funext fun e => by fin_cases e <;> rfl))

end Cert.Kernel3Ideal.Out

end
-- ==== Proof.Qkv.Equation.lean ====
/-
  The projections to queries, keys and values, entry by entry: rows scaled to unit mean square, one product with a matrix of
  3072 columns, and for the queries and keys each group of 64 columns scaled to unit mean square again.
  The group's sum of squares is also written over 256 columns with a matrix that is one inside a group and zero across
  groups, the square split in a part and a rest: for real rows the two forms are equal.
-/
module

public import proofs.«01_k».proof.Proof.Ffn.Equation
public import proofs.«01_k».proof.Proof.Mla.Equation

@[expose] public section

noncomputable section

namespace Projection

open Idealize.ShloMosaic FeedForward

variable (x : (⟨3, ![2, 8192, 1024]⟩ : Shape).Idx → EReal) (g : (⟨1, ![1024]⟩ : Shape).Idx → EReal) (w : (⟨2, ![1024, 3072]⟩ : Shape).Idx → EReal)
  (gain : (⟨1, ![64]⟩ : Shape).Idx → EReal)

/-- One column of the projection of one position. -/
def proj (b : Fin 2) (p : Fin 8192) (col : Fin 3072) : EReal := ∑ k : Fin 1024, hid x g b p k * w (ix2 k col)
/-- An entry over the root mean square of the 64 entries of its head, times the gain. -/
def scaled (y : EReal) (head : Fin 64 → EReal) (gn : EReal) : EReal :=
  y * Ideal.rsqrt (Ideal.div (∑ j : Fin 64, head j * head j) (Ideal.ofBits .f32 0x42800000#32) + Ideal.ofBits .f32 0x358637BD#32) * gn
/-- The queries (`s = 0`) and the keys (`s = 1`): head pair `pr`, position `p` and channel `l` of the pair's 128. -/
def head (s : Fin 2) (b : Fin 2) (pr : Fin 8) (p : Fin 8192) (l : Fin 128) : EReal :=
  scaled (proj x g w b p ⟨1024 * s.val + 128 * pr.val + l.val, by omega⟩)
    (fun j => proj x g w b p ⟨1024 * s.val + 128 * pr.val + 64 * (l.val / 64) + j.val, by omega⟩) (gain (ix1 (⟨l.val % 64, by omega⟩ : Fin 64)))
/-- The values: head pair `pr`, block of positions `n`, channel `l` and position `t` of the block. -/
def value (b : Fin 2) (pr : Fin 8) (n : Fin 32) (l : Fin 128) (t : Fin 256) : EReal :=
  proj x g w b ⟨256 * n.val + t.val, by omega⟩ ⟨2048 + 128 * pr.val + l.val, by omega⟩

/-- The scaling over 256 columns: squares in a part and the rest, each times the matrix `bd`, the sum over 64 times 1/64. -/
def masked (bd : Fin 256 → Fin 256 → EReal) (y gn : Fin 256 → EReal) (k : Fin 256) : EReal :=
  y k * Ideal.rsqrt ((∑ j, y j * y j * bd j k + ∑ j, (y j * y j - y j * y j) * bd j k) * Ideal.ofBits .f32 0x3C800000#32 + Ideal.ofBits .f32 0x358637BD#32) * gn k

theorem ofBits_64 : Ideal.ofBits .f32 0x42800000#32 = ((64 : ℝ) : EReal) := by
  simp [Ideal.ofBits, Ideal.ieee]
  rw [← EReal.coe_mul]
  norm_num
theorem ofBits_inv64 : Ideal.ofBits .f32 0x3C800000#32 = ((1 / 64 : ℝ) : EReal) := by
  simp [Ideal.ofBits, Ideal.ieee]
  rw [← EReal.coe_mul]
  norm_num
theorem ofBits_1024 : Ideal.ofBits .f32 0x44800000#32 = ((1024 : ℝ) : EReal) := by
  simp [Ideal.ofBits, Ideal.ieee]
  rw [← EReal.coe_mul]
  norm_num
/-- The constant added below the root is a positive real. -/
theorem eps_pos : ∃ e : ℝ, 0 < e ∧ Ideal.ofBits .f32 0x358637BD#32 = (e : EReal) := by
  have h : ∃ e : ℝ, 0 < e ∧ Ideal.ieee 8 23 (0x358637BD#32) = (e : EReal) := by
    unfold Ideal.ieee
    simp
    refine ⟨_, ?_, (EReal.coe_mul _ _).symm⟩
    positivity
  exact h

/-- The sum over the 256 columns of a matrix that is one inside a group of 64 and zero across is the group's sum. -/
theorem sum_group (f : Fin 256 → EReal) (k : Fin 256) :
    ∑ j : Fin 256, f j * (if j.val / 64 = k.val / 64 then 1 else 0) = ∑ j : Fin 64, f ⟨64 * (k.val / 64) + j.val, by omega⟩ := by
  rw [← Equiv.sum_comp (finProdFinEquiv (m := 4) (n := 64)), Fintype.sum_prod_type]
  rw [Finset.sum_eq_single (⟨k.val / 64, by omega⟩ : Fin 4)]
  · refine Finset.sum_congr rfl fun j _ => ?_
    have hj := j.isLt
    have e : (finProdFinEquiv ((⟨k.val / 64, by omega⟩ : Fin 4), j) : Fin (4 * 64)).val = j.val + 64 * (k.val / 64) := rfl
    rw [if_pos (by rw [e]; omega), mul_one]
    exact congrArg f (Fin.ext (e.trans (by show _ = 64 * (k.val / 64) + j.val; omega)))
  · intro n _ hn
    refine Finset.sum_eq_zero fun j _ => ?_
    have hj := j.isLt
    have e : (finProdFinEquiv (n, j) : Fin (4 * 64)).val = j.val + 64 * n.val := rfl
    rw [if_neg (by rw [e]; intro h; exact hn (Fin.ext (by show n.val = k.val / 64; omega))), mul_zero]
  · intro h
    exact absurd (Finset.mem_univ _) h

/-- The two scalings of a real row are one. -/
theorem masked_eq (bd : Fin 256 → Fin 256 → EReal) (hbd : ∀ j k, bd j k = if j.val / 64 = k.val / 64 then 1 else 0) (y gn : Fin 256 → EReal)
    (hy : ∀ j, ∃ r : ℝ, y j = (r : EReal)) (k : Fin 256) :
    masked bd y gn k = scaled (y k) (fun j => y ⟨64 * (k.val / 64) + j.val, by omega⟩) (gn k) := by
  choose r hr using hy
  have e1 : ∑ j, y j * y j * bd j k = ∑ j : Fin 64, y ⟨64 * (k.val / 64) + j.val, by omega⟩ * y ⟨64 * (k.val / 64) + j.val, by omega⟩ := by
    rw [← sum_group (fun j => y j * y j) k]
    exact Finset.sum_congr rfl fun j _ => by rw [hbd]
  have e2 : ∑ j, (y j * y j - y j * y j) * bd j k = 0 := by
    refine Finset.sum_eq_zero fun j _ => ?_
    rw [hr j, ← EReal.coe_mul, ← EReal.coe_sub, sub_self, EReal.coe_zero, zero_mul]
  unfold masked scaled
  rw [e1, e2, add_zero, ofBits_inv64, ofBits_64, Ideal.div_coe (by norm_num)]

theorem square_nonneg (y : EReal) : 0 ≤ y * y := by
  induction y using EReal.rec with
  | bot => simp
  | coe r => rw [← EReal.coe_mul]; exact_mod_cast mul_self_nonneg r
  | top => simp

/-- A row over its root mean square, times real gains, is real. An infinite entry makes the mean square infinite, and then every entry is zero. -/
theorem rms_real (row gn : Fin 1024 → EReal) (hg : ∀ k, ∃ r : ℝ, gn k = (r : EReal)) (k : Fin 1024) : ∃ r : ℝ, rms row gn k = (r : EReal) := by
  obtain ⟨q, hq⟩ := hg k
  obtain ⟨e, he, h⟩ := eps_pos
  unfold rms
  rw [ofBits_1024, h, Ideal.div_coe (by norm_num)]
  by_cases hrow : ∀ k, ∃ r : ℝ, row k = (r : EReal)
  · choose r hr using hrow
    have es : (∑ d : Fin 1024, row d * row d) = ((∑ d : Fin 1024, r d * r d : ℝ) : EReal) := by
      rw [Cert.Softmax.coe_sum]
      exact Finset.sum_congr rfl fun j _ => by rw [hr, ← EReal.coe_mul]
    have hp : 0 < (∑ d : Fin 1024, r d * r d) / 1024 + e := by
      have : 0 ≤ ∑ d : Fin 1024, r d * r d := Finset.sum_nonneg fun d _ => mul_self_nonneg _
      positivity
    rw [es, ← EReal.coe_mul, mul_one_div, ← EReal.coe_add, Ideal.rsqrt_coe, if_neg (by linarith), if_neg (by linarith), hr k, hq, ← EReal.coe_mul, ← EReal.coe_mul]
    exact ⟨_, rfl⟩
  · rw [not_forall] at hrow
    obtain ⟨d, hd⟩ := hrow
    have hsq : row d * row d = ⊤ := by
      induction hv : row d using EReal.rec with
      | bot => simp
      | coe r => exact absurd ⟨r, hv⟩ hd
      | top => simp
    have es : (∑ d : Fin 1024, row d * row d) = ⊤ :=
      top_le_iff.1 (hsq ▸ Finset.single_le_sum (f := fun d => row d * row d) (fun j _ => square_nonneg _) (Finset.mem_univ d))
    rw [es, EReal.top_mul_coe_of_pos (by norm_num), EReal.top_add_coe, Ideal.rsqrt_top, mul_zero, zero_mul]
    exact ⟨0, rfl⟩

/-- The projection with real gains and weights is real. -/
theorem proj_real (hg : ∀ i, ∃ r : ℝ, g i = (r : EReal)) (hw : ∀ i, ∃ r : ℝ, w i = (r : EReal))
    (b : Fin 2) (p : Fin 8192) (col : Fin 3072) : ∃ r : ℝ, proj x g w b p col = (r : EReal) := by
  have h : ∀ k : Fin 1024, ∃ r : ℝ, hid x g b p k * w (ix2 k col) = (r : EReal) := fun k => by
    obtain ⟨u, hu⟩ : ∃ r : ℝ, hid x g b p k = (r : EReal) := rms_real _ _ (fun d => hg _) k
    obtain ⟨v, hv⟩ := hw (ix2 k col)
    exact ⟨u * v, by rw [hu, hv, ← EReal.coe_mul]⟩
  choose r hr using h
  exact ⟨∑ k, r k, by rw [Cert.Softmax.coe_sum]; exact Finset.sum_congr rfl fun k _ => hr k⟩

end Projection

end
-- ==== Proof.Qkv.Block.lean ====
/-
  What one grid point of the projection kernel leaves in its three output blocks, entry by entry, from its six input blocks.
  The 3072 columns are computed in twelve slabs of 256, each kept in one of two scratch slots while the slab before it is read.
-/
module

public import proofs.«01_k».proof.Proof.Gen.Kernel4Ideal.Value
public import proofs.«01_k».proof.Proof.Qkv.Equation
public import Idealize.ShloMosaic.Lib.Pipeline.ReadBack
public import Idealize.ShloMosaic.Lib.Pipeline.ValueKit.Tiles
public import Idealize.ShloMosaic.Lib.Pipeline.ValueKit.Basic

@[expose] public section

set_option maxRecDepth 16384

noncomputable section

namespace Cert.Kernel4Ideal.Qkv

open Cert.Kernel4Ideal Cert.Kernel4Ideal.Gen Idealize.ShloMosaic Idealize.ShloMosaic.TcCoe

/-- The rows over their root mean square. -/
theorem rows_apply (x0 : FVec Ideal S1x512x1024 .f32) (x1 : FVec Ideal S1x1024 .f32) (r : Fin 512) (k : Fin 1024) :
    k0_pay6 (F := Ideal) x0 x1 (ix2 r k) = FeedForward.rms (fun d => x0 (ix3 0 r d)) (fun d => x1 (ix2 0 d)) k := by
  unfold k0_pay6
  pointwise []
  rfl

/-- One slab of 256 columns of the product, as the slot holds it. -/
def slab (xb : FVec Ideal S512x1024 .bf16) (w : FVec Ideal S1024x3072 .bf16) (n : Fin 12) : FVec Ideal S1x512x256 .f32 :=
  fun i => ∑ d : Fin 1024, xb (ix2 (n0 := 512) (i 1) d) * w (ix2 d (⟨256 * n.val + (i 2).val, by have : (i 2).val < 256 := (i 2).isLt; omega⟩ : Fin 3072))

theorem slab_eq (xb : FVec Ideal S512x1024 .bf16) (w : FVec Ideal S1024x3072 .bf16) (n : Fin 12) (o : ℕ) (ho : o = 256 * n.val)
    (inb : ∀ a, (![0, o] : Fin S1024x3072.rank → ℕ) a + S1024x256.size a ≤ S1024x3072.size a) :
    k0_pay8 (F := Ideal) xb (View.ld w (Rect.unit ![0, o] S1024x256.size inb : Rect S1024x3072)) = slab xb w n := by
  funext i
  obtain ⟨z, r, k, rfl⟩ : ∃ (z : Fin 1) (r : Fin 512) (k : Fin 256), i = ix3 z r k := ⟨i 0, i 1, i 2, funext fun a => by fin_cases a <;> rfl⟩
  subst ho
  unfold k0_pay8
  pointwise []
  rfl

/-- A slab's entries over the root mean square of their head's 64. -/
theorem norm_apply (bd : FVec Ideal S256x256 .bf16) (y : FVec Ideal S1x512x256 .f32) (gn : FVec Ideal S1x256 .f32) (r : Fin 512) (k : Fin 256) :
    k0_pay11 (F := Ideal) bd y gn (ix2 r k) = Projection.masked (fun j k => bd (ix2 j k)) (fun j => y (ix3 0 r j)) (fun j => gn (ix2 0 j)) k := by
  unfold k0_pay11
  pointwise []
  rfl

theorem half_lo (bd : FVec Ideal S256x256 .bf16) (y : FVec Ideal S1x512x256 .f32) (gn : FVec Ideal S1x256 .f32) (z z' : Fin 1) (r : Fin 512) (l : Fin 128) :
    k0_pay12 (F := Ideal) bd y gn (ix4 z z' r l) = k0_pay11 (F := Ideal) bd y gn (ix2 r (⟨l.val, by omega⟩ : Fin 256)) := by
  unfold k0_pay12
  pointwise []
theorem half_hi (bd : FVec Ideal S256x256 .bf16) (y : FVec Ideal S1x512x256 .f32) (gn : FVec Ideal S1x256 .f32) (z z' : Fin 1) (r : Fin 512) (l : Fin 128) :
    k0_pay13 (F := Ideal) bd y gn (ix4 z z' r l) = k0_pay11 (F := Ideal) bd y gn (ix2 r (⟨128 + l.val, by omega⟩ : Fin 256)) := by
  unfold k0_pay13
  pointwise []

theorem turned_lo_0 (y : FVec Ideal S1x512x256 .f32) (z z' z'' : Fin 1) (l : Fin 128) (t : Fin 256) :
    k0_pay51 (F := Ideal) y (ix5 z z' z'' l t) = y (ix3 0 (⟨t.val, by omega⟩ : Fin 512) (⟨l.val, by omega⟩ : Fin 256)) := by
  unfold k0_pay51
  pointwise [k0_pay50, k0_pay49]
theorem turned_lo_1 (y : FVec Ideal S1x512x256 .f32) (z z' z'' : Fin 1) (l : Fin 128) (t : Fin 256) :
    k0_pay53 (F := Ideal) (k0_pay52 (F := Ideal) y) (ix5 z z' z'' l t) = y (ix3 0 (⟨256 + t.val, by omega⟩ : Fin 512) (⟨l.val, by omega⟩ : Fin 256)) := by
  unfold k0_pay53
  pointwise [k0_pay52, k0_pay50, k0_pay49]
theorem turned_hi_0 (y : FVec Ideal S1x512x256 .f32) (z z' z'' : Fin 1) (l : Fin 128) (t : Fin 256) :
    k0_pay55 (F := Ideal) (k0_pay49 (F := Ideal) y) (ix5 z z' z'' l t) = y (ix3 0 (⟨t.val, by omega⟩ : Fin 512) (⟨128 + l.val, by omega⟩ : Fin 256)) := by
  unfold k0_pay55
  pointwise [k0_pay54, k0_pay49]
theorem turned_hi_1 (y : FVec Ideal S1x512x256 .f32) (z z' z'' : Fin 1) (l : Fin 128) (t : Fin 256) :
    k0_pay56 (F := Ideal) (k0_pay49 (F := Ideal) y) (ix5 z z' z'' l t) = y (ix3 0 (⟨256 + t.val, by omega⟩ : Fin 512) (⟨128 + l.val, by omega⟩ : Fin 256)) := by
  unfold k0_pay56
  pointwise [k0_pay54, k0_pay49]

/-! ## The slots read back -/

variable (c : Dev nD) (i : grid0.Coords)
  (arg2 : Memref sig .tc .vmem S1x512x1024 .f32) (harg2 : arg2.IsWhole)
  (arg3 : Memref sig .tc .vmem S1x1024 .f32) (harg3 : arg3.IsWhole)
  (arg4 : Memref sig .tc .vmem S1024x3072 .bf16) (harg4 : arg4.IsWhole)
  (arg5 : Memref sig .tc .vmem S1x256 .f32) (harg5 : arg5.IsWhole)
  (arg6 : Memref sig .tc .vmem S1x256 .f32) (harg6 : arg6.IsWhole)
  (arg7 : Memref sig .tc .vmem S256x256 .bf16) (harg7 : arg7.IsWhole)
  (arg8 : Memref sig .tc .vmem S1x8x512x128 .bf16) (harg8 : arg8.IsWhole)
  (arg9 : Memref sig .tc .vmem S1x8x512x128 .bf16) (harg9 : arg9.IsWhole)
  (arg10 : Memref sig .tc .vmem S1x8x2x128x256 .bf16) (harg10 : arg10.IsWhole)
  (arg11 : Memref sig .tc .vmem S512x1024 .bf16) (harg11 : arg11.IsWhole)
  (arg12 : Memref sig .tc .vmem S2x512x256 .f32) (harg12 : arg12.IsWhole)
  (x0 : Vec Ideal S1x512x1024 .f32) (x1 : Vec Ideal S1x1024 .f32) (x2 : Vec Ideal S1024x3072 .bf16) (x3 : Vec Ideal S1x256 .f32) (x4 : Vec Ideal S1x256 .f32) (x5 : Vec Ideal S256x256 .bf16)

theorem whole_eq : kernelRun0_A.sl.v22 (F := Ideal) c arg2 harg2 arg3 harg3 arg11 x0 x1 = k0_pay6 (F := Ideal) x0 x1 := by
  unfold kernelRun0_A.sl.v22 kernelRun0_A.sl.HS0_1
  refine (View.readCov_cons_toLoadRect _ _ _ _).trans ?_
  rw [View.readAt_eq_ld, View.readAt_eq_ld, harg2.read_unread, harg3.read_unread, View.ld_unit_lit, View.ld_unit_lit]
  all_goals first | rfl | (intro a; fin_cases a <;> rfl)

/-- A load of one slab's columns out of the weights' block, multiplied. -/
theorem load_slab (n : Fin 12) (o : ℕ) (ho : o = 256 * n.val) (inb : ∀ a, (![0, o] : Fin S1024x3072.rank → ℕ) a + S1024x256.size a ≤ S1024x3072.size a) :
    k0_pay8 (F := Ideal) (kernelRun0_A.sl.v22 (F := Ideal) c arg2 harg2 arg3 harg3 arg11 x0 x1)
      (View.readAt (Elt Ideal) arg4.view (Rect.unit ![0, o] S1024x256.size inb : Rect S1024x3072).toLoadRect (harg4.unread x2)) = slab (k0_pay6 (F := Ideal) x0 x1) x2 n := by
  rw [whole_eq, View.readAt_eq_ld, harg4.read_unread]
  exact slab_eq _ _ n o ho inb

theorem v36_eq : kernelRun0_A.sl.v36 (F := Ideal) c arg2 harg2 arg3 harg3 arg4 harg4 arg11 arg12 x0 x1 x2 = slab (k0_pay6 (F := Ideal) x0 x1) x2 0 := by
  unfold kernelRun0_A.sl.v36 kernelRun0_A.sl.HS1_2 kernelRun0_A.sl.r_1
  refine (View.readCov_skip _ _ _ _ _ (by decide)).trans ?_
  exact (View.readCov_cons_toLoadRect _ _ _ _).trans (load_slab c arg2 harg2 arg3 harg3 arg4 harg4 arg11 x0 x1 x2 0 0 rfl _)

theorem v72_eq : kernelRun0_A.sl.v72 (F := Ideal) c arg2 harg2 arg3 harg3 arg4 harg4 arg11 arg12 x0 x1 x2 = slab (k0_pay6 (F := Ideal) x0 x1) x2 1 := by
  unfold kernelRun0_A.sl.v72 kernelRun0_A.sl.HS1_3 kernelRun0_A.sl.HS1_2
  refine (View.readCov_skip _ _ _ _ _ (by decide)).trans ?_
  exact (View.readCov_cons_toLoadRect _ _ _ _).trans (load_slab c arg2 harg2 arg3 harg3 arg4 harg4 arg11 x0 x1 x2 1 256 rfl _)

theorem v108_eq : kernelRun0_A.sl.v108 (F := Ideal) c arg2 harg2 arg3 harg3 arg4 harg4 arg11 arg12 x0 x1 x2 = slab (k0_pay6 (F := Ideal) x0 x1) x2 2 := by
  unfold kernelRun0_A.sl.v108 kernelRun0_A.sl.HS1_4 kernelRun0_A.sl.HS1_3
  refine (View.readCov_skip _ _ _ _ _ (by decide)).trans ?_
  exact (View.readCov_cons_toLoadRect _ _ _ _).trans (load_slab c arg2 harg2 arg3 harg3 arg4 harg4 arg11 x0 x1 x2 2 512 rfl _)

theorem v144_eq : kernelRun0_A.sl.v144 (F := Ideal) c arg2 harg2 arg3 harg3 arg4 harg4 arg11 arg12 x0 x1 x2 = slab (k0_pay6 (F := Ideal) x0 x1) x2 3 := by
  unfold kernelRun0_A.sl.v144 kernelRun0_A.sl.HS1_5 kernelRun0_A.sl.HS1_4
  refine (View.readCov_skip _ _ _ _ _ (by decide)).trans ?_
  exact (View.readCov_cons_toLoadRect _ _ _ _).trans (load_slab c arg2 harg2 arg3 harg3 arg4 harg4 arg11 x0 x1 x2 3 768 rfl _)

theorem v180_eq : kernelRun0_A.sl.v180 (F := Ideal) c arg2 harg2 arg3 harg3 arg4 harg4 arg11 arg12 x0 x1 x2 = slab (k0_pay6 (F := Ideal) x0 x1) x2 4 := by
  unfold kernelRun0_A.sl.v180 kernelRun0_A.sl.HS1_6 kernelRun0_A.sl.HS1_5
  refine (View.readCov_skip _ _ _ _ _ (by decide)).trans ?_
  exact (View.readCov_cons_toLoadRect _ _ _ _).trans (load_slab c arg2 harg2 arg3 harg3 arg4 harg4 arg11 x0 x1 x2 4 1024 rfl _)

theorem v216_eq : kernelRun0_A.sl.v216 (F := Ideal) c arg2 harg2 arg3 harg3 arg4 harg4 arg11 arg12 x0 x1 x2 = slab (k0_pay6 (F := Ideal) x0 x1) x2 5 := by
  unfold kernelRun0_A.sl.v216 kernelRun0_A.sl.HS1_7 kernelRun0_A.sl.HS1_6
  refine (View.readCov_skip _ _ _ _ _ (by decide)).trans ?_
  exact (View.readCov_cons_toLoadRect _ _ _ _).trans (load_slab c arg2 harg2 arg3 harg3 arg4 harg4 arg11 x0 x1 x2 5 1280 rfl _)

theorem v252_eq : kernelRun0_A.sl.v252 (F := Ideal) c arg2 harg2 arg3 harg3 arg4 harg4 arg11 arg12 x0 x1 x2 = slab (k0_pay6 (F := Ideal) x0 x1) x2 6 := by
  unfold kernelRun0_A.sl.v252 kernelRun0_A.sl.HS1_8 kernelRun0_A.sl.HS1_7
  refine (View.readCov_skip _ _ _ _ _ (by decide)).trans ?_
  exact (View.readCov_cons_toLoadRect _ _ _ _).trans (load_slab c arg2 harg2 arg3 harg3 arg4 harg4 arg11 x0 x1 x2 6 1536 rfl _)

theorem v288_eq : kernelRun0_A.sl.v288 (F := Ideal) c arg2 harg2 arg3 harg3 arg4 harg4 arg11 arg12 x0 x1 x2 = slab (k0_pay6 (F := Ideal) x0 x1) x2 7 := by
  unfold kernelRun0_A.sl.v288 kernelRun0_A.sl.HS1_9 kernelRun0_A.sl.HS1_8
  refine (View.readCov_skip _ _ _ _ _ (by decide)).trans ?_
  exact (View.readCov_cons_toLoadRect _ _ _ _).trans (load_slab c arg2 harg2 arg3 harg3 arg4 harg4 arg11 x0 x1 x2 7 1792 rfl _)

theorem v324_eq : kernelRun0_A.sl.v324 (F := Ideal) c arg2 harg2 arg3 harg3 arg4 harg4 arg11 arg12 x0 x1 x2 = slab (k0_pay6 (F := Ideal) x0 x1) x2 8 := by
  unfold kernelRun0_A.sl.v324 kernelRun0_A.sl.HS1_10 kernelRun0_A.sl.HS1_9
  refine (View.readCov_skip _ _ _ _ _ (by decide)).trans ?_
  exact (View.readCov_cons_toLoadRect _ _ _ _).trans (load_slab c arg2 harg2 arg3 harg3 arg4 harg4 arg11 x0 x1 x2 8 2048 rfl _)

theorem v355_eq : kernelRun0_A.sl.v355 (F := Ideal) c arg2 harg2 arg3 harg3 arg4 harg4 arg11 arg12 x0 x1 x2 = slab (k0_pay6 (F := Ideal) x0 x1) x2 9 := by
  unfold kernelRun0_A.sl.v355 kernelRun0_A.sl.HS1_11 kernelRun0_A.sl.HS1_10
  refine (View.readCov_skip _ _ _ _ _ (by decide)).trans ?_
  exact (View.readCov_cons_toLoadRect _ _ _ _).trans (load_slab c arg2 harg2 arg3 harg3 arg4 harg4 arg11 x0 x1 x2 9 2304 rfl _)

theorem v386_eq : kernelRun0_A.sl.v386 (F := Ideal) c arg2 harg2 arg3 harg3 arg4 harg4 arg11 arg12 x0 x1 x2 = slab (k0_pay6 (F := Ideal) x0 x1) x2 10 := by
  unfold kernelRun0_A.sl.v386 kernelRun0_A.sl.HS1_12 kernelRun0_A.sl.HS1_11
  refine (View.readCov_skip _ _ _ _ _ (by decide)).trans ?_
  exact (View.readCov_cons_toLoadRect _ _ _ _).trans (load_slab c arg2 harg2 arg3 harg3 arg4 harg4 arg11 x0 x1 x2 10 2560 rfl _)

theorem v410_eq : kernelRun0_A.sl.v410 (F := Ideal) c arg2 harg2 arg3 harg3 arg4 harg4 arg11 arg12 x0 x1 x2 = slab (k0_pay6 (F := Ideal) x0 x1) x2 11 := by
  unfold kernelRun0_A.sl.v410 kernelRun0_A.sl.HS1_12
  exact (View.readCov_cons_toLoadRect _ _ _ _).trans (load_slab c arg2 harg2 arg3 harg3 arg4 harg4 arg11 x0 x1 x2 11 2816 rfl _)

/-! ## The output blocks -/

/-- A block of queries (`s = 0`) or keys (`s = 1`). -/
def scaledBlock (xb : FVec Ideal S512x1024 .bf16) (w : FVec Ideal S1024x3072 .bf16) (gn : FVec Ideal S1x256 .f32) (bd : FVec Ideal S256x256 .bf16) (s : Fin 2) :
    FVec Ideal S1x8x512x128 .bf16 := fun i =>
  k0_pay11 (F := Ideal) bd (slab xb w (⟨4 * s.val + (i 1).val / 2, by have : (i 1).val < 8 := (i 1).isLt; omega⟩ : Fin 12)) gn
    (ix2 (n0 := 512) (i 2) (⟨128 * ((i 1).val % 2) + (i 3).val, by have : (i 3).val < 128 := (i 3).isLt; omega⟩ : Fin 256))
/-- A block of values. -/
def turnedBlock (xb : FVec Ideal S512x1024 .bf16) (w : FVec Ideal S1024x3072 .bf16) : FVec Ideal S1x8x2x128x256 .bf16 := fun i =>
  slab xb w (⟨8 + (i 1).val / 2, by have : (i 1).val < 8 := (i 1).isLt; omega⟩ : Fin 12)
    (ix3 0 (⟨256 * (i 2).val + (i 4).val, by have : (i 2).val < 2 := (i 2).isLt; have : (i 4).val < 256 := (i 4).isLt; omega⟩ : Fin 512)
      (⟨128 * ((i 1).val % 2) + (i 3).val, by have : (i 3).val < 128 := (i 3).isLt; omega⟩ : Fin 256))

section
variable (xb : FVec Ideal S512x1024 .bf16) (w : FVec Ideal S1024x3072 .bf16) (gn : FVec Ideal S1x256 .f32) (bd : FVec Ideal S256x256 .bf16)

theorem emb_pair (p : Fin 8) (inb : ∀ a, (![0, p.val, 0, 0] : Fin S1x8x512x128.rank → ℕ) a + S1x1x512x128.size a ≤ S1x8x512x128.size a)
    (z z' : Fin 1) (r : Fin 512) (l : Fin 128) : (Rect.unit ![0, p.val, 0, 0] S1x1x512x128.size inb : Rect S1x8x512x128).emb (ix4 z z' r l) = ix4 0 p r l := by
  refine funext fun a => Fin.ext ?_
  match a with
  | ⟨0, _⟩ => show 0 + 1 * z.val = 0; omega
  | ⟨1, _⟩ => show p.val + 1 * z'.val = p.val; omega
  | ⟨2, _⟩ => show 0 + 1 * r.val = r.val; omega
  | ⟨3, _⟩ => show 0 + 1 * l.val = l.val; omega

theorem scaled_lo (s : Fin 2) (p : Fin 8) (n : Fin 12) (hn : n.val = 4 * s.val + p.val / 2) (hp : p.val % 2 = 0)
    (inb : ∀ a, (![0, p.val, 0, 0] : Fin S1x8x512x128.rank → ℕ) a + S1x1x512x128.size a ≤ S1x8x512x128.size a) (x : S1x1x512x128.Idx) :
    k0_pay12 (F := Ideal) bd (slab xb w n) gn x = scaledBlock xb w gn bd s ((Rect.unit ![0, p.val, 0, 0] S1x1x512x128.size inb : Rect S1x8x512x128).emb x) := by
  obtain ⟨z, z', r, l, rfl⟩ : ∃ (z z' : Fin 1) (r : Fin 512) (l : Fin 128), x = ix4 z z' r l := ⟨x 0, x 1, x 2, x 3, funext fun a => by fin_cases a <;> rfl⟩
  rw [emb_pair, half_lo]
  have e : n = (⟨4 * s.val + p.val / 2, by omega⟩ : Fin 12) := Fin.ext hn
  have e' : (⟨l.val, by omega⟩ : Fin 256) = ⟨128 * (p.val % 2) + l.val, by omega⟩ := Fin.ext (by show l.val = 128 * (p.val % 2) + l.val; omega)
  rw [e, e']
  rfl

theorem scaled_hi (s : Fin 2) (p : Fin 8) (n : Fin 12) (hn : n.val = 4 * s.val + p.val / 2) (hp : p.val % 2 = 1)
    (inb : ∀ a, (![0, p.val, 0, 0] : Fin S1x8x512x128.rank → ℕ) a + S1x1x512x128.size a ≤ S1x8x512x128.size a) (x : S1x1x512x128.Idx) :
    k0_pay13 (F := Ideal) bd (slab xb w n) gn x = scaledBlock xb w gn bd s ((Rect.unit ![0, p.val, 0, 0] S1x1x512x128.size inb : Rect S1x8x512x128).emb x) := by
  obtain ⟨z, z', r, l, rfl⟩ : ∃ (z z' : Fin 1) (r : Fin 512) (l : Fin 128), x = ix4 z z' r l := ⟨x 0, x 1, x 2, x 3, funext fun a => by fin_cases a <;> rfl⟩
  rw [emb_pair, half_hi]
  have e : n = (⟨4 * s.val + p.val / 2, by omega⟩ : Fin 12) := Fin.ext hn
  have e' : (⟨128 + l.val, by omega⟩ : Fin 256) = ⟨128 * (p.val % 2) + l.val, by omega⟩ := Fin.ext (by show 128 + l.val = 128 * (p.val % 2) + l.val; omega)
  rw [e, e']
  rfl

theorem mem_pair (p : Fin 8) (inb : ∀ a, (![0, p.val, 0, 0] : Fin S1x8x512x128.rank → ℕ) a + S1x1x512x128.size a ≤ S1x8x512x128.size a)
    (z : Fin 1) (r : Fin 512) (l : Fin 128) : (ix4 z p r l : S1x8x512x128.Idx) ∈ (Rect.unit ![0, p.val, 0, 0] S1x1x512x128.size inb : Rect S1x8x512x128).set := by
  rw [Rect.mem_set_unit]
  intro a
  match a with
  | ⟨0, _⟩ => show 0 ≤ z.val ∧ z.val < 0 + 1; omega
  | ⟨1, _⟩ => show p.val ≤ p.val ∧ p.val < p.val + 1; omega
  | ⟨2, _⟩ => show 0 ≤ r.val ∧ r.val < 0 + 512; omega
  | ⟨3, _⟩ => show 0 ≤ l.val ∧ l.val < 0 + 128; omega

theorem emb_turned (p : Fin 8) (h : Fin 2) (inb : ∀ a, (![0, p.val, h.val, 0, 0] : Fin S1x8x2x128x256.rank → ℕ) a + S1x1x1x128x256.size a ≤ S1x8x2x128x256.size a)
    (z z' z'' : Fin 1) (l : Fin 128) (t : Fin 256) :
    (Rect.unit ![0, p.val, h.val, 0, 0] S1x1x1x128x256.size inb : Rect S1x8x2x128x256).emb (ix5 z z' z'' l t) = ix5 0 p h l t := by
  refine funext fun a => Fin.ext ?_
  match a with
  | ⟨0, _⟩ => show 0 + 1 * z.val = 0; omega
  | ⟨1, _⟩ => show p.val + 1 * z'.val = p.val; omega
  | ⟨2, _⟩ => show h.val + 1 * z''.val = h.val; omega
  | ⟨3, _⟩ => show 0 + 1 * l.val = l.val; omega
  | ⟨4, _⟩ => show 0 + 1 * t.val = t.val; omega

theorem mem_turned (p : Fin 8) (h : Fin 2) (inb : ∀ a, (![0, p.val, h.val, 0, 0] : Fin S1x8x2x128x256.rank → ℕ) a + S1x1x1x128x256.size a ≤ S1x8x2x128x256.size a)
    (z : Fin 1) (l : Fin 128) (t : Fin 256) :
    (ix5 z p h l t : S1x8x2x128x256.Idx) ∈ (Rect.unit ![0, p.val, h.val, 0, 0] S1x1x1x128x256.size inb : Rect S1x8x2x128x256).set := by
  rw [Rect.mem_set_unit]
  intro a
  match a with
  | ⟨0, _⟩ => show 0 ≤ z.val ∧ z.val < 0 + 1; omega
  | ⟨1, _⟩ => show p.val ≤ p.val ∧ p.val < p.val + 1; omega
  | ⟨2, _⟩ => show h.val ≤ h.val ∧ h.val < h.val + 1; omega
  | ⟨3, _⟩ => show 0 ≤ l.val ∧ l.val < 0 + 128; omega
  | ⟨4, _⟩ => show 0 ≤ t.val ∧ t.val < 0 + 256; omega

/-- A store of values, from its entries: half `h` of the slab's rows and one half of its columns. -/
theorem turned_piece (p : Fin 8) (h : Fin 2) (n : Fin 12) (hn : n.val = 8 + p.val / 2) (f : FVec Ideal S1x1x1x128x256 .bf16)
    (R : Fin 256 → Fin 512) (K : Fin 128 → Fin 256) (hf : ∀ (z z' z'' : Fin 1) (l : Fin 128) (t : Fin 256), f (ix5 z z' z'' l t) = slab xb w n (ix3 0 (R t) (K l)))
    (hR : ∀ t, (R t).val = 256 * h.val + t.val) (hK : ∀ l, (K l).val = 128 * (p.val % 2) + l.val)
    (inb : ∀ a, (![0, p.val, h.val, 0, 0] : Fin S1x8x2x128x256.rank → ℕ) a + S1x1x1x128x256.size a ≤ S1x8x2x128x256.size a) (x : S1x1x1x128x256.Idx) :
    f x = turnedBlock xb w ((Rect.unit ![0, p.val, h.val, 0, 0] S1x1x1x128x256.size inb : Rect S1x8x2x128x256).emb x) := by
  obtain ⟨z, z', z'', l, t, rfl⟩ : ∃ (z z' z'' : Fin 1) (l : Fin 128) (t : Fin 256), x = ix5 z z' z'' l t := ⟨x 0, x 1, x 2, x 3, x 4, funext fun a => by fin_cases a <;> rfl⟩
  rw [emb_turned, hf]
  have e : n = (⟨8 + p.val / 2, by omega⟩ : Fin 12) := Fin.ext hn
  have er : R t = (⟨256 * h.val + t.val, by omega⟩ : Fin 512) := Fin.ext (hR t)
  have ek : K l = (⟨128 * (p.val % 2) + l.val, by omega⟩ : Fin 256) := Fin.ext (hK l)
  rw [e, er, ek]
  rfl
end

theorem square_eq : kernelRun0_A.sl.r (F := Ideal) c arg7 harg7 x5 = x5 := by
  unfold kernelRun0_A.sl.r
  rw [View.readAt_eq_ld, harg7.read_unread, View.ld_unit_lit]
  · unfold k0_pay7
    exact shapeCast_self _ _
  · intro a
    fin_cases a <;> rfl
/-- A load of a whole row of gains. -/
theorem gain_eq (arg : Memref sig .tc .vmem S1x256 .f32) (harg : arg.IsWhole) (x : Vec Ideal S1x256 .f32) (inb : ∀ a, (![0, 0] : Fin S1x256.rank → ℕ) a + S1x256.size a ≤ S1x256.size a) :
    View.readAt (Elt Ideal) arg.view (Rect.unit ![0, 0] S1x256.size inb : Rect S1x256).toLoadRect (harg.unread x) = x := by
  rw [View.readAt_eq_ld, harg.read_unread, View.ld_unit_lit]
  intro a
  fin_cases a <;> rfl

theorem out_6 : out0_A_6 (F := Ideal) c i arg2 harg2 arg3 harg3 arg4 harg4 arg5 harg5 arg6 harg6 arg7 harg7 arg8 harg8 arg9 harg9 arg10 harg10 arg11 harg11 arg12 harg12 x0 x1 x2 x3 x4 x5 = scaledBlock (k0_pay6 (F := Ideal) x0 x1) x2 x3 x5 0 := by
  unfold out0_A_6
  rw [View.read_writes_junk_eq_canon]
  unfold kernelRun0_A
  dsimp only
  unfold kernelRun0_A.sl.r_2 kernelRun0_A.sl.r_3 kernelRun0_A.sl.r_4
  rw [square_eq c arg7 harg7 x5, gain_eq arg5 harg5 x3, v36_eq c arg2 harg2 arg3 harg3 arg4 harg4 arg11 arg12 x0 x1 x2, v72_eq c arg2 harg2 arg3 harg3 arg4 harg4 arg11 arg12 x0 x1 x2, v108_eq c arg2 harg2 arg3 harg3 arg4 harg4 arg11 arg12 x0 x1 x2, v144_eq c arg2 harg2 arg3 harg3 arg4 harg4 arg11 arg12 x0 x1 x2]
  funext y
  obtain ⟨z, p, r, l, rfl⟩ : ∃ (z : Fin 1) (p : Fin 8) (r : Fin 512) (l : Fin 128), y = ix4 z p r l := ⟨y 0, y 1, y 2, y 3, funext fun a => by fin_cases a <;> rfl⟩
  refine View.canon_apply_of_pieces (Val := Elt Ideal) (e := .bf16) (S := S1x8x512x128) (scaledBlock (k0_pay6 (F := Ideal) x0 x1) x2 x3 x5 0) _ (View.PiecesOf.mem ?_) _ ?_
  · exact ⟨scaled_hi (k0_pay6 (F := Ideal) x0 x1) x2 x3 x5 0 7 3 rfl rfl (by decide),
      scaled_lo (k0_pay6 (F := Ideal) x0 x1) x2 x3 x5 0 6 3 rfl rfl (by decide),
      scaled_hi (k0_pay6 (F := Ideal) x0 x1) x2 x3 x5 0 5 2 rfl rfl (by decide),
      scaled_lo (k0_pay6 (F := Ideal) x0 x1) x2 x3 x5 0 4 2 rfl rfl (by decide),
      scaled_hi (k0_pay6 (F := Ideal) x0 x1) x2 x3 x5 0 3 1 rfl rfl (by decide),
      scaled_lo (k0_pay6 (F := Ideal) x0 x1) x2 x3 x5 0 2 1 rfl rfl (by decide),
      scaled_hi (k0_pay6 (F := Ideal) x0 x1) x2 x3 x5 0 1 0 rfl rfl (by decide),
      scaled_lo (k0_pay6 (F := Ideal) x0 x1) x2 x3 x5 0 0 0 rfl rfl (by decide), trivial⟩
  match p with
  | ⟨0, _⟩ => exact ⟨_, List.Mem.tail _ (List.Mem.tail _ (List.Mem.tail _ (List.Mem.tail _ (List.Mem.tail _ (List.Mem.tail _ (List.Mem.tail _ (List.Mem.head _))))))), mem_pair 0 (by decide) z r l⟩
  | ⟨1, _⟩ => exact ⟨_, List.Mem.tail _ (List.Mem.tail _ (List.Mem.tail _ (List.Mem.tail _ (List.Mem.tail _ (List.Mem.tail _ (List.Mem.head _)))))), mem_pair 1 (by decide) z r l⟩
  | ⟨2, _⟩ => exact ⟨_, List.Mem.tail _ (List.Mem.tail _ (List.Mem.tail _ (List.Mem.tail _ (List.Mem.tail _ (List.Mem.head _))))), mem_pair 2 (by decide) z r l⟩
  | ⟨3, _⟩ => exact ⟨_, List.Mem.tail _ (List.Mem.tail _ (List.Mem.tail _ (List.Mem.tail _ (List.Mem.head _)))), mem_pair 3 (by decide) z r l⟩
  | ⟨4, _⟩ => exact ⟨_, List.Mem.tail _ (List.Mem.tail _ (List.Mem.tail _ (List.Mem.head _))), mem_pair 4 (by decide) z r l⟩
  | ⟨5, _⟩ => exact ⟨_, List.Mem.tail _ (List.Mem.tail _ (List.Mem.head _)), mem_pair 5 (by decide) z r l⟩
  | ⟨6, _⟩ => exact ⟨_, List.Mem.tail _ (List.Mem.head _), mem_pair 6 (by decide) z r l⟩
  | ⟨7, _⟩ => exact ⟨_, List.Mem.head _, mem_pair 7 (by decide) z r l⟩

theorem out_7 : out0_A_7 (F := Ideal) c i arg2 harg2 arg3 harg3 arg4 harg4 arg5 harg5 arg6 harg6 arg7 harg7 arg8 harg8 arg9 harg9 arg10 harg10 arg11 harg11 arg12 harg12 x0 x1 x2 x3 x4 x5 = scaledBlock (k0_pay6 (F := Ideal) x0 x1) x2 x4 x5 1 := by
  unfold out0_A_7
  rw [View.read_writes_junk_eq_canon]
  unfold kernelRun0_A
  dsimp only
  unfold kernelRun0_A.sl.r_5 kernelRun0_A.sl.r_6 kernelRun0_A.sl.r_7 kernelRun0_A.sl.r_8 kernelRun0_A.sl.r_9 kernelRun0_A.sl.r_10 kernelRun0_A.sl.r_11
  rw [square_eq c arg7 harg7 x5, gain_eq arg6 harg6 x4, v180_eq c arg2 harg2 arg3 harg3 arg4 harg4 arg11 arg12 x0 x1 x2, v216_eq c arg2 harg2 arg3 harg3 arg4 harg4 arg11 arg12 x0 x1 x2, v252_eq c arg2 harg2 arg3 harg3 arg4 harg4 arg11 arg12 x0 x1 x2, v288_eq c arg2 harg2 arg3 harg3 arg4 harg4 arg11 arg12 x0 x1 x2]
  funext y
  obtain ⟨z, p, r, l, rfl⟩ : ∃ (z : Fin 1) (p : Fin 8) (r : Fin 512) (l : Fin 128), y = ix4 z p r l := ⟨y 0, y 1, y 2, y 3, funext fun a => by fin_cases a <;> rfl⟩
  refine View.canon_apply_of_pieces (Val := Elt Ideal) (e := .bf16) (S := S1x8x512x128) (scaledBlock (k0_pay6 (F := Ideal) x0 x1) x2 x4 x5 1) _ (View.PiecesOf.mem ?_) _ ?_
  · exact ⟨scaled_hi (k0_pay6 (F := Ideal) x0 x1) x2 x4 x5 1 7 7 rfl rfl (by decide),
      scaled_lo (k0_pay6 (F := Ideal) x0 x1) x2 x4 x5 1 6 7 rfl rfl (by decide),
      scaled_hi (k0_pay6 (F := Ideal) x0 x1) x2 x4 x5 1 5 6 rfl rfl (by decide),
      scaled_lo (k0_pay6 (F := Ideal) x0 x1) x2 x4 x5 1 4 6 rfl rfl (by decide),
      scaled_hi (k0_pay6 (F := Ideal) x0 x1) x2 x4 x5 1 3 5 rfl rfl (by decide),
      scaled_lo (k0_pay6 (F := Ideal) x0 x1) x2 x4 x5 1 2 5 rfl rfl (by decide),
      scaled_hi (k0_pay6 (F := Ideal) x0 x1) x2 x4 x5 1 1 4 rfl rfl (by decide),
      scaled_lo (k0_pay6 (F := Ideal) x0 x1) x2 x4 x5 1 0 4 rfl rfl (by decide), trivial⟩
  match p with
  | ⟨0, _⟩ => exact ⟨_, List.Mem.tail _ (List.Mem.tail _ (List.Mem.tail _ (List.Mem.tail _ (List.Mem.tail _ (List.Mem.tail _ (List.Mem.tail _ (List.Mem.head _))))))), mem_pair 0 (by decide) z r l⟩
  | ⟨1, _⟩ => exact ⟨_, List.Mem.tail _ (List.Mem.tail _ (List.Mem.tail _ (List.Mem.tail _ (List.Mem.tail _ (List.Mem.tail _ (List.Mem.head _)))))), mem_pair 1 (by decide) z r l⟩
  | ⟨2, _⟩ => exact ⟨_, List.Mem.tail _ (List.Mem.tail _ (List.Mem.tail _ (List.Mem.tail _ (List.Mem.tail _ (List.Mem.head _))))), mem_pair 2 (by decide) z r l⟩
  | ⟨3, _⟩ => exact ⟨_, List.Mem.tail _ (List.Mem.tail _ (List.Mem.tail _ (List.Mem.tail _ (List.Mem.head _)))), mem_pair 3 (by decide) z r l⟩
  | ⟨4, _⟩ => exact ⟨_, List.Mem.tail _ (List.Mem.tail _ (List.Mem.tail _ (List.Mem.head _))), mem_pair 4 (by decide) z r l⟩
  | ⟨5, _⟩ => exact ⟨_, List.Mem.tail _ (List.Mem.tail _ (List.Mem.head _)), mem_pair 5 (by decide) z r l⟩
  | ⟨6, _⟩ => exact ⟨_, List.Mem.tail _ (List.Mem.head _), mem_pair 6 (by decide) z r l⟩
  | ⟨7, _⟩ => exact ⟨_, List.Mem.head _, mem_pair 7 (by decide) z r l⟩

theorem out_8 : out0_A_8 (F := Ideal) c i arg2 harg2 arg3 harg3 arg4 harg4 arg5 harg5 arg6 harg6 arg7 harg7 arg8 harg8 arg9 harg9 arg10 harg10 arg11 harg11 arg12 harg12 x0 x1 x2 x3 x4 x5 = turnedBlock (k0_pay6 (F := Ideal) x0 x1) x2 := by
  unfold out0_A_8
  rw [View.read_writes_junk_eq_canon]
  unfold kernelRun0_A
  dsimp only
  unfold kernelRun0_A.sl.r_12 kernelRun0_A.sl.r_13 kernelRun0_A.sl.r_14 kernelRun0_A.sl.r_15 kernelRun0_A.sl.r_16 kernelRun0_A.sl.r_17 kernelRun0_A.sl.r_18 kernelRun0_A.sl.r_19 kernelRun0_A.sl.r_20
  rw [v324_eq c arg2 harg2 arg3 harg3 arg4 harg4 arg11 arg12 x0 x1 x2, v355_eq c arg2 harg2 arg3 harg3 arg4 harg4 arg11 arg12 x0 x1 x2, v386_eq c arg2 harg2 arg3 harg3 arg4 harg4 arg11 arg12 x0 x1 x2, v410_eq c arg2 harg2 arg3 harg3 arg4 harg4 arg11 arg12 x0 x1 x2]
  funext y
  obtain ⟨z, p, h, l, t, rfl⟩ : ∃ (z : Fin 1) (p : Fin 8) (h : Fin 2) (l : Fin 128) (t : Fin 256), y = ix5 z p h l t := ⟨y 0, y 1, y 2, y 3, y 4, funext fun a => by fin_cases a <;> rfl⟩
  refine View.canon_apply_of_pieces (Val := Elt Ideal) (e := .bf16) (S := S1x8x2x128x256) (turnedBlock (k0_pay6 (F := Ideal) x0 x1) x2) _ (View.PiecesOf.mem ?_) _ ?_
  · exact ⟨turned_piece (k0_pay6 (F := Ideal) x0 x1) x2 7 1 11 rfl _ _ _ (turned_hi_1 (slab (k0_pay6 (F := Ideal) x0 x1) x2 11)) (fun t => by show 256 + t.val = 256 * 1 + t.val; omega) (fun l => by show 128 + l.val = 128 * (7 % 2) + l.val; omega) (by decide),
      turned_piece (k0_pay6 (F := Ideal) x0 x1) x2 7 0 11 rfl _ _ _ (turned_hi_0 (slab (k0_pay6 (F := Ideal) x0 x1) x2 11)) (fun t => by show t.val = 256 * 0 + t.val; omega) (fun l => by show 128 + l.val = 128 * (7 % 2) + l.val; omega) (by decide),
      turned_piece (k0_pay6 (F := Ideal) x0 x1) x2 6 1 11 rfl _ _ _ (turned_lo_1 (slab (k0_pay6 (F := Ideal) x0 x1) x2 11)) (fun t => by show 256 + t.val = 256 * 1 + t.val; omega) (fun l => by show l.val = 128 * (6 % 2) + l.val; omega) (by decide),
      turned_piece (k0_pay6 (F := Ideal) x0 x1) x2 6 0 11 rfl _ _ _ (turned_lo_0 (slab (k0_pay6 (F := Ideal) x0 x1) x2 11)) (fun t => by show t.val = 256 * 0 + t.val; omega) (fun l => by show l.val = 128 * (6 % 2) + l.val; omega) (by decide),
      turned_piece (k0_pay6 (F := Ideal) x0 x1) x2 5 1 10 rfl _ _ _ (turned_hi_1 (slab (k0_pay6 (F := Ideal) x0 x1) x2 10)) (fun t => by show 256 + t.val = 256 * 1 + t.val; omega) (fun l => by show 128 + l.val = 128 * (5 % 2) + l.val; omega) (by decide),
      turned_piece (k0_pay6 (F := Ideal) x0 x1) x2 5 0 10 rfl _ _ _ (turned_hi_0 (slab (k0_pay6 (F := Ideal) x0 x1) x2 10)) (fun t => by show t.val = 256 * 0 + t.val; omega) (fun l => by show 128 + l.val = 128 * (5 % 2) + l.val; omega) (by decide),
      turned_piece (k0_pay6 (F := Ideal) x0 x1) x2 4 1 10 rfl _ _ _ (turned_lo_1 (slab (k0_pay6 (F := Ideal) x0 x1) x2 10)) (fun t => by show 256 + t.val = 256 * 1 + t.val; omega) (fun l => by show l.val = 128 * (4 % 2) + l.val; omega) (by decide),
      turned_piece (k0_pay6 (F := Ideal) x0 x1) x2 4 0 10 rfl _ _ _ (turned_lo_0 (slab (k0_pay6 (F := Ideal) x0 x1) x2 10)) (fun t => by show t.val = 256 * 0 + t.val; omega) (fun l => by show l.val = 128 * (4 % 2) + l.val; omega) (by decide),
      turned_piece (k0_pay6 (F := Ideal) x0 x1) x2 3 1 9 rfl _ _ _ (turned_hi_1 (slab (k0_pay6 (F := Ideal) x0 x1) x2 9)) (fun t => by show 256 + t.val = 256 * 1 + t.val; omega) (fun l => by show 128 + l.val = 128 * (3 % 2) + l.val; omega) (by decide),
      turned_piece (k0_pay6 (F := Ideal) x0 x1) x2 3 0 9 rfl _ _ _ (turned_hi_0 (slab (k0_pay6 (F := Ideal) x0 x1) x2 9)) (fun t => by show t.val = 256 * 0 + t.val; omega) (fun l => by show 128 + l.val = 128 * (3 % 2) + l.val; omega) (by decide),
      turned_piece (k0_pay6 (F := Ideal) x0 x1) x2 2 1 9 rfl _ _ _ (turned_lo_1 (slab (k0_pay6 (F := Ideal) x0 x1) x2 9)) (fun t => by show 256 + t.val = 256 * 1 + t.val; omega) (fun l => by show l.val = 128 * (2 % 2) + l.val; omega) (by decide),
      turned_piece (k0_pay6 (F := Ideal) x0 x1) x2 2 0 9 rfl _ _ _ (turned_lo_0 (slab (k0_pay6 (F := Ideal) x0 x1) x2 9)) (fun t => by show t.val = 256 * 0 + t.val; omega) (fun l => by show l.val = 128 * (2 % 2) + l.val; omega) (by decide),
      turned_piece (k0_pay6 (F := Ideal) x0 x1) x2 1 1 8 rfl _ _ _ (turned_hi_1 (slab (k0_pay6 (F := Ideal) x0 x1) x2 8)) (fun t => by show 256 + t.val = 256 * 1 + t.val; omega) (fun l => by show 128 + l.val = 128 * (1 % 2) + l.val; omega) (by decide),
      turned_piece (k0_pay6 (F := Ideal) x0 x1) x2 1 0 8 rfl _ _ _ (turned_hi_0 (slab (k0_pay6 (F := Ideal) x0 x1) x2 8)) (fun t => by show t.val = 256 * 0 + t.val; omega) (fun l => by show 128 + l.val = 128 * (1 % 2) + l.val; omega) (by decide),
      turned_piece (k0_pay6 (F := Ideal) x0 x1) x2 0 1 8 rfl _ _ _ (turned_lo_1 (slab (k0_pay6 (F := Ideal) x0 x1) x2 8)) (fun t => by show 256 + t.val = 256 * 1 + t.val; omega) (fun l => by show l.val = 128 * (0 % 2) + l.val; omega) (by decide),
      turned_piece (k0_pay6 (F := Ideal) x0 x1) x2 0 0 8 rfl _ _ _ (turned_lo_0 (slab (k0_pay6 (F := Ideal) x0 x1) x2 8)) (fun t => by show t.val = 256 * 0 + t.val; omega) (fun l => by show l.val = 128 * (0 % 2) + l.val; omega) (by decide), trivial⟩
  match p, h with
  | ⟨0, _⟩, ⟨0, _⟩ => exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), mem_turned 0 0 (by decide) z l t⟩
  | ⟨0, _⟩, ⟨1, _⟩ => exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), mem_turned 0 1 (by decide) z l t⟩
  | ⟨1, _⟩, ⟨0, _⟩ => exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), mem_turned 1 0 (by decide) z l t⟩
  | ⟨1, _⟩, ⟨1, _⟩ => exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), mem_turned 1 1 (by decide) z l t⟩
  | ⟨2, _⟩, ⟨0, _⟩ => exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), mem_turned 2 0 (by decide) z l t⟩
  | ⟨2, _⟩, ⟨1, _⟩ => exact ⟨_, List.Mem.tail _ (List.Mem.tail _ (List.Mem.tail _ (List.Mem.tail _ (List.Mem.tail _ (List.Mem.tail _ (List.Mem.tail _ (List.Mem.tail _ (List.Mem.tail _ (List.Mem.tail _ (List.Mem.head _)))))))))), mem_turned 2 1 (by decide) z l t⟩
  | ⟨3, _⟩, ⟨0, _⟩ => exact ⟨_, List.Mem.tail _ (List.Mem.tail _ (List.Mem.tail _ (List.Mem.tail _ (List.Mem.tail _ (List.Mem.tail _ (List.Mem.tail _ (List.Mem.tail _ (List.Mem.tail _ (List.Mem.head _))))))))), mem_turned 3 0 (by decide) z l t⟩
  | ⟨3, _⟩, ⟨1, _⟩ => exact ⟨_, List.Mem.tail _ (List.Mem.tail _ (List.Mem.tail _ (List.Mem.tail _ (List.Mem.tail _ (List.Mem.tail _ (List.Mem.tail _ (List.Mem.tail _ (List.Mem.head _)))))))), mem_turned 3 1 (by decide) z l t⟩
  | ⟨4, _⟩, ⟨0, _⟩ => exact ⟨_, List.Mem.tail _ (List.Mem.tail _ (List.Mem.tail _ (List.Mem.tail _ (List.Mem.tail _ (List.Mem.tail _ (List.Mem.tail _ (List.Mem.head _))))))), mem_turned 4 0 (by decide) z l t⟩
  | ⟨4, _⟩, ⟨1, _⟩ => exact ⟨_, List.Mem.tail _ (List.Mem.tail _ (List.Mem.tail _ (List.Mem.tail _ (List.Mem.tail _ (List.Mem.tail _ (List.Mem.head _)))))), mem_turned 4 1 (by decide) z l t⟩
  | ⟨5, _⟩, ⟨0, _⟩ => exact ⟨_, List.Mem.tail _ (List.Mem.tail _ (List.Mem.tail _ (List.Mem.tail _ (List.Mem.tail _ (List.Mem.head _))))), mem_turned 5 0 (by decide) z l t⟩
  | ⟨5, _⟩, ⟨1, _⟩ => exact ⟨_, List.Mem.tail _ (List.Mem.tail _ (List.Mem.tail _ (List.Mem.tail _ (List.Mem.head _)))), mem_turned 5 1 (by decide) z l t⟩
  | ⟨6, _⟩, ⟨0, _⟩ => exact ⟨_, List.Mem.tail _ (List.Mem.tail _ (List.Mem.tail _ (List.Mem.head _))), mem_turned 6 0 (by decide) z l t⟩
  | ⟨6, _⟩, ⟨1, _⟩ => exact ⟨_, List.Mem.tail _ (List.Mem.tail _ (List.Mem.head _)), mem_turned 6 1 (by decide) z l t⟩
  | ⟨7, _⟩, ⟨0, _⟩ => exact ⟨_, List.Mem.tail _ (List.Mem.head _), mem_turned 7 0 (by decide) z l t⟩
  | ⟨7, _⟩, ⟨1, _⟩ => exact ⟨_, List.Mem.head _, mem_turned 7 1 (by decide) z l t⟩

end Cert.Kernel4Ideal.Qkv

end
-- ==== Proof.Qkv.Value.lean ====
/-
  The projection's three result arrays: what one grid point leaves, and that the blocks together are the queries, the keys
  and the values.
-/
module

public import proofs.«01_k».proof.Proof.Qkv.Block
public import proofs.«01_k».proof.Proof.Ffn.Ref
public import Idealize.ShloMosaic.Lib.Pipeline.ValueKit.Geometry
public import Idealize.ShloMosaic.Lib.Pipeline.Covers

@[expose] public section

set_option maxRecDepth 16384

noncomputable section

namespace Cert.Kernel4Ideal.Qkv

open Cert.Kernel4Ideal Cert.Kernel4Ideal.Gen
open Idealize.ShloMosaic Idealize.ShloMosaic.TcCoe Idealize.SL.Sem Idealize.ShloMosaic.StableHlo

variable (m : (ℓ : Loc nD τ sig) → Buf (Elt Ideal) ℓ) (c : Dev nD)

/-- The five arguments the run starts from: the residual, the gain of its rows, the weights, the gains of queries and keys. -/
abbrev argX : S2x8192x1024.Idx → EReal := m ((c : Thread nD τ).loc main_arg0)
abbrev argG : S1024.Idx → EReal := m ((c : Thread nD τ).loc main_arg1)
abbrev argW : S1024x3072.Idx → EReal := m ((c : Thread nD τ).loc main_arg2)
abbrev argQ : S64.Idx → EReal := m ((c : Thread nD τ).loc main_arg3)
abbrev argK : S64.Idx → EReal := m ((c : Thread nD τ).loc main_arg4)

theorem xArr (j : S2x8192x1024.Idx) : (V m c main_arg0 : S2x8192x1024.Idx → EReal) j = argX m c j := congrFun (V_main_arg0 m c) j
theorem wArr (j : S1024x3072.Idx) : (V m c main_v10 : S1024x3072.Idx → EReal) j = argW m c j := by
  unfold V
  simp only [hostOps0, hostOps0_1, hostOps0_2, List.flatten_cons, List.flatten_nil, List.append_nil, List.cons_append, List.nil_append]
  after_results_simp
  rfl
theorem gArr (k : Fin 1024) : (V m c main_v9 : S1x1024.Idx → EReal) (ix2 0 k) = argG m c (ix1 k) := by
  unfold V
  simp only [hostOps0, hostOps0_1, hostOps0_2, List.flatten_cons, List.flatten_nil, List.append_nil, List.cons_append, List.nil_append]
  after_results_simp
  pointwise []
theorem qArr (k : Fin 256) : (V m c main_v14 : S1x256.Idx → EReal) (ix2 0 k) = argQ m c (ix1 (⟨k.val % 64, by omega⟩ : Fin 64)) := by
  unfold V
  simp only [hostOps0, hostOps0_1, hostOps0_2, List.flatten_cons, List.flatten_nil, List.append_nil, List.cons_append, List.nil_append]
  after_results_simp
  pointwise []
theorem kArr (k : Fin 256) : (V m c main_v18 : S1x256.Idx → EReal) (ix2 0 k) = argK m c (ix1 (⟨k.val % 64, by omega⟩ : Fin 64)) := by
  unfold V
  simp only [hostOps0, hostOps0_1, hostOps0_2, List.flatten_cons, List.flatten_nil, List.append_nil, List.cons_append, List.nil_append]
  after_results_simp
  pointwise []
/-- The comparison of two small numbers, as a word of one bit. -/
theorem same_word : ∀ u v : Fin 4, IntOp.cmpi .eq (IntOp.addi (BitVec.ofNat 32 u.val) 0#32) (BitVec.ofNat 32 v.val) = if u.val = v.val then 1#1 else 0#1 := by decide
/-- The square matrix is one inside a head's 64 channels and zero across heads. -/
theorem bdArr (j k : Fin 256) : (show S256x256.Idx → EReal from V m c main_v8) (ix2 j k) = ((if j.val / 64 = k.val / 64 then 1 else 0 : EReal) : EReal) := by
  unfold V
  simp only [hostOps0, hostOps0_1, hostOps0_2, List.flatten_cons, List.flatten_nil, List.append_nil, List.cons_append, List.nil_append]
  after_results_simp
  pointwise []
  refine Eq.trans (b := (mulf (F := Ideal) (broadcastInDim S4x64x4x64 ![0, 1, 2, 3] bcast_S4x1x4x1_S4x64x4x64_0_1_2_3 (broadcastInDim S4x1x4x1 ![0, 2] bcast_S4x4_S4x1x4x1_0_2 (uitofp (F := Ideal) .f32 (cmpi .eq (addi (iotaInDim S4x4 32 0) (broadcastInDim S4x4 ![] bcast_S_S4x4 (constantI S_ 32 0#32))) (iotaInDim S4x4 32 1)))))
    (broadcastInDim S4x64x4x64 ![0, 1, 2, 3] bcast_S1x64x1x64_S4x64x4x64_0_1_2_3 (broadcastInDim S1x64x1x64 ![1, 3] bcast_S64x64_S1x64x1x64_1_3 (broadcastInDim S64x64 ![] bcast_S_S64x64 (constant (F := Ideal) S_ .f32 1065353216#32)))))
      (ix4 (⟨j.val / 64, by omega⟩ : Fin 4) (⟨j.val % 64, by omega⟩ : Fin 64) (⟨k.val / 64, by omega⟩ : Fin 4) (⟨k.val % 64, by omega⟩ : Fin 64))) rfl ?_
  pointwise []
  refine (congrArg (FloatOps.uitofp (F := Ideal) .f32) (same_word (⟨j.val / 64, by omega⟩ : Fin 4) (⟨k.val / 64, by omega⟩ : Fin 4))).trans ?_
  show FloatOps.uitofp (F := Ideal) .f32 (if j.val / 64 = k.val / 64 then 1#1 else 0#1) = _
  by_cases h : j.val / 64 = k.val / 64
  · rw [if_pos h, if_pos h]
    show (((1#1).toNat : ℝ) : EReal) = 1
    simp
  · rw [if_neg h, if_neg h]
    show (((0#1).toNat : ℝ) : EReal) = 0
    simp

/-! ## The windows' blocks -/

theorem index_0 (i : grid0.Coords) : cc0_transform_0 i = ![(i 0).val, (i 1).val, 0] := by
  have h0 : (i 0).val < 2 := (i 0).isLt
  have h1 : (i 1).val < 16 := (i 1).isLt
  funext a
  fin_cases a
  · show (BitVec.ofNat 32 (i 0).val).toNat = (i 0).val
    rw [BitVec.toNat_ofNat]
    omega
  · show (BitVec.ofNat 32 (i 1).val).toNat = (i 1).val
    rw [BitVec.toNat_ofNat]
    omega
  · rfl
theorem index_6 (i : grid0.Coords) : cc0_transform_6 i = ![(i 0).val, 0, (i 1).val, 0] := by
  have h := index_0 i
  funext a
  fin_cases a
  · exact congrFun h 0
  · rfl
  · exact congrFun h 1
  · rfl
theorem index_8 (i : grid0.Coords) : cc0_transform_8 i = ![(i 0).val, 0, (i 1).val, 0, 0] := by
  have h := index_0 i
  funext a
  fin_cases a
  · exact congrFun h 0
  · rfl
  · exact congrFun h 1
  · rfl
  · rfl

/-- The batch and the block of positions of a grid point. -/
abbrev bAt (t : Fin cfg0.N) : Fin 2 := grid0.coords t 0
abbrev iAt (t : Fin cfg0.N) : Fin 16 := grid0.coords t 1
/-- The position of row `r` of a grid point's block. -/
abbrev rowAt (t : Fin cfg0.N) (r : Fin 512) : Fin 8192 := ⟨(iAt t).val * 512 + r.val, by have := (iAt t).isLt; omega⟩

theorem iblk_0 (t : Fin cfg0.N) (r : Fin 512) (k : Fin 1024) :
    (iblk m c 0 t : S1x512x1024.Idx → EReal) (ix3 0 r k) = argX m c (ix3 (bAt t) (rowAt t r) k) := by
  have e : win0_0.index t = ![(bAt t).val, (iAt t).val, 0] := index_0 (grid0.coords t)
  have h : (win0_0.blk t).view.emb (ix3 0 r k) = ix3 (bAt t) (rowAt t r) k := by
    refine funext fun a => Fin.ext ?_
    match a with
    | ⟨0, _⟩ => exact (win0_0.rect_emb_val t _ 0).trans (by rw [e]; exact (Nat.add_zero _).trans (Nat.mul_one _))
    | ⟨1, _⟩ => exact (win0_0.rect_emb_val t _ 1).trans (by rw [e]; rfl)
    | ⟨2, _⟩ => exact win0_0.rect_emb_val_of_index_zero t 2 (congrFun e 2) _
  refine Eq.trans ?_ (xArr m c _)
  unfold iblk
  rw [View.read_apply]
  generalize V m c = U
  exact eq_of_heq ((cast_heq _ _).trans (heq_of_eq (congrArg (U main_arg0) h)))
theorem iblk_1 (t : Fin cfg0.N) (j : S1x1024.Idx) : (iblk m c 1 t : S1x1024.Idx → EReal) j = (show S1x1024.Idx → EReal from V m c main_v9) j := by
  have e : win0_1.index t = ![0, 0] := rfl
  have h : (win0_1.blk t).view.emb j = j := by
    refine funext fun a => Fin.ext ?_
    match a with
    | ⟨0, _⟩ => exact win0_1.rect_emb_val_of_index_zero t 0 (congrFun e 0) _
    | ⟨1, _⟩ => exact win0_1.rect_emb_val_of_index_zero t 1 (congrFun e 1) _
  unfold iblk
  rw [View.read_apply]
  generalize V m c = U
  exact eq_of_heq ((cast_heq _ _).trans (heq_of_eq (congrArg (U main_v9) h)))
theorem iblk_2 (t : Fin cfg0.N) (j : S1024x3072.Idx) : (iblk m c 2 t : S1024x3072.Idx → EReal) j = (show S1024x3072.Idx → EReal from V m c main_v10) j := by
  have e : win0_2.index t = ![0, 0] := rfl
  have h : (win0_2.blk t).view.emb j = j := by
    refine funext fun a => Fin.ext ?_
    match a with
    | ⟨0, _⟩ => exact win0_2.rect_emb_val_of_index_zero t 0 (congrFun e 0) _
    | ⟨1, _⟩ => exact win0_2.rect_emb_val_of_index_zero t 1 (congrFun e 1) _
  unfold iblk
  rw [View.read_apply]
  generalize V m c = U
  exact eq_of_heq ((cast_heq _ _).trans (heq_of_eq (congrArg (U main_v10) h)))
theorem iblk_3 (t : Fin cfg0.N) (j : S1x256.Idx) : (iblk m c 3 t : S1x256.Idx → EReal) j = (show S1x256.Idx → EReal from V m c main_v14) j := by
  have e : win0_3.index t = ![0, 0] := rfl
  have h : (win0_3.blk t).view.emb j = j := by
    refine funext fun a => Fin.ext ?_
    match a with
    | ⟨0, _⟩ => exact win0_3.rect_emb_val_of_index_zero t 0 (congrFun e 0) _
    | ⟨1, _⟩ => exact win0_3.rect_emb_val_of_index_zero t 1 (congrFun e 1) _
  unfold iblk
  rw [View.read_apply]
  generalize V m c = U
  exact eq_of_heq ((cast_heq _ _).trans (heq_of_eq (congrArg (U main_v14) h)))
theorem iblk_4 (t : Fin cfg0.N) (j : S1x256.Idx) : (iblk m c 4 t : S1x256.Idx → EReal) j = (show S1x256.Idx → EReal from V m c main_v18) j := by
  have e : win0_4.index t = ![0, 0] := rfl
  have h : (win0_4.blk t).view.emb j = j := by
    refine funext fun a => Fin.ext ?_
    match a with
    | ⟨0, _⟩ => exact win0_4.rect_emb_val_of_index_zero t 0 (congrFun e 0) _
    | ⟨1, _⟩ => exact win0_4.rect_emb_val_of_index_zero t 1 (congrFun e 1) _
  unfold iblk
  rw [View.read_apply]
  generalize V m c = U
  exact eq_of_heq ((cast_heq _ _).trans (heq_of_eq (congrArg (U main_v18) h)))
theorem iblk_5 (t : Fin cfg0.N) (j : S256x256.Idx) : (iblk m c 5 t : S256x256.Idx → EReal) j = (show S256x256.Idx → EReal from V m c main_v8) j := by
  have e : win0_5.index t = ![0, 0] := rfl
  have h : (win0_5.blk t).view.emb j = j := by
    refine funext fun a => Fin.ext ?_
    match a with
    | ⟨0, _⟩ => exact win0_5.rect_emb_val_of_index_zero t 0 (congrFun e 0) _
    | ⟨1, _⟩ => exact win0_5.rect_emb_val_of_index_zero t 1 (congrFun e 1) _
  unfold iblk
  rw [View.read_apply]
  generalize V m c = U
  exact eq_of_heq ((cast_heq _ _).trans (heq_of_eq (congrArg (U main_v8) h)))

/-! ## What one grid point leaves -/

/-- The normalised rows of a grid point. -/
abbrev rowsAt (t : Fin cfg0.N) : FVec Ideal S512x1024 .bf16 := k0_pay6 (F := Ideal) (iblk m c 0 t) (iblk m c 1 t)

theorem rowsAt_eq (t : Fin cfg0.N) (r : Fin 512) (k : Fin 1024) : rowsAt m c t (ix2 r k) = FeedForward.hid (argX m c) (argG m c) (bAt t) (rowAt t r) k := by
  refine (rows_apply _ _ r k).trans ?_
  have e1 : (fun d => (iblk m c 0 t : S1x512x1024.Idx → EReal) (ix3 0 r d)) = fun d => argX m c (ix3 (bAt t) (rowAt t r) d) := funext fun d => iblk_0 m c t r d
  have e2 : (fun d => (iblk m c 1 t : S1x1024.Idx → EReal) (ix2 0 d)) = fun d => argG m c (ix1 d) := funext fun d => (iblk_1 m c t _).trans (gArr m c d)
  exact congrFun (congrArg₂ FeedForward.rms e1 e2) k

theorem slabAt_eq (t : Fin cfg0.N) (n : Fin 12) (r : Fin 512) (k : Fin 256) (col : Fin 3072) (h : col.val = 256 * n.val + k.val) :
    slab (rowsAt m c t) (iblk m c 2 t) n (ix3 0 r k) = Projection.proj (argX m c) (argG m c) (argW m c) (bAt t) (rowAt t r) col := by
  refine Finset.sum_congr rfl fun d _ => congrArg₂ (· * ·) (rowsAt_eq m c t r d) ?_
  refine ((iblk_2 m c t _).trans (wArr m c _)).trans (congrArg (argW m c) ?_)
  exact congrArg (ix2 d) (Fin.ext h.symm)

/-- The three results. -/
def resQ : S2x8x8192x128.Idx → EReal := fun i => Projection.head (argX m c) (argG m c) (argW m c) (argQ m c) 0 (i 0) (i 1) (i 2) (i 3)
def resK : S2x8x8192x128.Idx → EReal := fun i => Projection.head (argX m c) (argG m c) (argW m c) (argK m c) 1 (i 0) (i 1) (i 2) (i 3)
def resV : S2x8x32x128x256.Idx → EReal := fun i => Projection.value (argX m c) (argG m c) (argW m c) (i 0) (i 1) (i 2) (i 3) (i 4)

/-- Every entry of the projection is a real number. -/
abbrev Reals : Prop := ∀ (b : Fin 2) (p : Fin 8192) (col : Fin 3072), ∃ r : ℝ, Projection.proj (argX m c) (argG m c) (argW m c) b p col = (r : EReal)

theorem scaledAt (H : Reals m c) (t : Fin cfg0.N) (s : Fin 2) (gn : FVec Ideal S1x256 .f32) (gain : S64.Idx → EReal)
    (hg : ∀ k : Fin 256, gn (ix2 0 k) = gain (ix1 (⟨k.val % 64, by omega⟩ : Fin 64))) (p : Fin 8) (r : Fin 512) (l : Fin 128) :
    scaledBlock (rowsAt m c t) (iblk m c 2 t) gn (iblk m c 5 t) s (ix4 0 p r l) = Projection.head (argX m c) (argG m c) (argW m c) gain s (bAt t) p (rowAt t r) l := by
  have hs := s.isLt
  have hp := p.isLt
  have hl := l.isLt
  refine (norm_apply _ _ _ r (⟨128 * (p.val % 2) + l.val, by omega⟩ : Fin 256)).trans ?_
  rw [Projection.masked_eq (fun j k => (iblk m c 5 t : S256x256.Idx → EReal) (ix2 j k)) (fun j k => (iblk_5 m c t _).trans (bdArr m c j k)) _ _ ?_ _]
  · unfold Projection.head
    have ey : ∀ (j : Fin 256) (col : Fin 3072), col.val = 256 * (4 * s.val + p.val / 2) + j.val →
        slab (rowsAt m c t) (iblk m c 2 t) (⟨4 * s.val + p.val / 2, by omega⟩ : Fin 12) (ix3 0 r j) = Projection.proj (argX m c) (argG m c) (argW m c) (bAt t) (rowAt t r) col :=
      fun j col h => slabAt_eq m c t _ r j col h
    have e1 := ey (⟨128 * (p.val % 2) + l.val, by omega⟩ : Fin 256) ⟨1024 * s.val + 128 * p.val + l.val, by omega⟩
      (by show 1024 * s.val + 128 * p.val + l.val = 256 * (4 * s.val + p.val / 2) + (128 * (p.val % 2) + l.val); omega)
    have e2 : (fun j : Fin 64 => slab (rowsAt m c t) (iblk m c 2 t) (⟨4 * s.val + p.val / 2, by omega⟩ : Fin 12) (ix3 0 r (⟨64 * ((128 * (p.val % 2) + l.val) / 64) + j.val, by omega⟩ : Fin 256)))
        = fun j => Projection.proj (argX m c) (argG m c) (argW m c) (bAt t) (rowAt t r) ⟨1024 * s.val + 128 * p.val + 64 * (l.val / 64) + j.val, by omega⟩ := funext fun j =>
      ey _ _ (by show 1024 * s.val + 128 * p.val + 64 * (l.val / 64) + j.val = 256 * (4 * s.val + p.val / 2) + (64 * ((128 * (p.val % 2) + l.val) / 64) + j.val); omega)
    have e3 : gn (ix2 0 (⟨128 * (p.val % 2) + l.val, by omega⟩ : Fin 256)) = gain (ix1 (⟨l.val % 64, by omega⟩ : Fin 64)) :=
      (hg _).trans (congrArg gain (congrArg ix1 (Fin.ext (by show (128 * (p.val % 2) + l.val) % 64 = l.val % 64; omega))))
    exact congr (congrArg₂ Projection.scaled e1 e2) e3
  · intro j
    have e := slabAt_eq m c t (⟨4 * s.val + p.val / 2, by omega⟩ : Fin 12) r j ⟨256 * (4 * s.val + p.val / 2) + j.val, by omega⟩ rfl
    obtain ⟨q, hq⟩ := H (bAt t) (rowAt t r) ⟨256 * (4 * s.val + p.val / 2) + j.val, by omega⟩
    exact ⟨q, e.trans hq⟩

theorem turnedAt (t : Fin cfg0.N) (p : Fin 8) (h : Fin 2) (l : Fin 128) (q : Fin 256) (n : Fin 32) (hn : n.val = (iAt t).val * 2 + h.val) :
    turnedBlock (rowsAt m c t) (iblk m c 2 t) (ix5 0 p h l q) = Projection.value (argX m c) (argG m c) (argW m c) (bAt t) p n l q := by
  have hp := p.isLt
  have hl := l.isLt
  have hh := h.isLt
  have hi := (iAt t).isLt
  refine (slabAt_eq m c t (⟨8 + p.val / 2, by omega⟩ : Fin 12) (⟨256 * h.val + q.val, by omega⟩ : Fin 512) (⟨128 * (p.val % 2) + l.val, by omega⟩ : Fin 256)
    ⟨2048 + 128 * p.val + l.val, by omega⟩ (by show 2048 + 128 * p.val + l.val = 256 * (8 + p.val / 2) + (128 * (p.val % 2) + l.val); omega)).trans ?_
  have e : rowAt t (⟨256 * h.val + q.val, by omega⟩ : Fin 512) = ⟨256 * n.val + q.val, by omega⟩ :=
    Fin.ext (by show (iAt t).val * 512 + (256 * h.val + q.val) = 256 * n.val + q.val; omega)
  rw [e]
  rfl

/-! ## The arrays -/

theorem flushed_6 (H : Reals m c) (t : Fin cfg0.N) : (dats m 0 c).flushed 6 t = ((cfg0.win 6).blk t).view.read (Elt Ideal) (resQ m c) := by
  rw [Value.flushed6_A, out_6]
  funext j
  have h0 : (j 0).val = 0 := by have : (j 0).val < 1 := (j 0).isLt; omega
  have hj : j = (ix4 (0 : Fin 1) (j 1 : Fin 8) (j 2 : Fin 512) (j 3 : Fin 128) : S1x8x512x128.Idx) := by
    funext a
    match a with
    | ⟨0, _⟩ => exact Fin.ext h0
    | ⟨1, _⟩ => rfl
    | ⟨2, _⟩ => rfl
    | ⟨3, _⟩ => rfl
  have e : win0_6.index t = ![(bAt t).val, 0, (iAt t).val, 0] := index_6 (grid0.coords t)
  have h : (win0_6.blk t).view.emb j = ix4 (bAt t) (j 1 : Fin 8) (rowAt t (j 2)) (j 3 : Fin 128) := by
    refine funext fun a => Fin.ext ?_
    match a with
    | ⟨0, _⟩ => exact (win0_6.rect_emb_val t j 0).trans (by rw [e, h0]; exact (Nat.add_zero _).trans (Nat.mul_one _))
    | ⟨1, _⟩ => exact win0_6.rect_emb_val_of_index_zero t 1 (congrFun e 1) _
    | ⟨2, _⟩ => exact (win0_6.rect_emb_val t j 2).trans (by rw [e]; rfl)
    | ⟨3, _⟩ => exact win0_6.rect_emb_val_of_index_zero t 3 (congrFun e 3) _
  have ho : scaledBlock (rowsAt m c t) (iblk m c 2 t) (iblk m c 3 t) (iblk m c 5 t) 0 (ix4 (0 : Fin 1) (j 1 : Fin 8) (j 2 : Fin 512) (j 3 : Fin 128)) = resQ m c (ix4 (bAt t) (j 1 : Fin 8) (rowAt t (j 2)) (j 3 : Fin 128)) :=
    scaledAt m c H t 0 (iblk m c 3 t) (argQ m c) (fun k => (iblk_3 m c t _).trans (qArr m c k)) (j 1) (j 2) (j 3)
  rw [View.read_apply]
  generalize resQ m c = R at ho ⊢
  refine eq_of_heq (HEq.trans (heq_of_eq ?_) (cast_heq _ _).symm)
  refine (congrArg (scaledBlock (rowsAt m c t) (iblk m c 2 t) (iblk m c 3 t) (iblk m c 5 t) 0) hj).trans (ho.trans (congrArg R h.symm))

theorem final_6 (H : Reals m c) : (dats m 0 c).arrAt 6 cfg0.N = resQ m c :=
  (dats m 0 c).arrAt_eq_of_cover 6 (resQ m c) (fun t _ => flushed_6 m c H t) fun i => by
    have h0 : (i 0).val < 2 := (i 0).isLt
    have h1 : (i 1).val < 8 := (i 1).isLt
    have h2 : (i 2).val < 8192 := (i 2).isLt
    have h3 : (i 3).val < 128 := (i 3).isLt
    let x : grid0.Coords := fun a => match a with
      | ⟨0, _⟩ => (⟨(i 0).val, h0⟩ : Fin 2)
      | ⟨1, _⟩ => (⟨(i 2).val / 512, by omega⟩ : Fin 16)
    obtain ⟨t, ht⟩ := Pipeline.Grid.coords_surjective grid0 x
    refine ⟨t, flush0_6 t, ?_⟩
    show i ∈ ((View.whole main_v19_0).slice (win0_6.rect t)).set
    rw [View.set_slice_whole, Rect.mem_set_unit]
    intro a
    match a with
    | ⟨0, _⟩ =>
      show cc0_transform_6 (grid0.coords t) 0 * 1 ≤ (i 0).val ∧ (i 0).val < cc0_transform_6 (grid0.coords t) 0 * 1 + 1
      rw [index_6, ht]
      show (i 0).val * 1 ≤ (i 0).val ∧ (i 0).val < (i 0).val * 1 + 1
      omega
    | ⟨1, _⟩ =>
      show cc0_transform_6 (grid0.coords t) 1 * 8 ≤ (i 1).val ∧ (i 1).val < cc0_transform_6 (grid0.coords t) 1 * 8 + 8
      rw [index_6]
      show 0 * 8 ≤ (i 1).val ∧ (i 1).val < 0 * 8 + 8
      omega
    | ⟨2, _⟩ =>
      show cc0_transform_6 (grid0.coords t) 2 * 512 ≤ (i 2).val ∧ (i 2).val < cc0_transform_6 (grid0.coords t) 2 * 512 + 512
      rw [index_6, ht]
      show (i 2).val / 512 * 512 ≤ (i 2).val ∧ (i 2).val < (i 2).val / 512 * 512 + 512
      omega
    | ⟨3, _⟩ =>
      show cc0_transform_6 (grid0.coords t) 3 * 128 ≤ (i 3).val ∧ (i 3).val < cc0_transform_6 (grid0.coords t) 3 * 128 + 128
      rw [index_6]
      show 0 * 128 ≤ (i 3).val ∧ (i 3).val < 0 * 128 + 128
      omega

theorem flushed_7 (H : Reals m c) (t : Fin cfg0.N) : (dats m 0 c).flushed 7 t = ((cfg0.win 7).blk t).view.read (Elt Ideal) (resK m c) := by
  rw [Value.flushed7_A, out_7]
  funext j
  have h0 : (j 0).val = 0 := by have : (j 0).val < 1 := (j 0).isLt; omega
  have hj : j = (ix4 (0 : Fin 1) (j 1 : Fin 8) (j 2 : Fin 512) (j 3 : Fin 128) : S1x8x512x128.Idx) := by
    funext a
    match a with
    | ⟨0, _⟩ => exact Fin.ext h0
    | ⟨1, _⟩ => rfl
    | ⟨2, _⟩ => rfl
    | ⟨3, _⟩ => rfl
  have e : win0_7.index t = ![(bAt t).val, 0, (iAt t).val, 0] := index_6 (grid0.coords t)
  have h : (win0_7.blk t).view.emb j = ix4 (bAt t) (j 1 : Fin 8) (rowAt t (j 2)) (j 3 : Fin 128) := by
    refine funext fun a => Fin.ext ?_
    match a with
    | ⟨0, _⟩ => exact (win0_7.rect_emb_val t j 0).trans (by rw [e, h0]; exact (Nat.add_zero _).trans (Nat.mul_one _))
    | ⟨1, _⟩ => exact win0_7.rect_emb_val_of_index_zero t 1 (congrFun e 1) _
    | ⟨2, _⟩ => exact (win0_7.rect_emb_val t j 2).trans (by rw [e]; rfl)
    | ⟨3, _⟩ => exact win0_7.rect_emb_val_of_index_zero t 3 (congrFun e 3) _
  have ho : scaledBlock (rowsAt m c t) (iblk m c 2 t) (iblk m c 4 t) (iblk m c 5 t) 1 (ix4 (0 : Fin 1) (j 1 : Fin 8) (j 2 : Fin 512) (j 3 : Fin 128)) = resK m c (ix4 (bAt t) (j 1 : Fin 8) (rowAt t (j 2)) (j 3 : Fin 128)) :=
    scaledAt m c H t 1 (iblk m c 4 t) (argK m c) (fun k => (iblk_4 m c t _).trans (kArr m c k)) (j 1) (j 2) (j 3)
  rw [View.read_apply]
  generalize resK m c = R at ho ⊢
  refine eq_of_heq (HEq.trans (heq_of_eq ?_) (cast_heq _ _).symm)
  refine (congrArg (scaledBlock (rowsAt m c t) (iblk m c 2 t) (iblk m c 4 t) (iblk m c 5 t) 1) hj).trans (ho.trans (congrArg R h.symm))

theorem final_7 (H : Reals m c) : (dats m 0 c).arrAt 7 cfg0.N = resK m c :=
  (dats m 0 c).arrAt_eq_of_cover 7 (resK m c) (fun t _ => flushed_7 m c H t) fun i => by
    have h0 : (i 0).val < 2 := (i 0).isLt
    have h1 : (i 1).val < 8 := (i 1).isLt
    have h2 : (i 2).val < 8192 := (i 2).isLt
    have h3 : (i 3).val < 128 := (i 3).isLt
    let x : grid0.Coords := fun a => match a with
      | ⟨0, _⟩ => (⟨(i 0).val, h0⟩ : Fin 2)
      | ⟨1, _⟩ => (⟨(i 2).val / 512, by omega⟩ : Fin 16)
    obtain ⟨t, ht⟩ := Pipeline.Grid.coords_surjective grid0 x
    refine ⟨t, flush0_7 t, ?_⟩
    show i ∈ ((View.whole main_v19_1).slice (win0_7.rect t)).set
    rw [View.set_slice_whole, Rect.mem_set_unit]
    intro a
    match a with
    | ⟨0, _⟩ =>
      show cc0_transform_6 (grid0.coords t) 0 * 1 ≤ (i 0).val ∧ (i 0).val < cc0_transform_6 (grid0.coords t) 0 * 1 + 1
      rw [index_6, ht]
      show (i 0).val * 1 ≤ (i 0).val ∧ (i 0).val < (i 0).val * 1 + 1
      omega
    | ⟨1, _⟩ =>
      show cc0_transform_6 (grid0.coords t) 1 * 8 ≤ (i 1).val ∧ (i 1).val < cc0_transform_6 (grid0.coords t) 1 * 8 + 8
      rw [index_6]
      show 0 * 8 ≤ (i 1).val ∧ (i 1).val < 0 * 8 + 8
      omega
    | ⟨2, _⟩ =>
      show cc0_transform_6 (grid0.coords t) 2 * 512 ≤ (i 2).val ∧ (i 2).val < cc0_transform_6 (grid0.coords t) 2 * 512 + 512
      rw [index_6, ht]
      show (i 2).val / 512 * 512 ≤ (i 2).val ∧ (i 2).val < (i 2).val / 512 * 512 + 512
      omega
    | ⟨3, _⟩ =>
      show cc0_transform_6 (grid0.coords t) 3 * 128 ≤ (i 3).val ∧ (i 3).val < cc0_transform_6 (grid0.coords t) 3 * 128 + 128
      rw [index_6]
      show 0 * 128 ≤ (i 3).val ∧ (i 3).val < 0 * 128 + 128
      omega

theorem flushed_8 (t : Fin cfg0.N) : (dats m 0 c).flushed 8 t = ((cfg0.win 8).blk t).view.read (Elt Ideal) (resV m c) := by
  rw [Value.flushed8_A, out_8]
  funext j
  have h0 : (j 0).val = 0 := by have : (j 0).val < 1 := (j 0).isLt; omega
  have h2 : (j 2).val < 2 := (j 2).isLt
  have hi : (iAt t).val < 16 := (iAt t).isLt
  have hj : j = (ix5 (0 : Fin 1) (j 1 : Fin 8) (j 2 : Fin 2) (j 3 : Fin 128) (j 4 : Fin 256) : S1x8x2x128x256.Idx) := by
    funext a
    match a with
    | ⟨0, _⟩ => exact Fin.ext h0
    | ⟨1, _⟩ => rfl
    | ⟨2, _⟩ => rfl
    | ⟨3, _⟩ => rfl
    | ⟨4, _⟩ => rfl
  have e : win0_8.index t = ![(bAt t).val, 0, (iAt t).val, 0, 0] := index_8 (grid0.coords t)
  have h : (win0_8.blk t).view.emb j = ix5 (bAt t) (j 1 : Fin 8) (⟨(iAt t).val * 2 + (j 2).val, by omega⟩ : Fin 32) (j 3 : Fin 128) (j 4 : Fin 256) := by
    refine funext fun a => Fin.ext ?_
    match a with
    | ⟨0, _⟩ => exact (win0_8.rect_emb_val t j 0).trans (by rw [e, h0]; exact (Nat.add_zero _).trans (Nat.mul_one _))
    | ⟨1, _⟩ => exact win0_8.rect_emb_val_of_index_zero t 1 (congrFun e 1) _
    | ⟨2, _⟩ => exact (win0_8.rect_emb_val t j 2).trans (by rw [e]; rfl)
    | ⟨3, _⟩ => exact win0_8.rect_emb_val_of_index_zero t 3 (congrFun e 3) _
    | ⟨4, _⟩ => exact win0_8.rect_emb_val_of_index_zero t 4 (congrFun e 4) _
  have ho : turnedBlock (rowsAt m c t) (iblk m c 2 t) (ix5 (0 : Fin 1) (j 1 : Fin 8) (j 2 : Fin 2) (j 3 : Fin 128) (j 4 : Fin 256))
      = resV m c (ix5 (bAt t) (j 1 : Fin 8) (⟨(iAt t).val * 2 + (j 2).val, by omega⟩ : Fin 32) (j 3 : Fin 128) (j 4 : Fin 256)) :=
    turnedAt m c t (j 1) (j 2) (j 3) (j 4) _ rfl
  rw [View.read_apply]
  generalize resV m c = R at ho ⊢
  refine eq_of_heq (HEq.trans (heq_of_eq ?_) (cast_heq _ _).symm)
  refine (congrArg (turnedBlock (rowsAt m c t) (iblk m c 2 t)) hj).trans (ho.trans (congrArg R h.symm))

theorem final_8 : (dats m 0 c).arrAt 8 cfg0.N = resV m c :=
  (dats m 0 c).arrAt_eq_of_cover 8 (resV m c) (fun t _ => flushed_8 m c t) fun i => by
    have h0 : (i 0).val < 2 := (i 0).isLt
    have h1 : (i 1).val < 8 := (i 1).isLt
    have h2 : (i 2).val < 32 := (i 2).isLt
    have h3 : (i 3).val < 128 := (i 3).isLt
    have h4 : (i 4).val < 256 := (i 4).isLt
    let x : grid0.Coords := fun a => match a with
      | ⟨0, _⟩ => (⟨(i 0).val, h0⟩ : Fin 2)
      | ⟨1, _⟩ => (⟨(i 2).val / 2, by omega⟩ : Fin 16)
    obtain ⟨t, ht⟩ := Pipeline.Grid.coords_surjective grid0 x
    refine ⟨t, flush0_8 t, ?_⟩
    show i ∈ ((View.whole main_v19_2).slice (win0_8.rect t)).set
    rw [View.set_slice_whole, Rect.mem_set_unit]
    intro a
    match a with
    | ⟨0, _⟩ =>
      show cc0_transform_8 (grid0.coords t) 0 * 1 ≤ (i 0).val ∧ (i 0).val < cc0_transform_8 (grid0.coords t) 0 * 1 + 1
      rw [index_8, ht]
      show (i 0).val * 1 ≤ (i 0).val ∧ (i 0).val < (i 0).val * 1 + 1
      omega
    | ⟨1, _⟩ =>
      show cc0_transform_8 (grid0.coords t) 1 * 8 ≤ (i 1).val ∧ (i 1).val < cc0_transform_8 (grid0.coords t) 1 * 8 + 8
      rw [index_8]
      show 0 * 8 ≤ (i 1).val ∧ (i 1).val < 0 * 8 + 8
      omega
    | ⟨2, _⟩ =>
      show cc0_transform_8 (grid0.coords t) 2 * 2 ≤ (i 2).val ∧ (i 2).val < cc0_transform_8 (grid0.coords t) 2 * 2 + 2
      rw [index_8, ht]
      show (i 2).val / 2 * 2 ≤ (i 2).val ∧ (i 2).val < (i 2).val / 2 * 2 + 2
      omega
    | ⟨3, _⟩ =>
      show cc0_transform_8 (grid0.coords t) 3 * 128 ≤ (i 3).val ∧ (i 3).val < cc0_transform_8 (grid0.coords t) 3 * 128 + 128
      rw [index_8]
      show 0 * 128 ≤ (i 3).val ∧ (i 3).val < 0 * 128 + 128
      omega
    | ⟨4, _⟩ =>
      show cc0_transform_8 (grid0.coords t) 4 * 256 ≤ (i 4).val ∧ (i 4).val < cc0_transform_8 (grid0.coords t) 4 * 256 + 256
      rw [index_8]
      show 0 * 256 ≤ (i 4).val ∧ (i 4).val < 0 * 256 + 256
      omega

end Cert.Kernel4Ideal.Qkv

end
-- ==== Proof.Qkv.Ref.lean ====
/-
  The reference's three results, entry by entry: they are the projection's queries, keys and values.
-/
module

public import proofs.«01_k».proof.Proof.Gen.Reference4Ideal.Read
public import proofs.«01_k».proof.Proof.Qkv.Equation
public import proofs.«01_k».proof.Proof.Ffn.Ref

@[expose] public section

set_option maxRecDepth 16384

noncomputable section

namespace Cert.Reference4Ideal.Qkv

open Cert.Reference4Ideal Cert.Reference4Ideal.Gen Cert.Reference4Ideal.Read
open Idealize.ShloMosaic Projection

variable (x0 : (⟨S2x8192x1024, .f32⟩ : BufTy).Contents (Elt Ideal)) (x1 : (⟨S1024, .f32⟩ : BufTy).Contents (Elt Ideal)) (x2 : (⟨S1024x3072, .f32⟩ : BufTy).Contents (Elt Ideal))
  (x3 x4 : (⟨S64, .f32⟩ : BufTy).Contents (Elt Ideal))

theorem hid_apply (b : Fin 2) (p : Fin 8192) (k : Fin 1024) : val_main_v12 (F := Ideal) x0 x1 (ix3 b p k) = FeedForward.hid x0 x1 b p k := by
  rw [val_main_v12_apply, val_main_v9_apply, val_main_v8_apply, val_main_v7_apply, val_main_v6_apply, val_main_v5_apply, val_main_v4_apply, val_main_v3_apply, val_main_v2_apply, val_main_v1_apply,
    val_main_v11_apply, val_main_v10_apply, val_main_cst_0_apply, val_main_cst_1_apply, val_main_cst_apply]
  have hz : FloatOps.ofBits (F := Ideal) .f32 0x00000000#32 = 0 := Reference2Ideal.Ffn.zero_bits
  rw [hz, zero_add]
  have es : (∑ d : Fin 1024, val_main_v0 (F := Ideal) x0 (idx_main_v1 (idx_main_v2 (idx_main_v8 (ix3 b p k))) d)) = ∑ d : Fin 1024, x0 (ix3 b p d) * x0 (ix3 b p d) := by
    refine Finset.sum_congr rfl fun d _ => ?_
    rw [val_main_v0_apply]
    have e : idx_main_v1 (idx_main_v2 (idx_main_v8 (ix3 b p k))) d = ix3 b p d := funext fun a => by fin_cases a <;> rfl
    rw [e]
    rfl
  rw [es]
  have eg : idx_main_v10 (idx_main_v11 (ix3 b p k)) = ix1 k := funext fun a => by fin_cases a <;> rfl
  rw [eg]
  rfl

theorem proj_apply (b : Fin 2) (p : Fin 8192) (col : Fin 3072) : val_main_v13 (F := Ideal) x0 x1 x2 (ix3 b p col) = proj x0 x1 x2 b p col := by
  rw [val_main_v13_apply]
  refine Finset.sum_congr rfl fun k _ => ?_
  have el : lidx_main_v13 (ix3 b p col) k = ix3 b p k := funext fun a => by fin_cases a <;> rfl
  have er : ridx_main_v13 (ix3 b p col) k = ix2 k col := funext fun a => by fin_cases a <;> rfl
  rw [el, er, hid_apply]

theorem q_apply (b : Fin 2) (p : Fin 8192) (h : Fin 16) (j : Fin 64) :
    val_main_v17 (F := Ideal) x0 x1 x2 (ix4 b p h j) = proj x0 x1 x2 b p ⟨64 * h.val + j.val, by omega⟩ := by
  rw [val_main_v17_apply, val_main_v14_apply, ← proj_apply]
  refine congrArg _ (funext fun a => Fin.ext ?_)
  have hb := b.isLt
  have hp := p.isLt
  have hh := h.isLt
  have hj := j.isLt
  match a with
  | ⟨0, _⟩ => show (((b.val * 8192 + p.val) * 16 + h.val) * 64 + j.val) / 8388608 = b.val; omega
  | ⟨1, _⟩ => show (((b.val * 8192 + p.val) * 16 + h.val) * 64 + j.val) / 1024 % 8192 = p.val; omega
  | ⟨2, _⟩ => show ((((b.val * 8192 + p.val) * 16 + h.val) * 64 + j.val) % 1024) = 64 * h.val + j.val; omega

theorem k_apply (b : Fin 2) (p : Fin 8192) (h : Fin 16) (j : Fin 64) :
    val_main_v31 (F := Ideal) x0 x1 x2 (ix4 b p h j) = proj x0 x1 x2 b p ⟨1024 + 64 * h.val + j.val, by omega⟩ := by
  rw [val_main_v31_apply, val_main_v15_apply, ← proj_apply]
  refine congrArg _ (funext fun a => Fin.ext ?_)
  have hb := b.isLt
  have hp := p.isLt
  have hh := h.isLt
  have hj := j.isLt
  match a with
  | ⟨0, _⟩ => show (((b.val * 8192 + p.val) * 16 + h.val) * 64 + j.val) / 8388608 = b.val; omega
  | ⟨1, _⟩ => show (((b.val * 8192 + p.val) * 16 + h.val) * 64 + j.val) / 1024 % 8192 = p.val; omega
  | ⟨2, _⟩ => show 1024 + ((((b.val * 8192 + p.val) * 16 + h.val) * 64 + j.val) % 1024) = 1024 + 64 * h.val + j.val; omega

theorem q_scaled (b : Fin 2) (p : Fin 8192) (h : Fin 16) (j : Fin 64) :
    val_main_v30 (F := Ideal) x0 x1 x2 x3 (ix4 b p h j) = scaled (proj x0 x1 x2 b p ⟨64 * h.val + j.val, by omega⟩) (fun d => proj x0 x1 x2 b p ⟨64 * h.val + d.val, by omega⟩) (x3 (ix1 j)) := by
  rw [val_main_v30_apply, val_main_v29_apply, val_main_v28_apply, val_main_v27_apply, val_main_v26_apply, val_main_v25_apply, val_main_v24_apply, val_main_v23_apply, val_main_v22_apply, val_main_v21_apply, val_main_v20_apply, val_main_v19_apply, val_main_cst_2_apply, val_main_cst_3_apply, val_main_cst_4_apply, q_apply]
  have hz : FloatOps.ofBits (F := Ideal) .f32 0x00000000#32 = 0 := Reference2Ideal.Ffn.zero_bits
  rw [hz, zero_add]
  have es : (∑ d : Fin 64, val_main_v18 (F := Ideal) x0 x1 x2 (idx_main_v19 (idx_main_v20 (idx_main_v26 (ix4 b p h j))) d))
      = ∑ d : Fin 64, proj x0 x1 x2 b p ⟨64 * h.val + d.val, by omega⟩ * proj x0 x1 x2 b p ⟨64 * h.val + d.val, by omega⟩ := by
    refine Finset.sum_congr rfl fun d _ => ?_
    rw [val_main_v18_apply]
    have e : idx_main_v19 (idx_main_v20 (idx_main_v26 (ix4 b p h j))) d = ix4 b p h d := funext fun a => by fin_cases a <;> rfl
    rw [e, q_apply]
    rfl
  rw [es]
  have eg : idx_main_v28 (idx_main_v29 (ix4 b p h j)) = ix1 j := funext fun a => by fin_cases a <;> rfl
  rw [eg]
  rfl

theorem k_scaled (b : Fin 2) (p : Fin 8192) (h : Fin 16) (j : Fin 64) :
    val_main_v44 (F := Ideal) x0 x1 x2 x4 (ix4 b p h j) = scaled (proj x0 x1 x2 b p ⟨1024 + 64 * h.val + j.val, by omega⟩) (fun d => proj x0 x1 x2 b p ⟨1024 + 64 * h.val + d.val, by omega⟩) (x4 (ix1 j)) := by
  rw [val_main_v44_apply, val_main_v43_apply, val_main_v42_apply, val_main_v41_apply, val_main_v40_apply, val_main_v39_apply, val_main_v38_apply, val_main_v37_apply, val_main_v36_apply, val_main_v35_apply, val_main_v34_apply, val_main_v33_apply, val_main_cst_5_apply, val_main_cst_6_apply, val_main_cst_7_apply, k_apply]
  have hz : FloatOps.ofBits (F := Ideal) .f32 0x00000000#32 = 0 := Reference2Ideal.Ffn.zero_bits
  rw [hz, zero_add]
  have es : (∑ d : Fin 64, val_main_v32 (F := Ideal) x0 x1 x2 (idx_main_v33 (idx_main_v34 (idx_main_v40 (ix4 b p h j))) d))
      = ∑ d : Fin 64, proj x0 x1 x2 b p ⟨1024 + 64 * h.val + d.val, by omega⟩ * proj x0 x1 x2 b p ⟨1024 + 64 * h.val + d.val, by omega⟩ := by
    refine Finset.sum_congr rfl fun d _ => ?_
    rw [val_main_v32_apply]
    have e : idx_main_v33 (idx_main_v34 (idx_main_v40 (ix4 b p h j))) d = ix4 b p h d := funext fun a => by fin_cases a <;> rfl
    rw [e, k_apply]
    rfl
  rw [es]
  have eg : idx_main_v42 (idx_main_v43 (ix4 b p h j)) = ix1 j := funext fun a => by fin_cases a <;> rfl
  rw [eg]
  rfl

theorem queries_eq : val_main_v51 (F := Ideal) x0 x1 x2 x3 = fun i => head x0 x1 x2 x3 0 (i 0) (i 1) (i 2) (i 3) := by
  funext i
  obtain ⟨b, pr, p, l, rfl⟩ : ∃ (b : Fin 2) (pr : Fin 8) (p : Fin 8192) (l : Fin 128), i = ix4 b pr p l := ⟨i 0, i 1, i 2, i 3, funext fun a => by fin_cases a <;> rfl⟩
  have hb := b.isLt
  have hp := p.isLt
  have hr := pr.isLt
  have hl := l.isLt
  have e : idx_main_v45 (idx_main_v46 (ix4 b pr p l)) = ix4 b p (⟨2 * pr.val + l.val / 64, by omega⟩ : Fin 16) (⟨l.val % 64, by omega⟩ : Fin 64) := by
    refine funext fun a => Fin.ext ?_
    match a with
    | ⟨0, _⟩ => show (((b.val * 8192 + p.val) * 8 + pr.val) * 128 + l.val) / 8388608 = b.val; omega
    | ⟨1, _⟩ => show (((b.val * 8192 + p.val) * 8 + pr.val) * 128 + l.val) / 1024 % 8192 = p.val; omega
    | ⟨2, _⟩ => show (((b.val * 8192 + p.val) * 8 + pr.val) * 128 + l.val) / 64 % 16 = 2 * pr.val + l.val / 64; omega
    | ⟨3, _⟩ => show (((b.val * 8192 + p.val) * 8 + pr.val) * 128 + l.val) % 64 = l.val % 64; omega
  rw [val_main_v51_apply, val_main_v46_apply, val_main_v45_apply, e, q_scaled]
  show scaled _ _ _ = scaled _ _ _
  refine congrFun (congrArg₂ scaled ?_ (funext fun d => ?_)) _
  · refine congrArg (proj x0 x1 x2 b p) (Fin.ext ?_)
    show 64 * (2 * pr.val + l.val / 64) + l.val % 64 = 1024 * 0 + 128 * pr.val + l.val
    omega
  · refine congrArg (proj x0 x1 x2 b p) (Fin.ext ?_)
    show 64 * (2 * pr.val + l.val / 64) + d.val = 1024 * 0 + 128 * pr.val + 64 * (l.val / 64) + d.val
    omega

theorem keys_eq : val_main_v52 (F := Ideal) x0 x1 x2 x4 = fun i => head x0 x1 x2 x4 1 (i 0) (i 1) (i 2) (i 3) := by
  funext i
  obtain ⟨b, pr, p, l, rfl⟩ : ∃ (b : Fin 2) (pr : Fin 8) (p : Fin 8192) (l : Fin 128), i = ix4 b pr p l := ⟨i 0, i 1, i 2, i 3, funext fun a => by fin_cases a <;> rfl⟩
  have hb := b.isLt
  have hp := p.isLt
  have hr := pr.isLt
  have hl := l.isLt
  have e : idx_main_v47 (idx_main_v48 (ix4 b pr p l)) = ix4 b p (⟨2 * pr.val + l.val / 64, by omega⟩ : Fin 16) (⟨l.val % 64, by omega⟩ : Fin 64) := by
    refine funext fun a => Fin.ext ?_
    match a with
    | ⟨0, _⟩ => show (((b.val * 8192 + p.val) * 8 + pr.val) * 128 + l.val) / 8388608 = b.val; omega
    | ⟨1, _⟩ => show (((b.val * 8192 + p.val) * 8 + pr.val) * 128 + l.val) / 1024 % 8192 = p.val; omega
    | ⟨2, _⟩ => show (((b.val * 8192 + p.val) * 8 + pr.val) * 128 + l.val) / 64 % 16 = 2 * pr.val + l.val / 64; omega
    | ⟨3, _⟩ => show (((b.val * 8192 + p.val) * 8 + pr.val) * 128 + l.val) % 64 = l.val % 64; omega
  rw [val_main_v52_apply, val_main_v48_apply, val_main_v47_apply, e, k_scaled]
  show scaled _ _ _ = scaled _ _ _
  refine congrFun (congrArg₂ scaled ?_ (funext fun d => ?_)) _
  · refine congrArg (proj x0 x1 x2 b p) (Fin.ext ?_)
    show 1024 + 64 * (2 * pr.val + l.val / 64) + l.val % 64 = 1024 * 1 + 128 * pr.val + l.val
    omega
  · refine congrArg (proj x0 x1 x2 b p) (Fin.ext ?_)
    show 1024 + 64 * (2 * pr.val + l.val / 64) + d.val = 1024 * 1 + 128 * pr.val + 64 * (l.val / 64) + d.val
    omega

theorem values_eq : val_main_v53 (F := Ideal) x0 x1 x2 = fun i => value x0 x1 x2 (i 0) (i 1) (i 2) (i 3) (i 4) := by
  funext i
  obtain ⟨b, pr, n, l, t, rfl⟩ : ∃ (b : Fin 2) (pr : Fin 8) (n : Fin 32) (l : Fin 128) (t : Fin 256), i = ix5 b pr n l t := ⟨i 0, i 1, i 2, i 3, i 4, funext fun a => by fin_cases a <;> rfl⟩
  have hb := b.isLt
  have hn := n.isLt
  have hr := pr.isLt
  have hl := l.isLt
  have ht := t.isLt
  have e : idx_main_v16 (idx_main_v49 (idx_main_v50 (ix5 b pr n l t))) = ix3 b (⟨256 * n.val + t.val, by omega⟩ : Fin 8192) (⟨2048 + 128 * pr.val + l.val, by omega⟩ : Fin 3072) := by
    refine funext fun a => Fin.ext ?_
    match a with
    | ⟨0, _⟩ => show ((((b.val * 32 + n.val) * 256 + t.val) * 8 + pr.val) * 128 + l.val) / 8388608 = b.val; omega
    | ⟨1, _⟩ => show ((((b.val * 32 + n.val) * 256 + t.val) * 8 + pr.val) * 128 + l.val) / 1024 % 8192 = 256 * n.val + t.val; omega
    | ⟨2, _⟩ => show 2048 + ((((b.val * 32 + n.val) * 256 + t.val) * 8 + pr.val) * 128 + l.val) % 1024 = 2048 + 128 * pr.val + l.val; omega
  rw [val_main_v53_apply, val_main_v50_apply, val_main_v49_apply, val_main_v16_apply, e, proj_apply]
  rfl

end Cert.Reference4Ideal.Qkv

end
-- ==== Proof.Qkv.Finite.lean ====
/-
  What the projection's precondition gives: every entry of the projection is a real number.
-/
module

public import proofs.«01_k».proof.Pre_finite4
public import proofs.«01_k».proof.Proof.Mla.Finite
public import proofs.«01_k».proof.Proof.Qkv.Equation

@[expose] public section

noncomputable section

namespace Cert.Pre_finite4.Qkv

open Cert.Pre_finite4 Cert.Pre_finite.Att Idealize.ShloMosaic

variable [Facts]

theorem reals (x0 : FVec Ideal S2x8192x1024 .f32) (x1 : FVec Ideal S1024 .f32) (x2 : FVec Ideal S1024x3072 .f32) (x3 x4 : FVec Ideal S64 .f32)
    (h : fn (F := Ideal) x0 x1 x2 x3 x4 = fun _ => 1#1) (b : Fin 2) (p : Fin 8192) (col : Fin 3072) : ∃ r : ℝ, Projection.proj x0 x1 x2 b p col = (r : EReal) := by
  have h' := congrFun h (fun a => a.elim0)
  dsimp only [fn] at h'
  obtain ⟨h1, h2⟩ := IntOp.andi_eq_one.1 h'
  haveI : Subsingleton S_.Idx := ⟨fun a b => funext fun k => k.elim0⟩
  exact Projection.proj_real x0 x1 x2 (fun i => real_of_cmp _ (Host.reduce_andi_all _ _ _ _ _ h1 i)) (fun i => real_of_cmp _ (Host.reduce_andi_all _ _ _ _ _ h2 i)) b p col

end Cert.Pre_finite4.Qkv

end
-- ==== Proof.Idx.Equation.lean ====
/-
  The index scores' queries, key and weights, entry by entry: rows scaled to unit mean square, one product with a matrix of 584
  columns, the key's 64 columns scaled to unit mean square again, and the last 32 columns of each group of 64 turned.
  The turn is also written with a table of cosines and two of sines over all 64 columns.
-/
module

public import proofs.«01_k».proof.Proof.Qkv.Equation

@[expose] public section

noncomputable section

namespace Indexer

open Idealize.ShloMosaic FeedForward

/-- The last 32 of 64 entries turned: 16 against the 16 after them. -/
def turn (c s : Fin 16 → EReal) (y : Fin 64 → EReal) (l : Fin 64) : EReal :=
  if h : l.val < 32 then y l
  else if h' : l.val < 48 then y l * c ⟨l.val - 32, by omega⟩ - y ⟨l.val + 16, by omega⟩ * s ⟨l.val - 32, by omega⟩
  else y ⟨l.val - 16, by omega⟩ * s ⟨l.val - 48, by omega⟩ + y l * c ⟨l.val - 48, by omega⟩
/-- The tables of the turn: what multiplies an entry, the entry 16 after it and the entry 16 before it. -/
def tabC (c : Fin 16 → EReal) (l : ℕ) : EReal := if h : l < 32 then 1 else if h' : l < 48 then c ⟨l - 32, by omega⟩ else if h'' : l < 64 then c ⟨l - 48, by omega⟩ else 0
def tabA (s : Fin 16 → EReal) (l : ℕ) : EReal := if h : l < 32 then 0 else if h' : l < 48 then -s ⟨l - 32, by omega⟩ else 0
def tabB (s : Fin 16 → EReal) (l : ℕ) : EReal := if h : l < 48 then 0 else if h' : l < 64 then s ⟨l - 48, by omega⟩ else 0

theorem turn_tables (c s : Fin 16 → EReal) (y : Fin 64 → EReal) (l : Fin 64) (a b : EReal)
    (ha : ∀ h : l.val < 48, a = y ⟨l.val + 16, by omega⟩) (hb : ∀ h : 48 ≤ l.val, b = y ⟨l.val - 16, by omega⟩) :
    y l * tabC c l.val + a * tabA s l.val + b * tabB s l.val = turn c s y l := by
  unfold tabC tabA tabB turn
  by_cases h : l.val < 32
  · rw [dif_pos h, dif_pos h, dif_pos (by omega), dif_pos h, mul_one, mul_zero, mul_zero, add_zero, add_zero]
  · by_cases h' : l.val < 48
    · rw [dif_neg h, dif_pos h', dif_neg h, dif_pos h', dif_pos h', dif_neg h, dif_pos h', mul_zero, add_zero, ha h', mul_neg, sub_eq_add_neg]
    · rw [dif_neg h, dif_neg h', dif_pos l.isLt, dif_neg h, dif_neg h', dif_neg h', dif_pos l.isLt, dif_neg h, dif_neg h', mul_zero, add_zero, hb (by omega), add_comm]

/-- The turn over the two parts cut out of the 64 entries. -/
theorem turn_parts (c s : Fin 16 → EReal) (y : Fin 64 → EReal) (l : Fin 64) :
    (if h : l.val < 32 then y ⟨l.val, by omega⟩
      else if h' : l.val - 32 < 16 then
        y ⟨32 + (l.val - 32), by omega⟩ * c ⟨l.val - 32, by omega⟩ - y ⟨32 + (16 + (l.val - 32)), by omega⟩ * s ⟨l.val - 32, by omega⟩
      else y ⟨32 + (l.val - 32 - 16), by omega⟩ * s ⟨l.val - 32 - 16, by omega⟩ + y ⟨32 + (16 + (l.val - 32 - 16)), by omega⟩ * c ⟨l.val - 32 - 16, by omega⟩)
      = turn c s y l := by
  unfold turn
  by_cases h : l.val < 32
  · rw [dif_pos h, dif_pos h]
  · by_cases h' : l.val < 48
    · rw [dif_neg h, dif_pos (show l.val - 32 < 16 by omega), dif_neg h, dif_pos h']
      refine congrArg₂ (fun u v : EReal => u - v) (congrArg₂ (fun u v : EReal => u * v) (congrArg y (Fin.ext ?_)) rfl) (congrArg₂ (fun u v : EReal => u * v) (congrArg y (Fin.ext ?_)) rfl)
      · show 32 + (l.val - 32) = l.val; omega
      · show 32 + (16 + (l.val - 32)) = l.val + 16; omega
    · rw [dif_neg h, dif_neg (show ¬ l.val - 32 < 16 by omega), dif_neg h, dif_neg h']
      refine congrArg₂ (fun u v : EReal => u + v) (congrArg₂ (fun u v : EReal => u * v) (congrArg y (Fin.ext ?_)) (congrArg s (Fin.ext ?_))) (congrArg₂ (fun u v : EReal => u * v) (congrArg y (Fin.ext ?_)) (congrArg c (Fin.ext ?_)))
      · show 32 + (l.val - 32 - 16) = l.val - 16; omega
      · show l.val - 32 - 16 = l.val - 48; omega
      · show 32 + (16 + (l.val - 32 - 16)) = l.val; omega
      · show l.val - 32 - 16 = l.val - 48; omega

theorem real_mul {a b : EReal} (ha : ∃ r : ℝ, a = (r : EReal)) (hb : ∃ r : ℝ, b = (r : EReal)) : ∃ r : ℝ, a * b = (r : EReal) := by
  obtain ⟨u, rfl⟩ := ha
  obtain ⟨v, rfl⟩ := hb
  exact ⟨u * v, (EReal.coe_mul u v).symm⟩
theorem real_add {a b : EReal} (ha : ∃ r : ℝ, a = (r : EReal)) (hb : ∃ r : ℝ, b = (r : EReal)) : ∃ r : ℝ, a + b = (r : EReal) := by
  obtain ⟨u, rfl⟩ := ha
  obtain ⟨v, rfl⟩ := hb
  exact ⟨u + v, (EReal.coe_add u v).symm⟩
theorem real_sub {a b : EReal} (ha : ∃ r : ℝ, a = (r : EReal)) (hb : ∃ r : ℝ, b = (r : EReal)) : ∃ r : ℝ, a - b = (r : EReal) := by
  obtain ⟨u, rfl⟩ := ha
  obtain ⟨v, rfl⟩ := hb
  exact ⟨u - v, (EReal.coe_sub u v).symm⟩
/-- A real number has no rest. -/
theorem rest_zero {a : EReal} (ha : ∃ r : ℝ, a = (r : EReal)) : a - a = 0 := by
  obtain ⟨u, rfl⟩ := ha
  rw [← EReal.coe_sub, sub_self, EReal.coe_zero]

theorem turn_real (c s : Fin 16 → EReal) (y : Fin 64 → EReal) (hc : ∀ j, ∃ r : ℝ, c j = (r : EReal)) (hs : ∀ j, ∃ r : ℝ, s j = (r : EReal))
    (hy : ∀ j, ∃ r : ℝ, y j = (r : EReal)) (l : Fin 64) : ∃ r : ℝ, turn c s y l = (r : EReal) := by
  unfold turn
  split
  · exact hy _
  · split
    · exact real_sub (real_mul (hy _) (hc _)) (real_mul (hy _) (hs _))
    · exact real_add (real_mul (hy _) (hs _)) (real_mul (hy _) (hc _))

theorem scaled_real (y : EReal) (head : Fin 64 → EReal) (gn : EReal) (hy : ∃ r : ℝ, y = (r : EReal)) (hh : ∀ j, ∃ r : ℝ, head j = (r : EReal))
    (hg : ∃ r : ℝ, gn = (r : EReal)) : ∃ r : ℝ, Projection.scaled y head gn = (r : EReal) := by
  obtain ⟨e, he, h⟩ := Projection.eps_pos
  choose r hr using hh
  have es : (∑ d : Fin 64, head d * head d) = ((∑ d : Fin 64, r d * r d : ℝ) : EReal) := by
    rw [Cert.Softmax.coe_sum]
    exact Finset.sum_congr rfl fun j _ => by rw [hr, ← EReal.coe_mul]
  have hp : 0 < (∑ d : Fin 64, r d * r d) * (1 / 64) + e := by
    have : 0 ≤ ∑ d : Fin 64, r d * r d := Finset.sum_nonneg fun d _ => mul_self_nonneg _
    positivity
  unfold Projection.scaled
  rw [Projection.ofBits_64, h, Ideal.div_coe (by norm_num), es, ← EReal.coe_mul, ← EReal.coe_add, Ideal.rsqrt_coe, if_neg (by linarith), if_neg (by linarith)]
  exact real_mul (real_mul hy ⟨_, rfl⟩) hg

/-- The sum over 128 columns of which the last 64 are zero, times 1/64, is the mean over 64. -/
theorem scaled_padded (y : Fin 128 → EReal) (hy : ∀ l : Fin 128, 64 ≤ l.val → y l = 0) (v gn : EReal) :
    v * Ideal.rsqrt ((∑ j : Fin 128, y j * y j) * Ideal.ofBits .f32 0x3C800000#32 + Ideal.ofBits .f32 0x358637BD#32) * gn
      = Projection.scaled v (fun j => y ⟨j.val, by omega⟩) gn := by
  have e : (∑ j : Fin 128, y j * y j) = ∑ j : Fin 64, y ⟨j.val, by omega⟩ * y ⟨j.val, by omega⟩ := by
    rw [Fin.sum_univ_add (a := 64) (b := 64) (fun j => y j * y j), Finset.sum_eq_zero (s := (Finset.univ : Finset (Fin 64))) (f := fun i => y (Fin.natAdd 64 i) * y (Fin.natAdd 64 i)), add_zero]
    · rfl
    · intro i _
      rw [hy _ (by show 64 ≤ 64 + i.val; omega), mul_zero]
  unfold Projection.scaled
  rw [e, Projection.ofBits_inv64, Projection.ofBits_64, Ideal.div_coe (by norm_num)]

variable (x : (⟨3, ![2, 8192, 1024]⟩ : Shape).Idx → EReal) (g : (⟨1, ![1024]⟩ : Shape).Idx → EReal) (w : (⟨2, ![1024, 584]⟩ : Shape).Idx → EReal)
  (gain : (⟨1, ![64]⟩ : Shape).Idx → EReal) (cos sin : (⟨2, ![8192, 16]⟩ : Shape).Idx → EReal)

/-- One column of the projection of one position. -/
def proj (b : Fin 2) (p : Fin 8192) (col : Fin 584) : EReal := ∑ k : Fin 1024, hid x g b p k * w (ix2 k col)
/-- The query of head `h`: 64 of the first 512 columns. -/
def query (b : Fin 2) (h : Fin 8) (p : Fin 8192) (l : Fin 64) : EReal :=
  turn (fun j => cos (ix2 p j)) (fun j => sin (ix2 p j)) (fun j => proj x g w b p ⟨64 * h.val + j.val, by omega⟩) l
/-- The key, shared by the heads: the next 64 columns over their root mean square. -/
def key (b : Fin 2) (p : Fin 8192) (l : Fin 64) : EReal :=
  turn (fun j => cos (ix2 p j)) (fun j => sin (ix2 p j))
    (fun j => Projection.scaled (proj x g w b p ⟨512 + j.val, by omega⟩) (fun i => proj x g w b p ⟨512 + i.val, by omega⟩) (gain (ix1 j))) l
/-- The weight of head `h`. -/
def weight (b : Fin 2) (h : Fin 8) (p : Fin 8192) : EReal :=
  proj x g w b p ⟨576 + h.val, by omega⟩ * Ideal.ofBits .f32 0x3E000000#32 * Ideal.ofBits .f32 0x3EB504F3#32

/-- The constant of the weights is the product of two. -/
theorem ofBits_scale : Ideal.ofBits .f32 0x3D3504F3#32 = Ideal.ofBits .f32 0x3E000000#32 * Ideal.ofBits .f32 0x3EB504F3#32 := by
  simp [Ideal.ofBits, Ideal.ieee]
  rw [← EReal.coe_mul, ← EReal.coe_mul, ← EReal.coe_mul, ← EReal.coe_mul]
  norm_num

variable (hg : ∀ i, ∃ r : ℝ, g i = (r : EReal)) (hw : ∀ i, ∃ r : ℝ, w i = (r : EReal)) (hn : ∀ i, ∃ r : ℝ, gain i = (r : EReal))
  (hc : ∀ i, ∃ r : ℝ, cos i = (r : EReal)) (hs : ∀ i, ∃ r : ℝ, sin i = (r : EReal))
include hg
theorem hid_real (b : Fin 2) (p : Fin 8192) (k : Fin 1024) : ∃ r : ℝ, hid x g b p k = (r : EReal) := Projection.rms_real _ _ (fun d => hg _) k
include hw
theorem proj_real (b : Fin 2) (p : Fin 8192) (col : Fin 584) : ∃ r : ℝ, proj x g w b p col = (r : EReal) := by
  have h : ∀ k : Fin 1024, ∃ r : ℝ, hid x g b p k * w (ix2 k col) = (r : EReal) := fun k => real_mul (hid_real x g hg b p k) (hw _)
  choose r hr using h
  exact ⟨∑ k, r k, by rw [Cert.Softmax.coe_sum]; exact Finset.sum_congr rfl fun k _ => hr k⟩
include hc hs
theorem query_real (b : Fin 2) (h : Fin 8) (p : Fin 8192) (l : Fin 64) : ∃ r : ℝ, query x g w cos sin b h p l = (r : EReal) :=
  turn_real _ _ _ (fun _ => hc _) (fun _ => hs _) (fun _ => proj_real x g w hg hw b p _) l
include hn
theorem key_real (b : Fin 2) (p : Fin 8192) (l : Fin 64) : ∃ r : ℝ, key x g w gain cos sin b p l = (r : EReal) :=
  turn_real _ _ _ (fun _ => hc _) (fun _ => hs _)
    (fun _ => scaled_real _ _ _ (proj_real x g w hg hw b p _) (fun _ => proj_real x g w hg hw b p _) (hn _)) l

end Indexer

end
-- ==== Proof.Idx.Block.lean ====
/-
  What one grid point of the index projection leaves in its three output blocks, entry by entry, from its eight input blocks.
  A product is taken with a part and a rest of each factor; each of four slabs of 128 columns holds two query heads, the fifth
  the key and the sixth the heads' weights.
-/
module

public import proofs.«01_k».proof.Proof.Gen.Kernel5Ideal.Value
public import proofs.«01_k».proof.Proof.Idx.Equation
public import proofs.«01_k».proof.Proof.Ffn.Ref
public import Idealize.ShloMosaic.Lib.Pipeline.ReadBack
public import Idealize.ShloMosaic.Lib.Pipeline.ValueKit.Tiles
public import Idealize.ShloMosaic.Lib.Pipeline.ValueKit.Basic

@[expose] public section

set_option maxRecDepth 16384

noncomputable section

namespace Cert.Kernel5Ideal.Idx

open Cert.Kernel5Ideal Cert.Kernel5Ideal.Gen Idealize.ShloMosaic Idealize.ShloMosaic.TcCoe

/-- The product of the rows with 128 columns, the rest of each factor times the part of the other. -/
def mm (xh xl : FVec Ideal S512x1024 .bf16) (wh wl : FVec Ideal S1024x128 .bf16) : FVec Ideal S512x128 .f32 :=
  addf (matmul dot_S512x1024_S1024x128_S512x128_1_0_0_1_n_n none xh (shapeCast S1024x128 wh shapeCasts_S1024x128_S1024x128) (constant S512x128 .f32 0x00000000#32))
    (addf (matmul dot_S512x1024_S1024x128_S512x128_1_0_0_1_n_n none xl (shapeCast S1024x128 wh shapeCasts_S1024x128_S1024x128) (constant S512x128 .f32 0x00000000#32))
      (matmul dot_S512x1024_S1024x128_S512x128_1_0_0_1_n_n none xh (shapeCast S1024x128 wl shapeCasts_S1024x128_S1024x128) (constant S512x128 .f32 0x00000000#32)))
/-- A slab times the cosines, and its neighbours 16 columns away times the sines. -/
def turned (y ct s1 s2 : FVec Ideal S512x128 .f32) : FVec Ideal S512x128 .f32 :=
  addf (addf (mulf y ct) (mulf (dynamicRotate 1 112#32 none y rotates_S512x128_d1) s1)) (mulf (dynamicRotate 1 16#32 none y rotates_S512x128_d1) s2)

theorem mm_apply (xh xl : FVec Ideal S512x1024 .bf16) (wh wl : FVec Ideal S1024x128 .bf16) (r : Fin 512) (l : Fin 128) :
    mm xh xl wh wl (ix2 r l) = (∑ d : Fin 1024, xh (ix2 r d) * wh (ix2 d l)) + ((∑ d : Fin 1024, xl (ix2 r d) * wh (ix2 d l)) + ∑ d : Fin 1024, xh (ix2 r d) * wl (ix2 d l)) := by
  unfold mm
  pointwise []
theorem turned_apply (y ct s1 s2 : FVec Ideal S512x128 .f32) (r : Fin 512) (l : Fin 128) :
    turned y ct s1 s2 (ix2 r l) = y (ix2 r l) * ct (ix2 r l) + y (ix2 r (⟨(l.val + 16) % 128, by omega⟩ : Fin 128)) * s1 (ix2 r l)
      + y (ix2 r (⟨(l.val + 112) % 128, by omega⟩ : Fin 128)) * s2 (ix2 r l) := by
  unfold turned
  pointwise []
  rfl

/-- The mask holds on the first 64 columns. -/
theorem mask_apply (r : Fin 512) (l : Fin 128) {α : Type} (a b : α) : Scalar.select (k0_pay8 (ix2 r l)) a b = if l.val < 64 then a else b := by
  have h : k0_pay8 (ix2 r l) = if l.val < 64 then 1#1 else 0#1 := by
    unfold k0_pay8
    pointwise []
    revert l
    decide
  rw [h]
  split <;> rfl

section pieces
variable (T : FVec Ideal S512x128 .f32)

/-- The four stores of a pair of heads, over the turned slab. -/
def store00 : FVec Ideal S1x1x128x512 .bf16 :=
  shapeCast S1x1x128x512 (truncf .bf16 (transpose S128x512 [1, 0] (select k0_pay8 (extf .f32 (truncf .bf16 T bitsLt_bf16_f32) bitsLt_bf16_f32)
    (dynamicRotate 1 64#32 none (subf T (extf .f32 (truncf .bf16 T bitsLt_bf16_f32) bitsLt_bf16_f32)) rotates_S512x128_d1)) transposes_S512x128_p1_0_S128x512) bitsLt_bf16_f32) shapeCasts_S128x512_S1x1x128x512
def store01 : FVec Ideal S1x1x128x512 .bf16 :=
  shapeCast S1x1x128x512 (truncf .bf16 (transpose S128x512 [1, 0] (select k0_pay8 (extf .f32 (truncf .bf16 T bitsLt_bf16_f32) bitsLt_bf16_f32)
    (k0_pay9 (F := Ideal))) transposes_S512x128_p1_0_S128x512) bitsLt_bf16_f32) shapeCasts_S128x512_S1x1x128x512
def store10 : FVec Ideal S1x1x128x512 .bf16 :=
  shapeCast S1x1x128x512 (truncf .bf16 (transpose S128x512 [1, 0] (select k0_pay8 (dynamicRotate 1 64#32 none (extf .f32 (truncf .bf16 T bitsLt_bf16_f32) bitsLt_bf16_f32) rotates_S512x128_d1)
    (subf T (extf .f32 (truncf .bf16 T bitsLt_bf16_f32) bitsLt_bf16_f32))) transposes_S512x128_p1_0_S128x512) bitsLt_bf16_f32) shapeCasts_S128x512_S1x1x128x512
def store11 : FVec Ideal S1x1x128x512 .bf16 :=
  shapeCast S1x1x128x512 (truncf .bf16 (transpose S128x512 [1, 0] (select k0_pay8 (dynamicRotate 1 64#32 none (extf .f32 (truncf .bf16 T bitsLt_bf16_f32) bitsLt_bf16_f32) rotates_S512x128_d1)
    (k0_pay9 (F := Ideal))) transposes_S512x128_p1_0_S128x512) bitsLt_bf16_f32) shapeCasts_S128x512_S1x1x128x512

theorem zero_apply (i : S512x128.Idx) : k0_pay9 (F := Ideal) i = 0 := by
  unfold k0_pay9
  exact Cert.Reference2Ideal.Ffn.zero_bits

variable (hT : ∀ (r : Fin 512) (l : Fin 128), T (ix2 r l) - T (ix2 r l) = 0)
include hT
theorem store00_apply (z z' : Fin 1) (l : Fin 128) (r : Fin 512) : store00 T (ix4 z z' l r) = if l.val < 64 then T (ix2 r l) else 0 := by
  unfold store00
  pointwise []
  rw [mask_apply]
  split
  · rfl
  · exact hT _ _
omit hT in
theorem store01_apply (z z' : Fin 1) (l : Fin 128) (r : Fin 512) : store01 T (ix4 z z' l r) = if l.val < 64 then T (ix2 r l) else 0 := by
  unfold store01
  pointwise []
  rw [mask_apply, zero_apply]
theorem store10_apply (z z' : Fin 1) (l : Fin 128) (r : Fin 512) : store10 T (ix4 z z' l r) = if l.val < 64 then T (ix2 r (⟨(l.val + 64) % 128, by omega⟩ : Fin 128)) else 0 := by
  unfold store10
  pointwise []
  rw [mask_apply]
  split
  · rfl
  · exact hT _ _
omit hT in
theorem store11_apply (z z' : Fin 1) (l : Fin 128) (r : Fin 512) : store11 T (ix4 z z' l r) = if l.val < 64 then T (ix2 r (⟨(l.val + 64) % 128, by omega⟩ : Fin 128)) else 0 := by
  unfold store11
  pointwise []
  rw [mask_apply, zero_apply]
  rfl
end pieces

/-! ## The queries' block -/

/-- The queries' block: each head's 64 columns as rows, 64 rows of zeros, and both again. -/
def headsBlock (T : Fin 4 → FVec Ideal S512x128 .f32) : Vec Ideal S1x8x256x512 .bf16 := fun y =>
  if (y 2).val % 128 < 64 then
    T ⟨(y 1).val / 2, by have : (y 1).val < 8 := (y 1).isLt; omega⟩ (ix2 (n0 := 512) (n1 := 128) (y 3) ⟨64 * ((y 1).val % 2) + (y 2).val % 64, by omega⟩) else 0

theorem emb_head (p : Fin 8) (o : ℕ) (ho : o = 0 ∨ o = 128) (inb : ∀ a, (![0, p.val, o, 0] : Fin S1x8x256x512.rank → ℕ) a + S1x1x128x512.size a ≤ S1x8x256x512.size a)
    (z z' : Fin 1) (l : Fin 128) (r : Fin 512) :
    (Rect.unit ![0, p.val, o, 0] S1x1x128x512.size inb : Rect S1x8x256x512).emb (ix4 z z' l r) = ix4 0 p (⟨o + l.val, by omega⟩ : Fin 256) r := by
  refine funext fun a => Fin.ext ?_
  match a with
  | ⟨0, _⟩ => show 0 + 1 * z.val = 0; omega
  | ⟨1, _⟩ => show p.val + 1 * z'.val = p.val; omega
  | ⟨2, _⟩ => show o + 1 * l.val = o + l.val; omega
  | ⟨3, _⟩ => show 0 + 1 * r.val = r.val; omega

theorem head_piece (T : Fin 4 → FVec Ideal S512x128 .f32) (p : Fin 8) (o : ℕ) (ho : o = 0 ∨ o = 128) (n : Fin 4) (hn : n.val = p.val / 2)
    (f : FVec Ideal S1x1x128x512 .bf16) (K : Fin 128 → Fin 128)
    (hf : ∀ (z z' : Fin 1) (l : Fin 128) (r : Fin 512), f (ix4 z z' l r) = if l.val < 64 then T n (ix2 r (K l)) else 0)
    (hK : ∀ l : Fin 128, l.val < 64 → (K l).val = 64 * (p.val % 2) + l.val)
    (inb : ∀ a, (![0, p.val, o, 0] : Fin S1x8x256x512.rank → ℕ) a + S1x1x128x512.size a ≤ S1x8x256x512.size a) (x : S1x1x128x512.Idx) :
    f x = headsBlock T ((Rect.unit ![0, p.val, o, 0] S1x1x128x512.size inb : Rect S1x8x256x512).emb x) := by
  obtain ⟨z, z', l, r, rfl⟩ : ∃ (z z' : Fin 1) (l : Fin 128) (r : Fin 512), x = ix4 z z' l r := ⟨x 0, x 1, x 2, x 3, funext fun a => by fin_cases a <;> rfl⟩
  rw [emb_head p o ho, hf]
  show _ = if (o + l.val) % 128 < 64 then T ⟨p.val / 2, _⟩ (ix2 r (⟨64 * (p.val % 2) + (o + l.val) % 64, by omega⟩ : Fin 128)) else 0
  have e : n = (⟨p.val / 2, by omega⟩ : Fin 4) := Fin.ext hn
  by_cases h : l.val < 64
  · have eK : K l = (⟨64 * (p.val % 2) + (o + l.val) % 64, by omega⟩ : Fin 128) := Fin.ext ((hK l h).trans (by show _ = 64 * (p.val % 2) + (o + l.val) % 64; omega))
    rw [if_pos h, if_pos (by omega), e, eK]
  · rw [if_neg h, if_neg (by omega)]

section blocks
variable (x0 : Vec Ideal S1x512x1024 .f32) (x1 : Vec Ideal S1x1024 .f32) (x2 : Vec Ideal S1024x768 .bf16) (x3 : Vec Ideal S1024x768 .bf16) (x4 : Vec Ideal S1x128 .f32)
  (x5 x6 x7 : Vec Ideal S512x128 .f32)

/-- A slab of the product, from the columns of the weights' part and rest. -/
def slabOf (wh wl : FVec Ideal S1024x128 .bf16) : FVec Ideal S512x128 .f32 := mm (k0_pay59 x0 x1 x2 x3 x4 x5 x6 x7) (k0_pay60 x0 x1 x2 x3 x4 x5 x6 x7) wh wl
/-- A slab turned. -/
def turnOf (y : FVec Ideal S512x128 .f32) : FVec Ideal S512x128 .f32 := turned y (k0_pay61 x0 x1 x2 x3 x4 x5 x6 x7) (k0_pay62 x0 x1 x2 x3 x4 x5 x6 x7) (k0_pay63 x0 x1 x2 x3 x4 x5 x6 x7)
/-- The four slabs of queries. -/
def heads : Fin 4 → FVec Ideal S512x128 .f32
  | ⟨0, _⟩ => turnOf x0 x1 x2 x3 x4 x5 x6 x7 (slabOf x0 x1 x2 x3 x4 x5 x6 x7 (View.ld x2 r0_3) (View.ld x3 r0_3))
  | ⟨1, _⟩ => turnOf x0 x1 x2 x3 x4 x5 x6 x7 (slabOf x0 x1 x2 x3 x4 x5 x6 x7 (View.ld x2 r0_8) (View.ld x3 r0_8))
  | ⟨2, _⟩ => turnOf x0 x1 x2 x3 x4 x5 x6 x7 (slabOf x0 x1 x2 x3 x4 x5 x6 x7 (View.ld x2 r0_13) (View.ld x3 r0_13))
  | ⟨3, _⟩ => turnOf x0 x1 x2 x3 x4 x5 x6 x7 (slabOf x0 x1 x2 x3 x4 x5 x6 x7 (View.ld x2 r0_18) (View.ld x3 r0_18))

theorem out_8 (hT : ∀ n r l, heads x0 x1 x2 x3 x4 x5 x6 x7 n (ix2 r l) - heads x0 x1 x2 x3 x4 x5 x6 x7 n (ix2 r l) = 0) :
    out0_8 (F := Ideal) x0 x1 x2 x3 x4 x5 x6 x7 = headsBlock (heads x0 x1 x2 x3 x4 x5 x6 x7) := by
  unfold out0_8
  funext y
  obtain ⟨z, p, l, r, rfl⟩ : ∃ (z : Fin 1) (p : Fin 8) (l : Fin 256) (r : Fin 512), y = ix4 z p l r := ⟨y 0, y 1, y 2, y 3, funext fun a => by fin_cases a <;> rfl⟩
  refine View.canon_apply_of_pieces (Val := Elt Ideal) (e := .bf16) (S := S1x8x256x512) (headsBlock (heads x0 x1 x2 x3 x4 x5 x6 x7)) _ (View.PiecesOf.mem ?_) _ (cover0_8 (F := Ideal) _ _ _ _ _ _ _ _ _ _ _ _ _ _ _ _ _)
  exact ⟨
    head_piece (heads x0 x1 x2 x3 x4 x5 x6 x7) 7 128 (by decide) 3 rfl (store11 (heads x0 x1 x2 x3 x4 x5 x6 x7 3)) _ (store11_apply _) (fun l hl => by show (l.val + 64) % 128 = 64 * (7 % 2) + l.val; omega) (by decide),
    head_piece (heads x0 x1 x2 x3 x4 x5 x6 x7) 7 0 (by decide) 3 rfl (store10 (heads x0 x1 x2 x3 x4 x5 x6 x7 3)) _ (store10_apply _ (hT 3)) (fun l hl => by show (l.val + 64) % 128 = 64 * (7 % 2) + l.val; omega) (by decide),
    head_piece (heads x0 x1 x2 x3 x4 x5 x6 x7) 6 128 (by decide) 3 rfl (store01 (heads x0 x1 x2 x3 x4 x5 x6 x7 3)) _ (store01_apply _) (fun l _ => by show l.val = 64 * (6 % 2) + l.val; omega) (by decide),
    head_piece (heads x0 x1 x2 x3 x4 x5 x6 x7) 6 0 (by decide) 3 rfl (store00 (heads x0 x1 x2 x3 x4 x5 x6 x7 3)) _ (store00_apply _ (hT 3)) (fun l _ => by show l.val = 64 * (6 % 2) + l.val; omega) (by decide),
    head_piece (heads x0 x1 x2 x3 x4 x5 x6 x7) 5 128 (by decide) 2 rfl (store11 (heads x0 x1 x2 x3 x4 x5 x6 x7 2)) _ (store11_apply _) (fun l hl => by show (l.val + 64) % 128 = 64 * (5 % 2) + l.val; omega) (by decide),
    head_piece (heads x0 x1 x2 x3 x4 x5 x6 x7) 5 0 (by decide) 2 rfl (store10 (heads x0 x1 x2 x3 x4 x5 x6 x7 2)) _ (store10_apply _ (hT 2)) (fun l hl => by show (l.val + 64) % 128 = 64 * (5 % 2) + l.val; omega) (by decide),
    head_piece (heads x0 x1 x2 x3 x4 x5 x6 x7) 4 128 (by decide) 2 rfl (store01 (heads x0 x1 x2 x3 x4 x5 x6 x7 2)) _ (store01_apply _) (fun l _ => by show l.val = 64 * (4 % 2) + l.val; omega) (by decide),
    head_piece (heads x0 x1 x2 x3 x4 x5 x6 x7) 4 0 (by decide) 2 rfl (store00 (heads x0 x1 x2 x3 x4 x5 x6 x7 2)) _ (store00_apply _ (hT 2)) (fun l _ => by show l.val = 64 * (4 % 2) + l.val; omega) (by decide),
    head_piece (heads x0 x1 x2 x3 x4 x5 x6 x7) 3 128 (by decide) 1 rfl (store11 (heads x0 x1 x2 x3 x4 x5 x6 x7 1)) _ (store11_apply _) (fun l hl => by show (l.val + 64) % 128 = 64 * (3 % 2) + l.val; omega) (by decide),
    head_piece (heads x0 x1 x2 x3 x4 x5 x6 x7) 3 0 (by decide) 1 rfl (store10 (heads x0 x1 x2 x3 x4 x5 x6 x7 1)) _ (store10_apply _ (hT 1)) (fun l hl => by show (l.val + 64) % 128 = 64 * (3 % 2) + l.val; omega) (by decide),
    head_piece (heads x0 x1 x2 x3 x4 x5 x6 x7) 2 128 (by decide) 1 rfl (store01 (heads x0 x1 x2 x3 x4 x5 x6 x7 1)) _ (store01_apply _) (fun l _ => by show l.val = 64 * (2 % 2) + l.val; omega) (by decide),
    head_piece (heads x0 x1 x2 x3 x4 x5 x6 x7) 2 0 (by decide) 1 rfl (store00 (heads x0 x1 x2 x3 x4 x5 x6 x7 1)) _ (store00_apply _ (hT 1)) (fun l _ => by show l.val = 64 * (2 % 2) + l.val; omega) (by decide),
    head_piece (heads x0 x1 x2 x3 x4 x5 x6 x7) 1 128 (by decide) 0 rfl (store11 (heads x0 x1 x2 x3 x4 x5 x6 x7 0)) _ (store11_apply _) (fun l hl => by show (l.val + 64) % 128 = 64 * (1 % 2) + l.val; omega) (by decide),
    head_piece (heads x0 x1 x2 x3 x4 x5 x6 x7) 1 0 (by decide) 0 rfl (store10 (heads x0 x1 x2 x3 x4 x5 x6 x7 0)) _ (store10_apply _ (hT 0)) (fun l hl => by show (l.val + 64) % 128 = 64 * (1 % 2) + l.val; omega) (by decide),
    head_piece (heads x0 x1 x2 x3 x4 x5 x6 x7) 0 128 (by decide) 0 rfl (store01 (heads x0 x1 x2 x3 x4 x5 x6 x7 0)) _ (store01_apply _) (fun l _ => by show l.val = 64 * (0 % 2) + l.val; omega) (by decide),
    head_piece (heads x0 x1 x2 x3 x4 x5 x6 x7) 0 0 (by decide) 0 rfl (store00 (heads x0 x1 x2 x3 x4 x5 x6 x7 0)) _ (store00_apply _ (hT 0)) (fun l _ => by show l.val = 64 * (0 % 2) + l.val; omega) (by decide), trivial⟩

/-! ## The key's block -/

/-- A slab over the root of its mean square, times the gains. -/
def normed (y : FVec Ideal S512x128 .f32) (gn : FVec Ideal S1x128 .f32) : FVec Ideal S512x128 .f32 :=
  mulf (mulf y (broadcastTo S512x128 (rsqrt (addf (mulf (shapeCast S512x1 (multiReduction .add [1] S512 (mulf y y) 0x00000000#32 reduces_S512x128_S512 (.inl rfl) rfl) shapeCasts_S512_S512x1)
    (broadcast S512x1 (Scalar.ofBits (F := Ideal) .f32 0x3C800000#32))) (broadcast S512x1 (Scalar.ofBits (F := Ideal) .f32 0x358637BD#32)))) broadcasts_S512x1_S512x128))
    (broadcastTo S512x128 (shapeCast S1x128 gn shapeCasts_S1x128_S1x128) broadcasts_S1x128_S512x128)

theorem normed_apply (y : FVec Ideal S512x128 .f32) (gn : FVec Ideal S1x128 .f32) (r : Fin 512) (l : Fin 128) :
    normed y gn (ix2 r l) = y (ix2 r l) * Ideal.rsqrt ((∑ j : Fin 128, y (ix2 r j) * y (ix2 r j)) * Ideal.ofBits .f32 0x3C800000#32 + Ideal.ofBits .f32 0x358637BD#32) * gn (ix2 0 l) := by
  unfold normed
  pointwise []

/-- The turned key. -/
def keyOf : FVec Ideal S512x128 .f32 :=
  turnOf x0 x1 x2 x3 x4 x5 x6 x7 (normed (slabOf x0 x1 x2 x3 x4 x5 x6 x7 (View.ld x2 r0_23) (View.ld x3 r0_23)) (View.ld x4 r0_24))

/-- The two stores of the key. -/
def storeKey (T : FVec Ideal S512x128 .f32) : FVec Ideal S1x512x128 .bf16 :=
  shapeCast S1x512x128 (truncf .bf16 (select k0_pay8 (extf .f32 (truncf .bf16 T bitsLt_bf16_f32) bitsLt_bf16_f32)
    (dynamicRotate 1 64#32 none (extf .f32 (truncf .bf16 T bitsLt_bf16_f32) bitsLt_bf16_f32) rotates_S512x128_d1)) bitsLt_bf16_f32) shapeCasts_S512x128_S1x512x128
def storeRest (T : FVec Ideal S512x128 .f32) : FVec Ideal S1x512x128 .bf16 :=
  shapeCast S1x512x128 (truncf .bf16 (select k0_pay8 (subf T (extf .f32 (truncf .bf16 T bitsLt_bf16_f32) bitsLt_bf16_f32)) (k0_pay9 (F := Ideal))) bitsLt_bf16_f32) shapeCasts_S512x128_S1x512x128

theorem storeKey_apply (T : FVec Ideal S512x128 .f32) (z : Fin 1) (r : Fin 512) (l : Fin 128) : storeKey T (ix3 z r l) = T (ix2 r (⟨l.val % 64, by omega⟩ : Fin 128)) := by
  unfold storeKey
  pointwise []
  rw [mask_apply]
  split
  · exact congrArg T (congrArg (ix2 r) (Fin.ext (by show l.val = l.val % 64; omega)))
  · exact congrArg T (congrArg (ix2 r) (Fin.ext (by show (l.val + 64) % 128 = l.val % 64; omega)))
theorem storeRest_apply (T : FVec Ideal S512x128 .f32) (hT : ∀ r l, T (ix2 r l) - T (ix2 r l) = 0) (z : Fin 1) (r : Fin 512) (l : Fin 128) : storeRest T (ix3 z r l) = 0 := by
  unfold storeRest
  pointwise []
  rw [mask_apply, zero_apply]
  split
  · exact hT _ _
  · rfl

/-- The key's block: its 64 columns twice, and 128 columns of zeros. -/
def keyBlock (T : FVec Ideal S512x128 .f32) : Vec Ideal S1x512x256 .bf16 := fun y =>
  if (y 2).val < 128 then T (ix2 (n0 := 512) (n1 := 128) (y 1) ⟨(y 2).val % 64, by omega⟩) else 0

theorem emb_key (o : ℕ) (ho : o = 0 ∨ o = 128) (inb : ∀ a, (![0, 0, o] : Fin S1x512x256.rank → ℕ) a + S1x512x128.size a ≤ S1x512x256.size a)
    (z : Fin 1) (r : Fin 512) (l : Fin 128) :
    (Rect.unit ![0, 0, o] S1x512x128.size inb : Rect S1x512x256).emb (ix3 z r l) = ix3 0 r (⟨o + l.val, by omega⟩ : Fin 256) := by
  refine funext fun a => Fin.ext ?_
  match a with
  | ⟨0, _⟩ => show 0 + 1 * z.val = 0; omega
  | ⟨1, _⟩ => show 0 + 1 * r.val = r.val; omega
  | ⟨2, _⟩ => show o + 1 * l.val = o + l.val; omega

theorem key_piece (T : FVec Ideal S512x128 .f32) (inb : ∀ a, (![0, 0, 0] : Fin S1x512x256.rank → ℕ) a + S1x512x128.size a ≤ S1x512x256.size a) (x : S1x512x128.Idx) :
    storeKey T x = keyBlock T ((Rect.unit ![0, 0, 0] S1x512x128.size inb : Rect S1x512x256).emb x) := by
  obtain ⟨z, r, l, rfl⟩ : ∃ (z : Fin 1) (r : Fin 512) (l : Fin 128), x = ix3 z r l := ⟨x 0, x 1, x 2, funext fun a => by fin_cases a <;> rfl⟩
  rw [emb_key 0 (by decide), storeKey_apply]
  show _ = if 0 + l.val < 128 then T (ix2 r (⟨(0 + l.val) % 64, by omega⟩ : Fin 128)) else 0
  rw [if_pos (by omega)]
  exact congrArg T (congrArg (ix2 r) (Fin.ext (by show l.val % 64 = (0 + l.val) % 64; omega)))
theorem rest_piece (T : FVec Ideal S512x128 .f32) (hT : ∀ r l, T (ix2 r l) - T (ix2 r l) = 0)
    (inb : ∀ a, (![0, 0, 128] : Fin S1x512x256.rank → ℕ) a + S1x512x128.size a ≤ S1x512x256.size a) (x : S1x512x128.Idx) :
    storeRest T x = keyBlock T ((Rect.unit ![0, 0, 128] S1x512x128.size inb : Rect S1x512x256).emb x) := by
  obtain ⟨z, r, l, rfl⟩ : ∃ (z : Fin 1) (r : Fin 512) (l : Fin 128), x = ix3 z r l := ⟨x 0, x 1, x 2, funext fun a => by fin_cases a <;> rfl⟩
  rw [emb_key 128 (by decide), storeRest_apply T hT]
  exact (if_neg (by show ¬ 128 + l.val < 128; omega)).symm

theorem out_9 (hT : ∀ r l, keyOf x0 x1 x2 x3 x4 x5 x6 x7 (ix2 r l) - keyOf x0 x1 x2 x3 x4 x5 x6 x7 (ix2 r l) = 0) :
    out0_9 (F := Ideal) x0 x1 x2 x3 x4 x5 x6 x7 = keyBlock (keyOf x0 x1 x2 x3 x4 x5 x6 x7) := by
  unfold out0_9
  funext y
  refine View.canon_apply_of_pieces (Val := Elt Ideal) (e := .bf16) (S := S1x512x256) (keyBlock (keyOf x0 x1 x2 x3 x4 x5 x6 x7)) _ (View.PiecesOf.mem ?_) _ (cover0_9 (F := Ideal) _ _ _)
  exact ⟨rest_piece (keyOf x0 x1 x2 x3 x4 x5 x6 x7) hT (by decide), key_piece (keyOf x0 x1 x2 x3 x4 x5 x6 x7) (by decide), trivial⟩

/-! ## The weights' block -/

/-- The weights' block: eight columns of the last slab as rows, times a constant. -/
def weightBlock (y : FVec Ideal S512x128 .f32) : Vec Ideal S1x8x512 .f32 := fun i =>
  y (ix2 (n0 := 512) (n1 := 128) (i 2) ⟨(i 1).val, by have : (i 1).val < 8 := (i 1).isLt; omega⟩) * Ideal.ofBits .f32 0x3D3504F3#32

theorem weight_apply (xh xl : FVec Ideal S512x1024 .bf16) (wh wl : FVec Ideal S1024x128 .bf16) (z : Fin 1) (h : Fin 8) (r : Fin 512) :
    k0_pay1 (F := Ideal) xh xl wh wl (ix3 z h r) = mm xh xl wh wl (ix2 r (⟨h.val, by omega⟩ : Fin 128)) * Ideal.ofBits .f32 0x3D3504F3#32 := by
  rw [mm_apply]
  unfold k0_pay1
  pointwise []

theorem out_10 : out0_10 (F := Ideal) x0 x1 x2 x3 x4 x5 x6 x7 = weightBlock (slabOf x0 x1 x2 x3 x4 x5 x6 x7 (View.ld x2 r0_27) (View.ld x3 r0_27)) := by
  unfold out0_10
  funext y
  refine View.canon_apply_of_pieces (Val := Elt Ideal) (e := .f32) (S := S1x8x512) (weightBlock (slabOf x0 x1 x2 x3 x4 x5 x6 x7 (View.ld x2 r0_27) (View.ld x3 r0_27))) _ (View.PiecesOf.mem ?_) _ (cover0_10 (F := Ideal) _ _)
  refine ⟨fun x => ?_, trivial⟩
  obtain ⟨z, h, r, rfl⟩ : ∃ (z : Fin 1) (h : Fin 8) (r : Fin 512), x = ix3 z h r := ⟨x 0, x 1, x 2, funext fun a => by fin_cases a <;> rfl⟩
  have e : r0_28.emb (ix3 z h r) = (ix3 0 h r : S1x8x512.Idx) := by
    refine funext fun a => Fin.ext ?_
    match a with
    | ⟨0, _⟩ => show 0 + 1 * z.val = 0; omega
    | ⟨1, _⟩ => show 0 + 1 * h.val = h.val; omega
    | ⟨2, _⟩ => show 0 + 1 * r.val = r.val; omega
  show _ = weightBlock _ (r0_28.emb (ix3 z h r))
  rw [e]
  exact weight_apply _ _ _ _ z h r
end blocks

end Cert.Kernel5Ideal.Idx

end
-- ==== Proof.Idx.Value.lean ====
/-
  The index projection's three result arrays: what one grid point leaves, and that the blocks together are the queries, the key
  and the weights.
-/
module

public import proofs.«01_k».proof.Proof.Idx.Block
public import Idealize.ShloMosaic.Lib.Pipeline.ValueKit.Geometry
public import Idealize.ShloMosaic.Lib.Pipeline.Covers

@[expose] public section

set_option maxRecDepth 16384

noncomputable section

namespace Cert.Kernel5Ideal.Idx

open Cert.Kernel5Ideal Cert.Kernel5Ideal.Gen
open Idealize.ShloMosaic Idealize.ShloMosaic.TcCoe Idealize.SL.Sem Idealize.ShloMosaic.StableHlo

variable (m : (ℓ : Loc nD τ sig) → Buf (Elt Ideal) ℓ) (c : Dev nD)

/-- The six arguments the run starts from: the residual, the gain of its rows, the weights, the key's gain, the cosines and the sines. -/
abbrev argX : S2x8192x1024.Idx → EReal := m ((c : Thread nD τ).loc main_arg0)
abbrev argG : S1024.Idx → EReal := m ((c : Thread nD τ).loc main_arg1)
abbrev argW : S1024x584.Idx → EReal := m ((c : Thread nD τ).loc main_arg2)
abbrev argN : S64.Idx → EReal := m ((c : Thread nD τ).loc main_arg3)
abbrev argC : S8192x16.Idx → EReal := m ((c : Thread nD τ).loc main_arg4)
abbrev argS : S8192x16.Idx → EReal := m ((c : Thread nD τ).loc main_arg5)

/-- The weights with the columns of zeros put between and after them. -/
def wide (w : S1024x584.Idx → EReal) (d : Fin 1024) (l : ℕ) : EReal :=
  if h : l < 576 then w (ix2 d ⟨l, by omega⟩) else if h' : 640 ≤ l ∧ l < 648 then w (ix2 d ⟨l - 64, by omega⟩) else 0

theorem xArr (j : S2x8192x1024.Idx) : (V m c main_arg0 : S2x8192x1024.Idx → EReal) j = argX m c j := congrFun (V_main_arg0 m c) j
theorem gArr (k : Fin 1024) : (V m c main_v49 : S1x1024.Idx → EReal) (ix2 0 k) = argG m c (ix1 k) := by
  unfold V
  simp only [hostOps0, hostOps0_1, hostOps0_2, hostOps0_3, hostOps0_4, hostOps0_5, hostOps0_6, List.flatten_cons, List.flatten_nil, List.append_nil, List.cons_append, List.nil_append]
  after_results_simp
  pointwise []
/-- A value of zero, as the padding reads it. -/
theorem pad_value (i : S_.Idx) : (sitofp (F := Ideal) .f32 (constantI S_ 32 0#32) : S_.Idx → EReal) i = 0 := by
  show (((0#32).toInt : ℝ) : EReal) = 0
  simp
theorem pad_64 (y : S1024x64.Idx → EReal) (d : Fin 1024) (l : Fin 128) :
    pad S1024x128 ![0, 0] ![0, 64] ![0, 0] y (sitofp (F := Ideal) .f32 (constantI S_ 32 0#32) : S_.Idx → EReal) pads_S1024x64_S1024x128_000_0640 h_S_ (ix2 d l) = if h : l.val < 64 then y (ix2 d ⟨l.val, h⟩) else 0 := by
  by_cases h : l.val < 64
  · rw [dif_pos h]
    exact pad_apply_of_inside _ _ _ y _ _ _ _ (ix2 d ⟨l.val, h⟩) fun a => by
      match a with
      | ⟨0, _⟩ => show d.val = 0 + d.val * (0 + 1); omega
      | ⟨1, _⟩ => show l.val = 0 + l.val * (0 + 1); omega
  · rw [dif_neg h]
    refine (pad_apply_of_not_inside _ _ _ y _ _ _ _ (1 : Fin 2) ?_).trans (pad_value _)
    show ¬ (0 ≤ l.val ∧ (l.val - 0) % (0 + 1) = 0 ∧ (l.val - 0) / (0 + 1) < 64)
    omega
theorem pad_8 (y : S1024x8.Idx → EReal) (d : Fin 1024) (l : Fin 128) :
    pad S1024x128 ![0, 0] ![0, 120] ![0, 0] y (sitofp (F := Ideal) .f32 (constantI S_ 32 0#32) : S_.Idx → EReal) pads_S1024x8_S1024x128_000_01200 h_S_ (ix2 d l) = if h : l.val < 8 then y (ix2 d ⟨l.val, h⟩) else 0 := by
  by_cases h : l.val < 8
  · rw [dif_pos h]
    exact pad_apply_of_inside _ _ _ y _ _ _ _ (ix2 d ⟨l.val, h⟩) fun a => by
      match a with
      | ⟨0, _⟩ => show d.val = 0 + d.val * (0 + 1); omega
      | ⟨1, _⟩ => show l.val = 0 + l.val * (0 + 1); omega
  · rw [dif_neg h]
    refine (pad_apply_of_not_inside _ _ _ y _ _ _ _ (1 : Fin 2) ?_).trans (pad_value _)
    show ¬ (0 ≤ l.val ∧ (l.val - 0) % (0 + 1) = 0 ∧ (l.val - 0) / (0 + 1) < 8)
    omega
theorem pad_gain (y : S64.Idx → EReal) (l : Fin 128) :
    pad S128 ![0] ![64] ![0] y (sitofp (F := Ideal) .f32 (constantI S_ 32 0#32) : S_.Idx → EReal) pads_S64_S128_0640 h_S_ (ix1 l) = if h : l.val < 64 then y (ix1 ⟨l.val, h⟩) else 0 := by
  by_cases h : l.val < 64
  · rw [dif_pos h]
    exact pad_apply_of_inside _ _ _ y _ _ _ _ (ix1 ⟨l.val, h⟩) fun a => by
      match a with
      | ⟨0, _⟩ => show l.val = 0 + l.val * (0 + 1); omega
  · rw [dif_neg h]
    refine (pad_apply_of_not_inside _ _ _ y _ _ _ _ (0 : Fin 1) ?_).trans (pad_value _)
    show ¬ (0 ≤ l.val ∧ (l.val - 0) % (0 + 1) = 0 ∧ (l.val - 0) / (0 + 1) < 64)
    omega

theorem nArr (k : Fin 128) : (V m c main_v48 : S1x128.Idx → EReal) (ix2 0 k) = if h : k.val < 64 then argN m c (ix1 ⟨k.val, h⟩) else 0 := by
  unfold V
  simp only [hostOps0, hostOps0_1, hostOps0_2, hostOps0_3, hostOps0_4, hostOps0_5, hostOps0_6, List.flatten_cons, List.flatten_nil, List.append_nil, List.cons_append, List.nil_append]
  after_results_simp
  pointwise []
  exact pad_gain (argN m c) k
theorem cArr (p : Fin 8192) (l : Fin 128) : (V m c main_v11 : S8192x128.Idx → EReal) (ix2 p l) = Indexer.tabC (fun j => argC m c (ix2 p j)) (l.val % 64) := by
  unfold V
  simp only [hostOps0, hostOps0_1, hostOps0_2, hostOps0_3, hostOps0_4, hostOps0_5, hostOps0_6, List.flatten_cons, List.flatten_nil, List.append_nil, List.cons_append, List.nil_append]
  after_results_simp
  pointwise []
  after_results_simp
  pointwise []
  unfold Indexer.tabC
  by_cases h : l.val % 64 < 32
  · rw [dif_pos h, dif_pos h]
  · by_cases h' : l.val % 64 < 48
    · rw [dif_neg h, dif_pos (show l.val % 64 - 32 < 16 by omega), dif_neg h, dif_pos h']
    · rw [dif_neg h, dif_neg (show ¬ l.val % 64 - 32 < 16 by omega), dif_pos (show l.val % 64 - 32 - 16 < 16 by omega), dif_neg h, dif_neg h', dif_pos (show l.val % 64 < 64 by omega)]
      exact congrArg (fun j => argC m c (ix2 p j)) (Fin.ext (by show l.val % 64 - 32 - 16 = l.val % 64 - 48; omega))
theorem aArr (p : Fin 8192) (l : Fin 128) : (V m c main_v24 : S8192x128.Idx → EReal) (ix2 p l) = Indexer.tabA (fun j => argS m c (ix2 p j)) (l.val % 64) := by
  unfold V
  simp only [hostOps0, hostOps0_1, hostOps0_2, hostOps0_3, hostOps0_4, hostOps0_5, hostOps0_6, List.flatten_cons, List.flatten_nil, List.append_nil, List.cons_append, List.nil_append]
  after_results_simp
  pointwise []
  after_results_simp
  pointwise []
  unfold Indexer.tabA
  by_cases h : l.val % 64 < 32
  · rw [dif_pos h, dif_pos h]
  · by_cases h' : l.val % 64 < 48
    · rw [dif_neg h, dif_pos (show l.val % 64 - 32 < 16 by omega), dif_neg h, dif_pos h']
    · rw [dif_neg h, dif_neg (show ¬ l.val % 64 - 32 < 16 by omega), dif_pos (show l.val % 64 - 32 - 16 < 16 by omega), dif_neg h, dif_neg h']
      exact zero_mul (argS m c (ix2 p (⟨l.val % 64 - 32 - 16, by omega⟩ : Fin 16)))
theorem bArr (p : Fin 8192) (l : Fin 128) : (V m c main_v36 : S8192x128.Idx → EReal) (ix2 p l) = Indexer.tabB (fun j => argS m c (ix2 p j)) (l.val % 64) := by
  unfold V
  simp only [hostOps0, hostOps0_1, hostOps0_2, hostOps0_3, hostOps0_4, hostOps0_5, hostOps0_6, List.flatten_cons, List.flatten_nil, List.append_nil, List.cons_append, List.nil_append]
  after_results_simp
  pointwise []
  after_results_simp
  pointwise []
  unfold Indexer.tabB
  by_cases h : l.val % 64 < 32
  · rw [dif_pos h, dif_pos (show l.val % 64 < 48 by omega)]
  · by_cases h' : l.val % 64 < 48
    · rw [dif_neg h, dif_pos (show l.val % 64 - 32 < 16 by omega), dif_pos h']
      exact zero_mul (argS m c (ix2 p (⟨l.val % 64 - 32, by omega⟩ : Fin 16)))
    · rw [dif_neg h, dif_neg (show ¬ l.val % 64 - 32 < 16 by omega), dif_pos (show l.val % 64 - 32 - 16 < 16 by omega), dif_neg h', dif_pos (show l.val % 64 < 64 by omega)]
      exact congrArg (fun j => argS m c (ix2 p j)) (Fin.ext (by show l.val % 64 - 32 - 16 = l.val % 64 - 48; omega))
theorem wide_apply (w : S1024x584.Idx → EReal) (d : Fin 1024) (l : Fin 768) :
    (if h : l.val < 512 then w (ix2 d (⟨l.val, by omega⟩ : Fin 584))
      else if h : l.val - 512 < 128 then
        pad S1024x128 ![0, 0] ![0, 64] ![0, 0] (extractStridedSlice S1024x64 ![0, 512] w slices_S1024x584_S1024x64_0_512) (sitofp (F := Ideal) .f32 (constantI S_ 32 0#32) : S_.Idx → EReal) pads_S1024x64_S1024x128_000_0640 h_S_ (ix2 d (⟨l.val - 512, h⟩ : Fin 128))
      else pad S1024x128 ![0, 0] ![0, 120] ![0, 0] (extractStridedSlice S1024x8 ![0, 576] w slices_S1024x584_S1024x8_0_576) (sitofp (F := Ideal) .f32 (constantI S_ 32 0#32) : S_.Idx → EReal) pads_S1024x8_S1024x128_000_01200 h_S_ (ix2 d (⟨l.val - 512 - 128, by omega⟩ : Fin 128)))
      = wide w d l.val := by
  have hl := l.isLt
  unfold wide
  by_cases h : l.val < 512
  · rw [dif_pos h, dif_pos (show l.val < 576 by omega)]
  · by_cases h' : l.val < 640
    · rw [dif_neg h, dif_pos (show l.val - 512 < 128 by omega), pad_64]
      by_cases h2 : l.val < 576
      · rw [dif_pos (show l.val - 512 < 64 by omega), dif_pos h2]
        pointwise []
        exact congrArg (fun j => w (ix2 d j)) (Fin.ext (by show 512 + (l.val - 512) = l.val; omega))
      · rw [dif_neg (show ¬ l.val - 512 < 64 by omega), dif_neg h2, dif_neg (show ¬ (640 ≤ l.val ∧ l.val < 648) by omega)]
    · rw [dif_neg h, dif_neg (show ¬ l.val - 512 < 128 by omega), pad_8, dif_neg (show ¬ l.val < 576 by omega)]
      by_cases h2 : l.val < 648
      · rw [dif_pos (show l.val - 512 - 128 < 8 by omega), dif_pos (show 640 ≤ l.val ∧ l.val < 648 by omega)]
        pointwise []
        exact congrArg (fun j => w (ix2 d j)) (Fin.ext (by show 576 + (l.val - 512 - 128) = l.val - 64; omega))
      · rw [dif_neg (show ¬ l.val - 512 - 128 < 8 by omega), dif_neg (show ¬ (640 ≤ l.val ∧ l.val < 648) by omega)]
theorem whArr (d : Fin 1024) (l : Fin 768) : (V m c main_v43 : S1024x768.Idx → EReal) (ix2 d l) = wide (argW m c) d l.val := by
  unfold V
  simp only [hostOps0, hostOps0_1, hostOps0_2, hostOps0_3, hostOps0_4, hostOps0_5, hostOps0_6, List.flatten_cons, List.flatten_nil, List.append_nil, List.cons_append, List.nil_append]
  after_results_simp
  pointwise []
  after_results_simp
  pointwise []
  exact wide_apply (argW m c) d l
theorem wlArr (d : Fin 1024) (l : Fin 768) : (V m c main_v46 : S1024x768.Idx → EReal) (ix2 d l) = wide (argW m c) d l.val - wide (argW m c) d l.val := by
  unfold V
  simp only [hostOps0, hostOps0_1, hostOps0_2, hostOps0_3, hostOps0_4, hostOps0_5, hostOps0_6, List.flatten_cons, List.flatten_nil, List.append_nil, List.cons_append, List.nil_append]
  after_results_simp
  pointwise []
  after_results_simp
  pointwise []
  exact congrArg₂ (fun u v : EReal => u - v) (wide_apply (argW m c) d l) (wide_apply (argW m c) d l)

end Cert.Kernel5Ideal.Idx

end
-- ==== Proof.Idx.Point.lean ====
/-
  One grid point of the index projection, from the arguments: the blocks its windows read, the slabs of its product, and the
  turned slabs of queries and key.
-/
module

public import proofs.«01_k».proof.Proof.Idx.Value

@[expose] public section

set_option maxRecDepth 16384

noncomputable section

namespace Cert.Kernel5Ideal.Idx

open Cert.Kernel5Ideal Cert.Kernel5Ideal.Gen
open Idealize.ShloMosaic Idealize.ShloMosaic.TcCoe Idealize.SL.Sem Idealize.ShloMosaic.StableHlo

variable (m : (ℓ : Loc nD τ sig) → Buf (Elt Ideal) ℓ) (c : Dev nD)

/-! ## The windows' blocks -/

theorem index_0 (i : grid0.Coords) : cc0_transform_0 i = ![(i 0).val, (i 1).val, 0] := by
  have h0 : (i 0).val < 2 := (i 0).isLt
  have h1 : (i 1).val < 16 := (i 1).isLt
  funext a
  fin_cases a
  · show (BitVec.ofNat 32 (i 0).val).toNat = (i 0).val
    rw [BitVec.toNat_ofNat]
    omega
  · show (BitVec.ofNat 32 (i 1).val).toNat = (i 1).val
    rw [BitVec.toNat_ofNat]
    omega
  · rfl
theorem index_5 (i : grid0.Coords) : cc0_transform_5 i = ![(i 1).val, 0] := by
  have h := index_0 i
  funext a
  fin_cases a
  · exact congrFun h 1
  · rfl
theorem index_8 (i : grid0.Coords) : cc0_transform_8 i = ![(i 0).val, 0, 0, (i 1).val] := by
  have h := index_0 i
  funext a
  fin_cases a
  · exact congrFun h 0
  · rfl
  · rfl
  · exact congrFun h 1
theorem index_10 (i : grid0.Coords) : cc0_transform_10 i = ![(i 0).val, 0, (i 1).val] := by
  have h := index_0 i
  funext a
  fin_cases a
  · exact congrFun h 0
  · rfl
  · exact congrFun h 1

/-- The batch and the block of positions of a grid point. -/
abbrev bAt (t : Fin cfg0.N) : Fin 2 := grid0.coords t 0
abbrev iAt (t : Fin cfg0.N) : Fin 16 := grid0.coords t 1
/-- The position of row `r` of a grid point's block. -/
abbrev rowAt (t : Fin cfg0.N) (r : Fin 512) : Fin 8192 := ⟨(iAt t).val * 512 + r.val, by have := (iAt t).isLt; omega⟩

theorem iblk_0 (t : Fin cfg0.N) (r : Fin 512) (k : Fin 1024) :
    (iblk m c 0 t : S1x512x1024.Idx → EReal) (ix3 0 r k) = argX m c (ix3 (bAt t) (rowAt t r) k) := by
  have e : win0_0.index t = ![(bAt t).val, (iAt t).val, 0] := index_0 (grid0.coords t)
  have h : (win0_0.blk t).view.emb (ix3 0 r k) = ix3 (bAt t) (rowAt t r) k := by
    refine funext fun a => Fin.ext ?_
    match a with
    | ⟨0, _⟩ => exact (win0_0.rect_emb_val t _ 0).trans (by rw [e]; exact (Nat.add_zero _).trans (Nat.mul_one _))
    | ⟨1, _⟩ => exact (win0_0.rect_emb_val t _ 1).trans (by rw [e]; rfl)
    | ⟨2, _⟩ => exact win0_0.rect_emb_val_of_index_zero t 2 (congrFun e 2) _
  refine Eq.trans ?_ (xArr m c _)
  unfold iblk
  rw [View.read_apply]
  generalize V m c = U
  exact eq_of_heq ((cast_heq _ _).trans (heq_of_eq (congrArg (U main_arg0) h)))
theorem iblk_1 (t : Fin cfg0.N) (j : S1x1024.Idx) : (iblk m c 1 t : S1x1024.Idx → EReal) j = (show S1x1024.Idx → EReal from V m c main_v49) j := by
  have e : win0_1.index t = ![0, 0] := rfl
  have h : (win0_1.blk t).view.emb j = j := by
    refine funext fun a => Fin.ext ?_
    match a with
    | ⟨0, _⟩ => exact win0_1.rect_emb_val_of_index_zero t 0 (congrFun e 0) _
    | ⟨1, _⟩ => exact win0_1.rect_emb_val_of_index_zero t 1 (congrFun e 1) _
  unfold iblk
  rw [View.read_apply]
  generalize V m c = U
  exact eq_of_heq ((cast_heq _ _).trans (heq_of_eq (congrArg (U main_v49) h)))
theorem iblk_2 (t : Fin cfg0.N) (j : S1024x768.Idx) : (iblk m c 2 t : S1024x768.Idx → EReal) j = (show S1024x768.Idx → EReal from V m c main_v43) j := by
  have e : win0_2.index t = ![0, 0] := rfl
  have h : (win0_2.blk t).view.emb j = j := by
    refine funext fun a => Fin.ext ?_
    match a with
    | ⟨0, _⟩ => exact win0_2.rect_emb_val_of_index_zero t 0 (congrFun e 0) _
    | ⟨1, _⟩ => exact win0_2.rect_emb_val_of_index_zero t 1 (congrFun e 1) _
  unfold iblk
  rw [View.read_apply]
  generalize V m c = U
  exact eq_of_heq ((cast_heq _ _).trans (heq_of_eq (congrArg (U main_v43) h)))
theorem iblk_3 (t : Fin cfg0.N) (j : S1024x768.Idx) : (iblk m c 3 t : S1024x768.Idx → EReal) j = (show S1024x768.Idx → EReal from V m c main_v46) j := by
  have e : win0_3.index t = ![0, 0] := rfl
  have h : (win0_3.blk t).view.emb j = j := by
    refine funext fun a => Fin.ext ?_
    match a with
    | ⟨0, _⟩ => exact win0_3.rect_emb_val_of_index_zero t 0 (congrFun e 0) _
    | ⟨1, _⟩ => exact win0_3.rect_emb_val_of_index_zero t 1 (congrFun e 1) _
  unfold iblk
  rw [View.read_apply]
  generalize V m c = U
  exact eq_of_heq ((cast_heq _ _).trans (heq_of_eq (congrArg (U main_v46) h)))
theorem iblk_4 (t : Fin cfg0.N) (j : S1x128.Idx) : (iblk m c 4 t : S1x128.Idx → EReal) j = (show S1x128.Idx → EReal from V m c main_v48) j := by
  have e : win0_4.index t = ![0, 0] := rfl
  have h : (win0_4.blk t).view.emb j = j := by
    refine funext fun a => Fin.ext ?_
    match a with
    | ⟨0, _⟩ => exact win0_4.rect_emb_val_of_index_zero t 0 (congrFun e 0) _
    | ⟨1, _⟩ => exact win0_4.rect_emb_val_of_index_zero t 1 (congrFun e 1) _
  unfold iblk
  rw [View.read_apply]
  generalize V m c = U
  exact eq_of_heq ((cast_heq _ _).trans (heq_of_eq (congrArg (U main_v48) h)))
theorem iblk_5 (t : Fin cfg0.N) (r : Fin 512) (l : Fin 128) :
    (iblk m c 5 t : S512x128.Idx → EReal) (ix2 r l) = (show S8192x128.Idx → EReal from V m c main_v11) (ix2 (rowAt t r) l) := by
  have e : win0_5.index t = ![(iAt t).val, 0] := index_5 (grid0.coords t)
  have h : (win0_5.blk t).view.emb (ix2 r l) = ix2 (rowAt t r) l := by
    refine funext fun a => Fin.ext ?_
    match a with
    | ⟨0, _⟩ => exact (win0_5.rect_emb_val t _ 0).trans (by rw [e]; rfl)
    | ⟨1, _⟩ => exact win0_5.rect_emb_val_of_index_zero t 1 (congrFun e 1) _
  unfold iblk
  rw [View.read_apply]
  generalize V m c = U
  exact eq_of_heq ((cast_heq _ _).trans (heq_of_eq (congrArg (U main_v11) h)))
theorem iblk_6 (t : Fin cfg0.N) (r : Fin 512) (l : Fin 128) :
    (iblk m c 6 t : S512x128.Idx → EReal) (ix2 r l) = (show S8192x128.Idx → EReal from V m c main_v24) (ix2 (rowAt t r) l) := by
  have e : win0_6.index t = ![(iAt t).val, 0] := index_5 (grid0.coords t)
  have h : (win0_6.blk t).view.emb (ix2 r l) = ix2 (rowAt t r) l := by
    refine funext fun a => Fin.ext ?_
    match a with
    | ⟨0, _⟩ => exact (win0_6.rect_emb_val t _ 0).trans (by rw [e]; rfl)
    | ⟨1, _⟩ => exact win0_6.rect_emb_val_of_index_zero t 1 (congrFun e 1) _
  unfold iblk
  rw [View.read_apply]
  generalize V m c = U
  exact eq_of_heq ((cast_heq _ _).trans (heq_of_eq (congrArg (U main_v24) h)))
theorem iblk_7 (t : Fin cfg0.N) (r : Fin 512) (l : Fin 128) :
    (iblk m c 7 t : S512x128.Idx → EReal) (ix2 r l) = (show S8192x128.Idx → EReal from V m c main_v36) (ix2 (rowAt t r) l) := by
  have e : win0_7.index t = ![(iAt t).val, 0] := index_5 (grid0.coords t)
  have h : (win0_7.blk t).view.emb (ix2 r l) = ix2 (rowAt t r) l := by
    refine funext fun a => Fin.ext ?_
    match a with
    | ⟨0, _⟩ => exact (win0_7.rect_emb_val t _ 0).trans (by rw [e]; rfl)
    | ⟨1, _⟩ => exact win0_7.rect_emb_val_of_index_zero t 1 (congrFun e 1) _
  unfold iblk
  rw [View.read_apply]
  generalize V m c = U
  exact eq_of_heq ((cast_heq _ _).trans (heq_of_eq (congrArg (U main_v36) h)))

/-! ## The slabs of one grid point -/

theorem zeros2 : ∀ a : Fin 2, (![0, 0] : Fin 2 → ℕ) a = 0 := by decide
theorem zeros3 : ∀ a : Fin 3, (![0, 0, 0] : Fin 3 → ℕ) a = 0 := by decide

/-- The rows over their root mean square. -/
theorem rows_apply (x0 : FVec Ideal S1x512x1024 .f32) (x1 : FVec Ideal S1x1024 .f32) (r : Fin 512) (k : Fin 1024) :
    k0_pay2 (F := Ideal) x0 x1 (ix2 r k) = FeedForward.rms (fun d => x0 (ix3 0 r d)) (fun d => x1 (ix2 0 d)) k := by
  unfold k0_pay2
  pointwise []
  rfl
theorem rowsAt_eq (t : Fin cfg0.N) (r : Fin 512) (k : Fin 1024) :
    k0_pay2 (F := Ideal) (iblk m c 0 t) (iblk m c 1 t) (ix2 r k) = FeedForward.hid (argX m c) (argG m c) (bAt t) (rowAt t r) k := by
  refine (rows_apply _ _ r k).trans ?_
  have e1 : (fun d => (iblk m c 0 t : S1x512x1024.Idx → EReal) (ix3 0 r d)) = fun d => argX m c (ix3 (bAt t) (rowAt t r) d) := funext fun d => iblk_0 m c t r d
  have e2 : (fun d => (iblk m c 1 t : S1x1024.Idx → EReal) (ix2 0 d)) = fun d => argG m c (ix1 d) := funext fun d => (iblk_1 m c t _).trans (gArr m c d)
  exact congrFun (congrArg₂ FeedForward.rms e1 e2) k
theorem part_eq (t : Fin cfg0.N) (r : Fin 512) (k : Fin 1024) :
    k0_pay59 (F := Ideal) (iblk m c 0 t) (iblk m c 1 t) (iblk m c 2 t) (iblk m c 3 t) (iblk m c 4 t) (iblk m c 5 t) (iblk m c 6 t) (iblk m c 7 t) (ix2 r k) = FeedForward.hid (argX m c) (argG m c) (bAt t) (rowAt t r) k := by
  unfold k0_pay59 k0_pay3
  rw [View.ld_unit_lit _ _ zeros3, View.ld_unit_lit _ _ zeros2]
  exact rowsAt_eq m c t r k
theorem rest_eq (hg : ∀ i, ∃ r : ℝ, argG m c i = (r : EReal)) (t : Fin cfg0.N) (r : Fin 512) (k : Fin 1024) :
    k0_pay60 (F := Ideal) (iblk m c 0 t) (iblk m c 1 t) (iblk m c 2 t) (iblk m c 3 t) (iblk m c 4 t) (iblk m c 5 t) (iblk m c 6 t) (iblk m c 7 t) (ix2 r k) = 0 := by
  unfold k0_pay60 k0_pay4 k0_pay3
  rw [View.ld_unit_lit _ _ zeros3, View.ld_unit_lit _ _ zeros2]
  refine Eq.trans (b := k0_pay2 (F := Ideal) (iblk m c 0 t) (iblk m c 1 t) (ix2 r k) - k0_pay2 (F := Ideal) (iblk m c 0 t) (iblk m c 1 t) (ix2 r k)) rfl ?_
  rw [rowsAt_eq]
  exact Indexer.rest_zero (Indexer.hid_real (argX m c) (argG m c) hg (bAt t) (rowAt t r) k)

/-- A column of the product with the widened weights. -/
def column (t : Fin cfg0.N) (r : Fin 512) (l : ℕ) : EReal := ∑ d : Fin 1024, FeedForward.hid (argX m c) (argG m c) (bAt t) (rowAt t r) d * wide (argW m c) d l

theorem column_lo (t : Fin cfg0.N) (r : Fin 512) (l : ℕ) (col : Fin 584) (h : l < 576) (hc : col.val = l) :
    column m c t r l = Indexer.proj (argX m c) (argG m c) (argW m c) (bAt t) (rowAt t r) col := by
  subst hc
  refine Finset.sum_congr rfl fun d _ => ?_
  unfold wide
  rw [dif_pos h]
theorem column_hi (t : Fin cfg0.N) (r : Fin 512) (l : ℕ) (col : Fin 584) (h : 640 ≤ l ∧ l < 648) (hc : col.val = l - 64) :
    column m c t r l = Indexer.proj (argX m c) (argG m c) (argW m c) (bAt t) (rowAt t r) col := by
  refine Finset.sum_congr rfl fun d _ => ?_
  unfold wide
  rw [dif_neg (show ¬ l < 576 by omega), dif_pos h]
  exact congrArg (fun j => FeedForward.hid (argX m c) (argG m c) (bAt t) (rowAt t r) d * argW m c (ix2 d j)) (Fin.ext hc.symm)
theorem column_zero (t : Fin cfg0.N) (r : Fin 512) (l : ℕ) (h : 576 ≤ l) (h' : l < 640) : column m c t r l = 0 := by
  refine Finset.sum_eq_zero fun d _ => ?_
  unfold wide
  rw [dif_neg (show ¬ l < 576 by omega), dif_neg (show ¬ (640 ≤ l ∧ l < 648) by omega), mul_zero]

theorem wide_real (w : S1024x584.Idx → EReal) (hw : ∀ i, ∃ r : ℝ, w i = (r : EReal)) (d : Fin 1024) (l : ℕ) : ∃ r : ℝ, wide w d l = (r : EReal) := by
  unfold wide
  split
  · exact hw _
  · split
    · exact hw _
    · exact ⟨0, rfl⟩

/-- Columns `o` to `o + 127` of a block. -/
theorem ld_cols (w : FVec Ideal S1024x768 .bf16) (o : ℕ) (inb : ∀ a, (![0, o] : Fin S1024x768.rank → ℕ) a + S1024x128.size a ≤ S1024x768.size a) (d : Fin 1024) (l : Fin 128) (k : Fin 768) (hk : k.val = o + l.val) :
    (View.ld (Val := Elt Ideal) (e' := .bf16) w (Rect.unit ![0, o] S1024x128.size inb : Rect S1024x768) : S1024x128.Idx → EReal) (ix2 d l) = w (ix2 d k) := by
  refine congrArg w (funext fun a => Fin.ext ?_)
  match a with
  | ⟨0, _⟩ => show 0 + 1 * d.val = d.val; omega
  | ⟨1, _⟩ => show o + 1 * l.val = k.val; omega

/-- A slab of 128 columns at a grid point. -/
abbrev slabAt (t : Fin cfg0.N) (o : ℕ) (inb : ∀ a, (![0, o] : Fin S1024x768.rank → ℕ) a + S1024x128.size a ≤ S1024x768.size a) : FVec Ideal S512x128 .f32 :=
  slabOf (iblk m c 0 t) (iblk m c 1 t) (iblk m c 2 t) (iblk m c 3 t) (iblk m c 4 t) (iblk m c 5 t) (iblk m c 6 t) (iblk m c 7 t) (View.ld (Val := Elt Ideal) (e' := .bf16) (iblk m c 2 t) (Rect.unit ![0, o] S1024x128.size inb : Rect S1024x768))
    (View.ld (Val := Elt Ideal) (e' := .bf16) (iblk m c 3 t) (Rect.unit ![0, o] S1024x128.size inb : Rect S1024x768))
/-- A slab turned at a grid point. -/
abbrev turnAt (t : Fin cfg0.N) (y : FVec Ideal S512x128 .f32) : FVec Ideal S512x128 .f32 := turnOf (iblk m c 0 t) (iblk m c 1 t) (iblk m c 2 t) (iblk m c 3 t) (iblk m c 4 t) (iblk m c 5 t) (iblk m c 6 t) (iblk m c 7 t) y

theorem slabAt_eq (hg : ∀ i, ∃ r : ℝ, argG m c i = (r : EReal)) (hw : ∀ i, ∃ r : ℝ, argW m c i = (r : EReal)) (t : Fin cfg0.N) (o : ℕ) (inb : ∀ a, (![0, o] : Fin S1024x768.rank → ℕ) a + S1024x128.size a ≤ S1024x768.size a)
    (r : Fin 512) (l : Fin 128) : slabAt m c t o inb (ix2 r l) = column m c t r (o + l.val) := by
  have hi : o + 128 ≤ 768 := inb 1
  unfold slabAt slabOf
  rw [mm_apply]
  have e1 : ∀ d : Fin 1024, (View.ld (Val := Elt Ideal) (e' := .bf16) (iblk m c 2 t) (Rect.unit ![0, o] S1024x128.size inb : Rect S1024x768) : S1024x128.Idx → EReal) (ix2 d l) = wide (argW m c) d (o + l.val) := fun d =>
    (ld_cols _ o inb d l ⟨o + l.val, by omega⟩ rfl).trans ((iblk_2 m c t _).trans (whArr m c d _))
  have e2 : ∀ d : Fin 1024, (View.ld (Val := Elt Ideal) (e' := .bf16) (iblk m c 3 t) (Rect.unit ![0, o] S1024x128.size inb : Rect S1024x768) : S1024x128.Idx → EReal) (ix2 d l) = 0 := fun d =>
    (ld_cols _ o inb d l ⟨o + l.val, by omega⟩ rfl).trans ((iblk_3 m c t _).trans ((wlArr m c d _).trans (Indexer.rest_zero (wide_real _ hw d _))))
  refine (congrArg₂ (fun u v : EReal => u + v) (Finset.sum_congr rfl fun d _ => congrArg₂ (fun u v : EReal => u * v) (part_eq m c t r d) (e1 d))
    (congrArg₂ (fun u v : EReal => u + v) (Finset.sum_eq_zero fun d _ => (congrArg (fun u : EReal => u * _) (rest_eq m c hg t r d)).trans (zero_mul _))
      (Finset.sum_eq_zero fun d _ => (congrArg (fun u : EReal => _ * u) (e2 d)).trans (mul_zero _)))).trans ?_
  show _ + ((0 : EReal) + 0) = _
  rw [add_zero, add_zero]
  rfl

theorem turnAt_eq (t : Fin cfg0.N) (y : FVec Ideal S512x128 .f32) (r : Fin 512) (l : Fin 128) :
    turnAt m c t y (ix2 r l) = Indexer.turn (fun j => argC m c (ix2 (rowAt t r) j)) (fun j => argS m c (ix2 (rowAt t r) j))
      (fun j => y (ix2 r (⟨64 * (l.val / 64) + j.val, by omega⟩ : Fin 128))) ⟨l.val % 64, by omega⟩ := by
  have hl := l.isLt
  unfold turnAt turnOf
  rw [turned_apply]
  have e5 : k0_pay61 (F := Ideal) (iblk m c 0 t) (iblk m c 1 t) (iblk m c 2 t) (iblk m c 3 t) (iblk m c 4 t) (iblk m c 5 t) (iblk m c 6 t) (iblk m c 7 t) (ix2 r l) = Indexer.tabC (fun j => argC m c (ix2 (rowAt t r) j)) (l.val % 64) := by
    unfold k0_pay61 k0_pay5
    rw [View.ld_unit_lit _ _ zeros2]
    pointwise []
    exact (iblk_5 m c t r l).trans (cArr m c _ l)
  have e6 : k0_pay62 (F := Ideal) (iblk m c 0 t) (iblk m c 1 t) (iblk m c 2 t) (iblk m c 3 t) (iblk m c 4 t) (iblk m c 5 t) (iblk m c 6 t) (iblk m c 7 t) (ix2 r l) = Indexer.tabA (fun j => argS m c (ix2 (rowAt t r) j)) (l.val % 64) := by
    unfold k0_pay62 k0_pay6
    rw [View.ld_unit_lit _ _ zeros2]
    pointwise []
    exact (iblk_6 m c t r l).trans (aArr m c _ l)
  have e7 : k0_pay63 (F := Ideal) (iblk m c 0 t) (iblk m c 1 t) (iblk m c 2 t) (iblk m c 3 t) (iblk m c 4 t) (iblk m c 5 t) (iblk m c 6 t) (iblk m c 7 t) (ix2 r l) = Indexer.tabB (fun j => argS m c (ix2 (rowAt t r) j)) (l.val % 64) := by
    unfold k0_pay63 k0_pay7
    rw [View.ld_unit_lit _ _ zeros2]
    pointwise []
    exact (iblk_7 m c t r l).trans (bArr m c _ l)
  rw [e5, e6, e7]
  have e0 : y (ix2 r l) = (fun j : Fin 64 => y (ix2 r (⟨64 * (l.val / 64) + j.val, by omega⟩ : Fin 128))) ⟨l.val % 64, by omega⟩ :=
    congrArg (fun j => y (ix2 r j)) (Fin.ext (by show l.val = 64 * (l.val / 64) + l.val % 64; omega))
  rw [e0]
  exact Indexer.turn_tables _ _ (fun j : Fin 64 => y (ix2 r (⟨64 * (l.val / 64) + j.val, by omega⟩ : Fin 128))) ⟨l.val % 64, by omega⟩ _ _
    (fun h => congrArg (fun j => y (ix2 r j)) (Fin.ext (by have h' : l.val % 64 < 48 := h; show (l.val + 16) % 128 = 64 * (l.val / 64) + (l.val % 64 + 16); omega)))
    (fun h => congrArg (fun j => y (ix2 r j)) (Fin.ext (by have h' : 48 ≤ l.val % 64 := h; show (l.val + 112) % 128 = 64 * (l.val / 64) + (l.val % 64 - 16); omega)))

section reals
variable (hg : ∀ i, ∃ r : ℝ, argG m c i = (r : EReal)) (hw : ∀ i, ∃ r : ℝ, argW m c i = (r : EReal)) (hn : ∀ i, ∃ r : ℝ, argN m c i = (r : EReal))
  (hc : ∀ i, ∃ r : ℝ, argC m c i = (r : EReal)) (hs : ∀ i, ∃ r : ℝ, argS m c i = (r : EReal))
include hg hw

theorem queryAt (t : Fin cfg0.N) (n : ℕ) (hn4 : n < 4) (o : ℕ) (ho : o = 128 * n) (inb : ∀ a, (![0, o] : Fin S1024x768.rank → ℕ) a + S1024x128.size a ≤ S1024x768.size a) (r : Fin 512) (l : Fin 128) :
    turnAt m c t (slabAt m c t o inb) (ix2 r l)
      = Indexer.query (argX m c) (argG m c) (argW m c) (argC m c) (argS m c) (bAt t) ⟨2 * n + l.val / 64, by omega⟩ (rowAt t r) ⟨l.val % 64, by omega⟩ := by
  have hl := l.isLt
  refine (turnAt_eq m c t _ r l).trans ?_
  unfold Indexer.query
  refine congrArg (fun f : Fin 64 → EReal => Indexer.turn _ _ f _) (funext fun j => ?_)
  exact (slabAt_eq m c hg hw t o inb r _).trans (column_lo m c t r _ _ (by show o + (64 * (l.val / 64) + j.val) < 576; omega)
    (by show 64 * (2 * n + l.val / 64) + j.val = o + (64 * (l.val / 64) + j.val); omega))

theorem heads_eq (t : Fin cfg0.N) (n : Fin 4) (r : Fin 512) (l : Fin 128) :
    heads (iblk m c 0 t) (iblk m c 1 t) (iblk m c 2 t) (iblk m c 3 t) (iblk m c 4 t) (iblk m c 5 t) (iblk m c 6 t) (iblk m c 7 t) n (ix2 r l)
      = Indexer.query (argX m c) (argG m c) (argW m c) (argC m c) (argS m c) (bAt t) ⟨2 * n.val + l.val / 64, by omega⟩ (rowAt t r) ⟨l.val % 64, by omega⟩ := by
  match n with
  | ⟨0, _⟩ => exact queryAt m c hg hw t 0 (by decide) 0 rfl _ r l
  | ⟨1, _⟩ => exact queryAt m c hg hw t 1 (by decide) 128 rfl _ r l
  | ⟨2, _⟩ => exact queryAt m c hg hw t 2 (by decide) 256 rfl _ r l
  | ⟨3, _⟩ => exact queryAt m c hg hw t 3 (by decide) 384 rfl _ r l

/-- The slab of the key over its root mean square, times the gains: zeros past the first 64 columns. -/
theorem normedAt (t : Fin cfg0.N) (inb : ∀ a, (![0, 512] : Fin S1024x768.rank → ℕ) a + S1024x128.size a ≤ S1024x768.size a) (gn : FVec Ideal S1x128 .f32)
    (hgn : ∀ k : Fin 128, gn (ix2 0 k) = if h : k.val < 64 then argN m c (ix1 ⟨k.val, h⟩) else 0) (r : Fin 512) (l : Fin 128) :
    normed (slabAt m c t 512 inb) gn (ix2 r l) = Projection.scaled (column m c t r (512 + l.val))
      (fun j => Indexer.proj (argX m c) (argG m c) (argW m c) (bAt t) (rowAt t r) ⟨512 + j.val, by omega⟩) (if h : l.val < 64 then argN m c (ix1 ⟨l.val, h⟩) else 0) := by
  rw [normed_apply, hgn l]
  refine (Indexer.scaled_padded (fun j => slabAt m c t 512 inb (ix2 r j)) (fun j hj => (slabAt_eq m c hg hw t 512 inb r j).trans (column_zero m c t r _ (by omega) (by omega))) _ _).trans ?_
  refine congr (congrArg₂ Projection.scaled (slabAt_eq m c hg hw t 512 inb r l) (funext fun j => ?_)) rfl
  exact (slabAt_eq m c hg hw t 512 inb r _).trans (column_lo m c t r _ _ (by show 512 + j.val < 576; omega) rfl)

omit hg hw in
theorem gainAt (t : Fin cfg0.N) (k : Fin 128) : (View.ld (Val := Elt Ideal) (e' := .f32) (iblk m c 4 t) r0_24 : S1x128.Idx → EReal) (ix2 0 k) = if h : k.val < 64 then argN m c (ix1 ⟨k.val, h⟩) else 0 := by
  exact (congrFun (View.ld_unit_lit _ _ zeros2) _).trans ((iblk_4 m c t _).trans (nArr m c k))

theorem keyAt (t : Fin cfg0.N) (r : Fin 512) (l : Fin 128) (h : l.val < 64) :
    keyOf (iblk m c 0 t) (iblk m c 1 t) (iblk m c 2 t) (iblk m c 3 t) (iblk m c 4 t) (iblk m c 5 t) (iblk m c 6 t) (iblk m c 7 t) (ix2 r l) = Indexer.key (argX m c) (argG m c) (argW m c) (argN m c) (argC m c) (argS m c) (bAt t) (rowAt t r) ⟨l.val, h⟩ := by
  refine (turnAt_eq m c t _ r l).trans ?_
  unfold Indexer.key
  have e : (⟨l.val % 64, by omega⟩ : Fin 64) = ⟨l.val, h⟩ := Fin.ext (by show l.val % 64 = l.val; omega)
  rw [e]
  refine congrArg (fun f : Fin 64 → EReal => Indexer.turn _ _ f _) (funext fun j => ?_)
  refine (normedAt m c hg hw t _ _ (gainAt m c t) r _).trans ?_
  refine congr (congrArg₂ Projection.scaled (column_lo m c t r _ _ (by show 512 + (64 * (l.val / 64) + j.val) < 576; omega) (by show 512 + j.val = 512 + (64 * (l.val / 64) + j.val); omega)) rfl) ?_
  rw [dif_pos (show 64 * (l.val / 64) + j.val < 64 by omega)]
  exact congrArg (fun j => argN m c (ix1 j)) (Fin.ext (by show 64 * (l.val / 64) + j.val = j.val; omega))

include hn hc hs
theorem keyAt_real (t : Fin cfg0.N) (r : Fin 512) (l : Fin 128) : ∃ q : ℝ, keyOf (iblk m c 0 t) (iblk m c 1 t) (iblk m c 2 t) (iblk m c 3 t) (iblk m c 4 t) (iblk m c 5 t) (iblk m c 6 t) (iblk m c 7 t) (ix2 r l) = (q : EReal) := by
  have hl := l.isLt
  obtain ⟨q, hq⟩ := Indexer.turn_real (fun j => argC m c (ix2 (rowAt t r) j)) (fun j => argS m c (ix2 (rowAt t r) j))
    (fun j => normed (slabAt m c t 512 inb_S1024x768_S1024x128_0_512) (View.ld (Val := Elt Ideal) (e' := .f32) (iblk m c 4 t) r0_24) (ix2 r (⟨64 * (l.val / 64) + j.val, by omega⟩ : Fin 128)))
    (fun j => hc _) (fun j => hs _) (fun j => by
      rw [normedAt m c hg hw t _ _ (gainAt m c t)]
      refine Indexer.scaled_real _ _ _ ?_ (fun i => Indexer.proj_real _ _ _ hg hw _ _ _) ?_
      · by_cases h : 64 * (l.val / 64) + j.val < 64
        · rw [column_lo m c t r (512 + (64 * (l.val / 64) + j.val)) ⟨512 + (64 * (l.val / 64) + j.val), by omega⟩ (by omega) rfl]
          exact Indexer.proj_real _ _ _ hg hw _ _ _
        · exact ⟨0, column_zero m c t r _ (by show 576 ≤ 512 + (64 * (l.val / 64) + j.val); omega) (by show 512 + (64 * (l.val / 64) + j.val) < 640; omega)⟩
      · split
        · exact hn _
        · exact ⟨0, rfl⟩) ⟨l.val % 64, by omega⟩
  exact ⟨q, (turnAt_eq m c t _ r l).trans hq⟩
end reals

end Cert.Kernel5Ideal.Idx

end
-- ==== Proof.Idx.Final.lean ====
/-
  The index projection's three result arrays: the blocks of the grid points together are the queries, the key and the weights.
-/
module

public import proofs.«01_k».proof.Proof.Idx.Point

@[expose] public section

set_option maxRecDepth 16384

noncomputable section

namespace Cert.Kernel5Ideal.Idx

open Cert.Kernel5Ideal Cert.Kernel5Ideal.Gen
open Idealize.ShloMosaic Idealize.ShloMosaic.TcCoe Idealize.SL.Sem Idealize.ShloMosaic.StableHlo

variable (m : (ℓ : Loc nD τ sig) → Buf (Elt Ideal) ℓ) (c : Dev nD)

/-- The three results. -/
def resQ : S2x8x256x8192.Idx → EReal := fun i =>
  if (i 2).val % 128 < 64 then Indexer.query (argX m c) (argG m c) (argW m c) (argC m c) (argS m c) (i 0) (i 1) (i 3) ⟨(i 2).val % 64, by omega⟩ else 0
def resK : S2x8192x256.Idx → EReal := fun i =>
  if (i 2).val < 128 then Indexer.key (argX m c) (argG m c) (argW m c) (argN m c) (argC m c) (argS m c) (i 0) (i 1) ⟨(i 2).val % 64, by omega⟩ else 0
def resW : S2x8x8192.Idx → EReal := fun i => Indexer.weight (argX m c) (argG m c) (argW m c) (i 0) (i 1) (i 2)

/-- The arguments other than the residual hold real numbers. -/
structure Reals : Prop where
  gain : ∀ i, ∃ r : ℝ, argG m c i = (r : EReal)
  weights : ∀ i, ∃ r : ℝ, argW m c i = (r : EReal)
  keyGain : ∀ i, ∃ r : ℝ, argN m c i = (r : EReal)
  cosines : ∀ i, ∃ r : ℝ, argC m c i = (r : EReal)
  sines : ∀ i, ∃ r : ℝ, argS m c i = (r : EReal)

variable (H : Reals m c)
include H

theorem blockQ (t : Fin cfg0.N) (p : Fin 8) (l : Fin 256) (r : Fin 512) :
    out0_8 (F := Ideal) (iblk m c 0 t) (iblk m c 1 t) (iblk m c 2 t) (iblk m c 3 t) (iblk m c 4 t) (iblk m c 5 t) (iblk m c 6 t) (iblk m c 7 t) (ix4 0 p l r) = resQ m c (ix4 (bAt t) p l (rowAt t r)) := by
  have hp := p.isLt
  rw [out_8 _ _ _ _ _ _ _ _ (fun n r l => by rw [heads_eq m c H.gain H.weights]; exact Indexer.rest_zero (Indexer.query_real _ _ _ _ _ H.gain H.weights H.cosines H.sines _ _ _ _))]
  show (if l.val % 128 < 64 then heads (iblk m c 0 t) (iblk m c 1 t) (iblk m c 2 t) (iblk m c 3 t) (iblk m c 4 t) (iblk m c 5 t) (iblk m c 6 t) (iblk m c 7 t) ⟨p.val / 2, _⟩ (ix2 r (⟨64 * (p.val % 2) + l.val % 64, by omega⟩ : Fin 128)) else 0)
    = if l.val % 128 < 64 then Indexer.query (argX m c) (argG m c) (argW m c) (argC m c) (argS m c) (bAt t) p (rowAt t r) ⟨l.val % 64, by omega⟩ else 0
  rw [heads_eq m c H.gain H.weights]
  have e1 : (⟨2 * (p.val / 2) + (64 * (p.val % 2) + l.val % 64) / 64, by omega⟩ : Fin 8) = p := Fin.ext (by show 2 * (p.val / 2) + (64 * (p.val % 2) + l.val % 64) / 64 = p.val; omega)
  have e2 : (⟨(64 * (p.val % 2) + l.val % 64) % 64, by omega⟩ : Fin 64) = ⟨l.val % 64, by omega⟩ := Fin.ext (by show (64 * (p.val % 2) + l.val % 64) % 64 = l.val % 64; omega)
  rw [e1, e2]

theorem blockK (t : Fin cfg0.N) (r : Fin 512) (l : Fin 256) :
    out0_9 (F := Ideal) (iblk m c 0 t) (iblk m c 1 t) (iblk m c 2 t) (iblk m c 3 t) (iblk m c 4 t) (iblk m c 5 t) (iblk m c 6 t) (iblk m c 7 t) (ix3 0 r l) = resK m c (ix3 (bAt t) (rowAt t r) l) := by
  rw [out_9 _ _ _ _ _ _ _ _ (fun r l => Indexer.rest_zero (keyAt_real m c H.gain H.weights H.keyGain H.cosines H.sines t r l))]
  show (if l.val < 128 then keyOf (iblk m c 0 t) (iblk m c 1 t) (iblk m c 2 t) (iblk m c 3 t) (iblk m c 4 t) (iblk m c 5 t) (iblk m c 6 t) (iblk m c 7 t) (ix2 r (⟨l.val % 64, by omega⟩ : Fin 128)) else 0)
    = if l.val < 128 then Indexer.key (argX m c) (argG m c) (argW m c) (argN m c) (argC m c) (argS m c) (bAt t) (rowAt t r) ⟨l.val % 64, by omega⟩ else 0
  rw [keyAt m c H.gain H.weights t r (⟨l.val % 64, by omega⟩ : Fin 128) (by show l.val % 64 < 64; omega)]

theorem blockW (t : Fin cfg0.N) (h : Fin 8) (r : Fin 512) :
    out0_10 (F := Ideal) (iblk m c 0 t) (iblk m c 1 t) (iblk m c 2 t) (iblk m c 3 t) (iblk m c 4 t) (iblk m c 5 t) (iblk m c 6 t) (iblk m c 7 t) (ix3 0 h r) = resW m c (ix3 (bAt t) h (rowAt t r)) := by
  rw [out_10]
  refine (congrArg (fun u : EReal => u * _) ((slabAt_eq m c H.gain H.weights t 640 _ r (⟨h.val, by omega⟩ : Fin 128)).trans
    (column_hi m c t r _ ⟨576 + h.val, by omega⟩ (by show 640 ≤ 640 + h.val ∧ 640 + h.val < 648; omega) (by show 576 + h.val = 640 + h.val - 64; omega)))).trans ?_
  show _ * Ideal.ofBits .f32 0x3D3504F3#32 = Indexer.weight (argX m c) (argG m c) (argW m c) (bAt t) h (rowAt t r)
  rw [Indexer.ofBits_scale, ← mul_assoc]
  rfl

/-! ## The arrays -/

theorem flushed_8 (t : Fin cfg0.N) : (dats m 0 c).flushed 8 t = ((cfg0.win 8).blk t).view.read (Elt Ideal) (resQ m c) := by
  rw [Value.flushed8]
  funext j
  have h0 : (j 0).val = 0 := by have : (j 0).val < 1 := (j 0).isLt; omega
  have hj : j = (ix4 (0 : Fin 1) (j 1 : Fin 8) (j 2 : Fin 256) (j 3 : Fin 512) : S1x8x256x512.Idx) := by
    funext a
    match a with
    | ⟨0, _⟩ => exact Fin.ext h0
    | ⟨1, _⟩ => rfl
    | ⟨2, _⟩ => rfl
    | ⟨3, _⟩ => rfl
  have e : win0_8.index t = ![(bAt t).val, 0, 0, (iAt t).val] := index_8 (grid0.coords t)
  have h : (win0_8.blk t).view.emb j = ix4 (bAt t) (j 1 : Fin 8) (j 2 : Fin 256) (rowAt t (j 3)) := by
    refine funext fun a => Fin.ext ?_
    match a with
    | ⟨0, _⟩ => exact (win0_8.rect_emb_val t j 0).trans (by rw [e, h0]; exact (Nat.add_zero _).trans (Nat.mul_one _))
    | ⟨1, _⟩ => exact win0_8.rect_emb_val_of_index_zero t 1 (congrFun e 1) _
    | ⟨2, _⟩ => exact win0_8.rect_emb_val_of_index_zero t 2 (congrFun e 2) _
    | ⟨3, _⟩ => exact (win0_8.rect_emb_val t j 3).trans (by rw [e]; rfl)
  have ho := blockQ m c H t (j 1) (j 2) (j 3)
  rw [View.read_apply]
  generalize resQ m c = R at ho ⊢
  refine eq_of_heq (HEq.trans (heq_of_eq ?_) (cast_heq _ _).symm)
  exact (congrArg (out0_8 (F := Ideal) (iblk m c 0 t) (iblk m c 1 t) (iblk m c 2 t) (iblk m c 3 t) (iblk m c 4 t) (iblk m c 5 t) (iblk m c 6 t) (iblk m c 7 t)) hj).trans (ho.trans (congrArg R h.symm))

theorem final_8 : (dats m 0 c).arrAt 8 cfg0.N = resQ m c :=
  (dats m 0 c).arrAt_eq_of_cover 8 (resQ m c) (fun t _ => flushed_8 m c H t) fun i => by
    have h0 : (i 0).val < 2 := (i 0).isLt
    have h1 : (i 1).val < 8 := (i 1).isLt
    have h2 : (i 2).val < 256 := (i 2).isLt
    have h3 : (i 3).val < 8192 := (i 3).isLt
    let x : grid0.Coords := fun a => match a with
      | ⟨0, _⟩ => (⟨(i 0).val, h0⟩ : Fin 2)
      | ⟨1, _⟩ => (⟨(i 3).val / 512, by omega⟩ : Fin 16)
    obtain ⟨t, ht⟩ := Pipeline.Grid.coords_surjective grid0 x
    refine ⟨t, flush0_8 t, ?_⟩
    show i ∈ ((View.whole main_v50_0).slice (win0_8.rect t)).set
    rw [View.set_slice_whole, Rect.mem_set_unit]
    intro a
    match a with
    | ⟨0, _⟩ =>
      show cc0_transform_8 (grid0.coords t) 0 * 1 ≤ (i 0).val ∧ (i 0).val < cc0_transform_8 (grid0.coords t) 0 * 1 + 1
      rw [index_8, ht]
      show (i 0).val * 1 ≤ (i 0).val ∧ (i 0).val < (i 0).val * 1 + 1
      omega
    | ⟨1, _⟩ =>
      show cc0_transform_8 (grid0.coords t) 1 * 8 ≤ (i 1).val ∧ (i 1).val < cc0_transform_8 (grid0.coords t) 1 * 8 + 8
      rw [index_8]
      show 0 * 8 ≤ (i 1).val ∧ (i 1).val < 0 * 8 + 8
      omega
    | ⟨2, _⟩ =>
      show cc0_transform_8 (grid0.coords t) 2 * 256 ≤ (i 2).val ∧ (i 2).val < cc0_transform_8 (grid0.coords t) 2 * 256 + 256
      rw [index_8]
      show 0 * 256 ≤ (i 2).val ∧ (i 2).val < 0 * 256 + 256
      omega
    | ⟨3, _⟩ =>
      show cc0_transform_8 (grid0.coords t) 3 * 512 ≤ (i 3).val ∧ (i 3).val < cc0_transform_8 (grid0.coords t) 3 * 512 + 512
      rw [index_8, ht]
      show (i 3).val / 512 * 512 ≤ (i 3).val ∧ (i 3).val < (i 3).val / 512 * 512 + 512
      omega

theorem flushed_9 (t : Fin cfg0.N) : (dats m 0 c).flushed 9 t = ((cfg0.win 9).blk t).view.read (Elt Ideal) (resK m c) := by
  rw [Value.flushed9]
  funext j
  have h0 : (j 0).val = 0 := by have : (j 0).val < 1 := (j 0).isLt; omega
  have hj : j = (ix3 (0 : Fin 1) (j 1 : Fin 512) (j 2 : Fin 256) : S1x512x256.Idx) := by
    funext a
    match a with
    | ⟨0, _⟩ => exact Fin.ext h0
    | ⟨1, _⟩ => rfl
    | ⟨2, _⟩ => rfl
  have e : win0_9.index t = ![(bAt t).val, (iAt t).val, 0] := index_0 (grid0.coords t)
  have h : (win0_9.blk t).view.emb j = ix3 (bAt t) (rowAt t (j 1)) (j 2 : Fin 256) := by
    refine funext fun a => Fin.ext ?_
    match a with
    | ⟨0, _⟩ => exact (win0_9.rect_emb_val t j 0).trans (by rw [e, h0]; exact (Nat.add_zero _).trans (Nat.mul_one _))
    | ⟨1, _⟩ => exact (win0_9.rect_emb_val t j 1).trans (by rw [e]; rfl)
    | ⟨2, _⟩ => exact win0_9.rect_emb_val_of_index_zero t 2 (congrFun e 2) _
  have ho := blockK m c H t (j 1) (j 2)
  rw [View.read_apply]
  generalize resK m c = R at ho ⊢
  refine eq_of_heq (HEq.trans (heq_of_eq ?_) (cast_heq _ _).symm)
  exact (congrArg (out0_9 (F := Ideal) (iblk m c 0 t) (iblk m c 1 t) (iblk m c 2 t) (iblk m c 3 t) (iblk m c 4 t) (iblk m c 5 t) (iblk m c 6 t) (iblk m c 7 t)) hj).trans (ho.trans (congrArg R h.symm))

theorem final_9 : (dats m 0 c).arrAt 9 cfg0.N = resK m c :=
  (dats m 0 c).arrAt_eq_of_cover 9 (resK m c) (fun t _ => flushed_9 m c H t) fun i => by
    have h0 : (i 0).val < 2 := (i 0).isLt
    have h1 : (i 1).val < 8192 := (i 1).isLt
    have h2 : (i 2).val < 256 := (i 2).isLt
    let x : grid0.Coords := fun a => match a with
      | ⟨0, _⟩ => (⟨(i 0).val, h0⟩ : Fin 2)
      | ⟨1, _⟩ => (⟨(i 1).val / 512, by omega⟩ : Fin 16)
    obtain ⟨t, ht⟩ := Pipeline.Grid.coords_surjective grid0 x
    refine ⟨t, flush0_9 t, ?_⟩
    show i ∈ ((View.whole main_v50_1).slice (win0_9.rect t)).set
    rw [View.set_slice_whole, Rect.mem_set_unit]
    intro a
    match a with
    | ⟨0, _⟩ =>
      show cc0_transform_0 (grid0.coords t) 0 * 1 ≤ (i 0).val ∧ (i 0).val < cc0_transform_0 (grid0.coords t) 0 * 1 + 1
      rw [index_0, ht]
      show (i 0).val * 1 ≤ (i 0).val ∧ (i 0).val < (i 0).val * 1 + 1
      omega
    | ⟨1, _⟩ =>
      show cc0_transform_0 (grid0.coords t) 1 * 512 ≤ (i 1).val ∧ (i 1).val < cc0_transform_0 (grid0.coords t) 1 * 512 + 512
      rw [index_0, ht]
      show (i 1).val / 512 * 512 ≤ (i 1).val ∧ (i 1).val < (i 1).val / 512 * 512 + 512
      omega
    | ⟨2, _⟩ =>
      show cc0_transform_0 (grid0.coords t) 2 * 256 ≤ (i 2).val ∧ (i 2).val < cc0_transform_0 (grid0.coords t) 2 * 256 + 256
      rw [index_0]
      show 0 * 256 ≤ (i 2).val ∧ (i 2).val < 0 * 256 + 256
      omega

theorem flushed_10 (t : Fin cfg0.N) : (dats m 0 c).flushed 10 t = ((cfg0.win 10).blk t).view.read (Elt Ideal) (resW m c) := by
  rw [Value.flushed10]
  funext j
  have h0 : (j 0).val = 0 := by have : (j 0).val < 1 := (j 0).isLt; omega
  have hj : j = (ix3 (0 : Fin 1) (j 1 : Fin 8) (j 2 : Fin 512) : S1x8x512.Idx) := by
    funext a
    match a with
    | ⟨0, _⟩ => exact Fin.ext h0
    | ⟨1, _⟩ => rfl
    | ⟨2, _⟩ => rfl
  have e : win0_10.index t = ![(bAt t).val, 0, (iAt t).val] := index_10 (grid0.coords t)
  have h : (win0_10.blk t).view.emb j = ix3 (bAt t) (j 1 : Fin 8) (rowAt t (j 2)) := by
    refine funext fun a => Fin.ext ?_
    match a with
    | ⟨0, _⟩ => exact (win0_10.rect_emb_val t j 0).trans (by rw [e, h0]; exact (Nat.add_zero _).trans (Nat.mul_one _))
    | ⟨1, _⟩ => exact win0_10.rect_emb_val_of_index_zero t 1 (congrFun e 1) _
    | ⟨2, _⟩ => exact (win0_10.rect_emb_val t j 2).trans (by rw [e]; rfl)
  have ho := blockW m c H t (j 1) (j 2)
  rw [View.read_apply]
  generalize resW m c = R at ho ⊢
  refine eq_of_heq (HEq.trans (heq_of_eq ?_) (cast_heq _ _).symm)
  exact (congrArg (out0_10 (F := Ideal) (iblk m c 0 t) (iblk m c 1 t) (iblk m c 2 t) (iblk m c 3 t) (iblk m c 4 t) (iblk m c 5 t) (iblk m c 6 t) (iblk m c 7 t)) hj).trans (ho.trans (congrArg R h.symm))

theorem final_10 : (dats m 0 c).arrAt 10 cfg0.N = resW m c :=
  (dats m 0 c).arrAt_eq_of_cover 10 (resW m c) (fun t _ => flushed_10 m c H t) fun i => by
    have h0 : (i 0).val < 2 := (i 0).isLt
    have h1 : (i 1).val < 8 := (i 1).isLt
    have h2 : (i 2).val < 8192 := (i 2).isLt
    let x : grid0.Coords := fun a => match a with
      | ⟨0, _⟩ => (⟨(i 0).val, h0⟩ : Fin 2)
      | ⟨1, _⟩ => (⟨(i 2).val / 512, by omega⟩ : Fin 16)
    obtain ⟨t, ht⟩ := Pipeline.Grid.coords_surjective grid0 x
    refine ⟨t, flush0_10 t, ?_⟩
    show i ∈ ((View.whole main_v50_2).slice (win0_10.rect t)).set
    rw [View.set_slice_whole, Rect.mem_set_unit]
    intro a
    match a with
    | ⟨0, _⟩ =>
      show cc0_transform_10 (grid0.coords t) 0 * 1 ≤ (i 0).val ∧ (i 0).val < cc0_transform_10 (grid0.coords t) 0 * 1 + 1
      rw [index_10, ht]
      show (i 0).val * 1 ≤ (i 0).val ∧ (i 0).val < (i 0).val * 1 + 1
      omega
    | ⟨1, _⟩ =>
      show cc0_transform_10 (grid0.coords t) 1 * 8 ≤ (i 1).val ∧ (i 1).val < cc0_transform_10 (grid0.coords t) 1 * 8 + 8
      rw [index_10]
      show 0 * 8 ≤ (i 1).val ∧ (i 1).val < 0 * 8 + 8
      omega
    | ⟨2, _⟩ =>
      show cc0_transform_10 (grid0.coords t) 2 * 512 ≤ (i 2).val ∧ (i 2).val < cc0_transform_10 (grid0.coords t) 2 * 512 + 512
      rw [index_10, ht]
      show (i 2).val / 512 * 512 ≤ (i 2).val ∧ (i 2).val < (i 2).val / 512 * 512 + 512
      omega

end Cert.Kernel5Ideal.Idx

end
-- ==== Proof.Idx.Ref.lean ====
/-
  The reference's three results, entry by entry: they are the queries, the key and the weights of the index scores.
-/
module

public import proofs.«01_k».proof.Proof.Gen.Reference5Ideal.Read
public import proofs.«01_k».proof.Proof.Idx.Equation
public import proofs.«01_k».proof.Proof.Ffn.Ref

@[expose] public section

set_option maxRecDepth 16384

noncomputable section

namespace Cert.Reference5Ideal.Idx

open Cert.Reference5Ideal Cert.Reference5Ideal.Gen Cert.Reference5Ideal.Read
open Idealize.ShloMosaic Indexer

variable (x0 : (⟨S2x8192x1024, .f32⟩ : BufTy).Contents (Elt Ideal)) (x1 : (⟨S1024, .f32⟩ : BufTy).Contents (Elt Ideal)) (x2 : (⟨S1024x584, .f32⟩ : BufTy).Contents (Elt Ideal))
  (x3 : (⟨S64, .f32⟩ : BufTy).Contents (Elt Ideal)) (x4 x5 : (⟨S8192x16, .f32⟩ : BufTy).Contents (Elt Ideal))

theorem hid_apply (b : Fin 2) (p : Fin 8192) (k : Fin 1024) : val_main_v12 (F := Ideal) x0 x1 (ix3 b p k) = FeedForward.hid x0 x1 b p k := by
  rw [val_main_v12_apply, val_main_v9_apply, val_main_v8_apply, val_main_v7_apply, val_main_v6_apply, val_main_v5_apply, val_main_v4_apply, val_main_v3_apply, val_main_v2_apply, val_main_v1_apply,
    val_main_v11_apply, val_main_v10_apply, val_main_cst_0_apply, val_main_cst_1_apply, val_main_cst_apply]
  have hz : FloatOps.ofBits (F := Ideal) .f32 0x00000000#32 = 0 := Reference2Ideal.Ffn.zero_bits
  rw [hz, zero_add]
  have es : (∑ d : Fin 1024, val_main_v0 (F := Ideal) x0 (idx_main_v1 (idx_main_v2 (idx_main_v8 (ix3 b p k))) d)) = ∑ d : Fin 1024, x0 (ix3 b p d) * x0 (ix3 b p d) := by
    refine Finset.sum_congr rfl fun d _ => ?_
    rw [val_main_v0_apply]
    have e : idx_main_v1 (idx_main_v2 (idx_main_v8 (ix3 b p k))) d = ix3 b p d := funext fun a => by fin_cases a <;> rfl
    rw [e]
    rfl
  rw [es]
  have eg : idx_main_v10 (idx_main_v11 (ix3 b p k)) = ix1 k := funext fun a => by fin_cases a <;> rfl
  rw [eg]
  rfl

theorem proj_apply (b : Fin 2) (p : Fin 8192) (col : Fin 584) : val_main_v13 (F := Ideal) x0 x1 x2 (ix3 b p col) = proj x0 x1 x2 b p col := by
  rw [val_main_v13_apply]
  refine Finset.sum_congr rfl fun k _ => ?_
  have el : lidx_main_v13 (ix3 b p col) k = ix3 b p k := funext fun a => by fin_cases a <;> rfl
  have er : ridx_main_v13 (ix3 b p col) k = ix2 k col := funext fun a => by fin_cases a <;> rfl
  rw [el, er, hid_apply]

theorem q_apply (b : Fin 2) (p : Fin 8192) (h : Fin 8) (j : Fin 64) :
    val_main_v17 (F := Ideal) x0 x1 x2 (ix4 b p h j) = proj x0 x1 x2 b p ⟨64 * h.val + j.val, by omega⟩ := by
  rw [val_main_v17_apply, val_main_v14_apply, ← proj_apply]
  refine congrArg _ (funext fun a => Fin.ext ?_)
  have hb := b.isLt
  have hp := p.isLt
  have hh := h.isLt
  have hj := j.isLt
  match a with
  | ⟨0, _⟩ => show (((b.val * 8192 + p.val) * 8 + h.val) * 64 + j.val) / 4194304 = b.val; omega
  | ⟨1, _⟩ => show (((b.val * 8192 + p.val) * 8 + h.val) * 64 + j.val) / 512 % 8192 = p.val; omega
  | ⟨2, _⟩ => show ((((b.val * 8192 + p.val) * 8 + h.val) * 64 + j.val) % 512) = 64 * h.val + j.val; omega

theorem k_apply (b : Fin 2) (p : Fin 8192) (j : Fin 64) : val_main_v15 (F := Ideal) x0 x1 x2 (ix3 b p j) = proj x0 x1 x2 b p ⟨512 + j.val, by omega⟩ := by
  rw [val_main_v15_apply, ← proj_apply]
  exact congrArg _ (funext fun a => by fin_cases a <;> rfl)

theorem k_scaled (b : Fin 2) (p : Fin 8192) (j : Fin 64) :
    val_main_v52 (F := Ideal) x0 x1 x2 x3 (ix3 b p j) = Projection.scaled (proj x0 x1 x2 b p ⟨512 + j.val, by omega⟩) (fun d => proj x0 x1 x2 b p ⟨512 + d.val, by omega⟩) (x3 (ix1 j)) := by
  rw [val_main_v52_apply, val_main_v51_apply, val_main_v50_apply, val_main_v49_apply, val_main_v48_apply, val_main_v47_apply, val_main_v46_apply, val_main_v45_apply, val_main_v44_apply, val_main_v43_apply, val_main_v42_apply, val_main_v41_apply,
    val_main_cst_2_apply, val_main_cst_3_apply, val_main_cst_4_apply, k_apply]
  have hz : FloatOps.ofBits (F := Ideal) .f32 0x00000000#32 = 0 := Reference2Ideal.Ffn.zero_bits
  rw [hz, zero_add]
  have es : (∑ d : Fin 64, val_main_v40 (F := Ideal) x0 x1 x2 (idx_main_v41 (idx_main_v42 (idx_main_v48 (ix3 b p j))) d))
      = ∑ d : Fin 64, proj x0 x1 x2 b p ⟨512 + d.val, by omega⟩ * proj x0 x1 x2 b p ⟨512 + d.val, by omega⟩ := by
    refine Finset.sum_congr rfl fun d _ => ?_
    rw [val_main_v40_apply]
    have e : idx_main_v41 (idx_main_v42 (idx_main_v48 (ix3 b p j))) d = ix3 b p d := funext fun a => by fin_cases a <;> rfl
    rw [e, k_apply]
    rfl
  rw [es]
  have eg : idx_main_v50 (idx_main_v51 (ix3 b p j)) = ix1 j := funext fun a => by fin_cases a <;> rfl
  rw [eg]
  rfl

theorem q_turned (b : Fin 2) (p : Fin 8192) (h : Fin 8) (l : Fin 64) : val_main_v39 (F := Ideal) x0 x1 x2 x4 x5 (ix4 b p h l) = query x0 x1 x2 x4 x5 b h p l := by
  unfold val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18
  pointwise []
  simp only [q_apply]
  exact turn_parts (fun j => x4 (ix2 p j)) (fun j => x5 (ix2 p j)) (fun j => proj x0 x1 x2 b p ⟨64 * h.val + j.val, by omega⟩) l

theorem k_turned (b : Fin 2) (p : Fin 8192) (l : Fin 64) : val_main_v72 (F := Ideal) x0 x1 x2 x3 x4 x5 (ix3 b p l) = key x0 x1 x2 x3 x4 x5 b p l := by
  unfold val_main_v72 val_main_v71 val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53
  pointwise []
  simp only [k_scaled]
  exact turn_parts (fun j => x4 (ix2 p j)) (fun j => x5 (ix2 p j))
    (fun j => Projection.scaled (proj x0 x1 x2 b p ⟨512 + j.val, by omega⟩) (fun i => proj x0 x1 x2 b p ⟨512 + i.val, by omega⟩) (x3 (ix1 j))) l

theorem queries_eq : val_main_v82 (F := Ideal) x0 x1 x2 x4 x5 = fun i => if (i 2).val % 128 < 64 then query x0 x1 x2 x4 x5 (i 0) (i 1) (i 3) ⟨(i 2).val % 64, by omega⟩ else 0 := by
  funext i
  obtain ⟨b, h, l, p, rfl⟩ : ∃ (b : Fin 2) (h : Fin 8) (l : Fin 256) (p : Fin 8192), i = ix4 b h l p := ⟨i 0, i 1, i 2, i 3, funext fun a => by fin_cases a <;> rfl⟩
  unfold val_main_v82 val_main_v80 val_main_v79 val_main_v77 val_main_cst_7
  pointwise []
  show _ = if l.val % 128 < 64 then query x0 x1 x2 x4 x5 b h p ⟨l.val % 64, _⟩ else 0
  have hl := l.isLt
  by_cases h1 : l.val < 64
  · rw [dif_pos h1, if_pos (show l.val % 128 < 64 by omega), q_turned]
    exact congrArg _ (Fin.ext (by show l.val = l.val % 64; omega))
  · by_cases h2 : l.val < 128
    · rw [dif_neg h1, dif_pos (show l.val - 64 < 64 by omega), if_neg (show ¬ l.val % 128 < 64 by omega)]
    · by_cases h3 : l.val < 192
      · rw [dif_neg h1, dif_neg (show ¬ l.val - 64 < 64 by omega), dif_pos (show l.val - 64 - 64 < 64 by omega), if_pos (show l.val % 128 < 64 by omega), q_turned]
        exact congrArg _ (Fin.ext (by show l.val - 64 - 64 = l.val % 64; omega))
      · rw [dif_neg h1, dif_neg (show ¬ l.val - 64 < 64 by omega), dif_neg (show ¬ l.val - 64 - 64 < 64 by omega), if_neg (show ¬ l.val % 128 < 64 by omega)]

theorem keys_eq : val_main_v83 (F := Ideal) x0 x1 x2 x3 x4 x5 = fun i => if (i 2).val < 128 then key x0 x1 x2 x3 x4 x5 (i 0) (i 1) ⟨(i 2).val % 64, by omega⟩ else 0 := by
  funext i
  obtain ⟨b, p, l, rfl⟩ : ∃ (b : Fin 2) (p : Fin 8192) (l : Fin 256), i = ix3 b p l := ⟨i 0, i 1, i 2, funext fun a => by fin_cases a <;> rfl⟩
  unfold val_main_v83 val_main_v81 val_main_v78 val_main_cst_8
  pointwise []
  show _ = if l.val < 128 then key x0 x1 x2 x3 x4 x5 b p ⟨l.val % 64, _⟩ else 0
  have hl := l.isLt
  by_cases h1 : l.val < 64
  · rw [dif_pos h1, if_pos (show l.val < 128 by omega), k_turned]
    exact congrArg _ (Fin.ext (by show l.val = l.val % 64; omega))
  · by_cases h2 : l.val < 128
    · rw [dif_neg h1, dif_pos (show l.val - 64 < 64 by omega), if_pos h2, k_turned]
      exact congrArg _ (Fin.ext (by show l.val - 64 = l.val % 64; omega))
    · rw [dif_neg h1, dif_neg (show ¬ l.val - 64 < 64 by omega), if_neg h2]
      split <;> rfl

theorem weights_eq : val_main_v84 (F := Ideal) x0 x1 x2 = fun i => weight x0 x1 x2 (i 0) (i 1) (i 2) := by
  funext i
  obtain ⟨b, h, p, rfl⟩ : ∃ (b : Fin 2) (h : Fin 8) (p : Fin 8192), i = ix3 b h p := ⟨i 0, i 1, i 2, funext fun a => by fin_cases a <;> rfl⟩
  unfold val_main_v84 val_main_v76 val_main_v75 val_main_v74 val_main_v73 val_main_v16 val_main_cst_6 val_main_cst_5
  pointwise []
  rw [proj_apply]
  rfl

end Cert.Reference5Ideal.Idx

end
-- ==== Proof.Idx.Finite.lean ====
/-
  What the index projection's precondition gives: the arguments other than the residual hold real numbers.
-/
module

public import proofs.«01_k».proof.Pre_finite5
public import proofs.«01_k».proof.Proof.Mla.Finite

@[expose] public section

noncomputable section

namespace Cert.Pre_finite5.Idx

open Cert.Pre_finite5 Cert.Pre_finite.Att Idealize.ShloMosaic

variable [Facts]

theorem reals (x0 : FVec Ideal S2x8192x1024 .f32) (x1 : FVec Ideal S1024 .f32) (x2 : FVec Ideal S1024x584 .f32) (x3 : FVec Ideal S64 .f32) (x4 x5 : FVec Ideal S8192x16 .f32)
    (h : fn (F := Ideal) x0 x1 x2 x3 x4 x5 = fun _ => 1#1) :
    (∀ i, ∃ r : ℝ, x1 i = (r : EReal)) ∧ (∀ i, ∃ r : ℝ, x2 i = (r : EReal)) ∧ (∀ i, ∃ r : ℝ, x3 i = (r : EReal)) ∧ (∀ i, ∃ r : ℝ, x4 i = (r : EReal)) ∧ ∀ i, ∃ r : ℝ, x5 i = (r : EReal) := by
  have h' := congrFun h (fun a => a.elim0)
  dsimp only [fn, fn_part1] at h'
  obtain ⟨h', h5⟩ := IntOp.andi_eq_one.1 h'
  obtain ⟨h', h4⟩ := IntOp.andi_eq_one.1 h'
  obtain ⟨h', h3⟩ := IntOp.andi_eq_one.1 h'
  obtain ⟨h1, h2⟩ := IntOp.andi_eq_one.1 h'
  haveI : Subsingleton S_.Idx := ⟨fun a b => funext fun k => k.elim0⟩
  exact ⟨fun i => real_of_cmp _ (Host.reduce_andi_all _ _ _ _ _ h1 i), fun i => real_of_cmp _ (Host.reduce_andi_all _ _ _ _ _ h2 i), fun i => real_of_cmp _ (Host.reduce_andi_all _ _ _ _ _ h3 i),
    fun i => real_of_cmp _ (Host.reduce_andi_all _ _ _ _ _ h4 i), fun i => real_of_cmp _ (Host.reduce_andi_all _ _ _ _ _ h5 i)⟩

end Cert.Pre_finite5.Idx

end
-- ==== Proof.lean ====
/-
  The proof of `Cert.Claim` (proofs.«01_k».proof.Defs): for each of the four programs that the kernel and the reference run,
  that the ideal kernel is the kernel with its named constant, and that ideal kernel and reference end in the same results.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel3Ideal.Frame
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel4Ideal.Frame
public import proofs.«01_k».proof.Proof.Gen.Kernel4.Frame
public import proofs.«01_k».proof.Proof.Gen.Pre_finite4
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Value
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite5
public import proofs.«01_k».proof.Proof.Mla.Run
public import proofs.«01_k».proof.Proof.Mla.RunBits
public import proofs.«01_k».proof.Proof.Mla.Value
public import proofs.«01_k».proof.Proof.Mla.Finite
public import proofs.«01_k».proof.Proof.Ffn.Run
public import proofs.«01_k».proof.Proof.Ffn.Same
public import proofs.«01_k».proof.Proof.Ffn.Ref
public import proofs.«01_k».proof.Proof.Ffn.Value
public import proofs.«01_k».proof.Proof.Out.Value
public import proofs.«01_k».proof.Proof.Qkv.Value
public import proofs.«01_k».proof.Proof.Qkv.Ref
public import proofs.«01_k».proof.Proof.Qkv.Finite
public import proofs.«01_k».proof.Proof.Idx.Final
public import proofs.«01_k».proof.Proof.Idx.Ref
public import proofs.«01_k».proof.Proof.Idx.Finite
public import Idealize.ShloMosaic.Adequacy
public import Idealize.ShloMosaic.Init

@[expose] public section

noncomputable section

namespace Cert.Proof

open Idealize.ShloMosaic Idealize.SL.Sem Cert.Kernel

/-- The attention call over the machine's float words runs, its arguments and counters end as they must. -/
theorem frame_kernel : Cert.quiescent_Kernel := fun m ρ _ => Cert.Kernel.Att.frame (F := Bits) m ρ
/-- The same over the extended reals. -/
theorem frame_ideal : Cert.quiescent_KernelIdeal := fun m ρ _ => Cert.KernelIdeal.Att.frame (F := Ideal) m ρ
/-- The reference runs; it declares no semaphore. -/
theorem frame_reference : Cert.quiescent_ReferenceIdeal := fun m ρ _ =>
  (θ_run Cert.ReferenceIdeal.defs _ _).mono (fun _ h => ⟨fun c => (h c).2, sem_eq_zero_of_no_sems rfl _⟩) (Cert.ReferenceIdeal.Value.run (F := Ideal) m ρ)
/-- The one constant given a name stands for −∞. -/
theorem preserves : Cert.preserves_Kernel_KernelIdeal := IdealRules.named_const.statement Cert.KernelIdeal.κ "mask" .f32 0xF149F2CA#32 ⊥ rfl

/-- Over the extended reals, and from finite queries, keys and shift, the call's result is the reference's. -/
theorem algebraic : Cert.algebraic_KernelIdeal_ReferenceIdeal_pre_finite := by
  intro m g m' g' hpre hargs
  have hr := fun c => Cert.Pre_finite.Att.reals _ _ _ _ (hpre c)
  refine ⟨fun c => Cert.KernelIdeal.Att.result m c, Cert.KernelIdeal.Att.run_value m g (fun c => (hr c).1) (fun c => (hr c).2.1) (fun c => (hr c).2.2),
    (θ_run Cert.ReferenceIdeal.defs _ _).mono (fun r h c => ⟨(h c).1.trans ?_, (h c).2⟩) (Cert.ReferenceIdeal.Value.run (F := Ideal) m' g')⟩
  obtain ⟨e0, e1, e2, _⟩ := hargs c
  rw [Cert.ReferenceIdeal.Read.val_main_v30_eq, e0, e1, e2]
  rfl

/-- The feed-forward call over the machine's float words: its text is the ideal program's, so that one run serves both. -/
theorem frame_kernel2 : Cert.quiescent_Kernel2 := fun m ρ _ => by
  rw [Cert.Kernel2.Ffn.defs_same]
  exact (θ_run Cert.Kernel2Ideal.defs _ _).mono (fun _ h => h) (Cert.Kernel2Ideal.Ffn.frame (F := Bits) m ρ)
/-- The same over the extended reals. -/
theorem frame_ideal2 : Cert.quiescent_Kernel2Ideal := fun m ρ _ => Cert.Kernel2Ideal.Ffn.frame (F := Ideal) m ρ
/-- The feed-forward reference runs. -/
theorem frame_reference2 : Cert.quiescent_Reference2Ideal := fun m ρ _ =>
  (θ_run Cert.Reference2Ideal.defs _ _).mono (fun _ h => ⟨fun c => (h c).2, sem_eq_zero_of_no_sems rfl _⟩) (Cert.Reference2Ideal.Value.run (F := Ideal) m ρ)
/-- Nothing of the feed-forward call is rewritten. -/
theorem preserves2 : Cert.preserves_Kernel2_Kernel2Ideal := trivial

/-- Over the extended reals the feed-forward call's result is its reference's. -/
theorem algebraic2 : Cert.algebraic_Kernel2Ideal_Reference2Ideal := by
  intro m g m' g' _ hargs
  refine ⟨fun c => Cert.Kernel2Ideal.Ffn.result m c, Cert.Kernel2Ideal.Ffn.run_value m g,
    (θ_run Cert.Reference2Ideal.defs _ _).mono (fun r h c => ⟨(h c).1.trans ?_, (h c).2⟩) (Cert.Reference2Ideal.Value.run (F := Ideal) m' g')⟩
  obtain ⟨e0, e1, e2, e3, e4, e5⟩ := hargs c
  rw [Cert.Reference2Ideal.Read.val_main_v45_eq, e0, e1, e2, e3, e4, e5]
  exact funext fun i => (congrArg _ (eq_ix3 i)).trans (Cert.Reference2Ideal.Ffn.ref_apply _ _ _ _ _ _ (i 0) (i 1) (i 2))

/-- The output projection runs, over the machine's float words and over the extended reals, and so does its reference. -/
theorem frame_kernel3 : Cert.quiescent_Kernel3 := fun m ρ _ => Cert.Kernel3.Gen.frame m ρ
theorem frame_ideal3 : Cert.quiescent_Kernel3Ideal := fun m ρ _ => Cert.Kernel3Ideal.Gen.frame m ρ
theorem frame_reference3 : Cert.quiescent_Reference3Ideal := fun m ρ _ =>
  (θ_run Cert.Reference3Ideal.defs _ _).mono (fun _ h => ⟨fun c => (h c).2, sem_eq_zero_of_no_sems rfl _⟩) (Cert.Reference3Ideal.Value.run (F := Ideal) m ρ)
/-- Nothing of the output projection is rewritten. -/
theorem preserves3 : Cert.preserves_Kernel3_Kernel3Ideal := trivial

/-- Over the extended reals the output projection's result is its reference's. -/
theorem algebraic3 : Cert.algebraic_Kernel3Ideal_Reference3Ideal := by
  intro m g m' g' _ hargs
  refine ⟨fun c => Cert.Kernel3Ideal.Out.result m c,
    (θ_run Cert.Kernel3Ideal.defs _ _).mono (fun r h c => ⟨(h c).1.trans (Cert.Kernel3Ideal.Out.final_o m c), (h c).2⟩) (Cert.Kernel3Ideal.Value.run_blocks (F := Ideal) m g),
    (θ_run Cert.Reference3Ideal.defs _ _).mono (fun r h c => ⟨(h c).1.trans ?_, (h c).2⟩) (Cert.Reference3Ideal.Value.run (F := Ideal) m' g')⟩
  obtain ⟨e0, e1, e2⟩ := hargs c
  rw [Cert.Reference3Ideal.Read.val_main_v1_eq, e0, e1, e2]
  exact Cert.Kernel3Ideal.Out.ref_eq _ _ _

/-- The projection to queries, keys and values runs, over the machine's float words and over the extended reals, and so does its reference. -/
theorem frame_kernel4 : Cert.quiescent_Kernel4 := fun m ρ _ => Cert.Kernel4.Gen.frame m ρ
theorem frame_ideal4 : Cert.quiescent_Kernel4Ideal := fun m ρ _ => Cert.Kernel4Ideal.Gen.frame m ρ
theorem frame_reference4 : Cert.quiescent_Reference4Ideal := fun m ρ _ =>
  (θ_run Cert.Reference4Ideal.defs _ _).mono (fun _ h => ⟨fun c => (h c).2.2.2, sem_eq_zero_of_no_sems rfl _⟩) (Cert.Reference4Ideal.Value.run (F := Ideal) m ρ)
/-- Nothing of the projection is rewritten. -/
theorem preserves4 : Cert.preserves_Kernel4_Kernel4Ideal := trivial

/-- Over the extended reals, and from finite gains of the norm and finite weights, the projection's three results are its reference's. -/
theorem algebraic4 : Cert.algebraic_Kernel4Ideal_Reference4Ideal_pre_finite4 := by
  intro m g m' g' hpre hargs
  have hr : ∀ c, Cert.Kernel4Ideal.Qkv.Reals m c := fun c => Cert.Pre_finite4.Qkv.reals _ _ _ _ _ (hpre c)
  refine ⟨fun c => Cert.Kernel4Ideal.Qkv.resQ m c, fun c => Cert.Kernel4Ideal.Qkv.resK m c, fun c => Cert.Kernel4Ideal.Qkv.resV m c,
    (θ_run Cert.Kernel4Ideal.defs _ _).mono (fun r h c => ⟨(h c).1.trans (Cert.Kernel4Ideal.Qkv.final_6 m c (hr c)), (h c).2.1.trans (Cert.Kernel4Ideal.Qkv.final_7 m c (hr c)),
      (h c).2.2.1.trans (Cert.Kernel4Ideal.Qkv.final_8 m c), (h c).2.2.2⟩) (Cert.Kernel4Ideal.Value.run_blocks (F := Ideal) m g),
    (θ_run Cert.Reference4Ideal.defs _ _).mono (fun r h c => ⟨(h c).1.trans ?_, (h c).2.1.trans ?_, (h c).2.2.1.trans ?_, (h c).2.2.2⟩) (Cert.Reference4Ideal.Value.run (F := Ideal) m' g')⟩
  · obtain ⟨e0, e1, e2, e3, _⟩ := hargs c
    rw [Cert.Reference4Ideal.Read.val_main_v51_eq, e0, e1, e2, e3]
    exact Cert.Reference4Ideal.Qkv.queries_eq _ _ _ _
  · obtain ⟨e0, e1, e2, _, e4⟩ := hargs c
    rw [Cert.Reference4Ideal.Read.val_main_v52_eq, e0, e1, e2, e4]
    exact Cert.Reference4Ideal.Qkv.keys_eq _ _ _ _
  · obtain ⟨e0, e1, e2, _⟩ := hargs c
    rw [Cert.Reference4Ideal.Read.val_main_v53_eq, e0, e1, e2]
    exact Cert.Reference4Ideal.Qkv.values_eq _ _ _

/-- The index projection runs, over the machine's float words and over the extended reals, and so does its reference. -/
theorem frame_kernel5 : Cert.quiescent_Kernel5 := fun m ρ _ => Cert.Kernel5.Gen.frame m ρ
theorem frame_ideal5 : Cert.quiescent_Kernel5Ideal := fun m ρ _ => Cert.Kernel5Ideal.Gen.frame m ρ
theorem frame_reference5 : Cert.quiescent_Reference5Ideal := fun m ρ _ =>
  (θ_run Cert.Reference5Ideal.defs _ _).mono (fun _ h => ⟨fun c => (h c).2.2.2, sem_eq_zero_of_no_sems rfl _⟩) (Cert.Reference5Ideal.Value.run (F := Ideal) m ρ)
theorem preserves5 : Cert.preserves_Kernel5_Kernel5Ideal := trivial

/-- Over the extended reals, and from finite gains, weights, cosines and sines, the index projection's three results are the reference's. -/
theorem algebraic5 : Cert.algebraic_Kernel5Ideal_Reference5Ideal_pre_finite5 := by
  intro m g m' g' hpre hargs
  have hr : ∀ c, Cert.Kernel5Ideal.Idx.Reals m c := fun c => by
    obtain ⟨h1, h2, h3, h4, h5⟩ := Cert.Pre_finite5.Idx.reals _ _ _ _ _ _ (hpre c)
    exact ⟨h1, h2, h3, h4, h5⟩
  refine ⟨fun c => Cert.Kernel5Ideal.Idx.resQ m c, fun c => Cert.Kernel5Ideal.Idx.resK m c, fun c => Cert.Kernel5Ideal.Idx.resW m c,
    (θ_run Cert.Kernel5Ideal.defs _ _).mono (fun r h c => ⟨(h c).1.trans (Cert.Kernel5Ideal.Idx.final_8 m c (hr c)), (h c).2.1.trans (Cert.Kernel5Ideal.Idx.final_9 m c (hr c)),
      (h c).2.2.1.trans (Cert.Kernel5Ideal.Idx.final_10 m c (hr c)), (h c).2.2.2⟩) (Cert.Kernel5Ideal.Value.run_blocks (F := Ideal) m g),
    (θ_run Cert.Reference5Ideal.defs _ _).mono (fun r h c => ⟨(h c).1.trans ?_, (h c).2.1.trans ?_, (h c).2.2.1.trans ?_, (h c).2.2.2⟩) (Cert.Reference5Ideal.Value.run (F := Ideal) m' g')⟩
  · obtain ⟨e0, e1, e2, _, e4, e5⟩ := hargs c
    rw [Cert.Reference5Ideal.Read.val_main_v82_eq, e0, e1, e2, e4, e5]
    exact Cert.Reference5Ideal.Idx.queries_eq _ _ _ _ _
  · obtain ⟨e0, e1, e2, e3, e4, e5⟩ := hargs c
    rw [Cert.Reference5Ideal.Read.val_main_v83_eq, e0, e1, e2, e3, e4, e5]
    exact Cert.Reference5Ideal.Idx.keys_eq _ _ _ _ _ _
  · obtain ⟨e0, e1, e2, _⟩ := hargs c
    rw [Cert.Reference5Ideal.Read.val_main_v84_eq, e0, e1, e2]
    exact Cert.Reference5Ideal.Idx.weights_eq _ _ _

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.Gen.facts, Cert.Pre_finite4.Gen.facts, Cert.Pre_finite5.Gen.facts,
  frame_kernel, frame_ideal, fun m ρ _ => frame_ideal m ρ trivial, frame_reference, fun m ρ _ => frame_reference m ρ trivial,
  frame_kernel2, frame_ideal2, frame_reference2, frame_kernel3, frame_ideal3, frame_reference3,
  frame_kernel4, frame_ideal4, fun m ρ _ => frame_ideal4 m ρ trivial, frame_reference4, fun m ρ _ => frame_reference4 m ρ trivial,
  frame_kernel5, frame_ideal5, fun m ρ _ => frame_ideal5 m ρ trivial, frame_reference5, fun m ρ _ => frame_reference5 m ρ trivial,
  preserves, algebraic, preserves2, algebraic2, preserves3, algebraic3, preserves4, algebraic4, preserves5, algebraic5⟩

end Cert.Proof

end
